-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S16 : Shape := ⟨1, ![16]⟩
abbrev S_ : Shape := ⟨0, ![]⟩
abbrev S1 : Shape := ⟨1, ![1]⟩
abbrev S3 : Shape := ⟨1, ![3]⟩
abbrev S2048x2048 : Shape := ⟨2, ![2048, 2048]⟩
abbrev S8x2x32x1024 : Shape := ⟨4, ![8, 2, 32, 1024]⟩
abbrev S8x2 : Shape := ⟨2, ![8, 2]⟩
abbrev S8 : Shape := ⟨1, ![8]⟩
abbrev S128x1024 : Shape := ⟨2, ![128, 1024]⟩
abbrev S1024x1024 : Shape := ⟨2, ![1024, 1024]⟩
abbrev S32x1024 : Shape := ⟨2, ![32, 1024]⟩
abbrev S1x1x32x1024 : Shape := ⟨4, ![1, 1, 32, 1024]⟩
abbrev S1x1 : Shape := ⟨2, ![1, 1]⟩

abbrev nBuf : Space → Nat
  | .hbm => 46
  | .vmem => 6
  | .smem => 1
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S16, .i32⟩
  | .hbm, ⟨3, _⟩ => ⟨S16, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .i32⟩
  | .hbm, ⟨44, _⟩ => ⟨S3, .i32⟩
  | .hbm, ⟨45, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S8x2x32x1024, .bf16⟩
  | .local _ .vmem, ⟨5, _⟩ => ⟨S8x2x32x1024, .bf16⟩
  | .local _ .smem, ⟨0, _⟩ => ⟨S3, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 9 36 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 8

abbrev nD : Nat := 16
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c128_i32 : BitVec 32 := 128#32
  let v13 : BitVec 32 := Scalar.muli v0 c128_i32
  let v14 : Index := Scalar.indexCast v13
  let c0_8 : Index := 0#32
  ![v14.toNat, 0]

def k0_dev3 (v2 : BitVec 32) : Nat :=
  let c0_i32_51 : BitVec 32 := 0#32
  let c1_i32_50 : BitVec 32 := 1#32
  let v65 : BitVec 32 := Scalar.muli v2 c1_i32_50
  let v66 : BitVec 32 := Scalar.addi c0_i32_51 v65
  v66.toNat
def k0_dev4 (v1 : BitVec 32) : Nat :=
  let c0_i32_65 : BitVec 32 := 0#32
  let c1_i32_64 : BitVec 32 := 1#32
  let v75 : BitVec 32 := Scalar.muli v1 c1_i32_64
  let v76 : BitVec 32 := Scalar.addi c0_i32_65 v75
  v76.toNat
def k0_dev5 (v2 : BitVec 32) : Nat :=
  let c0_i32_79 : BitVec 32 := 0#32
  let c1_i32_78 : BitVec 32 := 1#32
  let v85 : BitVec 32 := Scalar.muli v2 c1_i32_78
  let v86 : BitVec 32 := Scalar.addi c0_i32_79 v85
  v86.toNat
def k0_dev6 (v1 : BitVec 32) : Nat :=
  let c0_i32_92 : BitVec 32 := 0#32
  let c1_i32_91 : BitVec 32 := 1#32
  let v95 : BitVec 32 := Scalar.muli v1 c1_i32_91
  let v96 : BitVec 32 := Scalar.addi c0_i32_92 v95
  v96.toNat
def k0_dev7 (v2 : BitVec 32) : Nat :=
  let c0_i32_105 : BitVec 32 := 0#32
  let c1_i32_104 : BitVec 32 := 1#32
  let v105 : BitVec 32 := Scalar.muli v2 c1_i32_104
  let v106 : BitVec 32 := Scalar.addi c0_i32_105 v105
  v106.toNat
def k0_dev8 (v1 : BitVec 32) : Nat :=
  let c0_i32_118 : BitVec 32 := 0#32
  let c1_i32_117 : BitVec 32 := 1#32
  let v115 : BitVec 32 := Scalar.muli v1 c1_i32_117
  let v116 : BitVec 32 := Scalar.addi c0_i32_118 v115
  v116.toNat
def k0_dev9 (v2 : BitVec 32) : Nat :=
  let c0_i32_131 : BitVec 32 := 0#32
  let c1_i32_130 : BitVec 32 := 1#32
  let v125 : BitVec 32 := Scalar.muli v2 c1_i32_130
  let v126 : BitVec 32 := Scalar.addi c0_i32_131 v125
  v126.toNat
def k0_dev10 (v1 : BitVec 32) : Nat :=
  let c0_i32_144 : BitVec 32 := 0#32
  let c1_i32_143 : BitVec 32 := 1#32
  let v135 : BitVec 32 := Scalar.muli v1 c1_i32_143
  let v136 : BitVec 32 := Scalar.addi c0_i32_144 v135
  v136.toNat
def k0_off2 (v0 : BitVec 32) : Fin 2 → Nat :=
  let c1_i32_149 : BitVec 32 := 1#32
  let v145 : BitVec 32 := Scalar.subi v0 c1_i32_149
  let c16_i32 : BitVec 32 := 16#32
  let v146 : BitVec 32 := Scalar.addi v145 c16_i32
  let c16_i32_150 : BitVec 32 := 16#32
  let v147 : BitVec 32 := Scalar.remsi v146 c16_i32_150
  let c128_i32_151 : BitVec 32 := 128#32
  let v148 : BitVec 32 := Scalar.muli v147 c128_i32_151
  let v149 : Index := Scalar.indexCast v148
  let c0_152 : Index := 0#32
  ![v149.toNat, 0]
def k0_off3 (v0 : BitVec 32) : Fin 2 → Nat :=
  let c1_i32_156 : BitVec 32 := 1#32
  let v154 : BitVec 32 := Scalar.addi v0 c1_i32_156
  let c16_i32_157 : BitVec 32 := 16#32
  let v155 : BitVec 32 := Scalar.remsi v154 c16_i32_157
  let c128_i32_158 : BitVec 32 := 128#32
  let v156 : BitVec 32 := Scalar.muli v155 c128_i32_158
  let v157 : Index := Scalar.indexCast v156
  let c0_159 : Index := 0#32
  ![v157.toNat, 0]
def k0_dev11 (v1 : BitVec 32) : Nat :=
  let c0_i32_201 : BitVec 32 := 0#32
  let c1_i32_200 : BitVec 32 := 1#32
  let v187 : BitVec 32 := Scalar.muli v1 c1_i32_200
  let v188 : BitVec 32 := Scalar.addi c0_i32_201 v187
  v188.toNat
def k0_dev12 (v2 : BitVec 32) : Nat :=
  let c0_i32_211 : BitVec 32 := 0#32
  let c1_i32_210 : BitVec 32 := 1#32
  let v189 : BitVec 32 := Scalar.muli v2 c1_i32_210
  let v190 : BitVec 32 := Scalar.addi c0_i32_211 v189
  v190.toNat
def k0_dev13 (v2 : BitVec 32) : Nat :=
  let c0_i32_254 : BitVec 32 := 0#32
  let c1_i32_253 : BitVec 32 := 1#32
  let v224 : BitVec 32 := Scalar.muli v2 c1_i32_253
  let v225 : BitVec 32 := Scalar.addi c0_i32_254 v224
  v225.toNat
def k0_dev14 (v1 : BitVec 32) : Nat :=
  let c0_i32_264 : BitVec 32 := 0#32
  let c1_i32_263 : BitVec 32 := 1#32
  let v226 : BitVec 32 := Scalar.muli v1 c1_i32_263
  let v227 : BitVec 32 := Scalar.addi c0_i32_264 v226
  v227.toNat
def k0_dev15 (v1 : BitVec 32) : Nat :=
  let c0_i32_307 : BitVec 32 := 0#32
  let c1_i32_306 : BitVec 32 := 1#32
  let v261 : BitVec 32 := Scalar.muli v1 c1_i32_306
  let v262 : BitVec 32 := Scalar.addi c0_i32_307 v261
  v262.toNat
def k0_dev16 (v2 : BitVec 32) : Nat :=
  let c0_i32_317 : BitVec 32 := 0#32
  let c1_i32_316 : BitVec 32 := 1#32
  let v263 : BitVec 32 := Scalar.muli v2 c1_i32_316
  let v264 : BitVec 32 := Scalar.addi c0_i32_317 v263
  v264.toNat
def k0_dev17 (v2 : BitVec 32) : Nat :=
  let c0_i32_360 : BitVec 32 := 0#32
  let c1_i32_359 : BitVec 32 := 1#32
  let v298 : BitVec 32 := Scalar.muli v2 c1_i32_359
  let v299 : BitVec 32 := Scalar.addi c0_i32_360 v298
  v299.toNat
def k0_dev18 (v1 : BitVec 32) : Nat :=
  let c0_i32_370 : BitVec 32 := 0#32
  let c1_i32_369 : BitVec 32 := 1#32
  let v300 : BitVec 32 := Scalar.muli v1 c1_i32_369
  let v301 : BitVec 32 := Scalar.addi c0_i32_370 v300
  v301.toNat
def k0_dev19 (v1 : BitVec 32) : Nat :=
  let c0_i32_413 : BitVec 32 := 0#32
  let c1_i32_412 : BitVec 32 := 1#32
  let v335 : BitVec 32 := Scalar.muli v1 c1_i32_412
  let v336 : BitVec 32 := Scalar.addi c0_i32_413 v335
  v336.toNat
def k0_dev20 (v2 : BitVec 32) : Nat :=
  let c0_i32_423 : BitVec 32 := 0#32
  let c1_i32_422 : BitVec 32 := 1#32
  let v337 : BitVec 32 := Scalar.muli v2 c1_i32_422
  let v338 : BitVec 32 := Scalar.addi c0_i32_423 v337
  v338.toNat
def k0_dev21 (v2 : BitVec 32) : Nat :=
  let c0_i32_466 : BitVec 32 := 0#32
  let c1_i32_465 : BitVec 32 := 1#32
  let v372 : BitVec 32 := Scalar.muli v2 c1_i32_465
  let v373 : BitVec 32 := Scalar.addi c0_i32_466 v372
  v373.toNat
def k0_dev22 (v1 : BitVec 32) : Nat :=
  let c0_i32_476 : BitVec 32 := 0#32
  let c1_i32_475 : BitVec 32 := 1#32
  let v374 : BitVec 32 := Scalar.muli v1 c1_i32_475
  let v375 : BitVec 32 := Scalar.addi c0_i32_476 v374
  v375.toNat
def k0_dev23 (v1 : BitVec 32) : Nat :=
  let c0_i32_519 : BitVec 32 := 0#32
  let c1_i32_518 : BitVec 32 := 1#32
  let v409 : BitVec 32 := Scalar.muli v1 c1_i32_518
  let v410 : BitVec 32 := Scalar.addi c0_i32_519 v409
  v410.toNat
def k0_dev24 (v2 : BitVec 32) : Nat :=
  let c0_i32_529 : BitVec 32 := 0#32
  let c1_i32_528 : BitVec 32 := 1#32
  let v411 : BitVec 32 := Scalar.muli v2 c1_i32_528
  let v412 : BitVec 32 := Scalar.addi c0_i32_529 v411
  v412.toNat
def k0_dev25 (v2 : BitVec 32) : Nat :=
  let c0_i32_572 : BitVec 32 := 0#32
  let c1_i32_571 : BitVec 32 := 1#32
  let v446 : BitVec 32 := Scalar.muli v2 c1_i32_571
  let v447 : BitVec 32 := Scalar.addi c0_i32_572 v446
  v447.toNat
def k0_dev26 (v1 : BitVec 32) : Nat :=
  let c0_i32_582 : BitVec 32 := 0#32
  let c1_i32_581 : BitVec 32 := 1#32
  let v448 : BitVec 32 := Scalar.muli v1 c1_i32_581
  let v449 : BitVec 32 := Scalar.addi c0_i32_582 v448
  v449.toNat
def k0_off4 (v0 : BitVec 32) (c0_i32_587 : BitVec 32) : Fin 2 → Nat :=
  let v458 : BitVec 32 := Scalar.subi v0 c0_i32_587
  let c2_i32_588 : BitVec 32 := 2#32
  let v459 : BitVec 32 := Scalar.subi v458 c2_i32_588
  let c32_i32 : BitVec 32 := 32#32
  let v460 : BitVec 32 := Scalar.addi v459 c32_i32
  let c16_i32_589 : BitVec 32 := 16#32
  let v461 : BitVec 32 := Scalar.remsi v460 c16_i32_589
  let c128_i32_590 : BitVec 32 := 128#32
  let v462 : BitVec 32 := Scalar.muli v461 c128_i32_590
  let v463 : Index := Scalar.indexCast v462
  let c0_591 : Index := 0#32
  ![v463.toNat, 0]
def k0_off5 (v0 : BitVec 32) (c0_i32_595 : BitVec 32) : Fin 2 → Nat :=
  let v468 : BitVec 32 := Scalar.addi v0 c0_i32_595
  let c2_i32_596 : BitVec 32 := 2#32
  let v469 : BitVec 32 := Scalar.addi v468 c2_i32_596
  let c16_i32_597 : BitVec 32 := 16#32
  let v470 : BitVec 32 := Scalar.remsi v469 c16_i32_597
  let c128_i32_598 : BitVec 32 := 128#32
  let v471 : BitVec 32 := Scalar.muli v470 c128_i32_598
  let v472 : Index := Scalar.indexCast v471
  let c0_599 : Index := 0#32
  ![v472.toNat, 0]
def k0_dev27 (v1 : BitVec 32) : Nat :=
  let c0_i32_641 : BitVec 32 := 0#32
  let c1_i32_640 : BitVec 32 := 1#32
  let v502 : BitVec 32 := Scalar.muli v1 c1_i32_640
  let v503 : BitVec 32 := Scalar.addi c0_i32_641 v502
  v503.toNat
def k0_dev28 (v2 : BitVec 32) : Nat :=
  let c0_i32_654 : BitVec 32 := 0#32
  let c1_i32_653 : BitVec 32 := 1#32
  let v506 : BitVec 32 := Scalar.muli v2 c1_i32_653
  let v507 : BitVec 32 := Scalar.addi c0_i32_654 v506
  v507.toNat
def k0_dev29 (v2 : BitVec 32) : Nat :=
  let c0_i32_697 : BitVec 32 := 0#32
  let c1_i32_696 : BitVec 32 := 1#32
  let v541 : BitVec 32 := Scalar.muli v2 c1_i32_696
  let v542 : BitVec 32 := Scalar.addi c0_i32_697 v541
  v542.toNat
def k0_dev30 (v1 : BitVec 32) : Nat :=
  let c0_i32_710 : BitVec 32 := 0#32
  let c1_i32_709 : BitVec 32 := 1#32
  let v545 : BitVec 32 := Scalar.muli v1 c1_i32_709
  let v546 : BitVec 32 := Scalar.addi c0_i32_710 v545
  v546.toNat
def k0_dev31 (v1 : BitVec 32) : Nat :=
  let c0_i32_753 : BitVec 32 := 0#32
  let c1_i32_752 : BitVec 32 := 1#32
  let v580 : BitVec 32 := Scalar.muli v1 c1_i32_752
  let v581 : BitVec 32 := Scalar.addi c0_i32_753 v580
  v581.toNat
def k0_dev32 (v2 : BitVec 32) : Nat :=
  let c0_i32_766 : BitVec 32 := 0#32
  let c1_i32_765 : BitVec 32 := 1#32
  let v584 : BitVec 32 := Scalar.muli v2 c1_i32_765
  let v585 : BitVec 32 := Scalar.addi c0_i32_766 v584
  v585.toNat
def k0_dev33 (v2 : BitVec 32) : Nat :=
  let c0_i32_809 : BitVec 32 := 0#32
  let c1_i32_808 : BitVec 32 := 1#32
  let v619 : BitVec 32 := Scalar.muli v2 c1_i32_808
  let v620 : BitVec 32 := Scalar.addi c0_i32_809 v619
  v620.toNat
def k0_dev34 (v1 : BitVec 32) : Nat :=
  let c0_i32_822 : BitVec 32 := 0#32
  let c1_i32_821 : BitVec 32 := 1#32
  let v623 : BitVec 32 := Scalar.muli v1 c1_i32_821
  let v624 : BitVec 32 := Scalar.addi c0_i32_822 v623
  v624.toNat
def k0_dev35 (v1 : BitVec 32) : Nat :=
  let c0_i32_865 : BitVec 32 := 0#32
  let c1_i32_864 : BitVec 32 := 1#32
  let v658 : BitVec 32 := Scalar.muli v1 c1_i32_864
  let v659 : BitVec 32 := Scalar.addi c0_i32_865 v658
  v659.toNat
def k0_dev36 (v2 : BitVec 32) : Nat :=
  let c0_i32_878 : BitVec 32 := 0#32
  let c1_i32_877 : BitVec 32 := 1#32
  let v662 : BitVec 32 := Scalar.muli v2 c1_i32_877
  let v663 : BitVec 32 := Scalar.addi c0_i32_878 v662
  v663.toNat
def k0_dev37 (v2 : BitVec 32) : Nat :=
  let c0_i32_921 : BitVec 32 := 0#32
  let c1_i32_920 : BitVec 32 := 1#32
  let v697 : BitVec 32 := Scalar.muli v2 c1_i32_920
  let v698 : BitVec 32 := Scalar.addi c0_i32_921 v697
  v698.toNat
def k0_dev38 (v1 : BitVec 32) : Nat :=
  let c0_i32_934 : BitVec 32 := 0#32
  let c1_i32_933 : BitVec 32 := 1#32
  let v701 : BitVec 32 := Scalar.muli v1 c1_i32_933
  let v702 : BitVec 32 := Scalar.addi c0_i32_934 v701
  v702.toNat
def k0_dev39 (v1 : BitVec 32) : Nat :=
  let c0_i32_977 : BitVec 32 := 0#32
  let c1_i32_976 : BitVec 32 := 1#32
  let v736 : BitVec 32 := Scalar.muli v1 c1_i32_976
  let v737 : BitVec 32 := Scalar.addi c0_i32_977 v736
  v737.toNat
def k0_dev40 (v2 : BitVec 32) : Nat :=
  let c0_i32_990 : BitVec 32 := 0#32
  let c1_i32_989 : BitVec 32 := 1#32
  let v740 : BitVec 32 := Scalar.muli v2 c1_i32_989
  let v741 : BitVec 32 := Scalar.addi c0_i32_990 v740
  v741.toNat
def k0_dev41 (v2 : BitVec 32) : Nat :=
  let c0_i32_1033 : BitVec 32 := 0#32
  let c1_i32_1032 : BitVec 32 := 1#32
  let v775 : BitVec 32 := Scalar.muli v2 c1_i32_1032
  let v776 : BitVec 32 := Scalar.addi c0_i32_1033 v775
  v776.toNat
def k0_dev42 (v1 : BitVec 32) : Nat :=
  let c0_i32_1046 : BitVec 32 := 0#32
  let c1_i32_1045 : BitVec 32 := 1#32
  let v779 : BitVec 32 := Scalar.muli v1 c1_i32_1045
  let v780 : BitVec 32 := Scalar.addi c0_i32_1046 v779
  v780.toNat
def k0_dev43 (v1 : BitVec 32) : Nat :=
  let c0_i32_1106 : BitVec 32 := 0#32
  let c1_i32_1105 : BitVec 32 := 1#32
  let v833 : BitVec 32 := Scalar.muli v1 c1_i32_1105
  let v834 : BitVec 32 := Scalar.addi c0_i32_1106 v833
  v834.toNat
def k0_dev44 (v2 : BitVec 32) : Nat :=
  let c0_i32_1119 : BitVec 32 := 0#32
  let c1_i32_1118 : BitVec 32 := 1#32
  let v837 : BitVec 32 := Scalar.muli v2 c1_i32_1118
  let v838 : BitVec 32 := Scalar.addi c0_i32_1119 v837
  v838.toNat
def k0_dev45 (v2 : BitVec 32) : Nat :=
  let c0_i32_1162 : BitVec 32 := 0#32
  let c1_i32_1161 : BitVec 32 := 1#32
  let v872 : BitVec 32 := Scalar.muli v2 c1_i32_1161
  let v873 : BitVec 32 := Scalar.addi c0_i32_1162 v872
  v873.toNat
def k0_dev46 (v1 : BitVec 32) : Nat :=
  let c0_i32_1175 : BitVec 32 := 0#32
  let c1_i32_1174 : BitVec 32 := 1#32
  let v876 : BitVec 32 := Scalar.muli v1 c1_i32_1174
  let v877 : BitVec 32 := Scalar.addi c0_i32_1175 v876
  v877.toNat
def k0_dev47 (v1 : BitVec 32) : Nat :=
  let c0_i32_1218 : BitVec 32 := 0#32
  let c1_i32_1217 : BitVec 32 := 1#32
  let v911 : BitVec 32 := Scalar.muli v1 c1_i32_1217
  let v912 : BitVec 32 := Scalar.addi c0_i32_1218 v911
  v912.toNat
def k0_dev48 (v2 : BitVec 32) : Nat :=
  let c0_i32_1231 : BitVec 32 := 0#32
  let c1_i32_1230 : BitVec 32 := 1#32
  let v915 : BitVec 32 := Scalar.muli v2 c1_i32_1230
  let v916 : BitVec 32 := Scalar.addi c0_i32_1231 v915
  v916.toNat
def k0_dev49 (v2 : BitVec 32) : Nat :=
  let c0_i32_1274 : BitVec 32 := 0#32
  let c1_i32_1273 : BitVec 32 := 1#32
  let v950 : BitVec 32 := Scalar.muli v2 c1_i32_1273
  let v951 : BitVec 32 := Scalar.addi c0_i32_1274 v950
  v951.toNat
def k0_dev50 (v1 : BitVec 32) : Nat :=
  let c0_i32_1287 : BitVec 32 := 0#32
  let c1_i32_1286 : BitVec 32 := 1#32
  let v954 : BitVec 32 := Scalar.muli v1 c1_i32_1286
  let v955 : BitVec 32 := Scalar.addi c0_i32_1287 v954
  v955.toNat
def k0_dev51 (v1 : BitVec 32) : Nat :=
  let c0_i32_1330 : BitVec 32 := 0#32
  let c1_i32_1329 : BitVec 32 := 1#32
  let v989 : BitVec 32 := Scalar.muli v1 c1_i32_1329
  let v990 : BitVec 32 := Scalar.addi c0_i32_1330 v989
  v990.toNat
def k0_dev52 (v2 : BitVec 32) : Nat :=
  let c0_i32_1343 : BitVec 32 := 0#32
  let c1_i32_1342 : BitVec 32 := 1#32
  let v993 : BitVec 32 := Scalar.muli v2 c1_i32_1342
  let v994 : BitVec 32 := Scalar.addi c0_i32_1343 v993
  v994.toNat
def k0_dev53 (v2 : BitVec 32) : Nat :=
  let c0_i32_1386 : BitVec 32 := 0#32
  let c1_i32_1385 : BitVec 32 := 1#32
  let v1028 : BitVec 32 := Scalar.muli v2 c1_i32_1385
  let v1029 : BitVec 32 := Scalar.addi c0_i32_1386 v1028
  v1029.toNat
def k0_dev54 (v1 : BitVec 32) : Nat :=
  let c0_i32_1399 : BitVec 32 := 0#32
  let c1_i32_1398 : BitVec 32 := 1#32
  let v1032 : BitVec 32 := Scalar.muli v1 c1_i32_1398
  let v1033 : BitVec 32 := Scalar.addi c0_i32_1399 v1032
  v1033.toNat
def k0_dev55 (v1 : BitVec 32) : Nat :=
  let c0_i32_1442 : BitVec 32 := 0#32
  let c1_i32_1441 : BitVec 32 := 1#32
  let v1067 : BitVec 32 := Scalar.muli v1 c1_i32_1441
  let v1068 : BitVec 32 := Scalar.addi c0_i32_1442 v1067
  v1068.toNat
def k0_dev56 (v2 : BitVec 32) : Nat :=
  let c0_i32_1455 : BitVec 32 := 0#32
  let c1_i32_1454 : BitVec 32 := 1#32
  let v1071 : BitVec 32 := Scalar.muli v2 c1_i32_1454
  let v1072 : BitVec 32 := Scalar.addi c0_i32_1455 v1071
  v1072.toNat
def k0_dev57 (v2 : BitVec 32) : Nat :=
  let c0_i32_1498 : BitVec 32 := 0#32
  let c1_i32_1497 : BitVec 32 := 1#32
  let v1106 : BitVec 32 := Scalar.muli v2 c1_i32_1497
  let v1107 : BitVec 32 := Scalar.addi c0_i32_1498 v1106
  v1107.toNat
def k0_dev58 (v1 : BitVec 32) : Nat :=
  let c0_i32_1511 : BitVec 32 := 0#32
  let c1_i32_1510 : BitVec 32 := 1#32
  let v1110 : BitVec 32 := Scalar.muli v1 c1_i32_1510
  let v1111 : BitVec 32 := Scalar.addi c0_i32_1511 v1110
  v1111.toNat
def k0_dev59 (v1 : BitVec 32) : Nat :=
  let c0_i32_1571 : BitVec 32 := 0#32
  let c1_i32_1570 : BitVec 32 := 1#32
  let v1164 : BitVec 32 := Scalar.muli v1 c1_i32_1570
  let v1165 : BitVec 32 := Scalar.addi c0_i32_1571 v1164
  v1165.toNat
def k0_dev60 (v2 : BitVec 32) : Nat :=
  let c0_i32_1584 : BitVec 32 := 0#32
  let c1_i32_1583 : BitVec 32 := 1#32
  let v1168 : BitVec 32 := Scalar.muli v2 c1_i32_1583
  let v1169 : BitVec 32 := Scalar.addi c0_i32_1584 v1168
  v1169.toNat
def k0_dev61 (v2 : BitVec 32) : Nat :=
  let c0_i32_1627 : BitVec 32 := 0#32
  let c1_i32_1626 : BitVec 32 := 1#32
  let v1203 : BitVec 32 := Scalar.muli v2 c1_i32_1626
  let v1204 : BitVec 32 := Scalar.addi c0_i32_1627 v1203
  v1204.toNat
def k0_dev62 (v1 : BitVec 32) : Nat :=
  let c0_i32_1640 : BitVec 32 := 0#32
  let c1_i32_1639 : BitVec 32 := 1#32
  let v1207 : BitVec 32 := Scalar.muli v1 c1_i32_1639
  let v1208 : BitVec 32 := Scalar.addi c0_i32_1640 v1207
  v1208.toNat
def k0_dev63 (v1 : BitVec 32) : Nat :=
  let c0_i32_1683 : BitVec 32 := 0#32
  let c1_i32_1682 : BitVec 32 := 1#32
  let v1242 : BitVec 32 := Scalar.muli v1 c1_i32_1682
  let v1243 : BitVec 32 := Scalar.addi c0_i32_1683 v1242
  v1243.toNat
def k0_dev64 (v2 : BitVec 32) : Nat :=
  let c0_i32_1696 : BitVec 32 := 0#32
  let c1_i32_1695 : BitVec 32 := 1#32
  let v1246 : BitVec 32 := Scalar.muli v2 c1_i32_1695
  let v1247 : BitVec 32 := Scalar.addi c0_i32_1696 v1246
  v1247.toNat
def k0_dev65 (v2 : BitVec 32) : Nat :=
  let c0_i32_1739 : BitVec 32 := 0#32
  let c1_i32_1738 : BitVec 32 := 1#32
  let v1281 : BitVec 32 := Scalar.muli v2 c1_i32_1738
  let v1282 : BitVec 32 := Scalar.addi c0_i32_1739 v1281
  v1282.toNat
def k0_dev66 (v1 : BitVec 32) : Nat :=
  let c0_i32_1752 : BitVec 32 := 0#32
  let c1_i32_1751 : BitVec 32 := 1#32
  let v1285 : BitVec 32 := Scalar.muli v1 c1_i32_1751
  let v1286 : BitVec 32 := Scalar.addi c0_i32_1752 v1285
  v1286.toNat
def k0_dev67 (v1 : BitVec 32) : Nat :=
  let c0_i32_1795 : BitVec 32 := 0#32
  let c1_i32_1794 : BitVec 32 := 1#32
  let v1320 : BitVec 32 := Scalar.muli v1 c1_i32_1794
  let v1321 : BitVec 32 := Scalar.addi c0_i32_1795 v1320
  v1321.toNat
def k0_dev68 (v2 : BitVec 32) : Nat :=
  let c0_i32_1808 : BitVec 32 := 0#32
  let c1_i32_1807 : BitVec 32 := 1#32
  let v1324 : BitVec 32 := Scalar.muli v2 c1_i32_1807
  let v1325 : BitVec 32 := Scalar.addi c0_i32_1808 v1324
  v1325.toNat
def k0_dev69 (v2 : BitVec 32) : Nat :=
  let c0_i32_1851 : BitVec 32 := 0#32
  let c1_i32_1850 : BitVec 32 := 1#32
  let v1359 : BitVec 32 := Scalar.muli v2 c1_i32_1850
  let v1360 : BitVec 32 := Scalar.addi c0_i32_1851 v1359
  v1360.toNat
def k0_dev70 (v1 : BitVec 32) : Nat :=
  let c0_i32_1864 : BitVec 32 := 0#32
  let c1_i32_1863 : BitVec 32 := 1#32
  let v1363 : BitVec 32 := Scalar.muli v1 c1_i32_1863
  let v1364 : BitVec 32 := Scalar.addi c0_i32_1864 v1363
  v1364.toNat
def k0_dev71 (v1 : BitVec 32) : Nat :=
  let c0_i32_1907 : BitVec 32 := 0#32
  let c1_i32_1906 : BitVec 32 := 1#32
  let v1398 : BitVec 32 := Scalar.muli v1 c1_i32_1906
  let v1399 : BitVec 32 := Scalar.addi c0_i32_1907 v1398
  v1399.toNat
def k0_dev72 (v2 : BitVec 32) : Nat :=
  let c0_i32_1920 : BitVec 32 := 0#32
  let c1_i32_1919 : BitVec 32 := 1#32
  let v1402 : BitVec 32 := Scalar.muli v2 c1_i32_1919
  let v1403 : BitVec 32 := Scalar.addi c0_i32_1920 v1402
  v1403.toNat
def k0_dev73 (v2 : BitVec 32) : Nat :=
  let c0_i32_1963 : BitVec 32 := 0#32
  let c1_i32_1962 : BitVec 32 := 1#32
  let v1437 : BitVec 32 := Scalar.muli v2 c1_i32_1962
  let v1438 : BitVec 32 := Scalar.addi c0_i32_1963 v1437
  v1438.toNat
def k0_dev74 (v1 : BitVec 32) : Nat :=
  let c0_i32_1976 : BitVec 32 := 0#32
  let c1_i32_1975 : BitVec 32 := 1#32
  let v1441 : BitVec 32 := Scalar.muli v1 c1_i32_1975
  let v1442 : BitVec 32 := Scalar.addi c0_i32_1976 v1441
  v1442.toNat
def k0_dev75 (v1 : BitVec 32) : Nat :=
  let c0_i32_2036 : BitVec 32 := 0#32
  let c1_i32_2035 : BitVec 32 := 1#32
  let v1495 : BitVec 32 := Scalar.muli v1 c1_i32_2035
  let v1496 : BitVec 32 := Scalar.addi c0_i32_2036 v1495
  v1496.toNat
def k0_dev76 (v2 : BitVec 32) : Nat :=
  let c0_i32_2049 : BitVec 32 := 0#32
  let c1_i32_2048 : BitVec 32 := 1#32
  let v1499 : BitVec 32 := Scalar.muli v2 c1_i32_2048
  let v1500 : BitVec 32 := Scalar.addi c0_i32_2049 v1499
  v1500.toNat
def k0_dev77 (v2 : BitVec 32) : Nat :=
  let c0_i32_2092 : BitVec 32 := 0#32
  let c1_i32_2091 : BitVec 32 := 1#32
  let v1534 : BitVec 32 := Scalar.muli v2 c1_i32_2091
  let v1535 : BitVec 32 := Scalar.addi c0_i32_2092 v1534
  v1535.toNat
def k0_dev78 (v1 : BitVec 32) : Nat :=
  let c0_i32_2105 : BitVec 32 := 0#32
  let c1_i32_2104 : BitVec 32 := 1#32
  let v1538 : BitVec 32 := Scalar.muli v1 c1_i32_2104
  let v1539 : BitVec 32 := Scalar.addi c0_i32_2105 v1538
  v1539.toNat
def k0_dev79 (v1 : BitVec 32) : Nat :=
  let c0_i32_2148 : BitVec 32 := 0#32
  let c1_i32_2147 : BitVec 32 := 1#32
  let v1573 : BitVec 32 := Scalar.muli v1 c1_i32_2147
  let v1574 : BitVec 32 := Scalar.addi c0_i32_2148 v1573
  v1574.toNat
def k0_dev80 (v2 : BitVec 32) : Nat :=
  let c0_i32_2161 : BitVec 32 := 0#32
  let c1_i32_2160 : BitVec 32 := 1#32
  let v1577 : BitVec 32 := Scalar.muli v2 c1_i32_2160
  let v1578 : BitVec 32 := Scalar.addi c0_i32_2161 v1577
  v1578.toNat
def k0_dev81 (v2 : BitVec 32) : Nat :=
  let c0_i32_2204 : BitVec 32 := 0#32
  let c1_i32_2203 : BitVec 32 := 1#32
  let v1612 : BitVec 32 := Scalar.muli v2 c1_i32_2203
  let v1613 : BitVec 32 := Scalar.addi c0_i32_2204 v1612
  v1613.toNat
def k0_dev82 (v1 : BitVec 32) : Nat :=
  let c0_i32_2217 : BitVec 32 := 0#32
  let c1_i32_2216 : BitVec 32 := 1#32
  let v1616 : BitVec 32 := Scalar.muli v1 c1_i32_2216
  let v1617 : BitVec 32 := Scalar.addi c0_i32_2217 v1616
  v1617.toNat
def k0_dev83 (v1 : BitVec 32) : Nat :=
  let c0_i32_2260 : BitVec 32 := 0#32
  let c1_i32_2259 : BitVec 32 := 1#32
  let v1651 : BitVec 32 := Scalar.muli v1 c1_i32_2259
  let v1652 : BitVec 32 := Scalar.addi c0_i32_2260 v1651
  v1652.toNat
def k0_dev84 (v2 : BitVec 32) : Nat :=
  let c0_i32_2273 : BitVec 32 := 0#32
  let c1_i32_2272 : BitVec 32 := 1#32
  let v1655 : BitVec 32 := Scalar.muli v2 c1_i32_2272
  let v1656 : BitVec 32 := Scalar.addi c0_i32_2273 v1655
  v1656.toNat
def k0_dev85 (v2 : BitVec 32) : Nat :=
  let c0_i32_2316 : BitVec 32 := 0#32
  let c1_i32_2315 : BitVec 32 := 1#32
  let v1690 : BitVec 32 := Scalar.muli v2 c1_i32_2315
  let v1691 : BitVec 32 := Scalar.addi c0_i32_2316 v1690
  v1691.toNat
def k0_dev86 (v1 : BitVec 32) : Nat :=
  let c0_i32_2329 : BitVec 32 := 0#32
  let c1_i32_2328 : BitVec 32 := 1#32
  let v1694 : BitVec 32 := Scalar.muli v1 c1_i32_2328
  let v1695 : BitVec 32 := Scalar.addi c0_i32_2329 v1694
  v1695.toNat
def k0_dev87 (v1 : BitVec 32) : Nat :=
  let c0_i32_2372 : BitVec 32 := 0#32
  let c1_i32_2371 : BitVec 32 := 1#32
  let v1729 : BitVec 32 := Scalar.muli v1 c1_i32_2371
  let v1730 : BitVec 32 := Scalar.addi c0_i32_2372 v1729
  v1730.toNat
def k0_dev88 (v2 : BitVec 32) : Nat :=
  let c0_i32_2385 : BitVec 32 := 0#32
  let c1_i32_2384 : BitVec 32 := 1#32
  let v1733 : BitVec 32 := Scalar.muli v2 c1_i32_2384
  let v1734 : BitVec 32 := Scalar.addi c0_i32_2385 v1733
  v1734.toNat
def k0_dev89 (v2 : BitVec 32) : Nat :=
  let c0_i32_2428 : BitVec 32 := 0#32
  let c1_i32_2427 : BitVec 32 := 1#32
  let v1768 : BitVec 32 := Scalar.muli v2 c1_i32_2427
  let v1769 : BitVec 32 := Scalar.addi c0_i32_2428 v1768
  v1769.toNat
def k0_dev90 (v1 : BitVec 32) : Nat :=
  let c0_i32_2441 : BitVec 32 := 0#32
  let c1_i32_2440 : BitVec 32 := 1#32
  let v1772 : BitVec 32 := Scalar.muli v1 c1_i32_2440
  let v1773 : BitVec 32 := Scalar.addi c0_i32_2441 v1772
  v1773.toNat
def k0_dev91 (v1 : BitVec 32) : Nat :=
  let c0_i32_2501 : BitVec 32 := 0#32
  let c1_i32_2500 : BitVec 32 := 1#32
  let v1826 : BitVec 32 := Scalar.muli v1 c1_i32_2500
  let v1827 : BitVec 32 := Scalar.addi c0_i32_2501 v1826
  v1827.toNat
def k0_dev92 (v2 : BitVec 32) : Nat :=
  let c0_i32_2514 : BitVec 32 := 0#32
  let c1_i32_2513 : BitVec 32 := 1#32
  let v1830 : BitVec 32 := Scalar.muli v2 c1_i32_2513
  let v1831 : BitVec 32 := Scalar.addi c0_i32_2514 v1830
  v1831.toNat
def k0_dev93 (v2 : BitVec 32) : Nat :=
  let c0_i32_2557 : BitVec 32 := 0#32
  let c1_i32_2556 : BitVec 32 := 1#32
  let v1865 : BitVec 32 := Scalar.muli v2 c1_i32_2556
  let v1866 : BitVec 32 := Scalar.addi c0_i32_2557 v1865
  v1866.toNat
def k0_dev94 (v1 : BitVec 32) : Nat :=
  let c0_i32_2570 : BitVec 32 := 0#32
  let c1_i32_2569 : BitVec 32 := 1#32
  let v1869 : BitVec 32 := Scalar.muli v1 c1_i32_2569
  let v1870 : BitVec 32 := Scalar.addi c0_i32_2570 v1869
  v1870.toNat
def k0_dev95 (v1 : BitVec 32) : Nat :=
  let c0_i32_2613 : BitVec 32 := 0#32
  let c1_i32_2612 : BitVec 32 := 1#32
  let v1904 : BitVec 32 := Scalar.muli v1 c1_i32_2612
  let v1905 : BitVec 32 := Scalar.addi c0_i32_2613 v1904
  v1905.toNat
def k0_dev96 (v2 : BitVec 32) : Nat :=
  let c0_i32_2626 : BitVec 32 := 0#32
  let c1_i32_2625 : BitVec 32 := 1#32
  let v1908 : BitVec 32 := Scalar.muli v2 c1_i32_2625
  let v1909 : BitVec 32 := Scalar.addi c0_i32_2626 v1908
  v1909.toNat
def k0_dev97 (v2 : BitVec 32) : Nat :=
  let c0_i32_2669 : BitVec 32 := 0#32
  let c1_i32_2668 : BitVec 32 := 1#32
  let v1943 : BitVec 32 := Scalar.muli v2 c1_i32_2668
  let v1944 : BitVec 32 := Scalar.addi c0_i32_2669 v1943
  v1944.toNat
def k0_dev98 (v1 : BitVec 32) : Nat :=
  let c0_i32_2682 : BitVec 32 := 0#32
  let c1_i32_2681 : BitVec 32 := 1#32
  let v1947 : BitVec 32 := Scalar.muli v1 c1_i32_2681
  let v1948 : BitVec 32 := Scalar.addi c0_i32_2682 v1947
  v1948.toNat
def k0_dev99 (v1 : BitVec 32) : Nat :=
  let c0_i32_2725 : BitVec 32 := 0#32
  let c1_i32_2724 : BitVec 32 := 1#32
  let v1982 : BitVec 32 := Scalar.muli v1 c1_i32_2724
  let v1983 : BitVec 32 := Scalar.addi c0_i32_2725 v1982
  v1983.toNat
def k0_dev100 (v2 : BitVec 32) : Nat :=
  let c0_i32_2738 : BitVec 32 := 0#32
  let c1_i32_2737 : BitVec 32 := 1#32
  let v1986 : BitVec 32 := Scalar.muli v2 c1_i32_2737
  let v1987 : BitVec 32 := Scalar.addi c0_i32_2738 v1986
  v1987.toNat
def k0_dev101 (v2 : BitVec 32) : Nat :=
  let c0_i32_2781 : BitVec 32 := 0#32
  let c1_i32_2780 : BitVec 32 := 1#32
  let v2021 : BitVec 32 := Scalar.muli v2 c1_i32_2780
  let v2022 : BitVec 32 := Scalar.addi c0_i32_2781 v2021
  v2022.toNat
def k0_dev102 (v1 : BitVec 32) : Nat :=
  let c0_i32_2794 : BitVec 32 := 0#32
  let c1_i32_2793 : BitVec 32 := 1#32
  let v2025 : BitVec 32 := Scalar.muli v1 c1_i32_2793
  let v2026 : BitVec 32 := Scalar.addi c0_i32_2794 v2025
  v2026.toNat
def k0_dev103 (v1 : BitVec 32) : Nat :=
  let c0_i32_2837 : BitVec 32 := 0#32
  let c1_i32_2836 : BitVec 32 := 1#32
  let v2060 : BitVec 32 := Scalar.muli v1 c1_i32_2836
  let v2061 : BitVec 32 := Scalar.addi c0_i32_2837 v2060
  v2061.toNat
def k0_dev104 (v2 : BitVec 32) : Nat :=
  let c0_i32_2850 : BitVec 32 := 0#32
  let c1_i32_2849 : BitVec 32 := 1#32
  let v2064 : BitVec 32 := Scalar.muli v2 c1_i32_2849
  let v2065 : BitVec 32 := Scalar.addi c0_i32_2850 v2064
  v2065.toNat
def k0_dev105 (v2 : BitVec 32) : Nat :=
  let c0_i32_2893 : BitVec 32 := 0#32
  let c1_i32_2892 : BitVec 32 := 1#32
  let v2099 : BitVec 32 := Scalar.muli v2 c1_i32_2892
  let v2100 : BitVec 32 := Scalar.addi c0_i32_2893 v2099
  v2100.toNat
def k0_dev106 (v1 : BitVec 32) : Nat :=
  let c0_i32_2906 : BitVec 32 := 0#32
  let c1_i32_2905 : BitVec 32 := 1#32
  let v2103 : BitVec 32 := Scalar.muli v1 c1_i32_2905
  let v2104 : BitVec 32 := Scalar.addi c0_i32_2906 v2103
  v2104.toNat
def k0_dev107 (v1 : BitVec 32) : Nat :=
  let c0_i32_2966 : BitVec 32 := 0#32
  let c1_i32_2965 : BitVec 32 := 1#32
  let v2157 : BitVec 32 := Scalar.muli v1 c1_i32_2965
  let v2158 : BitVec 32 := Scalar.addi c0_i32_2966 v2157
  v2158.toNat
def k0_dev108 (v2 : BitVec 32) : Nat :=
  let c0_i32_2979 : BitVec 32 := 0#32
  let c1_i32_2978 : BitVec 32 := 1#32
  let v2161 : BitVec 32 := Scalar.muli v2 c1_i32_2978
  let v2162 : BitVec 32 := Scalar.addi c0_i32_2979 v2161
  v2162.toNat
def k0_dev109 (v2 : BitVec 32) : Nat :=
  let c0_i32_3022 : BitVec 32 := 0#32
  let c1_i32_3021 : BitVec 32 := 1#32
  let v2196 : BitVec 32 := Scalar.muli v2 c1_i32_3021
  let v2197 : BitVec 32 := Scalar.addi c0_i32_3022 v2196
  v2197.toNat
def k0_dev110 (v1 : BitVec 32) : Nat :=
  let c0_i32_3035 : BitVec 32 := 0#32
  let c1_i32_3034 : BitVec 32 := 1#32
  let v2200 : BitVec 32 := Scalar.muli v1 c1_i32_3034
  let v2201 : BitVec 32 := Scalar.addi c0_i32_3035 v2200
  v2201.toNat
def k0_dev111 (v1 : BitVec 32) : Nat :=
  let c0_i32_3078 : BitVec 32 := 0#32
  let c1_i32_3077 : BitVec 32 := 1#32
  let v2235 : BitVec 32 := Scalar.muli v1 c1_i32_3077
  let v2236 : BitVec 32 := Scalar.addi c0_i32_3078 v2235
  v2236.toNat
def k0_dev112 (v2 : BitVec 32) : Nat :=
  let c0_i32_3091 : BitVec 32 := 0#32
  let c1_i32_3090 : BitVec 32 := 1#32
  let v2239 : BitVec 32 := Scalar.muli v2 c1_i32_3090
  let v2240 : BitVec 32 := Scalar.addi c0_i32_3091 v2239
  v2240.toNat
def k0_dev113 (v2 : BitVec 32) : Nat :=
  let c0_i32_3134 : BitVec 32 := 0#32
  let c1_i32_3133 : BitVec 32 := 1#32
  let v2274 : BitVec 32 := Scalar.muli v2 c1_i32_3133
  let v2275 : BitVec 32 := Scalar.addi c0_i32_3134 v2274
  v2275.toNat
def k0_dev114 (v1 : BitVec 32) : Nat :=
  let c0_i32_3147 : BitVec 32 := 0#32
  let c1_i32_3146 : BitVec 32 := 1#32
  let v2278 : BitVec 32 := Scalar.muli v1 c1_i32_3146
  let v2279 : BitVec 32 := Scalar.addi c0_i32_3147 v2278
  v2279.toNat
def k0_dev115 (v1 : BitVec 32) : Nat :=
  let c0_i32_3190 : BitVec 32 := 0#32
  let c1_i32_3189 : BitVec 32 := 1#32
  let v2313 : BitVec 32 := Scalar.muli v1 c1_i32_3189
  let v2314 : BitVec 32 := Scalar.addi c0_i32_3190 v2313
  v2314.toNat
def k0_dev116 (v2 : BitVec 32) : Nat :=
  let c0_i32_3203 : BitVec 32 := 0#32
  let c1_i32_3202 : BitVec 32 := 1#32
  let v2317 : BitVec 32 := Scalar.muli v2 c1_i32_3202
  let v2318 : BitVec 32 := Scalar.addi c0_i32_3203 v2317
  v2318.toNat
def k0_dev117 (v2 : BitVec 32) : Nat :=
  let c0_i32_3246 : BitVec 32 := 0#32
  let c1_i32_3245 : BitVec 32 := 1#32
  let v2352 : BitVec 32 := Scalar.muli v2 c1_i32_3245
  let v2353 : BitVec 32 := Scalar.addi c0_i32_3246 v2352
  v2353.toNat
def k0_dev118 (v1 : BitVec 32) : Nat :=
  let c0_i32_3259 : BitVec 32 := 0#32
  let c1_i32_3258 : BitVec 32 := 1#32
  let v2356 : BitVec 32 := Scalar.muli v1 c1_i32_3258
  let v2357 : BitVec 32 := Scalar.addi c0_i32_3259 v2356
  v2357.toNat
def k0_dev119 (v1 : BitVec 32) : Nat :=
  let c0_i32_3302 : BitVec 32 := 0#32
  let c1_i32_3301 : BitVec 32 := 1#32
  let v2391 : BitVec 32 := Scalar.muli v1 c1_i32_3301
  let v2392 : BitVec 32 := Scalar.addi c0_i32_3302 v2391
  v2392.toNat
def k0_dev120 (v2 : BitVec 32) : Nat :=
  let c0_i32_3315 : BitVec 32 := 0#32
  let c1_i32_3314 : BitVec 32 := 1#32
  let v2395 : BitVec 32 := Scalar.muli v2 c1_i32_3314
  let v2396 : BitVec 32 := Scalar.addi c0_i32_3315 v2395
  v2396.toNat
def k0_dev121 (v2 : BitVec 32) : Nat :=
  let c0_i32_3358 : BitVec 32 := 0#32
  let c1_i32_3357 : BitVec 32 := 1#32
  let v2430 : BitVec 32 := Scalar.muli v2 c1_i32_3357
  let v2431 : BitVec 32 := Scalar.addi c0_i32_3358 v2430
  v2431.toNat
def k0_dev122 (v1 : BitVec 32) : Nat :=
  let c0_i32_3371 : BitVec 32 := 0#32
  let c1_i32_3370 : BitVec 32 := 1#32
  let v2434 : BitVec 32 := Scalar.muli v1 c1_i32_3370
  let v2435 : BitVec 32 := Scalar.addi c0_i32_3371 v2434
  v2435.toNat
def k0_dev123 (v1 : BitVec 32) : Nat :=
  let c0_i32_3431 : BitVec 32 := 0#32
  let c1_i32_3430 : BitVec 32 := 1#32
  let v2488 : BitVec 32 := Scalar.muli v1 c1_i32_3430
  let v2489 : BitVec 32 := Scalar.addi c0_i32_3431 v2488
  v2489.toNat
def k0_dev124 (v2 : BitVec 32) : Nat :=
  let c0_i32_3444 : BitVec 32 := 0#32
  let c1_i32_3443 : BitVec 32 := 1#32
  let v2492 : BitVec 32 := Scalar.muli v2 c1_i32_3443
  let v2493 : BitVec 32 := Scalar.addi c0_i32_3444 v2492
  v2493.toNat
def k0_dev125 (v2 : BitVec 32) : Nat :=
  let c0_i32_3487 : BitVec 32 := 0#32
  let c1_i32_3486 : BitVec 32 := 1#32
  let v2527 : BitVec 32 := Scalar.muli v2 c1_i32_3486
  let v2528 : BitVec 32 := Scalar.addi c0_i32_3487 v2527
  v2528.toNat
def k0_dev126 (v1 : BitVec 32) : Nat :=
  let c0_i32_3500 : BitVec 32 := 0#32
  let c1_i32_3499 : BitVec 32 := 1#32
  let v2531 : BitVec 32 := Scalar.muli v1 c1_i32_3499
  let v2532 : BitVec 32 := Scalar.addi c0_i32_3500 v2531
  v2532.toNat
def k0_dev127 (v1 : BitVec 32) : Nat :=
  let c0_i32_3543 : BitVec 32 := 0#32
  let c1_i32_3542 : BitVec 32 := 1#32
  let v2566 : BitVec 32 := Scalar.muli v1 c1_i32_3542
  let v2567 : BitVec 32 := Scalar.addi c0_i32_3543 v2566
  v2567.toNat
def k0_dev128 (v2 : BitVec 32) : Nat :=
  let c0_i32_3556 : BitVec 32 := 0#32
  let c1_i32_3555 : BitVec 32 := 1#32
  let v2570 : BitVec 32 := Scalar.muli v2 c1_i32_3555
  let v2571 : BitVec 32 := Scalar.addi c0_i32_3556 v2570
  v2571.toNat
def k0_dev129 (v2 : BitVec 32) : Nat :=
  let c0_i32_3599 : BitVec 32 := 0#32
  let c1_i32_3598 : BitVec 32 := 1#32
  let v2605 : BitVec 32 := Scalar.muli v2 c1_i32_3598
  let v2606 : BitVec 32 := Scalar.addi c0_i32_3599 v2605
  v2606.toNat
def k0_dev130 (v1 : BitVec 32) : Nat :=
  let c0_i32_3612 : BitVec 32 := 0#32
  let c1_i32_3611 : BitVec 32 := 1#32
  let v2609 : BitVec 32 := Scalar.muli v1 c1_i32_3611
  let v2610 : BitVec 32 := Scalar.addi c0_i32_3612 v2609
  v2610.toNat
def k0_dev131 (v1 : BitVec 32) : Nat :=
  let c0_i32_3655 : BitVec 32 := 0#32
  let c1_i32_3654 : BitVec 32 := 1#32
  let v2644 : BitVec 32 := Scalar.muli v1 c1_i32_3654
  let v2645 : BitVec 32 := Scalar.addi c0_i32_3655 v2644
  v2645.toNat
def k0_dev132 (v2 : BitVec 32) : Nat :=
  let c0_i32_3668 : BitVec 32 := 0#32
  let c1_i32_3667 : BitVec 32 := 1#32
  let v2648 : BitVec 32 := Scalar.muli v2 c1_i32_3667
  let v2649 : BitVec 32 := Scalar.addi c0_i32_3668 v2648
  v2649.toNat
def k0_dev133 (v2 : BitVec 32) : Nat :=
  let c0_i32_3711 : BitVec 32 := 0#32
  let c1_i32_3710 : BitVec 32 := 1#32
  let v2683 : BitVec 32 := Scalar.muli v2 c1_i32_3710
  let v2684 : BitVec 32 := Scalar.addi c0_i32_3711 v2683
  v2684.toNat
def k0_dev134 (v1 : BitVec 32) : Nat :=
  let c0_i32_3724 : BitVec 32 := 0#32
  let c1_i32_3723 : BitVec 32 := 1#32
  let v2687 : BitVec 32 := Scalar.muli v1 c1_i32_3723
  let v2688 : BitVec 32 := Scalar.addi c0_i32_3724 v2687
  v2688.toNat
def k0_dev135 (v1 : BitVec 32) : Nat :=
  let c0_i32_3767 : BitVec 32 := 0#32
  let c1_i32_3766 : BitVec 32 := 1#32
  let v2722 : BitVec 32 := Scalar.muli v1 c1_i32_3766
  let v2723 : BitVec 32 := Scalar.addi c0_i32_3767 v2722
  v2723.toNat
def k0_dev136 (v2 : BitVec 32) : Nat :=
  let c0_i32_3780 : BitVec 32 := 0#32
  let c1_i32_3779 : BitVec 32 := 1#32
  let v2726 : BitVec 32 := Scalar.muli v2 c1_i32_3779
  let v2727 : BitVec 32 := Scalar.addi c0_i32_3780 v2726
  v2727.toNat
def k0_dev137 (v2 : BitVec 32) : Nat :=
  let c0_i32_3823 : BitVec 32 := 0#32
  let c1_i32_3822 : BitVec 32 := 1#32
  let v2761 : BitVec 32 := Scalar.muli v2 c1_i32_3822
  let v2762 : BitVec 32 := Scalar.addi c0_i32_3823 v2761
  v2762.toNat
def k0_dev138 (v1 : BitVec 32) : Nat :=
  let c0_i32_3836 : BitVec 32 := 0#32
  let c1_i32_3835 : BitVec 32 := 1#32
  let v2765 : BitVec 32 := Scalar.muli v1 c1_i32_3835
  let v2766 : BitVec 32 := Scalar.addi c0_i32_3836 v2765
  v2766.toNat
def k0_dev139 (v1 : BitVec 32) : Nat :=
  let c0_i32_3896 : BitVec 32 := 0#32
  let c1_i32_3895 : BitVec 32 := 1#32
  let v2819 : BitVec 32 := Scalar.muli v1 c1_i32_3895
  let v2820 : BitVec 32 := Scalar.addi c0_i32_3896 v2819
  v2820.toNat
def k0_dev140 (v2 : BitVec 32) : Nat :=
  let c0_i32_3909 : BitVec 32 := 0#32
  let c1_i32_3908 : BitVec 32 := 1#32
  let v2823 : BitVec 32 := Scalar.muli v2 c1_i32_3908
  let v2824 : BitVec 32 := Scalar.addi c0_i32_3909 v2823
  v2824.toNat
def k0_dev141 (v2 : BitVec 32) : Nat :=
  let c0_i32_3952 : BitVec 32 := 0#32
  let c1_i32_3951 : BitVec 32 := 1#32
  let v2858 : BitVec 32 := Scalar.muli v2 c1_i32_3951
  let v2859 : BitVec 32 := Scalar.addi c0_i32_3952 v2858
  v2859.toNat
def k0_dev142 (v1 : BitVec 32) : Nat :=
  let c0_i32_3965 : BitVec 32 := 0#32
  let c1_i32_3964 : BitVec 32 := 1#32
  let v2862 : BitVec 32 := Scalar.muli v1 c1_i32_3964
  let v2863 : BitVec 32 := Scalar.addi c0_i32_3965 v2862
  v2863.toNat
def k0_dev143 (v1 : BitVec 32) : Nat :=
  let c0_i32_4008 : BitVec 32 := 0#32
  let c1_i32_4007 : BitVec 32 := 1#32
  let v2897 : BitVec 32 := Scalar.muli v1 c1_i32_4007
  let v2898 : BitVec 32 := Scalar.addi c0_i32_4008 v2897
  v2898.toNat
def k0_dev144 (v2 : BitVec 32) : Nat :=
  let c0_i32_4021 : BitVec 32 := 0#32
  let c1_i32_4020 : BitVec 32 := 1#32
  let v2901 : BitVec 32 := Scalar.muli v2 c1_i32_4020
  let v2902 : BitVec 32 := Scalar.addi c0_i32_4021 v2901
  v2902.toNat
def k0_dev145 (v2 : BitVec 32) : Nat :=
  let c0_i32_4064 : BitVec 32 := 0#32
  let c1_i32_4063 : BitVec 32 := 1#32
  let v2936 : BitVec 32 := Scalar.muli v2 c1_i32_4063
  let v2937 : BitVec 32 := Scalar.addi c0_i32_4064 v2936
  v2937.toNat
def k0_dev146 (v1 : BitVec 32) : Nat :=
  let c0_i32_4077 : BitVec 32 := 0#32
  let c1_i32_4076 : BitVec 32 := 1#32
  let v2940 : BitVec 32 := Scalar.muli v1 c1_i32_4076
  let v2941 : BitVec 32 := Scalar.addi c0_i32_4077 v2940
  v2941.toNat
def k0_dev147 (v1 : BitVec 32) : Nat :=
  let c0_i32_4120 : BitVec 32 := 0#32
  let c1_i32_4119 : BitVec 32 := 1#32
  let v2975 : BitVec 32 := Scalar.muli v1 c1_i32_4119
  let v2976 : BitVec 32 := Scalar.addi c0_i32_4120 v2975
  v2976.toNat
def k0_dev148 (v2 : BitVec 32) : Nat :=
  let c0_i32_4133 : BitVec 32 := 0#32
  let c1_i32_4132 : BitVec 32 := 1#32
  let v2979 : BitVec 32 := Scalar.muli v2 c1_i32_4132
  let v2980 : BitVec 32 := Scalar.addi c0_i32_4133 v2979
  v2980.toNat
def k0_dev149 (v2 : BitVec 32) : Nat :=
  let c0_i32_4176 : BitVec 32 := 0#32
  let c1_i32_4175 : BitVec 32 := 1#32
  let v3014 : BitVec 32 := Scalar.muli v2 c1_i32_4175
  let v3015 : BitVec 32 := Scalar.addi c0_i32_4176 v3014
  v3015.toNat
def k0_dev150 (v1 : BitVec 32) : Nat :=
  let c0_i32_4189 : BitVec 32 := 0#32
  let c1_i32_4188 : BitVec 32 := 1#32
  let v3018 : BitVec 32 := Scalar.muli v1 c1_i32_4188
  let v3019 : BitVec 32 := Scalar.addi c0_i32_4189 v3018
  v3019.toNat
def k0_dev151 (v1 : BitVec 32) : Nat :=
  let c0_i32_4232 : BitVec 32 := 0#32
  let c1_i32_4231 : BitVec 32 := 1#32
  let v3053 : BitVec 32 := Scalar.muli v1 c1_i32_4231
  let v3054 : BitVec 32 := Scalar.addi c0_i32_4232 v3053
  v3054.toNat
def k0_dev152 (v2 : BitVec 32) : Nat :=
  let c0_i32_4245 : BitVec 32 := 0#32
  let c1_i32_4244 : BitVec 32 := 1#32
  let v3057 : BitVec 32 := Scalar.muli v2 c1_i32_4244
  let v3058 : BitVec 32 := Scalar.addi c0_i32_4245 v3057
  v3058.toNat
def k0_dev153 (v2 : BitVec 32) : Nat :=
  let c0_i32_4288 : BitVec 32 := 0#32
  let c1_i32_4287 : BitVec 32 := 1#32
  let v3092 : BitVec 32 := Scalar.muli v2 c1_i32_4287
  let v3093 : BitVec 32 := Scalar.addi c0_i32_4288 v3092
  v3093.toNat
def k0_dev154 (v1 : BitVec 32) : Nat :=
  let c0_i32_4301 : BitVec 32 := 0#32
  let c1_i32_4300 : BitVec 32 := 1#32
  let v3096 : BitVec 32 := Scalar.muli v1 c1_i32_4300
  let v3097 : BitVec 32 := Scalar.addi c0_i32_4301 v3096
  v3097.toNat
def k0_dev155 (v1 : BitVec 32) : Nat :=
  let c0_i32_4360 : BitVec 32 := 0#32
  let c1_i32_4359 : BitVec 32 := 1#32
  let v3150 : BitVec 32 := Scalar.muli v1 c1_i32_4359
  let v3151 : BitVec 32 := Scalar.addi c0_i32_4360 v3150
  v3151.toNat
def k0_dev156 (v2 : BitVec 32) : Nat :=
  let c0_i32_4373 : BitVec 32 := 0#32
  let c1_i32_4372 : BitVec 32 := 1#32
  let v3154 : BitVec 32 := Scalar.muli v2 c1_i32_4372
  let v3155 : BitVec 32 := Scalar.addi c0_i32_4373 v3154
  v3155.toNat
def k0_dev157 (v2 : BitVec 32) : Nat :=
  let c0_i32_4416 : BitVec 32 := 0#32
  let c1_i32_4415 : BitVec 32 := 1#32
  let v3189 : BitVec 32 := Scalar.muli v2 c1_i32_4415
  let v3190 : BitVec 32 := Scalar.addi c0_i32_4416 v3189
  v3190.toNat
def k0_dev158 (v1 : BitVec 32) : Nat :=
  let c0_i32_4429 : BitVec 32 := 0#32
  let c1_i32_4428 : BitVec 32 := 1#32
  let v3193 : BitVec 32 := Scalar.muli v1 c1_i32_4428
  let v3194 : BitVec 32 := Scalar.addi c0_i32_4429 v3193
  v3194.toNat
def k0_dev159 (v1 : BitVec 32) : Nat :=
  let c0_i32_4472 : BitVec 32 := 0#32
  let c1_i32_4471 : BitVec 32 := 1#32
  let v3228 : BitVec 32 := Scalar.muli v1 c1_i32_4471
  let v3229 : BitVec 32 := Scalar.addi c0_i32_4472 v3228
  v3229.toNat
def k0_dev160 (v2 : BitVec 32) : Nat :=
  let c0_i32_4485 : BitVec 32 := 0#32
  let c1_i32_4484 : BitVec 32 := 1#32
  let v3232 : BitVec 32 := Scalar.muli v2 c1_i32_4484
  let v3233 : BitVec 32 := Scalar.addi c0_i32_4485 v3232
  v3233.toNat
def k0_dev161 (v2 : BitVec 32) : Nat :=
  let c0_i32_4528 : BitVec 32 := 0#32
  let c1_i32_4527 : BitVec 32 := 1#32
  let v3267 : BitVec 32 := Scalar.muli v2 c1_i32_4527
  let v3268 : BitVec 32 := Scalar.addi c0_i32_4528 v3267
  v3268.toNat
def k0_dev162 (v1 : BitVec 32) : Nat :=
  let c0_i32_4541 : BitVec 32 := 0#32
  let c1_i32_4540 : BitVec 32 := 1#32
  let v3271 : BitVec 32 := Scalar.muli v1 c1_i32_4540
  let v3272 : BitVec 32 := Scalar.addi c0_i32_4541 v3271
  v3272.toNat
def k0_dev163 (v1 : BitVec 32) : Nat :=
  let c0_i32_4584 : BitVec 32 := 0#32
  let c1_i32_4583 : BitVec 32 := 1#32
  let v3306 : BitVec 32 := Scalar.muli v1 c1_i32_4583
  let v3307 : BitVec 32 := Scalar.addi c0_i32_4584 v3306
  v3307.toNat
def k0_dev164 (v2 : BitVec 32) : Nat :=
  let c0_i32_4597 : BitVec 32 := 0#32
  let c1_i32_4596 : BitVec 32 := 1#32
  let v3310 : BitVec 32 := Scalar.muli v2 c1_i32_4596
  let v3311 : BitVec 32 := Scalar.addi c0_i32_4597 v3310
  v3311.toNat
def k0_dev165 (v2 : BitVec 32) : Nat :=
  let c0_i32_4640 : BitVec 32 := 0#32
  let c1_i32_4639 : BitVec 32 := 1#32
  let v3345 : BitVec 32 := Scalar.muli v2 c1_i32_4639
  let v3346 : BitVec 32 := Scalar.addi c0_i32_4640 v3345
  v3346.toNat
def k0_dev166 (v1 : BitVec 32) : Nat :=
  let c0_i32_4653 : BitVec 32 := 0#32
  let c1_i32_4652 : BitVec 32 := 1#32
  let v3349 : BitVec 32 := Scalar.muli v1 c1_i32_4652
  let v3350 : BitVec 32 := Scalar.addi c0_i32_4653 v3349
  v3350.toNat
def k0_dev167 (v1 : BitVec 32) : Nat :=
  let c0_i32_4696 : BitVec 32 := 0#32
  let c1_i32_4695 : BitVec 32 := 1#32
  let v3384 : BitVec 32 := Scalar.muli v1 c1_i32_4695
  let v3385 : BitVec 32 := Scalar.addi c0_i32_4696 v3384
  v3385.toNat
def k0_dev168 (v2 : BitVec 32) : Nat :=
  let c0_i32_4709 : BitVec 32 := 0#32
  let c1_i32_4708 : BitVec 32 := 1#32
  let v3388 : BitVec 32 := Scalar.muli v2 c1_i32_4708
  let v3389 : BitVec 32 := Scalar.addi c0_i32_4709 v3388
  v3389.toNat
def k0_dev169 (v2 : BitVec 32) : Nat :=
  let c0_i32_4752 : BitVec 32 := 0#32
  let c1_i32_4751 : BitVec 32 := 1#32
  let v3423 : BitVec 32 := Scalar.muli v2 c1_i32_4751
  let v3424 : BitVec 32 := Scalar.addi c0_i32_4752 v3423
  v3424.toNat
def k0_dev170 (v1 : BitVec 32) : Nat :=
  let c0_i32_4765 : BitVec 32 := 0#32
  let c1_i32_4764 : BitVec 32 := 1#32
  let v3427 : BitVec 32 := Scalar.muli v1 c1_i32_4764
  let v3428 : BitVec 32 := Scalar.addi c0_i32_4765 v3427
  v3428.toNat
def k0_dev171 (v1 : BitVec 32) : Nat :=
  let c0_i32_4824 : BitVec 32 := 0#32
  let c1_i32_4823 : BitVec 32 := 1#32
  let v3481 : BitVec 32 := Scalar.muli v1 c1_i32_4823
  let v3482 : BitVec 32 := Scalar.addi c0_i32_4824 v3481
  v3482.toNat
def k0_dev172 (v2 : BitVec 32) : Nat :=
  let c0_i32_4837 : BitVec 32 := 0#32
  let c1_i32_4836 : BitVec 32 := 1#32
  let v3485 : BitVec 32 := Scalar.muli v2 c1_i32_4836
  let v3486 : BitVec 32 := Scalar.addi c0_i32_4837 v3485
  v3486.toNat
def k0_dev173 (v2 : BitVec 32) : Nat :=
  let c0_i32_4880 : BitVec 32 := 0#32
  let c1_i32_4879 : BitVec 32 := 1#32
  let v3520 : BitVec 32 := Scalar.muli v2 c1_i32_4879
  let v3521 : BitVec 32 := Scalar.addi c0_i32_4880 v3520
  v3521.toNat
def k0_dev174 (v1 : BitVec 32) : Nat :=
  let c0_i32_4893 : BitVec 32 := 0#32
  let c1_i32_4892 : BitVec 32 := 1#32
  let v3524 : BitVec 32 := Scalar.muli v1 c1_i32_4892
  let v3525 : BitVec 32 := Scalar.addi c0_i32_4893 v3524
  v3525.toNat
def k0_dev175 (v1 : BitVec 32) : Nat :=
  let c0_i32_4936 : BitVec 32 := 0#32
  let c1_i32_4935 : BitVec 32 := 1#32
  let v3559 : BitVec 32 := Scalar.muli v1 c1_i32_4935
  let v3560 : BitVec 32 := Scalar.addi c0_i32_4936 v3559
  v3560.toNat
def k0_dev176 (v2 : BitVec 32) : Nat :=
  let c0_i32_4949 : BitVec 32 := 0#32
  let c1_i32_4948 : BitVec 32 := 1#32
  let v3563 : BitVec 32 := Scalar.muli v2 c1_i32_4948
  let v3564 : BitVec 32 := Scalar.addi c0_i32_4949 v3563
  v3564.toNat
def k0_dev177 (v2 : BitVec 32) : Nat :=
  let c0_i32_4992 : BitVec 32 := 0#32
  let c1_i32_4991 : BitVec 32 := 1#32
  let v3598 : BitVec 32 := Scalar.muli v2 c1_i32_4991
  let v3599 : BitVec 32 := Scalar.addi c0_i32_4992 v3598
  v3599.toNat
def k0_dev178 (v1 : BitVec 32) : Nat :=
  let c0_i32_5005 : BitVec 32 := 0#32
  let c1_i32_5004 : BitVec 32 := 1#32
  let v3602 : BitVec 32 := Scalar.muli v1 c1_i32_5004
  let v3603 : BitVec 32 := Scalar.addi c0_i32_5005 v3602
  v3603.toNat
def k0_dev179 (v1 : BitVec 32) : Nat :=
  let c0_i32_5048 : BitVec 32 := 0#32
  let c1_i32_5047 : BitVec 32 := 1#32
  let v3637 : BitVec 32 := Scalar.muli v1 c1_i32_5047
  let v3638 : BitVec 32 := Scalar.addi c0_i32_5048 v3637
  v3638.toNat
def k0_dev180 (v2 : BitVec 32) : Nat :=
  let c0_i32_5061 : BitVec 32 := 0#32
  let c1_i32_5060 : BitVec 32 := 1#32
  let v3641 : BitVec 32 := Scalar.muli v2 c1_i32_5060
  let v3642 : BitVec 32 := Scalar.addi c0_i32_5061 v3641
  v3642.toNat
def k0_dev181 (v2 : BitVec 32) : Nat :=
  let c0_i32_5104 : BitVec 32 := 0#32
  let c1_i32_5103 : BitVec 32 := 1#32
  let v3676 : BitVec 32 := Scalar.muli v2 c1_i32_5103
  let v3677 : BitVec 32 := Scalar.addi c0_i32_5104 v3676
  v3677.toNat
def k0_dev182 (v1 : BitVec 32) : Nat :=
  let c0_i32_5117 : BitVec 32 := 0#32
  let c1_i32_5116 : BitVec 32 := 1#32
  let v3680 : BitVec 32 := Scalar.muli v1 c1_i32_5116
  let v3681 : BitVec 32 := Scalar.addi c0_i32_5117 v3680
  v3681.toNat
def k0_dev183 (v1 : BitVec 32) : Nat :=
  let c0_i32_5160 : BitVec 32 := 0#32
  let c1_i32_5159 : BitVec 32 := 1#32
  let v3715 : BitVec 32 := Scalar.muli v1 c1_i32_5159
  let v3716 : BitVec 32 := Scalar.addi c0_i32_5160 v3715
  v3716.toNat
def k0_dev184 (v2 : BitVec 32) : Nat :=
  let c0_i32_5173 : BitVec 32 := 0#32
  let c1_i32_5172 : BitVec 32 := 1#32
  let v3719 : BitVec 32 := Scalar.muli v2 c1_i32_5172
  let v3720 : BitVec 32 := Scalar.addi c0_i32_5173 v3719
  v3720.toNat
def k0_dev185 (v2 : BitVec 32) : Nat :=
  let c0_i32_5216 : BitVec 32 := 0#32
  let c1_i32_5215 : BitVec 32 := 1#32
  let v3754 : BitVec 32 := Scalar.muli v2 c1_i32_5215
  let v3755 : BitVec 32 := Scalar.addi c0_i32_5216 v3754
  v3755.toNat
def k0_dev186 (v1 : BitVec 32) : Nat :=
  let c0_i32_5229 : BitVec 32 := 0#32
  let c1_i32_5228 : BitVec 32 := 1#32
  let v3758 : BitVec 32 := Scalar.muli v1 c1_i32_5228
  let v3759 : BitVec 32 := Scalar.addi c0_i32_5229 v3758
  v3759.toNat
def k0_dev187 (v1 : BitVec 32) : Nat :=
  let c0_i32_5288 : BitVec 32 := 0#32
  let c1_i32_5287 : BitVec 32 := 1#32
  let v3812 : BitVec 32 := Scalar.muli v1 c1_i32_5287
  let v3813 : BitVec 32 := Scalar.addi c0_i32_5288 v3812
  v3813.toNat
def k0_dev188 (v2 : BitVec 32) : Nat :=
  let c0_i32_5301 : BitVec 32 := 0#32
  let c1_i32_5300 : BitVec 32 := 1#32
  let v3816 : BitVec 32 := Scalar.muli v2 c1_i32_5300
  let v3817 : BitVec 32 := Scalar.addi c0_i32_5301 v3816
  v3817.toNat
def k0_dev189 (v2 : BitVec 32) : Nat :=
  let c0_i32_5344 : BitVec 32 := 0#32
  let c1_i32_5343 : BitVec 32 := 1#32
  let v3851 : BitVec 32 := Scalar.muli v2 c1_i32_5343
  let v3852 : BitVec 32 := Scalar.addi c0_i32_5344 v3851
  v3852.toNat
def k0_dev190 (v1 : BitVec 32) : Nat :=
  let c0_i32_5357 : BitVec 32 := 0#32
  let c1_i32_5356 : BitVec 32 := 1#32
  let v3855 : BitVec 32 := Scalar.muli v1 c1_i32_5356
  let v3856 : BitVec 32 := Scalar.addi c0_i32_5357 v3855
  v3856.toNat
def k0_dev191 (v1 : BitVec 32) : Nat :=
  let c0_i32_5400 : BitVec 32 := 0#32
  let c1_i32_5399 : BitVec 32 := 1#32
  let v3890 : BitVec 32 := Scalar.muli v1 c1_i32_5399
  let v3891 : BitVec 32 := Scalar.addi c0_i32_5400 v3890
  v3891.toNat
def k0_dev192 (v2 : BitVec 32) : Nat :=
  let c0_i32_5413 : BitVec 32 := 0#32
  let c1_i32_5412 : BitVec 32 := 1#32
  let v3894 : BitVec 32 := Scalar.muli v2 c1_i32_5412
  let v3895 : BitVec 32 := Scalar.addi c0_i32_5413 v3894
  v3895.toNat
def k0_dev193 (v2 : BitVec 32) : Nat :=
  let c0_i32_5456 : BitVec 32 := 0#32
  let c1_i32_5455 : BitVec 32 := 1#32
  let v3929 : BitVec 32 := Scalar.muli v2 c1_i32_5455
  let v3930 : BitVec 32 := Scalar.addi c0_i32_5456 v3929
  v3930.toNat
def k0_dev194 (v1 : BitVec 32) : Nat :=
  let c0_i32_5469 : BitVec 32 := 0#32
  let c1_i32_5468 : BitVec 32 := 1#32
  let v3933 : BitVec 32 := Scalar.muli v1 c1_i32_5468
  let v3934 : BitVec 32 := Scalar.addi c0_i32_5469 v3933
  v3934.toNat
def k0_dev195 (v1 : BitVec 32) : Nat :=
  let c0_i32_5512 : BitVec 32 := 0#32
  let c1_i32_5511 : BitVec 32 := 1#32
  let v3968 : BitVec 32 := Scalar.muli v1 c1_i32_5511
  let v3969 : BitVec 32 := Scalar.addi c0_i32_5512 v3968
  v3969.toNat
def k0_dev196 (v2 : BitVec 32) : Nat :=
  let c0_i32_5525 : BitVec 32 := 0#32
  let c1_i32_5524 : BitVec 32 := 1#32
  let v3972 : BitVec 32 := Scalar.muli v2 c1_i32_5524
  let v3973 : BitVec 32 := Scalar.addi c0_i32_5525 v3972
  v3973.toNat
def k0_dev197 (v2 : BitVec 32) : Nat :=
  let c0_i32_5568 : BitVec 32 := 0#32
  let c1_i32_5567 : BitVec 32 := 1#32
  let v4007 : BitVec 32 := Scalar.muli v2 c1_i32_5567
  let v4008 : BitVec 32 := Scalar.addi c0_i32_5568 v4007
  v4008.toNat
def k0_dev198 (v1 : BitVec 32) : Nat :=
  let c0_i32_5581 : BitVec 32 := 0#32
  let c1_i32_5580 : BitVec 32 := 1#32
  let v4011 : BitVec 32 := Scalar.muli v1 c1_i32_5580
  let v4012 : BitVec 32 := Scalar.addi c0_i32_5581 v4011
  v4012.toNat
def k0_dev199 (v1 : BitVec 32) : Nat :=
  let c0_i32_5624 : BitVec 32 := 0#32
  let c1_i32_5623 : BitVec 32 := 1#32
  let v4046 : BitVec 32 := Scalar.muli v1 c1_i32_5623
  let v4047 : BitVec 32 := Scalar.addi c0_i32_5624 v4046
  v4047.toNat
def k0_dev200 (v2 : BitVec 32) : Nat :=
  let c0_i32_5637 : BitVec 32 := 0#32
  let c1_i32_5636 : BitVec 32 := 1#32
  let v4050 : BitVec 32 := Scalar.muli v2 c1_i32_5636
  let v4051 : BitVec 32 := Scalar.addi c0_i32_5637 v4050
  v4051.toNat
def k0_dev201 (v2 : BitVec 32) : Nat :=
  let c0_i32_5680 : BitVec 32 := 0#32
  let c1_i32_5679 : BitVec 32 := 1#32
  let v4085 : BitVec 32 := Scalar.muli v2 c1_i32_5679
  let v4086 : BitVec 32 := Scalar.addi c0_i32_5680 v4085
  v4086.toNat
def k0_dev202 (v1 : BitVec 32) : Nat :=
  let c0_i32_5693 : BitVec 32 := 0#32
  let c1_i32_5692 : BitVec 32 := 1#32
  let v4089 : BitVec 32 := Scalar.muli v1 c1_i32_5692
  let v4090 : BitVec 32 := Scalar.addi c0_i32_5693 v4089
  v4090.toNat
def k0_dev203 (v1 : BitVec 32) : Nat :=
  let c0_i32_5752 : BitVec 32 := 0#32
  let c1_i32_5751 : BitVec 32 := 1#32
  let v4143 : BitVec 32 := Scalar.muli v1 c1_i32_5751
  let v4144 : BitVec 32 := Scalar.addi c0_i32_5752 v4143
  v4144.toNat
def k0_dev204 (v2 : BitVec 32) : Nat :=
  let c0_i32_5765 : BitVec 32 := 0#32
  let c1_i32_5764 : BitVec 32 := 1#32
  let v4147 : BitVec 32 := Scalar.muli v2 c1_i32_5764
  let v4148 : BitVec 32 := Scalar.addi c0_i32_5765 v4147
  v4148.toNat
def k0_dev205 (v2 : BitVec 32) : Nat :=
  let c0_i32_5808 : BitVec 32 := 0#32
  let c1_i32_5807 : BitVec 32 := 1#32
  let v4182 : BitVec 32 := Scalar.muli v2 c1_i32_5807
  let v4183 : BitVec 32 := Scalar.addi c0_i32_5808 v4182
  v4183.toNat
def k0_dev206 (v1 : BitVec 32) : Nat :=
  let c0_i32_5821 : BitVec 32 := 0#32
  let c1_i32_5820 : BitVec 32 := 1#32
  let v4186 : BitVec 32 := Scalar.muli v1 c1_i32_5820
  let v4187 : BitVec 32 := Scalar.addi c0_i32_5821 v4186
  v4187.toNat
def k0_dev207 (v1 : BitVec 32) : Nat :=
  let c0_i32_5864 : BitVec 32 := 0#32
  let c1_i32_5863 : BitVec 32 := 1#32
  let v4221 : BitVec 32 := Scalar.muli v1 c1_i32_5863
  let v4222 : BitVec 32 := Scalar.addi c0_i32_5864 v4221
  v4222.toNat
def k0_dev208 (v2 : BitVec 32) : Nat :=
  let c0_i32_5877 : BitVec 32 := 0#32
  let c1_i32_5876 : BitVec 32 := 1#32
  let v4225 : BitVec 32 := Scalar.muli v2 c1_i32_5876
  let v4226 : BitVec 32 := Scalar.addi c0_i32_5877 v4225
  v4226.toNat
def k0_dev209 (v2 : BitVec 32) : Nat :=
  let c0_i32_5920 : BitVec 32 := 0#32
  let c1_i32_5919 : BitVec 32 := 1#32
  let v4260 : BitVec 32 := Scalar.muli v2 c1_i32_5919
  let v4261 : BitVec 32 := Scalar.addi c0_i32_5920 v4260
  v4261.toNat
def k0_dev210 (v1 : BitVec 32) : Nat :=
  let c0_i32_5933 : BitVec 32 := 0#32
  let c1_i32_5932 : BitVec 32 := 1#32
  let v4264 : BitVec 32 := Scalar.muli v1 c1_i32_5932
  let v4265 : BitVec 32 := Scalar.addi c0_i32_5933 v4264
  v4265.toNat
def k0_dev211 (v1 : BitVec 32) : Nat :=
  let c0_i32_5976 : BitVec 32 := 0#32
  let c1_i32_5975 : BitVec 32 := 1#32
  let v4299 : BitVec 32 := Scalar.muli v1 c1_i32_5975
  let v4300 : BitVec 32 := Scalar.addi c0_i32_5976 v4299
  v4300.toNat
def k0_dev212 (v2 : BitVec 32) : Nat :=
  let c0_i32_5989 : BitVec 32 := 0#32
  let c1_i32_5988 : BitVec 32 := 1#32
  let v4303 : BitVec 32 := Scalar.muli v2 c1_i32_5988
  let v4304 : BitVec 32 := Scalar.addi c0_i32_5989 v4303
  v4304.toNat
def k0_dev213 (v2 : BitVec 32) : Nat :=
  let c0_i32_6032 : BitVec 32 := 0#32
  let c1_i32_6031 : BitVec 32 := 1#32
  let v4338 : BitVec 32 := Scalar.muli v2 c1_i32_6031
  let v4339 : BitVec 32 := Scalar.addi c0_i32_6032 v4338
  v4339.toNat
def k0_dev214 (v1 : BitVec 32) : Nat :=
  let c0_i32_6045 : BitVec 32 := 0#32
  let c1_i32_6044 : BitVec 32 := 1#32
  let v4342 : BitVec 32 := Scalar.muli v1 c1_i32_6044
  let v4343 : BitVec 32 := Scalar.addi c0_i32_6045 v4342
  v4343.toNat
def k0_dev215 (v1 : BitVec 32) : Nat :=
  let c0_i32_6088 : BitVec 32 := 0#32
  let c1_i32_6087 : BitVec 32 := 1#32
  let v4377 : BitVec 32 := Scalar.muli v1 c1_i32_6087
  let v4378 : BitVec 32 := Scalar.addi c0_i32_6088 v4377
  v4378.toNat
def k0_dev216 (v2 : BitVec 32) : Nat :=
  let c0_i32_6101 : BitVec 32 := 0#32
  let c1_i32_6100 : BitVec 32 := 1#32
  let v4381 : BitVec 32 := Scalar.muli v2 c1_i32_6100
  let v4382 : BitVec 32 := Scalar.addi c0_i32_6101 v4381
  v4382.toNat
def k0_dev217 (v2 : BitVec 32) : Nat :=
  let c0_i32_6144 : BitVec 32 := 0#32
  let c1_i32_6143 : BitVec 32 := 1#32
  let v4416 : BitVec 32 := Scalar.muli v2 c1_i32_6143
  let v4417 : BitVec 32 := Scalar.addi c0_i32_6144 v4416
  v4417.toNat
def k0_dev218 (v1 : BitVec 32) : Nat :=
  let c0_i32_6157 : BitVec 32 := 0#32
  let c1_i32_6156 : BitVec 32 := 1#32
  let v4420 : BitVec 32 := Scalar.muli v1 c1_i32_6156
  let v4421 : BitVec 32 := Scalar.addi c0_i32_6157 v4420
  v4421.toNat
def k0_dev219 (v1 : BitVec 32) : Nat :=
  let c0_i32_6216 : BitVec 32 := 0#32
  let c1_i32_6215 : BitVec 32 := 1#32
  let v4474 : BitVec 32 := Scalar.muli v1 c1_i32_6215
  let v4475 : BitVec 32 := Scalar.addi c0_i32_6216 v4474
  v4475.toNat
def k0_dev220 (v2 : BitVec 32) : Nat :=
  let c0_i32_6229 : BitVec 32 := 0#32
  let c1_i32_6228 : BitVec 32 := 1#32
  let v4478 : BitVec 32 := Scalar.muli v2 c1_i32_6228
  let v4479 : BitVec 32 := Scalar.addi c0_i32_6229 v4478
  v4479.toNat
def k0_dev221 (v2 : BitVec 32) : Nat :=
  let c0_i32_6272 : BitVec 32 := 0#32
  let c1_i32_6271 : BitVec 32 := 1#32
  let v4513 : BitVec 32 := Scalar.muli v2 c1_i32_6271
  let v4514 : BitVec 32 := Scalar.addi c0_i32_6272 v4513
  v4514.toNat
def k0_dev222 (v1 : BitVec 32) : Nat :=
  let c0_i32_6285 : BitVec 32 := 0#32
  let c1_i32_6284 : BitVec 32 := 1#32
  let v4517 : BitVec 32 := Scalar.muli v1 c1_i32_6284
  let v4518 : BitVec 32 := Scalar.addi c0_i32_6285 v4517
  v4518.toNat
def k0_dev223 (v1 : BitVec 32) : Nat :=
  let c0_i32_6328 : BitVec 32 := 0#32
  let c1_i32_6327 : BitVec 32 := 1#32
  let v4552 : BitVec 32 := Scalar.muli v1 c1_i32_6327
  let v4553 : BitVec 32 := Scalar.addi c0_i32_6328 v4552
  v4553.toNat
def k0_dev224 (v2 : BitVec 32) : Nat :=
  let c0_i32_6341 : BitVec 32 := 0#32
  let c1_i32_6340 : BitVec 32 := 1#32
  let v4556 : BitVec 32 := Scalar.muli v2 c1_i32_6340
  let v4557 : BitVec 32 := Scalar.addi c0_i32_6341 v4556
  v4557.toNat
def k0_dev225 (v2 : BitVec 32) : Nat :=
  let c0_i32_6384 : BitVec 32 := 0#32
  let c1_i32_6383 : BitVec 32 := 1#32
  let v4591 : BitVec 32 := Scalar.muli v2 c1_i32_6383
  let v4592 : BitVec 32 := Scalar.addi c0_i32_6384 v4591
  v4592.toNat
def k0_dev226 (v1 : BitVec 32) : Nat :=
  let c0_i32_6397 : BitVec 32 := 0#32
  let c1_i32_6396 : BitVec 32 := 1#32
  let v4595 : BitVec 32 := Scalar.muli v1 c1_i32_6396
  let v4596 : BitVec 32 := Scalar.addi c0_i32_6397 v4595
  v4596.toNat
def k0_dev227 (v1 : BitVec 32) : Nat :=
  let c0_i32_6440 : BitVec 32 := 0#32
  let c1_i32_6439 : BitVec 32 := 1#32
  let v4630 : BitVec 32 := Scalar.muli v1 c1_i32_6439
  let v4631 : BitVec 32 := Scalar.addi c0_i32_6440 v4630
  v4631.toNat
def k0_dev228 (v2 : BitVec 32) : Nat :=
  let c0_i32_6453 : BitVec 32 := 0#32
  let c1_i32_6452 : BitVec 32 := 1#32
  let v4634 : BitVec 32 := Scalar.muli v2 c1_i32_6452
  let v4635 : BitVec 32 := Scalar.addi c0_i32_6453 v4634
  v4635.toNat
def k0_dev229 (v2 : BitVec 32) : Nat :=
  let c0_i32_6496 : BitVec 32 := 0#32
  let c1_i32_6495 : BitVec 32 := 1#32
  let v4669 : BitVec 32 := Scalar.muli v2 c1_i32_6495
  let v4670 : BitVec 32 := Scalar.addi c0_i32_6496 v4669
  v4670.toNat
def k0_dev230 (v1 : BitVec 32) : Nat :=
  let c0_i32_6509 : BitVec 32 := 0#32
  let c1_i32_6508 : BitVec 32 := 1#32
  let v4673 : BitVec 32 := Scalar.muli v1 c1_i32_6508
  let v4674 : BitVec 32 := Scalar.addi c0_i32_6509 v4673
  v4674.toNat
def k0_dev231 (v1 : BitVec 32) : Nat :=
  let c0_i32_6552 : BitVec 32 := 0#32
  let c1_i32_6551 : BitVec 32 := 1#32
  let v4708 : BitVec 32 := Scalar.muli v1 c1_i32_6551
  let v4709 : BitVec 32 := Scalar.addi c0_i32_6552 v4708
  v4709.toNat
def k0_dev232 (v2 : BitVec 32) : Nat :=
  let c0_i32_6565 : BitVec 32 := 0#32
  let c1_i32_6564 : BitVec 32 := 1#32
  let v4712 : BitVec 32 := Scalar.muli v2 c1_i32_6564
  let v4713 : BitVec 32 := Scalar.addi c0_i32_6565 v4712
  v4713.toNat
def k0_dev233 (v2 : BitVec 32) : Nat :=
  let c0_i32_6608 : BitVec 32 := 0#32
  let c1_i32_6607 : BitVec 32 := 1#32
  let v4747 : BitVec 32 := Scalar.muli v2 c1_i32_6607
  let v4748 : BitVec 32 := Scalar.addi c0_i32_6608 v4747
  v4748.toNat
def k0_dev234 (v1 : BitVec 32) : Nat :=
  let c0_i32_6621 : BitVec 32 := 0#32
  let c1_i32_6620 : BitVec 32 := 1#32
  let v4751 : BitVec 32 := Scalar.muli v1 c1_i32_6620
  let v4752 : BitVec 32 := Scalar.addi c0_i32_6621 v4751
  v4752.toNat
def k0_off6 (v0 : BitVec 32) (c0_i32_6680 : BitVec 32) : Fin 2 → Nat :=
  let c14_i32 : BitVec 32 := 14#32
  let v4780 : BitVec 32 := Scalar.subi v0 c14_i32
  let c1_i32_6642 : BitVec 32 := 1#32
  let v4781 : BitVec 32 := Scalar.subi v4780 c1_i32_6642
  let c32_i32_6643 : BitVec 32 := 32#32
  let v4782 : BitVec 32 := Scalar.addi v4781 c32_i32_6643
  let c16_i32_6644 : BitVec 32 := 16#32
  let v4783 : BitVec 32 := Scalar.remsi v4782 c16_i32_6644
  let c128_i32_6679 : BitVec 32 := 128#32
  let v4806 : BitVec 32 := Scalar.muli v4783 c128_i32_6679
  let v4807 : BitVec 32 := Scalar.addi v4806 c0_i32_6680
  let v4817 : Index := Scalar.indexCast v4807
  let c0_6684 : Index := 0#32
  ![v4817.toNat, 0]
def k0_dev235 (v1 : BitVec 32) : Nat :=
  let c0_i32_6688 : BitVec 32 := 0#32
  let c1_i32_6687 : BitVec 32 := 1#32
  let v4821 : BitVec 32 := Scalar.muli v1 c1_i32_6687
  let v4822 : BitVec 32 := Scalar.addi c0_i32_6688 v4821
  v4822.toNat
def k0_off7 (v0 : BitVec 32) (c0_i32_6721 : BitVec 32) : Fin 2 → Nat :=
  let c14_i32_6645 : BitVec 32 := 14#32
  let v4784 : BitVec 32 := Scalar.addi v0 c14_i32_6645
  let c1_i32_6646 : BitVec 32 := 1#32
  let v4785 : BitVec 32 := Scalar.addi v4784 c1_i32_6646
  let c16_i32_6647 : BitVec 32 := 16#32
  let v4786 : BitVec 32 := Scalar.remsi v4785 c16_i32_6647
  let c128_i32_6720 : BitVec 32 := 128#32
  let v4842 : BitVec 32 := Scalar.muli v4786 c128_i32_6720
  let v4843 : BitVec 32 := Scalar.addi v4842 c0_i32_6721
  let v4853 : Index := Scalar.indexCast v4843
  let c1024_6725 : Index := 1024#32
  ![v4853.toNat, 1024]
def k0_dev236 (v2 : BitVec 32) : Nat :=
  let c0_i32_6729 : BitVec 32 := 0#32
  let c1_i32_6728 : BitVec 32 := 1#32
  let v4857 : BitVec 32 := Scalar.muli v2 c1_i32_6728
  let v4858 : BitVec 32 := Scalar.addi c0_i32_6729 v4857
  v4858.toNat
def k0_dev237 (v1 : BitVec 32) : Nat :=
  let c0_i32_6770 : BitVec 32 := 0#32
  let c1_i32_6769 : BitVec 32 := 1#32
  let v4893 : BitVec 32 := Scalar.muli v1 c1_i32_6769
  let v4894 : BitVec 32 := Scalar.addi c0_i32_6770 v4893
  v4894.toNat
def k0_dev238 (v2 : BitVec 32) : Nat :=
  let c0_i32_6811 : BitVec 32 := 0#32
  let c1_i32_6810 : BitVec 32 := 1#32
  let v4929 : BitVec 32 := Scalar.muli v2 c1_i32_6810
  let v4930 : BitVec 32 := Scalar.addi c0_i32_6811 v4929
  v4930.toNat
def k0_dev239 (v1 : BitVec 32) : Nat :=
  let c0_i32_6851 : BitVec 32 := 0#32
  let c1_i32_6850 : BitVec 32 := 1#32
  let v4965 : BitVec 32 := Scalar.muli v1 c1_i32_6850
  let v4966 : BitVec 32 := Scalar.addi c0_i32_6851 v4965
  v4966.toNat
def k0_dev240 (v2 : BitVec 32) : Nat :=
  let c0_i32_6892 : BitVec 32 := 0#32
  let c1_i32_6891 : BitVec 32 := 1#32
  let v5001 : BitVec 32 := Scalar.muli v2 c1_i32_6891
  let v5002 : BitVec 32 := Scalar.addi c0_i32_6892 v5001
  v5002.toNat
def k0_dev241 (v1 : BitVec 32) : Nat :=
  let c0_i32_6932 : BitVec 32 := 0#32
  let c1_i32_6931 : BitVec 32 := 1#32
  let v5037 : BitVec 32 := Scalar.muli v1 c1_i32_6931
  let v5038 : BitVec 32 := Scalar.addi c0_i32_6932 v5037
  v5038.toNat
def k0_dev242 (v2 : BitVec 32) : Nat :=
  let c0_i32_6973 : BitVec 32 := 0#32
  let c1_i32_6972 : BitVec 32 := 1#32
  let v5073 : BitVec 32 := Scalar.muli v2 c1_i32_6972
  let v5074 : BitVec 32 := Scalar.addi c0_i32_6973 v5073
  v5074.toNat
def k0_off8 (v0 : BitVec 32) (c0_i32_7004 : BitVec 32) : Fin 2 → Nat :=
  let c1_i32_6998 : BitVec 32 := 1#32
  let v5091 : BitVec 32 := Scalar.addi v0 c1_i32_6998
  let c16_i32_6999 : BitVec 32 := 16#32
  let v5092 : BitVec 32 := Scalar.remsi v5091 c16_i32_6999
  let c128_i32_7003 : BitVec 32 := 128#32
  let v5096 : BitVec 32 := Scalar.muli v5092 c128_i32_7003
  let v5097 : BitVec 32 := Scalar.addi v5096 c0_i32_7004
  let c0_i32_7011 : BitVec 32 := 0#32
  ![v5097.toNat, 0]
def k0_dev243 (v2 : BitVec 32) : Nat :=
  let c0_i32_7010 : BitVec 32 := 0#32
  let c1_i32_7009 : BitVec 32 := 1#32
  let v5098 : BitVec 32 := Scalar.muli v2 c1_i32_7009
  let v5099 : BitVec 32 := Scalar.addi c0_i32_7010 v5098
  v5099.toNat
def k0_off9 (v0 : BitVec 32) (c0_i32_7014 : BitVec 32) : Fin 2 → Nat :=
  let c1_i32_7000 : BitVec 32 := 1#32
  let v5093 : BitVec 32 := Scalar.subi v0 c1_i32_7000
  let c16_i32_7001 : BitVec 32 := 16#32
  let v5094 : BitVec 32 := Scalar.addi v5093 c16_i32_7001
  let c16_i32_7002 : BitVec 32 := 16#32
  let v5095 : BitVec 32 := Scalar.remsi v5094 c16_i32_7002
  let c128_i32_7013 : BitVec 32 := 128#32
  let v5106 : BitVec 32 := Scalar.muli v5095 c128_i32_7013
  let v5107 : BitVec 32 := Scalar.addi v5106 c0_i32_7014
  let c1024_i32 : BitVec 32 := 1024#32
  ![v5107.toNat, 1024]
def k0_dev244 (v1 : BitVec 32) : Nat :=
  let c0_i32_7020 : BitVec 32 := 0#32
  let c1_i32_7019 : BitVec 32 := 1#32
  let v5108 : BitVec 32 := Scalar.muli v1 c1_i32_7019
  let v5109 : BitVec 32 := Scalar.addi c0_i32_7020 v5108
  v5109.toNat
def k0_dev245 (v2 : BitVec 32) : Nat :=
  let c0_i32_7029 : BitVec 32 := 0#32
  let c1_i32_7028 : BitVec 32 := 1#32
  let v5118 : BitVec 32 := Scalar.muli v2 c1_i32_7028
  let v5119 : BitVec 32 := Scalar.addi c0_i32_7029 v5118
  v5119.toNat
def k0_dev246 (v1 : BitVec 32) : Nat :=
  let c0_i32_7039 : BitVec 32 := 0#32
  let c1_i32_7038 : BitVec 32 := 1#32
  let v5128 : BitVec 32 := Scalar.muli v1 c1_i32_7038
  let v5129 : BitVec 32 := Scalar.addi c0_i32_7039 v5128
  v5129.toNat
def k0_dev247 (v2 : BitVec 32) : Nat :=
  let c0_i32_7049 : BitVec 32 := 0#32
  let c1_i32_7048 : BitVec 32 := 1#32
  let v5138 : BitVec 32 := Scalar.muli v2 c1_i32_7048
  let v5139 : BitVec 32 := Scalar.addi c0_i32_7049 v5138
  v5139.toNat
def k0_dev248 (v1 : BitVec 32) : Nat :=
  let c0_i32_7059 : BitVec 32 := 0#32
  let c1_i32_7058 : BitVec 32 := 1#32
  let v5148 : BitVec 32 := Scalar.muli v1 c1_i32_7058
  let v5149 : BitVec 32 := Scalar.addi c0_i32_7059 v5148
  v5149.toNat
def k0_dev249 (v2 : BitVec 32) : Nat :=
  let c0_i32_7069 : BitVec 32 := 0#32
  let c1_i32_7068 : BitVec 32 := 1#32
  let v5158 : BitVec 32 := Scalar.muli v2 c1_i32_7068
  let v5159 : BitVec 32 := Scalar.addi c0_i32_7069 v5158
  v5159.toNat
def k0_dev250 (v1 : BitVec 32) : Nat :=
  let c0_i32_7079 : BitVec 32 := 0#32
  let c1_i32_7078 : BitVec 32 := 1#32
  let v5168 : BitVec 32 := Scalar.muli v1 c1_i32_7078
  let v5169 : BitVec 32 := Scalar.addi c0_i32_7079 v5168
  v5169.toNat
def k0_off10 (v0 : BitVec 32) (c0_i32_7082 : BitVec 32) (c0_i32_7088 : BitVec 32) : Fin 2 → Nat :=
  let v5176 : BitVec 32 := Scalar.subi v0 c0_i32_7082
  let c32_i32_7083 : BitVec 32 := 32#32
  let v5177 : BitVec 32 := Scalar.addi v5176 c32_i32_7083
  let c16_i32_7084 : BitVec 32 := 16#32
  let v5178 : BitVec 32 := Scalar.remsi v5177 c16_i32_7084
  let c128_i32_7087 : BitVec 32 := 128#32
  let v5181 : BitVec 32 := Scalar.muli v5178 c128_i32_7087
  let v5182 : BitVec 32 := Scalar.addi v5181 c0_i32_7088
  let c0_i32_7094 : BitVec 32 := 0#32
  ![v5182.toNat, 0]
def k0_dev251 (v1 : BitVec 32) : Nat :=
  let c0_i32_7107 : BitVec 32 := 0#32
  let c1_i32_7106 : BitVec 32 := 1#32
  let v5195 : BitVec 32 := Scalar.muli v1 c1_i32_7106
  let v5196 : BitVec 32 := Scalar.addi c0_i32_7107 v5195
  v5196.toNat
def k0_dev252 (v2 : BitVec 32) : Nat :=
  let c0_i32_7115 : BitVec 32 := 0#32
  let c1_i32_7114 : BitVec 32 := 1#32
  let v5199 : BitVec 32 := Scalar.muli v2 c1_i32_7114
  let v5200 : BitVec 32 := Scalar.addi c0_i32_7115 v5199
  v5200.toNat
def k0_off11 (v0 : BitVec 32) (c0_i32_7085 : BitVec 32) (c0_i32_7119 : BitVec 32) : Fin 2 → Nat :=
  let v5179 : BitVec 32 := Scalar.addi v0 c0_i32_7085
  let c16_i32_7086 : BitVec 32 := 16#32
  let v5180 : BitVec 32 := Scalar.remsi v5179 c16_i32_7086
  let c128_i32_7118 : BitVec 32 := 128#32
  let v5207 : BitVec 32 := Scalar.muli v5180 c128_i32_7118
  let v5208 : BitVec 32 := Scalar.addi v5207 c0_i32_7119
  let c1024_i32_7125 : BitVec 32 := 1024#32
  ![v5208.toNat, 1024]

def k0_chk3 (v0 : BitVec 32) : Prop :=
  (∀ a, (k0_off1 v0) a + S128x1024.size a ≤ S2048x1024.size a) ∧
  (∀ a, (k0_off2 v0) a + S128x1024.size a ≤ S2048x1024.size a) ∧
  (∀ a, (k0_off3 v0) a + S128x1024.size a ≤ S2048x1024.size a) ∧
  (∀ (r : Fin 14), ∀ a, (k0_off4 v0 (BitVec.ofNat 32 r.val)) a + S128x1024.size a ≤ S2048x1024.size a) ∧
  (∀ (r : Fin 14), ∀ a, (k0_off5 v0 (BitVec.ofNat 32 r.val)) a + S128x1024.size a ≤ S2048x1024.size a) ∧
  (∀ (r : Fin 4), ∀ a, (k0_off6 v0 (BitVec.ofNat 32 (32 * r.val))) a + S32x1024.size a ≤ S2048x2048.size a) ∧
  (∀ (r : Fin 4), ∀ (hinb : ∀ a, (k0_off6 v0 (BitVec.ofNat 32 (32 * r.val))) a + S32x1024.size a ≤ S2048x2048.size a), (Rect.unit (s := S2048x2048) (k0_off6 v0 (BitVec.ofNat 32 (32 * r.val))) S32x1024.size hinb).PackedRows (EltTy.packing .bf16)) ∧
  (∀ (r : Fin 4), ∀ a, (k0_off7 v0 (BitVec.ofNat 32 (32 * r.val))) a + S32x1024.size a ≤ S2048x2048.size a) ∧
  (∀ (r : Fin 4), ∀ (hinb : ∀ a, (k0_off7 v0 (BitVec.ofNat 32 (32 * r.val))) a + S32x1024.size a ≤ S2048x2048.size a), (Rect.unit (s := S2048x2048) (k0_off7 v0 (BitVec.ofNat 32 (32 * r.val))) S32x1024.size hinb).PackedRows (EltTy.packing .bf16)) ∧
  (∀ (r : Fin 4), ∀ a, (k0_off8 v0 (BitVec.ofNat 32 (32 * r.val))) a + S32x1024.size a ≤ S2048x2048.size a) ∧
  (∀ (r : Fin 4), ∀ (hinb : ∀ a, (k0_off8 v0 (BitVec.ofNat 32 (32 * r.val))) a + S32x1024.size a ≤ S2048x2048.size a), (Rect.unit (s := S2048x2048) (k0_off8 v0 (BitVec.ofNat 32 (32 * r.val))) S32x1024.size hinb).WholeWords (EltTy.packing .bf16)) ∧
  (∀ (r : Fin 4), ∀ a, (k0_off9 v0 (BitVec.ofNat 32 (32 * r.val))) a + S32x1024.size a ≤ S2048x2048.size a) ∧
  (∀ (r : Fin 4), ∀ (hinb : ∀ a, (k0_off9 v0 (BitVec.ofNat 32 (32 * r.val))) a + S32x1024.size a ≤ S2048x2048.size a), (Rect.unit (s := S2048x2048) (k0_off9 v0 (BitVec.ofNat 32 (32 * r.val))) S32x1024.size hinb).WholeWords (EltTy.packing .bf16)) ∧
  (∀ (r₁ : Fin 15) (r₂ : Fin 4), ∀ a, (k0_off10 v0 (BitVec.ofNat 32 r₁.val) (BitVec.ofNat 32 (32 * r₂.val))) a + S32x1024.size a ≤ S2048x2048.size a) ∧
  (∀ (r₁ : Fin 15) (r₂ : Fin 4), ∀ (hinb : ∀ a, (k0_off10 v0 (BitVec.ofNat 32 r₁.val) (BitVec.ofNat 32 (32 * r₂.val))) a + S32x1024.size a ≤ S2048x2048.size a), (Rect.unit (s := S2048x2048) (k0_off10 v0 (BitVec.ofNat 32 r₁.val) (BitVec.ofNat 32 (32 * r₂.val))) S32x1024.size hinb).WholeWords (EltTy.packing .bf16)) ∧
  (∀ (r₁ : Fin 15) (r₂ : Fin 4), ∀ a, (k0_off11 v0 (BitVec.ofNat 32 r₁.val) (BitVec.ofNat 32 (32 * r₂.val))) a + S32x1024.size a ≤ S2048x2048.size a) ∧
  (∀ (r₁ : Fin 15) (r₂ : Fin 4), ∀ (hinb : ∀ a, (k0_off11 v0 (BitVec.ofNat 32 r₁.val) (BitVec.ofNat 32 (32 * r₂.val))) a + S32x1024.size a ≤ S2048x2048.size a), (Rect.unit (s := S2048x2048) (k0_off11 v0 (BitVec.ofNat 32 r₁.val) (BitVec.ofNat 32 (32 * r₂.val))) S32x1024.size hinb).WholeWords (EltTy.packing .bf16))
theorem k0_off1_inb : ∀ (v0 : BitVec 32) (k0_hw3 : k0_chk3 v0), ∀ a, (k0_off1 v0) a + S128x1024.size a ≤ S2048x1024.size a := fun v0 k0_hw3 => k0_hw3.1
theorem k0_off2_inb : ∀ (v0 : BitVec 32) (k0_hw3 : k0_chk3 v0), ∀ a, (k0_off2 v0) a + S128x1024.size a ≤ S2048x1024.size a := fun v0 k0_hw3 => k0_hw3.2.1
theorem k0_off3_inb : ∀ (v0 : BitVec 32) (k0_hw3 : k0_chk3 v0), ∀ a, (k0_off3 v0) a + S128x1024.size a ≤ S2048x1024.size a := fun v0 k0_hw3 => k0_hw3.2.2.1
theorem k0_off4_inb : ∀ (v0 : BitVec 32) (k0_hw3 : k0_chk3 v0), ∀ (r : Fin 14), ∀ a, (k0_off4 v0 (BitVec.ofNat 32 r.val)) a + S128x1024.size a ≤ S2048x1024.size a := fun v0 k0_hw3 r => k0_hw3.2.2.2.1 r
theorem k0_off5_inb : ∀ (v0 : BitVec 32) (k0_hw3 : k0_chk3 v0), ∀ (r : Fin 14), ∀ a, (k0_off5 v0 (BitVec.ofNat 32 r.val)) a + S128x1024.size a ≤ S2048x1024.size a := fun v0 k0_hw3 r => k0_hw3.2.2.2.2.1 r
theorem k0_off6_inb : ∀ (v0 : BitVec 32) (k0_hw3 : k0_chk3 v0), ∀ (r : Fin 4), ∀ a, (k0_off6 v0 (BitVec.ofNat 32 (32 * r.val))) a + S32x1024.size a ≤ S2048x2048.size a := fun v0 k0_hw3 r => k0_hw3.2.2.2.2.2.1 r
theorem k0_off6_packedbf16 : ∀ (v0 : BitVec 32) (k0_hw3 : k0_chk3 v0), ∀ (r : Fin 4), (Rect.unit (s := S2048x2048) (k0_off6 v0 (BitVec.ofNat 32 (32 * r.val))) S32x1024.size (k0_off6_inb v0 k0_hw3 r)).PackedRows (EltTy.packing .bf16) := fun v0 k0_hw3 r => k0_hw3.2.2.2.2.2.2.1 r (k0_off6_inb v0 k0_hw3 r)
theorem k0_off7_inb : ∀ (v0 : BitVec 32) (k0_hw3 : k0_chk3 v0), ∀ (r : Fin 4), ∀ a, (k0_off7 v0 (BitVec.ofNat 32 (32 * r.val))) a + S32x1024.size a ≤ S2048x2048.size a := fun v0 k0_hw3 r => k0_hw3.2.2.2.2.2.2.2.1 r
theorem k0_off7_packedbf16 : ∀ (v0 : BitVec 32) (k0_hw3 : k0_chk3 v0), ∀ (r : Fin 4), (Rect.unit (s := S2048x2048) (k0_off7 v0 (BitVec.ofNat 32 (32 * r.val))) S32x1024.size (k0_off7_inb v0 k0_hw3 r)).PackedRows (EltTy.packing .bf16) := fun v0 k0_hw3 r => k0_hw3.2.2.2.2.2.2.2.2.1 r (k0_off7_inb v0 k0_hw3 r)
theorem k0_off8_inb : ∀ (v0 : BitVec 32) (k0_hw3 : k0_chk3 v0), ∀ (r : Fin 4), ∀ a, (k0_off8 v0 (BitVec.ofNat 32 (32 * r.val))) a + S32x1024.size a ≤ S2048x2048.size a := fun v0 k0_hw3 r => k0_hw3.2.2.2.2.2.2.2.2.2.1 r
theorem k0_off8_wordsbf16 : ∀ (v0 : BitVec 32) (k0_hw3 : k0_chk3 v0), ∀ (r : Fin 4), (Rect.unit (s := S2048x2048) (k0_off8 v0 (BitVec.ofNat 32 (32 * r.val))) S32x1024.size (k0_off8_inb v0 k0_hw3 r)).WholeWords (EltTy.packing .bf16) := fun v0 k0_hw3 r => k0_hw3.2.2.2.2.2.2.2.2.2.2.1 r (k0_off8_inb v0 k0_hw3 r)
theorem k0_off9_inb : ∀ (v0 : BitVec 32) (k0_hw3 : k0_chk3 v0), ∀ (r : Fin 4), ∀ a, (k0_off9 v0 (BitVec.ofNat 32 (32 * r.val))) a + S32x1024.size a ≤ S2048x2048.size a := fun v0 k0_hw3 r => k0_hw3.2.2.2.2.2.2.2.2.2.2.2.1 r
theorem k0_off9_wordsbf16 : ∀ (v0 : BitVec 32) (k0_hw3 : k0_chk3 v0), ∀ (r : Fin 4), (Rect.unit (s := S2048x2048) (k0_off9 v0 (BitVec.ofNat 32 (32 * r.val))) S32x1024.size (k0_off9_inb v0 k0_hw3 r)).WholeWords (EltTy.packing .bf16) := fun v0 k0_hw3 r => k0_hw3.2.2.2.2.2.2.2.2.2.2.2.2.1 r (k0_off9_inb v0 k0_hw3 r)
theorem k0_off10_inb : ∀ (v0 : BitVec 32) (k0_hw3 : k0_chk3 v0), ∀ (r₁ : Fin 15) (r₂ : Fin 4), ∀ a, (k0_off10 v0 (BitVec.ofNat 32 r₁.val) (BitVec.ofNat 32 (32 * r₂.val))) a + S32x1024.size a ≤ S2048x2048.size a := fun v0 k0_hw3 r₁ r₂ => k0_hw3.2.2.2.2.2.2.2.2.2.2.2.2.2.1 r₁ r₂
theorem k0_off10_wordsbf16 : ∀ (v0 : BitVec 32) (k0_hw3 : k0_chk3 v0), ∀ (r₁ : Fin 15) (r₂ : Fin 4), (Rect.unit (s := S2048x2048) (k0_off10 v0 (BitVec.ofNat 32 r₁.val) (BitVec.ofNat 32 (32 * r₂.val))) S32x1024.size (k0_off10_inb v0 k0_hw3 r₁ r₂)).WholeWords (EltTy.packing .bf16) := fun v0 k0_hw3 r₁ r₂ => k0_hw3.2.2.2.2.2.2.2.2.2.2.2.2.2.2.1 r₁ r₂ (k0_off10_inb v0 k0_hw3 r₁ r₂)
theorem k0_off11_inb : ∀ (v0 : BitVec 32) (k0_hw3 : k0_chk3 v0), ∀ (r₁ : Fin 15) (r₂ : Fin 4), ∀ a, (k0_off11 v0 (BitVec.ofNat 32 r₁.val) (BitVec.ofNat 32 (32 * r₂.val))) a + S32x1024.size a ≤ S2048x2048.size a := fun v0 k0_hw3 r₁ r₂ => k0_hw3.2.2.2.2.2.2.2.2.2.2.2.2.2.2.2.1 r₁ r₂
theorem k0_off11_wordsbf16 : ∀ (v0 : BitVec 32) (k0_hw3 : k0_chk3 v0), ∀ (r₁ : Fin 15) (r₂ : Fin 4), (Rect.unit (s := S2048x2048) (k0_off11 v0 (BitVec.ofNat 32 r₁.val) (BitVec.ofNat 32 (32 * r₂.val))) S32x1024.size (k0_off11_inb v0 k0_hw3 r₁ r₂)).WholeWords (EltTy.packing .bf16) := fun v0 k0_hw3 r₁ r₂ => k0_hw3.2.2.2.2.2.2.2.2.2.2.2.2.2.2.2.2 r₁ r₂ (k0_off11_inb v0 k0_hw3 r₁ r₂)

def k0_dev253 (v2 : BitVec 32) : Nat :=
  let c0_i32_7138 : BitVec 32 := 0#32
  let c1_i32_7137 : BitVec 32 := 1#32
  let v5221 : BitVec 32 := Scalar.muli v2 c1_i32_7137
  let v5222 : BitVec 32 := Scalar.addi c0_i32_7138 v5221
  v5222.toNat
def k0_dev254 (v1 : BitVec 32) : Nat :=
  let c0_i32_7146 : BitVec 32 := 0#32
  let c1_i32_7145 : BitVec 32 := 1#32
  let v5225 : BitVec 32 := Scalar.muli v1 c1_i32_7145
  let v5226 : BitVec 32 := Scalar.addi c0_i32_7146 v5225
  v5226.toNat
def k0_dev255 (v1 : BitVec 32) : Nat :=
  let c0_i32_7169 : BitVec 32 := 0#32
  let c1_i32_7168 : BitVec 32 := 1#32
  let v5247 : BitVec 32 := Scalar.muli v1 c1_i32_7168
  let v5248 : BitVec 32 := Scalar.addi c0_i32_7169 v5247
  v5248.toNat
def k0_dev256 (v2 : BitVec 32) : Nat :=
  let c0_i32_7177 : BitVec 32 := 0#32
  let c1_i32_7176 : BitVec 32 := 1#32
  let v5251 : BitVec 32 := Scalar.muli v2 c1_i32_7176
  let v5252 : BitVec 32 := Scalar.addi c0_i32_7177 v5251
  v5252.toNat
def k0_dev257 (v2 : BitVec 32) : Nat :=
  let c0_i32_7200 : BitVec 32 := 0#32
  let c1_i32_7199 : BitVec 32 := 1#32
  let v5273 : BitVec 32 := Scalar.muli v2 c1_i32_7199
  let v5274 : BitVec 32 := Scalar.addi c0_i32_7200 v5273
  v5274.toNat
def k0_dev258 (v1 : BitVec 32) : Nat :=
  let c0_i32_7208 : BitVec 32 := 0#32
  let c1_i32_7207 : BitVec 32 := 1#32
  let v5277 : BitVec 32 := Scalar.muli v1 c1_i32_7207
  let v5278 : BitVec 32 := Scalar.addi c0_i32_7208 v5277
  v5278.toNat
def k0_dev259 (v1 : BitVec 32) : Nat :=
  let c0_i32_7231 : BitVec 32 := 0#32
  let c1_i32_7230 : BitVec 32 := 1#32
  let v5299 : BitVec 32 := Scalar.muli v1 c1_i32_7230
  let v5300 : BitVec 32 := Scalar.addi c0_i32_7231 v5299
  v5300.toNat
def k0_dev260 (v2 : BitVec 32) : Nat :=
  let c0_i32_7239 : BitVec 32 := 0#32
  let c1_i32_7238 : BitVec 32 := 1#32
  let v5303 : BitVec 32 := Scalar.muli v2 c1_i32_7238
  let v5304 : BitVec 32 := Scalar.addi c0_i32_7239 v5303
  v5304.toNat
def k0_dev261 (v2 : BitVec 32) : Nat :=
  let c0_i32_7262 : BitVec 32 := 0#32
  let c1_i32_7261 : BitVec 32 := 1#32
  let v5325 : BitVec 32 := Scalar.muli v2 c1_i32_7261
  let v5326 : BitVec 32 := Scalar.addi c0_i32_7262 v5325
  v5326.toNat
def k0_dev262 (v1 : BitVec 32) : Nat :=
  let c0_i32_7270 : BitVec 32 := 0#32
  let c1_i32_7269 : BitVec 32 := 1#32
  let v5329 : BitVec 32 := Scalar.muli v1 c1_i32_7269
  let v5330 : BitVec 32 := Scalar.addi c0_i32_7270 v5329
  v5330.toNat
def k0_dev263 (v1 : BitVec 32) : Nat :=
  let c0_i32_7293 : BitVec 32 := 0#32
  let c1_i32_7292 : BitVec 32 := 1#32
  let v5351 : BitVec 32 := Scalar.muli v1 c1_i32_7292
  let v5352 : BitVec 32 := Scalar.addi c0_i32_7293 v5351
  v5352.toNat
def k0_dev264 (v2 : BitVec 32) : Nat :=
  let c0_i32_7301 : BitVec 32 := 0#32
  let c1_i32_7300 : BitVec 32 := 1#32
  let v5355 : BitVec 32 := Scalar.muli v2 c1_i32_7300
  let v5356 : BitVec 32 := Scalar.addi c0_i32_7301 v5355
  v5356.toNat
def k0_dev265 (v2 : BitVec 32) : Nat :=
  let c0_i32_7324 : BitVec 32 := 0#32
  let c1_i32_7323 : BitVec 32 := 1#32
  let v5377 : BitVec 32 := Scalar.muli v2 c1_i32_7323
  let v5378 : BitVec 32 := Scalar.addi c0_i32_7324 v5377
  v5378.toNat
def k0_dev266 (v1 : BitVec 32) : Nat :=
  let c0_i32_7332 : BitVec 32 := 0#32
  let c1_i32_7331 : BitVec 32 := 1#32
  let v5381 : BitVec 32 := Scalar.muli v1 c1_i32_7331
  let v5382 : BitVec 32 := Scalar.addi c0_i32_7332 v5381
  v5382.toNat
def k0_dev267 (v1 : BitVec 32) : Nat :=
  let c0_i32_7360 : BitVec 32 := 0#32
  let c1_i32_7359 : BitVec 32 := 1#32
  let v5408 : BitVec 32 := Scalar.muli v1 c1_i32_7359
  let v5409 : BitVec 32 := Scalar.addi c0_i32_7360 v5408
  v5409.toNat
def k0_dev268 (v2 : BitVec 32) : Nat :=
  let c0_i32_7371 : BitVec 32 := 0#32
  let c1_i32_7370 : BitVec 32 := 1#32
  let v5414 : BitVec 32 := Scalar.muli v2 c1_i32_7370
  let v5415 : BitVec 32 := Scalar.addi c0_i32_7371 v5414
  v5415.toNat
def k0_dev269 (v2 : BitVec 32) : Nat :=
  let c0_i32_7394 : BitVec 32 := 0#32
  let c1_i32_7393 : BitVec 32 := 1#32
  let v5436 : BitVec 32 := Scalar.muli v2 c1_i32_7393
  let v5437 : BitVec 32 := Scalar.addi c0_i32_7394 v5436
  v5437.toNat
def k0_dev270 (v1 : BitVec 32) : Nat :=
  let c0_i32_7405 : BitVec 32 := 0#32
  let c1_i32_7404 : BitVec 32 := 1#32
  let v5442 : BitVec 32 := Scalar.muli v1 c1_i32_7404
  let v5443 : BitVec 32 := Scalar.addi c0_i32_7405 v5442
  v5443.toNat
def k0_dev271 (v1 : BitVec 32) : Nat :=
  let c0_i32_7428 : BitVec 32 := 0#32
  let c1_i32_7427 : BitVec 32 := 1#32
  let v5464 : BitVec 32 := Scalar.muli v1 c1_i32_7427
  let v5465 : BitVec 32 := Scalar.addi c0_i32_7428 v5464
  v5465.toNat
def k0_dev272 (v2 : BitVec 32) : Nat :=
  let c0_i32_7439 : BitVec 32 := 0#32
  let c1_i32_7438 : BitVec 32 := 1#32
  let v5470 : BitVec 32 := Scalar.muli v2 c1_i32_7438
  let v5471 : BitVec 32 := Scalar.addi c0_i32_7439 v5470
  v5471.toNat
def k0_dev273 (v2 : BitVec 32) : Nat :=
  let c0_i32_7462 : BitVec 32 := 0#32
  let c1_i32_7461 : BitVec 32 := 1#32
  let v5492 : BitVec 32 := Scalar.muli v2 c1_i32_7461
  let v5493 : BitVec 32 := Scalar.addi c0_i32_7462 v5492
  v5493.toNat
def k0_dev274 (v1 : BitVec 32) : Nat :=
  let c0_i32_7473 : BitVec 32 := 0#32
  let c1_i32_7472 : BitVec 32 := 1#32
  let v5498 : BitVec 32 := Scalar.muli v1 c1_i32_7472
  let v5499 : BitVec 32 := Scalar.addi c0_i32_7473 v5498
  v5499.toNat
def k0_dev275 (v1 : BitVec 32) : Nat :=
  let c0_i32_7496 : BitVec 32 := 0#32
  let c1_i32_7495 : BitVec 32 := 1#32
  let v5520 : BitVec 32 := Scalar.muli v1 c1_i32_7495
  let v5521 : BitVec 32 := Scalar.addi c0_i32_7496 v5520
  v5521.toNat
def k0_dev276 (v2 : BitVec 32) : Nat :=
  let c0_i32_7507 : BitVec 32 := 0#32
  let c1_i32_7506 : BitVec 32 := 1#32
  let v5526 : BitVec 32 := Scalar.muli v2 c1_i32_7506
  let v5527 : BitVec 32 := Scalar.addi c0_i32_7507 v5526
  v5527.toNat
def k0_dev277 (v2 : BitVec 32) : Nat :=
  let c0_i32_7530 : BitVec 32 := 0#32
  let c1_i32_7529 : BitVec 32 := 1#32
  let v5548 : BitVec 32 := Scalar.muli v2 c1_i32_7529
  let v5549 : BitVec 32 := Scalar.addi c0_i32_7530 v5548
  v5549.toNat
def k0_dev278 (v1 : BitVec 32) : Nat :=
  let c0_i32_7541 : BitVec 32 := 0#32
  let c1_i32_7540 : BitVec 32 := 1#32
  let v5554 : BitVec 32 := Scalar.muli v1 c1_i32_7540
  let v5555 : BitVec 32 := Scalar.addi c0_i32_7541 v5554
  v5555.toNat
def k0_dev279 (v1 : BitVec 32) : Nat :=
  let c0_i32_7564 : BitVec 32 := 0#32
  let c1_i32_7563 : BitVec 32 := 1#32
  let v5576 : BitVec 32 := Scalar.muli v1 c1_i32_7563
  let v5577 : BitVec 32 := Scalar.addi c0_i32_7564 v5576
  v5577.toNat
def k0_dev280 (v2 : BitVec 32) : Nat :=
  let c0_i32_7575 : BitVec 32 := 0#32
  let c1_i32_7574 : BitVec 32 := 1#32
  let v5582 : BitVec 32 := Scalar.muli v2 c1_i32_7574
  let v5583 : BitVec 32 := Scalar.addi c0_i32_7575 v5582
  v5583.toNat
def k0_dev281 (v2 : BitVec 32) : Nat :=
  let c0_i32_7598 : BitVec 32 := 0#32
  let c1_i32_7597 : BitVec 32 := 1#32
  let v5604 : BitVec 32 := Scalar.muli v2 c1_i32_7597
  let v5605 : BitVec 32 := Scalar.addi c0_i32_7598 v5604
  v5605.toNat
def k0_dev282 (v1 : BitVec 32) : Nat :=
  let c0_i32_7609 : BitVec 32 := 0#32
  let c1_i32_7608 : BitVec 32 := 1#32
  let v5610 : BitVec 32 := Scalar.muli v1 c1_i32_7608
  let v5611 : BitVec 32 := Scalar.addi c0_i32_7609 v5610
  v5611.toNat
def k0_dev283 (v1 : BitVec 32) : Nat :=
  let c0_i32_7637 : BitVec 32 := 0#32
  let c1_i32_7636 : BitVec 32 := 1#32
  let v5637 : BitVec 32 := Scalar.muli v1 c1_i32_7636
  let v5638 : BitVec 32 := Scalar.addi c0_i32_7637 v5637
  v5638.toNat
def k0_dev284 (v2 : BitVec 32) : Nat :=
  let c0_i32_7648 : BitVec 32 := 0#32
  let c1_i32_7647 : BitVec 32 := 1#32
  let v5643 : BitVec 32 := Scalar.muli v2 c1_i32_7647
  let v5644 : BitVec 32 := Scalar.addi c0_i32_7648 v5643
  v5644.toNat
def k0_dev285 (v2 : BitVec 32) : Nat :=
  let c0_i32_7671 : BitVec 32 := 0#32
  let c1_i32_7670 : BitVec 32 := 1#32
  let v5665 : BitVec 32 := Scalar.muli v2 c1_i32_7670
  let v5666 : BitVec 32 := Scalar.addi c0_i32_7671 v5665
  v5666.toNat
def k0_dev286 (v1 : BitVec 32) : Nat :=
  let c0_i32_7682 : BitVec 32 := 0#32
  let c1_i32_7681 : BitVec 32 := 1#32
  let v5671 : BitVec 32 := Scalar.muli v1 c1_i32_7681
  let v5672 : BitVec 32 := Scalar.addi c0_i32_7682 v5671
  v5672.toNat
def k0_dev287 (v1 : BitVec 32) : Nat :=
  let c0_i32_7705 : BitVec 32 := 0#32
  let c1_i32_7704 : BitVec 32 := 1#32
  let v5693 : BitVec 32 := Scalar.muli v1 c1_i32_7704
  let v5694 : BitVec 32 := Scalar.addi c0_i32_7705 v5693
  v5694.toNat
def k0_dev288 (v2 : BitVec 32) : Nat :=
  let c0_i32_7716 : BitVec 32 := 0#32
  let c1_i32_7715 : BitVec 32 := 1#32
  let v5699 : BitVec 32 := Scalar.muli v2 c1_i32_7715
  let v5700 : BitVec 32 := Scalar.addi c0_i32_7716 v5699
  v5700.toNat
def k0_dev289 (v2 : BitVec 32) : Nat :=
  let c0_i32_7739 : BitVec 32 := 0#32
  let c1_i32_7738 : BitVec 32 := 1#32
  let v5721 : BitVec 32 := Scalar.muli v2 c1_i32_7738
  let v5722 : BitVec 32 := Scalar.addi c0_i32_7739 v5721
  v5722.toNat
def k0_dev290 (v1 : BitVec 32) : Nat :=
  let c0_i32_7750 : BitVec 32 := 0#32
  let c1_i32_7749 : BitVec 32 := 1#32
  let v5727 : BitVec 32 := Scalar.muli v1 c1_i32_7749
  let v5728 : BitVec 32 := Scalar.addi c0_i32_7750 v5727
  v5728.toNat
def k0_dev291 (v1 : BitVec 32) : Nat :=
  let c0_i32_7773 : BitVec 32 := 0#32
  let c1_i32_7772 : BitVec 32 := 1#32
  let v5749 : BitVec 32 := Scalar.muli v1 c1_i32_7772
  let v5750 : BitVec 32 := Scalar.addi c0_i32_7773 v5749
  v5750.toNat
def k0_dev292 (v2 : BitVec 32) : Nat :=
  let c0_i32_7784 : BitVec 32 := 0#32
  let c1_i32_7783 : BitVec 32 := 1#32
  let v5755 : BitVec 32 := Scalar.muli v2 c1_i32_7783
  let v5756 : BitVec 32 := Scalar.addi c0_i32_7784 v5755
  v5756.toNat
def k0_dev293 (v2 : BitVec 32) : Nat :=
  let c0_i32_7807 : BitVec 32 := 0#32
  let c1_i32_7806 : BitVec 32 := 1#32
  let v5777 : BitVec 32 := Scalar.muli v2 c1_i32_7806
  let v5778 : BitVec 32 := Scalar.addi c0_i32_7807 v5777
  v5778.toNat
def k0_dev294 (v1 : BitVec 32) : Nat :=
  let c0_i32_7818 : BitVec 32 := 0#32
  let c1_i32_7817 : BitVec 32 := 1#32
  let v5783 : BitVec 32 := Scalar.muli v1 c1_i32_7817
  let v5784 : BitVec 32 := Scalar.addi c0_i32_7818 v5783
  v5784.toNat
def k0_dev295 (v1 : BitVec 32) : Nat :=
  let c0_i32_7841 : BitVec 32 := 0#32
  let c1_i32_7840 : BitVec 32 := 1#32
  let v5805 : BitVec 32 := Scalar.muli v1 c1_i32_7840
  let v5806 : BitVec 32 := Scalar.addi c0_i32_7841 v5805
  v5806.toNat
def k0_dev296 (v2 : BitVec 32) : Nat :=
  let c0_i32_7852 : BitVec 32 := 0#32
  let c1_i32_7851 : BitVec 32 := 1#32
  let v5811 : BitVec 32 := Scalar.muli v2 c1_i32_7851
  let v5812 : BitVec 32 := Scalar.addi c0_i32_7852 v5811
  v5812.toNat
def k0_dev297 (v2 : BitVec 32) : Nat :=
  let c0_i32_7875 : BitVec 32 := 0#32
  let c1_i32_7874 : BitVec 32 := 1#32
  let v5833 : BitVec 32 := Scalar.muli v2 c1_i32_7874
  let v5834 : BitVec 32 := Scalar.addi c0_i32_7875 v5833
  v5834.toNat
def k0_dev298 (v1 : BitVec 32) : Nat :=
  let c0_i32_7886 : BitVec 32 := 0#32
  let c1_i32_7885 : BitVec 32 := 1#32
  let v5839 : BitVec 32 := Scalar.muli v1 c1_i32_7885
  let v5840 : BitVec 32 := Scalar.addi c0_i32_7886 v5839
  v5840.toNat
def k0_dev299 (v1 : BitVec 32) : Nat :=
  let c0_i32_7914 : BitVec 32 := 0#32
  let c1_i32_7913 : BitVec 32 := 1#32
  let v5866 : BitVec 32 := Scalar.muli v1 c1_i32_7913
  let v5867 : BitVec 32 := Scalar.addi c0_i32_7914 v5866
  v5867.toNat
def k0_dev300 (v2 : BitVec 32) : Nat :=
  let c0_i32_7925 : BitVec 32 := 0#32
  let c1_i32_7924 : BitVec 32 := 1#32
  let v5872 : BitVec 32 := Scalar.muli v2 c1_i32_7924
  let v5873 : BitVec 32 := Scalar.addi c0_i32_7925 v5872
  v5873.toNat
def k0_dev301 (v2 : BitVec 32) : Nat :=
  let c0_i32_7948 : BitVec 32 := 0#32
  let c1_i32_7947 : BitVec 32 := 1#32
  let v5894 : BitVec 32 := Scalar.muli v2 c1_i32_7947
  let v5895 : BitVec 32 := Scalar.addi c0_i32_7948 v5894
  v5895.toNat
def k0_dev302 (v1 : BitVec 32) : Nat :=
  let c0_i32_7959 : BitVec 32 := 0#32
  let c1_i32_7958 : BitVec 32 := 1#32
  let v5900 : BitVec 32 := Scalar.muli v1 c1_i32_7958
  let v5901 : BitVec 32 := Scalar.addi c0_i32_7959 v5900
  v5901.toNat
def k0_dev303 (v1 : BitVec 32) : Nat :=
  let c0_i32_7982 : BitVec 32 := 0#32
  let c1_i32_7981 : BitVec 32 := 1#32
  let v5922 : BitVec 32 := Scalar.muli v1 c1_i32_7981
  let v5923 : BitVec 32 := Scalar.addi c0_i32_7982 v5922
  v5923.toNat
def k0_dev304 (v2 : BitVec 32) : Nat :=
  let c0_i32_7993 : BitVec 32 := 0#32
  let c1_i32_7992 : BitVec 32 := 1#32
  let v5928 : BitVec 32 := Scalar.muli v2 c1_i32_7992
  let v5929 : BitVec 32 := Scalar.addi c0_i32_7993 v5928
  v5929.toNat
def k0_dev305 (v2 : BitVec 32) : Nat :=
  let c0_i32_8016 : BitVec 32 := 0#32
  let c1_i32_8015 : BitVec 32 := 1#32
  let v5950 : BitVec 32 := Scalar.muli v2 c1_i32_8015
  let v5951 : BitVec 32 := Scalar.addi c0_i32_8016 v5950
  v5951.toNat
def k0_dev306 (v1 : BitVec 32) : Nat :=
  let c0_i32_8027 : BitVec 32 := 0#32
  let c1_i32_8026 : BitVec 32 := 1#32
  let v5956 : BitVec 32 := Scalar.muli v1 c1_i32_8026
  let v5957 : BitVec 32 := Scalar.addi c0_i32_8027 v5956
  v5957.toNat
def k0_dev307 (v1 : BitVec 32) : Nat :=
  let c0_i32_8050 : BitVec 32 := 0#32
  let c1_i32_8049 : BitVec 32 := 1#32
  let v5978 : BitVec 32 := Scalar.muli v1 c1_i32_8049
  let v5979 : BitVec 32 := Scalar.addi c0_i32_8050 v5978
  v5979.toNat
def k0_dev308 (v2 : BitVec 32) : Nat :=
  let c0_i32_8061 : BitVec 32 := 0#32
  let c1_i32_8060 : BitVec 32 := 1#32
  let v5984 : BitVec 32 := Scalar.muli v2 c1_i32_8060
  let v5985 : BitVec 32 := Scalar.addi c0_i32_8061 v5984
  v5985.toNat
def k0_dev309 (v2 : BitVec 32) : Nat :=
  let c0_i32_8084 : BitVec 32 := 0#32
  let c1_i32_8083 : BitVec 32 := 1#32
  let v6006 : BitVec 32 := Scalar.muli v2 c1_i32_8083
  let v6007 : BitVec 32 := Scalar.addi c0_i32_8084 v6006
  v6007.toNat
def k0_dev310 (v1 : BitVec 32) : Nat :=
  let c0_i32_8095 : BitVec 32 := 0#32
  let c1_i32_8094 : BitVec 32 := 1#32
  let v6012 : BitVec 32 := Scalar.muli v1 c1_i32_8094
  let v6013 : BitVec 32 := Scalar.addi c0_i32_8095 v6012
  v6013.toNat
def k0_dev311 (v1 : BitVec 32) : Nat :=
  let c0_i32_8118 : BitVec 32 := 0#32
  let c1_i32_8117 : BitVec 32 := 1#32
  let v6034 : BitVec 32 := Scalar.muli v1 c1_i32_8117
  let v6035 : BitVec 32 := Scalar.addi c0_i32_8118 v6034
  v6035.toNat
def k0_dev312 (v2 : BitVec 32) : Nat :=
  let c0_i32_8129 : BitVec 32 := 0#32
  let c1_i32_8128 : BitVec 32 := 1#32
  let v6040 : BitVec 32 := Scalar.muli v2 c1_i32_8128
  let v6041 : BitVec 32 := Scalar.addi c0_i32_8129 v6040
  v6041.toNat
def k0_dev313 (v2 : BitVec 32) : Nat :=
  let c0_i32_8152 : BitVec 32 := 0#32
  let c1_i32_8151 : BitVec 32 := 1#32
  let v6062 : BitVec 32 := Scalar.muli v2 c1_i32_8151
  let v6063 : BitVec 32 := Scalar.addi c0_i32_8152 v6062
  v6063.toNat
def k0_dev314 (v1 : BitVec 32) : Nat :=
  let c0_i32_8163 : BitVec 32 := 0#32
  let c1_i32_8162 : BitVec 32 := 1#32
  let v6068 : BitVec 32 := Scalar.muli v1 c1_i32_8162
  let v6069 : BitVec 32 := Scalar.addi c0_i32_8163 v6068
  v6069.toNat
def k0_dev315 (v1 : BitVec 32) : Nat :=
  let c0_i32_8191 : BitVec 32 := 0#32
  let c1_i32_8190 : BitVec 32 := 1#32
  let v6095 : BitVec 32 := Scalar.muli v1 c1_i32_8190
  let v6096 : BitVec 32 := Scalar.addi c0_i32_8191 v6095
  v6096.toNat
def k0_dev316 (v2 : BitVec 32) : Nat :=
  let c0_i32_8202 : BitVec 32 := 0#32
  let c1_i32_8201 : BitVec 32 := 1#32
  let v6101 : BitVec 32 := Scalar.muli v2 c1_i32_8201
  let v6102 : BitVec 32 := Scalar.addi c0_i32_8202 v6101
  v6102.toNat
def k0_dev317 (v2 : BitVec 32) : Nat :=
  let c0_i32_8225 : BitVec 32 := 0#32
  let c1_i32_8224 : BitVec 32 := 1#32
  let v6123 : BitVec 32 := Scalar.muli v2 c1_i32_8224
  let v6124 : BitVec 32 := Scalar.addi c0_i32_8225 v6123
  v6124.toNat
def k0_dev318 (v1 : BitVec 32) : Nat :=
  let c0_i32_8236 : BitVec 32 := 0#32
  let c1_i32_8235 : BitVec 32 := 1#32
  let v6129 : BitVec 32 := Scalar.muli v1 c1_i32_8235
  let v6130 : BitVec 32 := Scalar.addi c0_i32_8236 v6129
  v6130.toNat
def k0_dev319 (v1 : BitVec 32) : Nat :=
  let c0_i32_8259 : BitVec 32 := 0#32
  let c1_i32_8258 : BitVec 32 := 1#32
  let v6151 : BitVec 32 := Scalar.muli v1 c1_i32_8258
  let v6152 : BitVec 32 := Scalar.addi c0_i32_8259 v6151
  v6152.toNat
def k0_dev320 (v2 : BitVec 32) : Nat :=
  let c0_i32_8270 : BitVec 32 := 0#32
  let c1_i32_8269 : BitVec 32 := 1#32
  let v6157 : BitVec 32 := Scalar.muli v2 c1_i32_8269
  let v6158 : BitVec 32 := Scalar.addi c0_i32_8270 v6157
  v6158.toNat
def k0_dev321 (v2 : BitVec 32) : Nat :=
  let c0_i32_8293 : BitVec 32 := 0#32
  let c1_i32_8292 : BitVec 32 := 1#32
  let v6179 : BitVec 32 := Scalar.muli v2 c1_i32_8292
  let v6180 : BitVec 32 := Scalar.addi c0_i32_8293 v6179
  v6180.toNat
def k0_dev322 (v1 : BitVec 32) : Nat :=
  let c0_i32_8304 : BitVec 32 := 0#32
  let c1_i32_8303 : BitVec 32 := 1#32
  let v6185 : BitVec 32 := Scalar.muli v1 c1_i32_8303
  let v6186 : BitVec 32 := Scalar.addi c0_i32_8304 v6185
  v6186.toNat
def k0_dev323 (v1 : BitVec 32) : Nat :=
  let c0_i32_8327 : BitVec 32 := 0#32
  let c1_i32_8326 : BitVec 32 := 1#32
  let v6207 : BitVec 32 := Scalar.muli v1 c1_i32_8326
  let v6208 : BitVec 32 := Scalar.addi c0_i32_8327 v6207
  v6208.toNat
def k0_dev324 (v2 : BitVec 32) : Nat :=
  let c0_i32_8338 : BitVec 32 := 0#32
  let c1_i32_8337 : BitVec 32 := 1#32
  let v6213 : BitVec 32 := Scalar.muli v2 c1_i32_8337
  let v6214 : BitVec 32 := Scalar.addi c0_i32_8338 v6213
  v6214.toNat
def k0_dev325 (v2 : BitVec 32) : Nat :=
  let c0_i32_8361 : BitVec 32 := 0#32
  let c1_i32_8360 : BitVec 32 := 1#32
  let v6235 : BitVec 32 := Scalar.muli v2 c1_i32_8360
  let v6236 : BitVec 32 := Scalar.addi c0_i32_8361 v6235
  v6236.toNat
def k0_dev326 (v1 : BitVec 32) : Nat :=
  let c0_i32_8372 : BitVec 32 := 0#32
  let c1_i32_8371 : BitVec 32 := 1#32
  let v6241 : BitVec 32 := Scalar.muli v1 c1_i32_8371
  let v6242 : BitVec 32 := Scalar.addi c0_i32_8372 v6241
  v6242.toNat
def k0_dev327 (v1 : BitVec 32) : Nat :=
  let c0_i32_8395 : BitVec 32 := 0#32
  let c1_i32_8394 : BitVec 32 := 1#32
  let v6263 : BitVec 32 := Scalar.muli v1 c1_i32_8394
  let v6264 : BitVec 32 := Scalar.addi c0_i32_8395 v6263
  v6264.toNat
def k0_dev328 (v2 : BitVec 32) : Nat :=
  let c0_i32_8406 : BitVec 32 := 0#32
  let c1_i32_8405 : BitVec 32 := 1#32
  let v6269 : BitVec 32 := Scalar.muli v2 c1_i32_8405
  let v6270 : BitVec 32 := Scalar.addi c0_i32_8406 v6269
  v6270.toNat
def k0_dev329 (v2 : BitVec 32) : Nat :=
  let c0_i32_8429 : BitVec 32 := 0#32
  let c1_i32_8428 : BitVec 32 := 1#32
  let v6291 : BitVec 32 := Scalar.muli v2 c1_i32_8428
  let v6292 : BitVec 32 := Scalar.addi c0_i32_8429 v6291
  v6292.toNat
def k0_dev330 (v1 : BitVec 32) : Nat :=
  let c0_i32_8440 : BitVec 32 := 0#32
  let c1_i32_8439 : BitVec 32 := 1#32
  let v6297 : BitVec 32 := Scalar.muli v1 c1_i32_8439
  let v6298 : BitVec 32 := Scalar.addi c0_i32_8440 v6297
  v6298.toNat
def k0_dev331 (v1 : BitVec 32) : Nat :=
  let c0_i32_8468 : BitVec 32 := 0#32
  let c1_i32_8467 : BitVec 32 := 1#32
  let v6324 : BitVec 32 := Scalar.muli v1 c1_i32_8467
  let v6325 : BitVec 32 := Scalar.addi c0_i32_8468 v6324
  v6325.toNat
def k0_dev332 (v2 : BitVec 32) : Nat :=
  let c0_i32_8479 : BitVec 32 := 0#32
  let c1_i32_8478 : BitVec 32 := 1#32
  let v6330 : BitVec 32 := Scalar.muli v2 c1_i32_8478
  let v6331 : BitVec 32 := Scalar.addi c0_i32_8479 v6330
  v6331.toNat
def k0_dev333 (v2 : BitVec 32) : Nat :=
  let c0_i32_8502 : BitVec 32 := 0#32
  let c1_i32_8501 : BitVec 32 := 1#32
  let v6352 : BitVec 32 := Scalar.muli v2 c1_i32_8501
  let v6353 : BitVec 32 := Scalar.addi c0_i32_8502 v6352
  v6353.toNat
def k0_dev334 (v1 : BitVec 32) : Nat :=
  let c0_i32_8513 : BitVec 32 := 0#32
  let c1_i32_8512 : BitVec 32 := 1#32
  let v6358 : BitVec 32 := Scalar.muli v1 c1_i32_8512
  let v6359 : BitVec 32 := Scalar.addi c0_i32_8513 v6358
  v6359.toNat
def k0_dev335 (v1 : BitVec 32) : Nat :=
  let c0_i32_8536 : BitVec 32 := 0#32
  let c1_i32_8535 : BitVec 32 := 1#32
  let v6380 : BitVec 32 := Scalar.muli v1 c1_i32_8535
  let v6381 : BitVec 32 := Scalar.addi c0_i32_8536 v6380
  v6381.toNat
def k0_dev336 (v2 : BitVec 32) : Nat :=
  let c0_i32_8547 : BitVec 32 := 0#32
  let c1_i32_8546 : BitVec 32 := 1#32
  let v6386 : BitVec 32 := Scalar.muli v2 c1_i32_8546
  let v6387 : BitVec 32 := Scalar.addi c0_i32_8547 v6386
  v6387.toNat
def k0_dev337 (v2 : BitVec 32) : Nat :=
  let c0_i32_8570 : BitVec 32 := 0#32
  let c1_i32_8569 : BitVec 32 := 1#32
  let v6408 : BitVec 32 := Scalar.muli v2 c1_i32_8569
  let v6409 : BitVec 32 := Scalar.addi c0_i32_8570 v6408
  v6409.toNat
def k0_dev338 (v1 : BitVec 32) : Nat :=
  let c0_i32_8581 : BitVec 32 := 0#32
  let c1_i32_8580 : BitVec 32 := 1#32
  let v6414 : BitVec 32 := Scalar.muli v1 c1_i32_8580
  let v6415 : BitVec 32 := Scalar.addi c0_i32_8581 v6414
  v6415.toNat
def k0_dev339 (v1 : BitVec 32) : Nat :=
  let c0_i32_8604 : BitVec 32 := 0#32
  let c1_i32_8603 : BitVec 32 := 1#32
  let v6436 : BitVec 32 := Scalar.muli v1 c1_i32_8603
  let v6437 : BitVec 32 := Scalar.addi c0_i32_8604 v6436
  v6437.toNat
def k0_dev340 (v2 : BitVec 32) : Nat :=
  let c0_i32_8615 : BitVec 32 := 0#32
  let c1_i32_8614 : BitVec 32 := 1#32
  let v6442 : BitVec 32 := Scalar.muli v2 c1_i32_8614
  let v6443 : BitVec 32 := Scalar.addi c0_i32_8615 v6442
  v6443.toNat
def k0_dev341 (v2 : BitVec 32) : Nat :=
  let c0_i32_8638 : BitVec 32 := 0#32
  let c1_i32_8637 : BitVec 32 := 1#32
  let v6464 : BitVec 32 := Scalar.muli v2 c1_i32_8637
  let v6465 : BitVec 32 := Scalar.addi c0_i32_8638 v6464
  v6465.toNat
def k0_dev342 (v1 : BitVec 32) : Nat :=
  let c0_i32_8649 : BitVec 32 := 0#32
  let c1_i32_8648 : BitVec 32 := 1#32
  let v6470 : BitVec 32 := Scalar.muli v1 c1_i32_8648
  let v6471 : BitVec 32 := Scalar.addi c0_i32_8649 v6470
  v6471.toNat
def k0_dev343 (v1 : BitVec 32) : Nat :=
  let c0_i32_8672 : BitVec 32 := 0#32
  let c1_i32_8671 : BitVec 32 := 1#32
  let v6492 : BitVec 32 := Scalar.muli v1 c1_i32_8671
  let v6493 : BitVec 32 := Scalar.addi c0_i32_8672 v6492
  v6493.toNat
def k0_dev344 (v2 : BitVec 32) : Nat :=
  let c0_i32_8683 : BitVec 32 := 0#32
  let c1_i32_8682 : BitVec 32 := 1#32
  let v6498 : BitVec 32 := Scalar.muli v2 c1_i32_8682
  let v6499 : BitVec 32 := Scalar.addi c0_i32_8683 v6498
  v6499.toNat
def k0_dev345 (v2 : BitVec 32) : Nat :=
  let c0_i32_8706 : BitVec 32 := 0#32
  let c1_i32_8705 : BitVec 32 := 1#32
  let v6520 : BitVec 32 := Scalar.muli v2 c1_i32_8705
  let v6521 : BitVec 32 := Scalar.addi c0_i32_8706 v6520
  v6521.toNat
def k0_dev346 (v1 : BitVec 32) : Nat :=
  let c0_i32_8717 : BitVec 32 := 0#32
  let c1_i32_8716 : BitVec 32 := 1#32
  let v6526 : BitVec 32 := Scalar.muli v1 c1_i32_8716
  let v6527 : BitVec 32 := Scalar.addi c0_i32_8717 v6526
  v6527.toNat
def k0_dev347 (v1 : BitVec 32) : Nat :=
  let c0_i32_8745 : BitVec 32 := 0#32
  let c1_i32_8744 : BitVec 32 := 1#32
  let v6553 : BitVec 32 := Scalar.muli v1 c1_i32_8744
  let v6554 : BitVec 32 := Scalar.addi c0_i32_8745 v6553
  v6554.toNat
def k0_dev348 (v2 : BitVec 32) : Nat :=
  let c0_i32_8756 : BitVec 32 := 0#32
  let c1_i32_8755 : BitVec 32 := 1#32
  let v6559 : BitVec 32 := Scalar.muli v2 c1_i32_8755
  let v6560 : BitVec 32 := Scalar.addi c0_i32_8756 v6559
  v6560.toNat
def k0_dev349 (v2 : BitVec 32) : Nat :=
  let c0_i32_8779 : BitVec 32 := 0#32
  let c1_i32_8778 : BitVec 32 := 1#32
  let v6581 : BitVec 32 := Scalar.muli v2 c1_i32_8778
  let v6582 : BitVec 32 := Scalar.addi c0_i32_8779 v6581
  v6582.toNat
def k0_dev350 (v1 : BitVec 32) : Nat :=
  let c0_i32_8790 : BitVec 32 := 0#32
  let c1_i32_8789 : BitVec 32 := 1#32
  let v6587 : BitVec 32 := Scalar.muli v1 c1_i32_8789
  let v6588 : BitVec 32 := Scalar.addi c0_i32_8790 v6587
  v6588.toNat
def k0_dev351 (v1 : BitVec 32) : Nat :=
  let c0_i32_8813 : BitVec 32 := 0#32
  let c1_i32_8812 : BitVec 32 := 1#32
  let v6609 : BitVec 32 := Scalar.muli v1 c1_i32_8812
  let v6610 : BitVec 32 := Scalar.addi c0_i32_8813 v6609
  v6610.toNat
def k0_dev352 (v2 : BitVec 32) : Nat :=
  let c0_i32_8824 : BitVec 32 := 0#32
  let c1_i32_8823 : BitVec 32 := 1#32
  let v6615 : BitVec 32 := Scalar.muli v2 c1_i32_8823
  let v6616 : BitVec 32 := Scalar.addi c0_i32_8824 v6615
  v6616.toNat
def k0_dev353 (v2 : BitVec 32) : Nat :=
  let c0_i32_8847 : BitVec 32 := 0#32
  let c1_i32_8846 : BitVec 32 := 1#32
  let v6637 : BitVec 32 := Scalar.muli v2 c1_i32_8846
  let v6638 : BitVec 32 := Scalar.addi c0_i32_8847 v6637
  v6638.toNat
def k0_dev354 (v1 : BitVec 32) : Nat :=
  let c0_i32_8858 : BitVec 32 := 0#32
  let c1_i32_8857 : BitVec 32 := 1#32
  let v6643 : BitVec 32 := Scalar.muli v1 c1_i32_8857
  let v6644 : BitVec 32 := Scalar.addi c0_i32_8858 v6643
  v6644.toNat
def k0_dev355 (v1 : BitVec 32) : Nat :=
  let c0_i32_8881 : BitVec 32 := 0#32
  let c1_i32_8880 : BitVec 32 := 1#32
  let v6665 : BitVec 32 := Scalar.muli v1 c1_i32_8880
  let v6666 : BitVec 32 := Scalar.addi c0_i32_8881 v6665
  v6666.toNat
def k0_dev356 (v2 : BitVec 32) : Nat :=
  let c0_i32_8892 : BitVec 32 := 0#32
  let c1_i32_8891 : BitVec 32 := 1#32
  let v6671 : BitVec 32 := Scalar.muli v2 c1_i32_8891
  let v6672 : BitVec 32 := Scalar.addi c0_i32_8892 v6671
  v6672.toNat
def k0_dev357 (v2 : BitVec 32) : Nat :=
  let c0_i32_8915 : BitVec 32 := 0#32
  let c1_i32_8914 : BitVec 32 := 1#32
  let v6693 : BitVec 32 := Scalar.muli v2 c1_i32_8914
  let v6694 : BitVec 32 := Scalar.addi c0_i32_8915 v6693
  v6694.toNat
def k0_dev358 (v1 : BitVec 32) : Nat :=
  let c0_i32_8926 : BitVec 32 := 0#32
  let c1_i32_8925 : BitVec 32 := 1#32
  let v6699 : BitVec 32 := Scalar.muli v1 c1_i32_8925
  let v6700 : BitVec 32 := Scalar.addi c0_i32_8926 v6699
  v6700.toNat
def k0_dev359 (v1 : BitVec 32) : Nat :=
  let c0_i32_8949 : BitVec 32 := 0#32
  let c1_i32_8948 : BitVec 32 := 1#32
  let v6721 : BitVec 32 := Scalar.muli v1 c1_i32_8948
  let v6722 : BitVec 32 := Scalar.addi c0_i32_8949 v6721
  v6722.toNat
def k0_dev360 (v2 : BitVec 32) : Nat :=
  let c0_i32_8960 : BitVec 32 := 0#32
  let c1_i32_8959 : BitVec 32 := 1#32
  let v6727 : BitVec 32 := Scalar.muli v2 c1_i32_8959
  let v6728 : BitVec 32 := Scalar.addi c0_i32_8960 v6727
  v6728.toNat
def k0_dev361 (v2 : BitVec 32) : Nat :=
  let c0_i32_8983 : BitVec 32 := 0#32
  let c1_i32_8982 : BitVec 32 := 1#32
  let v6749 : BitVec 32 := Scalar.muli v2 c1_i32_8982
  let v6750 : BitVec 32 := Scalar.addi c0_i32_8983 v6749
  v6750.toNat
def k0_dev362 (v1 : BitVec 32) : Nat :=
  let c0_i32_8994 : BitVec 32 := 0#32
  let c1_i32_8993 : BitVec 32 := 1#32
  let v6755 : BitVec 32 := Scalar.muli v1 c1_i32_8993
  let v6756 : BitVec 32 := Scalar.addi c0_i32_8994 v6755
  v6756.toNat
def k0_dev363 (v1 : BitVec 32) : Nat :=
  let c0_i32_9022 : BitVec 32 := 0#32
  let c1_i32_9021 : BitVec 32 := 1#32
  let v6782 : BitVec 32 := Scalar.muli v1 c1_i32_9021
  let v6783 : BitVec 32 := Scalar.addi c0_i32_9022 v6782
  v6783.toNat
def k0_dev364 (v2 : BitVec 32) : Nat :=
  let c0_i32_9033 : BitVec 32 := 0#32
  let c1_i32_9032 : BitVec 32 := 1#32
  let v6788 : BitVec 32 := Scalar.muli v2 c1_i32_9032
  let v6789 : BitVec 32 := Scalar.addi c0_i32_9033 v6788
  v6789.toNat
def k0_dev365 (v2 : BitVec 32) : Nat :=
  let c0_i32_9056 : BitVec 32 := 0#32
  let c1_i32_9055 : BitVec 32 := 1#32
  let v6810 : BitVec 32 := Scalar.muli v2 c1_i32_9055
  let v6811 : BitVec 32 := Scalar.addi c0_i32_9056 v6810
  v6811.toNat
def k0_dev366 (v1 : BitVec 32) : Nat :=
  let c0_i32_9067 : BitVec 32 := 0#32
  let c1_i32_9066 : BitVec 32 := 1#32
  let v6816 : BitVec 32 := Scalar.muli v1 c1_i32_9066
  let v6817 : BitVec 32 := Scalar.addi c0_i32_9067 v6816
  v6817.toNat
def k0_dev367 (v1 : BitVec 32) : Nat :=
  let c0_i32_9090 : BitVec 32 := 0#32
  let c1_i32_9089 : BitVec 32 := 1#32
  let v6838 : BitVec 32 := Scalar.muli v1 c1_i32_9089
  let v6839 : BitVec 32 := Scalar.addi c0_i32_9090 v6838
  v6839.toNat
def k0_dev368 (v2 : BitVec 32) : Nat :=
  let c0_i32_9101 : BitVec 32 := 0#32
  let c1_i32_9100 : BitVec 32 := 1#32
  let v6844 : BitVec 32 := Scalar.muli v2 c1_i32_9100
  let v6845 : BitVec 32 := Scalar.addi c0_i32_9101 v6844
  v6845.toNat
def k0_dev369 (v2 : BitVec 32) : Nat :=
  let c0_i32_9124 : BitVec 32 := 0#32
  let c1_i32_9123 : BitVec 32 := 1#32
  let v6866 : BitVec 32 := Scalar.muli v2 c1_i32_9123
  let v6867 : BitVec 32 := Scalar.addi c0_i32_9124 v6866
  v6867.toNat
def k0_dev370 (v1 : BitVec 32) : Nat :=
  let c0_i32_9135 : BitVec 32 := 0#32
  let c1_i32_9134 : BitVec 32 := 1#32
  let v6872 : BitVec 32 := Scalar.muli v1 c1_i32_9134
  let v6873 : BitVec 32 := Scalar.addi c0_i32_9135 v6872
  v6873.toNat
def k0_dev371 (v1 : BitVec 32) : Nat :=
  let c0_i32_9158 : BitVec 32 := 0#32
  let c1_i32_9157 : BitVec 32 := 1#32
  let v6894 : BitVec 32 := Scalar.muli v1 c1_i32_9157
  let v6895 : BitVec 32 := Scalar.addi c0_i32_9158 v6894
  v6895.toNat
def k0_dev372 (v2 : BitVec 32) : Nat :=
  let c0_i32_9169 : BitVec 32 := 0#32
  let c1_i32_9168 : BitVec 32 := 1#32
  let v6900 : BitVec 32 := Scalar.muli v2 c1_i32_9168
  let v6901 : BitVec 32 := Scalar.addi c0_i32_9169 v6900
  v6901.toNat
def k0_dev373 (v2 : BitVec 32) : Nat :=
  let c0_i32_9192 : BitVec 32 := 0#32
  let c1_i32_9191 : BitVec 32 := 1#32
  let v6922 : BitVec 32 := Scalar.muli v2 c1_i32_9191
  let v6923 : BitVec 32 := Scalar.addi c0_i32_9192 v6922
  v6923.toNat
def k0_dev374 (v1 : BitVec 32) : Nat :=
  let c0_i32_9203 : BitVec 32 := 0#32
  let c1_i32_9202 : BitVec 32 := 1#32
  let v6928 : BitVec 32 := Scalar.muli v1 c1_i32_9202
  let v6929 : BitVec 32 := Scalar.addi c0_i32_9203 v6928
  v6929.toNat
def k0_dev375 (v1 : BitVec 32) : Nat :=
  let c0_i32_9226 : BitVec 32 := 0#32
  let c1_i32_9225 : BitVec 32 := 1#32
  let v6950 : BitVec 32 := Scalar.muli v1 c1_i32_9225
  let v6951 : BitVec 32 := Scalar.addi c0_i32_9226 v6950
  v6951.toNat
def k0_dev376 (v2 : BitVec 32) : Nat :=
  let c0_i32_9237 : BitVec 32 := 0#32
  let c1_i32_9236 : BitVec 32 := 1#32
  let v6956 : BitVec 32 := Scalar.muli v2 c1_i32_9236
  let v6957 : BitVec 32 := Scalar.addi c0_i32_9237 v6956
  v6957.toNat
def k0_dev377 (v2 : BitVec 32) : Nat :=
  let c0_i32_9260 : BitVec 32 := 0#32
  let c1_i32_9259 : BitVec 32 := 1#32
  let v6978 : BitVec 32 := Scalar.muli v2 c1_i32_9259
  let v6979 : BitVec 32 := Scalar.addi c0_i32_9260 v6978
  v6979.toNat
def k0_dev378 (v1 : BitVec 32) : Nat :=
  let c0_i32_9271 : BitVec 32 := 0#32
  let c1_i32_9270 : BitVec 32 := 1#32
  let v6984 : BitVec 32 := Scalar.muli v1 c1_i32_9270
  let v6985 : BitVec 32 := Scalar.addi c0_i32_9271 v6984
  v6985.toNat
def k0_dev379 (v1 : BitVec 32) : Nat :=
  let c0_i32_9299 : BitVec 32 := 0#32
  let c1_i32_9298 : BitVec 32 := 1#32
  let v7011 : BitVec 32 := Scalar.muli v1 c1_i32_9298
  let v7012 : BitVec 32 := Scalar.addi c0_i32_9299 v7011
  v7012.toNat
def k0_dev380 (v2 : BitVec 32) : Nat :=
  let c0_i32_9310 : BitVec 32 := 0#32
  let c1_i32_9309 : BitVec 32 := 1#32
  let v7017 : BitVec 32 := Scalar.muli v2 c1_i32_9309
  let v7018 : BitVec 32 := Scalar.addi c0_i32_9310 v7017
  v7018.toNat
def k0_dev381 (v2 : BitVec 32) : Nat :=
  let c0_i32_9333 : BitVec 32 := 0#32
  let c1_i32_9332 : BitVec 32 := 1#32
  let v7039 : BitVec 32 := Scalar.muli v2 c1_i32_9332
  let v7040 : BitVec 32 := Scalar.addi c0_i32_9333 v7039
  v7040.toNat
def k0_dev382 (v1 : BitVec 32) : Nat :=
  let c0_i32_9344 : BitVec 32 := 0#32
  let c1_i32_9343 : BitVec 32 := 1#32
  let v7045 : BitVec 32 := Scalar.muli v1 c1_i32_9343
  let v7046 : BitVec 32 := Scalar.addi c0_i32_9344 v7045
  v7046.toNat
def k0_dev383 (v1 : BitVec 32) : Nat :=
  let c0_i32_9367 : BitVec 32 := 0#32
  let c1_i32_9366 : BitVec 32 := 1#32
  let v7067 : BitVec 32 := Scalar.muli v1 c1_i32_9366
  let v7068 : BitVec 32 := Scalar.addi c0_i32_9367 v7067
  v7068.toNat
def k0_dev384 (v2 : BitVec 32) : Nat :=
  let c0_i32_9378 : BitVec 32 := 0#32
  let c1_i32_9377 : BitVec 32 := 1#32
  let v7073 : BitVec 32 := Scalar.muli v2 c1_i32_9377
  let v7074 : BitVec 32 := Scalar.addi c0_i32_9378 v7073
  v7074.toNat
def k0_dev385 (v2 : BitVec 32) : Nat :=
  let c0_i32_9401 : BitVec 32 := 0#32
  let c1_i32_9400 : BitVec 32 := 1#32
  let v7095 : BitVec 32 := Scalar.muli v2 c1_i32_9400
  let v7096 : BitVec 32 := Scalar.addi c0_i32_9401 v7095
  v7096.toNat
def k0_dev386 (v1 : BitVec 32) : Nat :=
  let c0_i32_9412 : BitVec 32 := 0#32
  let c1_i32_9411 : BitVec 32 := 1#32
  let v7101 : BitVec 32 := Scalar.muli v1 c1_i32_9411
  let v7102 : BitVec 32 := Scalar.addi c0_i32_9412 v7101
  v7102.toNat
def k0_dev387 (v1 : BitVec 32) : Nat :=
  let c0_i32_9435 : BitVec 32 := 0#32
  let c1_i32_9434 : BitVec 32 := 1#32
  let v7123 : BitVec 32 := Scalar.muli v1 c1_i32_9434
  let v7124 : BitVec 32 := Scalar.addi c0_i32_9435 v7123
  v7124.toNat
def k0_dev388 (v2 : BitVec 32) : Nat :=
  let c0_i32_9446 : BitVec 32 := 0#32
  let c1_i32_9445 : BitVec 32 := 1#32
  let v7129 : BitVec 32 := Scalar.muli v2 c1_i32_9445
  let v7130 : BitVec 32 := Scalar.addi c0_i32_9446 v7129
  v7130.toNat
def k0_dev389 (v2 : BitVec 32) : Nat :=
  let c0_i32_9469 : BitVec 32 := 0#32
  let c1_i32_9468 : BitVec 32 := 1#32
  let v7151 : BitVec 32 := Scalar.muli v2 c1_i32_9468
  let v7152 : BitVec 32 := Scalar.addi c0_i32_9469 v7151
  v7152.toNat
def k0_dev390 (v1 : BitVec 32) : Nat :=
  let c0_i32_9480 : BitVec 32 := 0#32
  let c1_i32_9479 : BitVec 32 := 1#32
  let v7157 : BitVec 32 := Scalar.muli v1 c1_i32_9479
  let v7158 : BitVec 32 := Scalar.addi c0_i32_9480 v7157
  v7158.toNat
def k0_dev391 (v1 : BitVec 32) : Nat :=
  let c0_i32_9503 : BitVec 32 := 0#32
  let c1_i32_9502 : BitVec 32 := 1#32
  let v7179 : BitVec 32 := Scalar.muli v1 c1_i32_9502
  let v7180 : BitVec 32 := Scalar.addi c0_i32_9503 v7179
  v7180.toNat
def k0_dev392 (v2 : BitVec 32) : Nat :=
  let c0_i32_9514 : BitVec 32 := 0#32
  let c1_i32_9513 : BitVec 32 := 1#32
  let v7185 : BitVec 32 := Scalar.muli v2 c1_i32_9513
  let v7186 : BitVec 32 := Scalar.addi c0_i32_9514 v7185
  v7186.toNat
def k0_dev393 (v2 : BitVec 32) : Nat :=
  let c0_i32_9537 : BitVec 32 := 0#32
  let c1_i32_9536 : BitVec 32 := 1#32
  let v7207 : BitVec 32 := Scalar.muli v2 c1_i32_9536
  let v7208 : BitVec 32 := Scalar.addi c0_i32_9537 v7207
  v7208.toNat
def k0_dev394 (v1 : BitVec 32) : Nat :=
  let c0_i32_9548 : BitVec 32 := 0#32
  let c1_i32_9547 : BitVec 32 := 1#32
  let v7213 : BitVec 32 := Scalar.muli v1 c1_i32_9547
  let v7214 : BitVec 32 := Scalar.addi c0_i32_9548 v7213
  v7214.toNat
def k0_dev395 (v1 : BitVec 32) : Nat :=
  let c0_i32_9576 : BitVec 32 := 0#32
  let c1_i32_9575 : BitVec 32 := 1#32
  let v7240 : BitVec 32 := Scalar.muli v1 c1_i32_9575
  let v7241 : BitVec 32 := Scalar.addi c0_i32_9576 v7240
  v7241.toNat
def k0_dev396 (v2 : BitVec 32) : Nat :=
  let c0_i32_9587 : BitVec 32 := 0#32
  let c1_i32_9586 : BitVec 32 := 1#32
  let v7246 : BitVec 32 := Scalar.muli v2 c1_i32_9586
  let v7247 : BitVec 32 := Scalar.addi c0_i32_9587 v7246
  v7247.toNat
def k0_dev397 (v2 : BitVec 32) : Nat :=
  let c0_i32_9610 : BitVec 32 := 0#32
  let c1_i32_9609 : BitVec 32 := 1#32
  let v7268 : BitVec 32 := Scalar.muli v2 c1_i32_9609
  let v7269 : BitVec 32 := Scalar.addi c0_i32_9610 v7268
  v7269.toNat
def k0_dev398 (v1 : BitVec 32) : Nat :=
  let c0_i32_9621 : BitVec 32 := 0#32
  let c1_i32_9620 : BitVec 32 := 1#32
  let v7274 : BitVec 32 := Scalar.muli v1 c1_i32_9620
  let v7275 : BitVec 32 := Scalar.addi c0_i32_9621 v7274
  v7275.toNat
def k0_dev399 (v1 : BitVec 32) : Nat :=
  let c0_i32_9644 : BitVec 32 := 0#32
  let c1_i32_9643 : BitVec 32 := 1#32
  let v7296 : BitVec 32 := Scalar.muli v1 c1_i32_9643
  let v7297 : BitVec 32 := Scalar.addi c0_i32_9644 v7296
  v7297.toNat
def k0_dev400 (v2 : BitVec 32) : Nat :=
  let c0_i32_9655 : BitVec 32 := 0#32
  let c1_i32_9654 : BitVec 32 := 1#32
  let v7302 : BitVec 32 := Scalar.muli v2 c1_i32_9654
  let v7303 : BitVec 32 := Scalar.addi c0_i32_9655 v7302
  v7303.toNat
def k0_dev401 (v2 : BitVec 32) : Nat :=
  let c0_i32_9678 : BitVec 32 := 0#32
  let c1_i32_9677 : BitVec 32 := 1#32
  let v7324 : BitVec 32 := Scalar.muli v2 c1_i32_9677
  let v7325 : BitVec 32 := Scalar.addi c0_i32_9678 v7324
  v7325.toNat
def k0_dev402 (v1 : BitVec 32) : Nat :=
  let c0_i32_9689 : BitVec 32 := 0#32
  let c1_i32_9688 : BitVec 32 := 1#32
  let v7330 : BitVec 32 := Scalar.muli v1 c1_i32_9688
  let v7331 : BitVec 32 := Scalar.addi c0_i32_9689 v7330
  v7331.toNat
def k0_dev403 (v1 : BitVec 32) : Nat :=
  let c0_i32_9712 : BitVec 32 := 0#32
  let c1_i32_9711 : BitVec 32 := 1#32
  let v7352 : BitVec 32 := Scalar.muli v1 c1_i32_9711
  let v7353 : BitVec 32 := Scalar.addi c0_i32_9712 v7352
  v7353.toNat
def k0_dev404 (v2 : BitVec 32) : Nat :=
  let c0_i32_9723 : BitVec 32 := 0#32
  let c1_i32_9722 : BitVec 32 := 1#32
  let v7358 : BitVec 32 := Scalar.muli v2 c1_i32_9722
  let v7359 : BitVec 32 := Scalar.addi c0_i32_9723 v7358
  v7359.toNat
def k0_dev405 (v2 : BitVec 32) : Nat :=
  let c0_i32_9746 : BitVec 32 := 0#32
  let c1_i32_9745 : BitVec 32 := 1#32
  let v7380 : BitVec 32 := Scalar.muli v2 c1_i32_9745
  let v7381 : BitVec 32 := Scalar.addi c0_i32_9746 v7380
  v7381.toNat
def k0_dev406 (v1 : BitVec 32) : Nat :=
  let c0_i32_9757 : BitVec 32 := 0#32
  let c1_i32_9756 : BitVec 32 := 1#32
  let v7386 : BitVec 32 := Scalar.muli v1 c1_i32_9756
  let v7387 : BitVec 32 := Scalar.addi c0_i32_9757 v7386
  v7387.toNat
def k0_dev407 (v1 : BitVec 32) : Nat :=
  let c0_i32_9780 : BitVec 32 := 0#32
  let c1_i32_9779 : BitVec 32 := 1#32
  let v7408 : BitVec 32 := Scalar.muli v1 c1_i32_9779
  let v7409 : BitVec 32 := Scalar.addi c0_i32_9780 v7408
  v7409.toNat
def k0_dev408 (v2 : BitVec 32) : Nat :=
  let c0_i32_9791 : BitVec 32 := 0#32
  let c1_i32_9790 : BitVec 32 := 1#32
  let v7414 : BitVec 32 := Scalar.muli v2 c1_i32_9790
  let v7415 : BitVec 32 := Scalar.addi c0_i32_9791 v7414
  v7415.toNat
def k0_dev409 (v2 : BitVec 32) : Nat :=
  let c0_i32_9814 : BitVec 32 := 0#32
  let c1_i32_9813 : BitVec 32 := 1#32
  let v7436 : BitVec 32 := Scalar.muli v2 c1_i32_9813
  let v7437 : BitVec 32 := Scalar.addi c0_i32_9814 v7436
  v7437.toNat
def k0_dev410 (v1 : BitVec 32) : Nat :=
  let c0_i32_9825 : BitVec 32 := 0#32
  let c1_i32_9824 : BitVec 32 := 1#32
  let v7442 : BitVec 32 := Scalar.muli v1 c1_i32_9824
  let v7443 : BitVec 32 := Scalar.addi c0_i32_9825 v7442
  v7443.toNat
def k0_dev411 (v1 : BitVec 32) : Nat :=
  let c0_i32_9853 : BitVec 32 := 0#32
  let c1_i32_9852 : BitVec 32 := 1#32
  let v7469 : BitVec 32 := Scalar.muli v1 c1_i32_9852
  let v7470 : BitVec 32 := Scalar.addi c0_i32_9853 v7469
  v7470.toNat
def k0_dev412 (v2 : BitVec 32) : Nat :=
  let c0_i32_9864 : BitVec 32 := 0#32
  let c1_i32_9863 : BitVec 32 := 1#32
  let v7475 : BitVec 32 := Scalar.muli v2 c1_i32_9863
  let v7476 : BitVec 32 := Scalar.addi c0_i32_9864 v7475
  v7476.toNat
def k0_dev413 (v2 : BitVec 32) : Nat :=
  let c0_i32_9887 : BitVec 32 := 0#32
  let c1_i32_9886 : BitVec 32 := 1#32
  let v7497 : BitVec 32 := Scalar.muli v2 c1_i32_9886
  let v7498 : BitVec 32 := Scalar.addi c0_i32_9887 v7497
  v7498.toNat
def k0_dev414 (v1 : BitVec 32) : Nat :=
  let c0_i32_9898 : BitVec 32 := 0#32
  let c1_i32_9897 : BitVec 32 := 1#32
  let v7503 : BitVec 32 := Scalar.muli v1 c1_i32_9897
  let v7504 : BitVec 32 := Scalar.addi c0_i32_9898 v7503
  v7504.toNat
def k0_dev415 (v1 : BitVec 32) : Nat :=
  let c0_i32_9921 : BitVec 32 := 0#32
  let c1_i32_9920 : BitVec 32 := 1#32
  let v7525 : BitVec 32 := Scalar.muli v1 c1_i32_9920
  let v7526 : BitVec 32 := Scalar.addi c0_i32_9921 v7525
  v7526.toNat
def k0_dev416 (v2 : BitVec 32) : Nat :=
  let c0_i32_9932 : BitVec 32 := 0#32
  let c1_i32_9931 : BitVec 32 := 1#32
  let v7531 : BitVec 32 := Scalar.muli v2 c1_i32_9931
  let v7532 : BitVec 32 := Scalar.addi c0_i32_9932 v7531
  v7532.toNat
def k0_dev417 (v2 : BitVec 32) : Nat :=
  let c0_i32_9955 : BitVec 32 := 0#32
  let c1_i32_9954 : BitVec 32 := 1#32
  let v7553 : BitVec 32 := Scalar.muli v2 c1_i32_9954
  let v7554 : BitVec 32 := Scalar.addi c0_i32_9955 v7553
  v7554.toNat
def k0_dev418 (v1 : BitVec 32) : Nat :=
  let c0_i32_9966 : BitVec 32 := 0#32
  let c1_i32_9965 : BitVec 32 := 1#32
  let v7559 : BitVec 32 := Scalar.muli v1 c1_i32_9965
  let v7560 : BitVec 32 := Scalar.addi c0_i32_9966 v7559
  v7560.toNat
def k0_dev419 (v1 : BitVec 32) : Nat :=
  let c0_i32_9989 : BitVec 32 := 0#32
  let c1_i32_9988 : BitVec 32 := 1#32
  let v7581 : BitVec 32 := Scalar.muli v1 c1_i32_9988
  let v7582 : BitVec 32 := Scalar.addi c0_i32_9989 v7581
  v7582.toNat
def k0_dev420 (v2 : BitVec 32) : Nat :=
  let c0_i32_10000 : BitVec 32 := 0#32
  let c1_i32_9999 : BitVec 32 := 1#32
  let v7587 : BitVec 32 := Scalar.muli v2 c1_i32_9999
  let v7588 : BitVec 32 := Scalar.addi c0_i32_10000 v7587
  v7588.toNat
def k0_dev421 (v2 : BitVec 32) : Nat :=
  let c0_i32_10023 : BitVec 32 := 0#32
  let c1_i32_10022 : BitVec 32 := 1#32
  let v7609 : BitVec 32 := Scalar.muli v2 c1_i32_10022
  let v7610 : BitVec 32 := Scalar.addi c0_i32_10023 v7609
  v7610.toNat
def k0_dev422 (v1 : BitVec 32) : Nat :=
  let c0_i32_10034 : BitVec 32 := 0#32
  let c1_i32_10033 : BitVec 32 := 1#32
  let v7615 : BitVec 32 := Scalar.muli v1 c1_i32_10033
  let v7616 : BitVec 32 := Scalar.addi c0_i32_10034 v7615
  v7616.toNat
def k0_dev423 (v1 : BitVec 32) : Nat :=
  let c0_i32_10057 : BitVec 32 := 0#32
  let c1_i32_10056 : BitVec 32 := 1#32
  let v7637 : BitVec 32 := Scalar.muli v1 c1_i32_10056
  let v7638 : BitVec 32 := Scalar.addi c0_i32_10057 v7637
  v7638.toNat
def k0_dev424 (v2 : BitVec 32) : Nat :=
  let c0_i32_10068 : BitVec 32 := 0#32
  let c1_i32_10067 : BitVec 32 := 1#32
  let v7643 : BitVec 32 := Scalar.muli v2 c1_i32_10067
  let v7644 : BitVec 32 := Scalar.addi c0_i32_10068 v7643
  v7644.toNat
def k0_dev425 (v2 : BitVec 32) : Nat :=
  let c0_i32_10091 : BitVec 32 := 0#32
  let c1_i32_10090 : BitVec 32 := 1#32
  let v7665 : BitVec 32 := Scalar.muli v2 c1_i32_10090
  let v7666 : BitVec 32 := Scalar.addi c0_i32_10091 v7665
  v7666.toNat
def k0_dev426 (v1 : BitVec 32) : Nat :=
  let c0_i32_10102 : BitVec 32 := 0#32
  let c1_i32_10101 : BitVec 32 := 1#32
  let v7671 : BitVec 32 := Scalar.muli v1 c1_i32_10101
  let v7672 : BitVec 32 := Scalar.addi c0_i32_10102 v7671
  v7672.toNat
def k0_dev427 (v1 : BitVec 32) : Nat :=
  let c0_i32_10130 : BitVec 32 := 0#32
  let c1_i32_10129 : BitVec 32 := 1#32
  let v7698 : BitVec 32 := Scalar.muli v1 c1_i32_10129
  let v7699 : BitVec 32 := Scalar.addi c0_i32_10130 v7698
  v7699.toNat
def k0_dev428 (v2 : BitVec 32) : Nat :=
  let c0_i32_10141 : BitVec 32 := 0#32
  let c1_i32_10140 : BitVec 32 := 1#32
  let v7704 : BitVec 32 := Scalar.muli v2 c1_i32_10140
  let v7705 : BitVec 32 := Scalar.addi c0_i32_10141 v7704
  v7705.toNat
def k0_dev429 (v2 : BitVec 32) : Nat :=
  let c0_i32_10164 : BitVec 32 := 0#32
  let c1_i32_10163 : BitVec 32 := 1#32
  let v7726 : BitVec 32 := Scalar.muli v2 c1_i32_10163
  let v7727 : BitVec 32 := Scalar.addi c0_i32_10164 v7726
  v7727.toNat
def k0_dev430 (v1 : BitVec 32) : Nat :=
  let c0_i32_10175 : BitVec 32 := 0#32
  let c1_i32_10174 : BitVec 32 := 1#32
  let v7732 : BitVec 32 := Scalar.muli v1 c1_i32_10174
  let v7733 : BitVec 32 := Scalar.addi c0_i32_10175 v7732
  v7733.toNat
def k0_dev431 (v1 : BitVec 32) : Nat :=
  let c0_i32_10198 : BitVec 32 := 0#32
  let c1_i32_10197 : BitVec 32 := 1#32
  let v7754 : BitVec 32 := Scalar.muli v1 c1_i32_10197
  let v7755 : BitVec 32 := Scalar.addi c0_i32_10198 v7754
  v7755.toNat
def k0_dev432 (v2 : BitVec 32) : Nat :=
  let c0_i32_10209 : BitVec 32 := 0#32
  let c1_i32_10208 : BitVec 32 := 1#32
  let v7760 : BitVec 32 := Scalar.muli v2 c1_i32_10208
  let v7761 : BitVec 32 := Scalar.addi c0_i32_10209 v7760
  v7761.toNat
def k0_dev433 (v2 : BitVec 32) : Nat :=
  let c0_i32_10232 : BitVec 32 := 0#32
  let c1_i32_10231 : BitVec 32 := 1#32
  let v7782 : BitVec 32 := Scalar.muli v2 c1_i32_10231
  let v7783 : BitVec 32 := Scalar.addi c0_i32_10232 v7782
  v7783.toNat
def k0_dev434 (v1 : BitVec 32) : Nat :=
  let c0_i32_10243 : BitVec 32 := 0#32
  let c1_i32_10242 : BitVec 32 := 1#32
  let v7788 : BitVec 32 := Scalar.muli v1 c1_i32_10242
  let v7789 : BitVec 32 := Scalar.addi c0_i32_10243 v7788
  v7789.toNat
def k0_dev435 (v1 : BitVec 32) : Nat :=
  let c0_i32_10266 : BitVec 32 := 0#32
  let c1_i32_10265 : BitVec 32 := 1#32
  let v7810 : BitVec 32 := Scalar.muli v1 c1_i32_10265
  let v7811 : BitVec 32 := Scalar.addi c0_i32_10266 v7810
  v7811.toNat
def k0_dev436 (v2 : BitVec 32) : Nat :=
  let c0_i32_10277 : BitVec 32 := 0#32
  let c1_i32_10276 : BitVec 32 := 1#32
  let v7816 : BitVec 32 := Scalar.muli v2 c1_i32_10276
  let v7817 : BitVec 32 := Scalar.addi c0_i32_10277 v7816
  v7817.toNat
def k0_dev437 (v2 : BitVec 32) : Nat :=
  let c0_i32_10300 : BitVec 32 := 0#32
  let c1_i32_10299 : BitVec 32 := 1#32
  let v7838 : BitVec 32 := Scalar.muli v2 c1_i32_10299
  let v7839 : BitVec 32 := Scalar.addi c0_i32_10300 v7838
  v7839.toNat
def k0_dev438 (v1 : BitVec 32) : Nat :=
  let c0_i32_10311 : BitVec 32 := 0#32
  let c1_i32_10310 : BitVec 32 := 1#32
  let v7844 : BitVec 32 := Scalar.muli v1 c1_i32_10310
  let v7845 : BitVec 32 := Scalar.addi c0_i32_10311 v7844
  v7845.toNat
def k0_dev439 (v1 : BitVec 32) : Nat :=
  let c0_i32_10334 : BitVec 32 := 0#32
  let c1_i32_10333 : BitVec 32 := 1#32
  let v7866 : BitVec 32 := Scalar.muli v1 c1_i32_10333
  let v7867 : BitVec 32 := Scalar.addi c0_i32_10334 v7866
  v7867.toNat
def k0_dev440 (v2 : BitVec 32) : Nat :=
  let c0_i32_10345 : BitVec 32 := 0#32
  let c1_i32_10344 : BitVec 32 := 1#32
  let v7872 : BitVec 32 := Scalar.muli v2 c1_i32_10344
  let v7873 : BitVec 32 := Scalar.addi c0_i32_10345 v7872
  v7873.toNat
def k0_dev441 (v2 : BitVec 32) : Nat :=
  let c0_i32_10368 : BitVec 32 := 0#32
  let c1_i32_10367 : BitVec 32 := 1#32
  let v7894 : BitVec 32 := Scalar.muli v2 c1_i32_10367
  let v7895 : BitVec 32 := Scalar.addi c0_i32_10368 v7894
  v7895.toNat
def k0_dev442 (v1 : BitVec 32) : Nat :=
  let c0_i32_10379 : BitVec 32 := 0#32
  let c1_i32_10378 : BitVec 32 := 1#32
  let v7900 : BitVec 32 := Scalar.muli v1 c1_i32_10378
  let v7901 : BitVec 32 := Scalar.addi c0_i32_10379 v7900
  v7901.toNat
def k0_dev443 (v1 : BitVec 32) : Nat :=
  let c0_i32_10407 : BitVec 32 := 0#32
  let c1_i32_10406 : BitVec 32 := 1#32
  let v7927 : BitVec 32 := Scalar.muli v1 c1_i32_10406
  let v7928 : BitVec 32 := Scalar.addi c0_i32_10407 v7927
  v7928.toNat
def k0_dev444 (v2 : BitVec 32) : Nat :=
  let c0_i32_10418 : BitVec 32 := 0#32
  let c1_i32_10417 : BitVec 32 := 1#32
  let v7933 : BitVec 32 := Scalar.muli v2 c1_i32_10417
  let v7934 : BitVec 32 := Scalar.addi c0_i32_10418 v7933
  v7934.toNat
def k0_dev445 (v2 : BitVec 32) : Nat :=
  let c0_i32_10441 : BitVec 32 := 0#32
  let c1_i32_10440 : BitVec 32 := 1#32
  let v7955 : BitVec 32 := Scalar.muli v2 c1_i32_10440
  let v7956 : BitVec 32 := Scalar.addi c0_i32_10441 v7955
  v7956.toNat
def k0_dev446 (v1 : BitVec 32) : Nat :=
  let c0_i32_10452 : BitVec 32 := 0#32
  let c1_i32_10451 : BitVec 32 := 1#32
  let v7961 : BitVec 32 := Scalar.muli v1 c1_i32_10451
  let v7962 : BitVec 32 := Scalar.addi c0_i32_10452 v7961
  v7962.toNat
def k0_dev447 (v1 : BitVec 32) : Nat :=
  let c0_i32_10475 : BitVec 32 := 0#32
  let c1_i32_10474 : BitVec 32 := 1#32
  let v7983 : BitVec 32 := Scalar.muli v1 c1_i32_10474
  let v7984 : BitVec 32 := Scalar.addi c0_i32_10475 v7983
  v7984.toNat
def k0_dev448 (v2 : BitVec 32) : Nat :=
  let c0_i32_10486 : BitVec 32 := 0#32
  let c1_i32_10485 : BitVec 32 := 1#32
  let v7989 : BitVec 32 := Scalar.muli v2 c1_i32_10485
  let v7990 : BitVec 32 := Scalar.addi c0_i32_10486 v7989
  v7990.toNat
def k0_dev449 (v2 : BitVec 32) : Nat :=
  let c0_i32_10509 : BitVec 32 := 0#32
  let c1_i32_10508 : BitVec 32 := 1#32
  let v8011 : BitVec 32 := Scalar.muli v2 c1_i32_10508
  let v8012 : BitVec 32 := Scalar.addi c0_i32_10509 v8011
  v8012.toNat
def k0_dev450 (v1 : BitVec 32) : Nat :=
  let c0_i32_10520 : BitVec 32 := 0#32
  let c1_i32_10519 : BitVec 32 := 1#32
  let v8017 : BitVec 32 := Scalar.muli v1 c1_i32_10519
  let v8018 : BitVec 32 := Scalar.addi c0_i32_10520 v8017
  v8018.toNat
def k0_dev451 (v1 : BitVec 32) : Nat :=
  let c0_i32_10543 : BitVec 32 := 0#32
  let c1_i32_10542 : BitVec 32 := 1#32
  let v8039 : BitVec 32 := Scalar.muli v1 c1_i32_10542
  let v8040 : BitVec 32 := Scalar.addi c0_i32_10543 v8039
  v8040.toNat
def k0_dev452 (v2 : BitVec 32) : Nat :=
  let c0_i32_10554 : BitVec 32 := 0#32
  let c1_i32_10553 : BitVec 32 := 1#32
  let v8045 : BitVec 32 := Scalar.muli v2 c1_i32_10553
  let v8046 : BitVec 32 := Scalar.addi c0_i32_10554 v8045
  v8046.toNat
def k0_dev453 (v2 : BitVec 32) : Nat :=
  let c0_i32_10577 : BitVec 32 := 0#32
  let c1_i32_10576 : BitVec 32 := 1#32
  let v8067 : BitVec 32 := Scalar.muli v2 c1_i32_10576
  let v8068 : BitVec 32 := Scalar.addi c0_i32_10577 v8067
  v8068.toNat
def k0_dev454 (v1 : BitVec 32) : Nat :=
  let c0_i32_10588 : BitVec 32 := 0#32
  let c1_i32_10587 : BitVec 32 := 1#32
  let v8073 : BitVec 32 := Scalar.muli v1 c1_i32_10587
  let v8074 : BitVec 32 := Scalar.addi c0_i32_10588 v8073
  v8074.toNat
def k0_dev455 (v1 : BitVec 32) : Nat :=
  let c0_i32_10611 : BitVec 32 := 0#32
  let c1_i32_10610 : BitVec 32 := 1#32
  let v8095 : BitVec 32 := Scalar.muli v1 c1_i32_10610
  let v8096 : BitVec 32 := Scalar.addi c0_i32_10611 v8095
  v8096.toNat
def k0_dev456 (v2 : BitVec 32) : Nat :=
  let c0_i32_10622 : BitVec 32 := 0#32
  let c1_i32_10621 : BitVec 32 := 1#32
  let v8101 : BitVec 32 := Scalar.muli v2 c1_i32_10621
  let v8102 : BitVec 32 := Scalar.addi c0_i32_10622 v8101
  v8102.toNat
def k0_dev457 (v2 : BitVec 32) : Nat :=
  let c0_i32_10645 : BitVec 32 := 0#32
  let c1_i32_10644 : BitVec 32 := 1#32
  let v8123 : BitVec 32 := Scalar.muli v2 c1_i32_10644
  let v8124 : BitVec 32 := Scalar.addi c0_i32_10645 v8123
  v8124.toNat
def k0_dev458 (v1 : BitVec 32) : Nat :=
  let c0_i32_10656 : BitVec 32 := 0#32
  let c1_i32_10655 : BitVec 32 := 1#32
  let v8129 : BitVec 32 := Scalar.muli v1 c1_i32_10655
  let v8130 : BitVec 32 := Scalar.addi c0_i32_10656 v8129
  v8130.toNat
def k0_dev459 (v1 : BitVec 32) : Nat :=
  let c0_i32_10684 : BitVec 32 := 0#32
  let c1_i32_10683 : BitVec 32 := 1#32
  let v8156 : BitVec 32 := Scalar.muli v1 c1_i32_10683
  let v8157 : BitVec 32 := Scalar.addi c0_i32_10684 v8156
  v8157.toNat
def k0_dev460 (v2 : BitVec 32) : Nat :=
  let c0_i32_10695 : BitVec 32 := 0#32
  let c1_i32_10694 : BitVec 32 := 1#32
  let v8162 : BitVec 32 := Scalar.muli v2 c1_i32_10694
  let v8163 : BitVec 32 := Scalar.addi c0_i32_10695 v8162
  v8163.toNat
def k0_dev461 (v2 : BitVec 32) : Nat :=
  let c0_i32_10718 : BitVec 32 := 0#32
  let c1_i32_10717 : BitVec 32 := 1#32
  let v8184 : BitVec 32 := Scalar.muli v2 c1_i32_10717
  let v8185 : BitVec 32 := Scalar.addi c0_i32_10718 v8184
  v8185.toNat
def k0_dev462 (v1 : BitVec 32) : Nat :=
  let c0_i32_10729 : BitVec 32 := 0#32
  let c1_i32_10728 : BitVec 32 := 1#32
  let v8190 : BitVec 32 := Scalar.muli v1 c1_i32_10728
  let v8191 : BitVec 32 := Scalar.addi c0_i32_10729 v8190
  v8191.toNat
def k0_dev463 (v1 : BitVec 32) : Nat :=
  let c0_i32_10752 : BitVec 32 := 0#32
  let c1_i32_10751 : BitVec 32 := 1#32
  let v8212 : BitVec 32 := Scalar.muli v1 c1_i32_10751
  let v8213 : BitVec 32 := Scalar.addi c0_i32_10752 v8212
  v8213.toNat
def k0_dev464 (v2 : BitVec 32) : Nat :=
  let c0_i32_10763 : BitVec 32 := 0#32
  let c1_i32_10762 : BitVec 32 := 1#32
  let v8218 : BitVec 32 := Scalar.muli v2 c1_i32_10762
  let v8219 : BitVec 32 := Scalar.addi c0_i32_10763 v8218
  v8219.toNat
def k0_dev465 (v2 : BitVec 32) : Nat :=
  let c0_i32_10786 : BitVec 32 := 0#32
  let c1_i32_10785 : BitVec 32 := 1#32
  let v8240 : BitVec 32 := Scalar.muli v2 c1_i32_10785
  let v8241 : BitVec 32 := Scalar.addi c0_i32_10786 v8240
  v8241.toNat
def k0_dev466 (v1 : BitVec 32) : Nat :=
  let c0_i32_10797 : BitVec 32 := 0#32
  let c1_i32_10796 : BitVec 32 := 1#32
  let v8246 : BitVec 32 := Scalar.muli v1 c1_i32_10796
  let v8247 : BitVec 32 := Scalar.addi c0_i32_10797 v8246
  v8247.toNat
def k0_dev467 (v1 : BitVec 32) : Nat :=
  let c0_i32_10820 : BitVec 32 := 0#32
  let c1_i32_10819 : BitVec 32 := 1#32
  let v8268 : BitVec 32 := Scalar.muli v1 c1_i32_10819
  let v8269 : BitVec 32 := Scalar.addi c0_i32_10820 v8268
  v8269.toNat
def k0_dev468 (v2 : BitVec 32) : Nat :=
  let c0_i32_10831 : BitVec 32 := 0#32
  let c1_i32_10830 : BitVec 32 := 1#32
  let v8274 : BitVec 32 := Scalar.muli v2 c1_i32_10830
  let v8275 : BitVec 32 := Scalar.addi c0_i32_10831 v8274
  v8275.toNat
def k0_dev469 (v2 : BitVec 32) : Nat :=
  let c0_i32_10854 : BitVec 32 := 0#32
  let c1_i32_10853 : BitVec 32 := 1#32
  let v8296 : BitVec 32 := Scalar.muli v2 c1_i32_10853
  let v8297 : BitVec 32 := Scalar.addi c0_i32_10854 v8296
  v8297.toNat
def k0_dev470 (v1 : BitVec 32) : Nat :=
  let c0_i32_10865 : BitVec 32 := 0#32
  let c1_i32_10864 : BitVec 32 := 1#32
  let v8302 : BitVec 32 := Scalar.muli v1 c1_i32_10864
  let v8303 : BitVec 32 := Scalar.addi c0_i32_10865 v8302
  v8303.toNat
def k0_dev471 (v1 : BitVec 32) : Nat :=
  let c0_i32_10888 : BitVec 32 := 0#32
  let c1_i32_10887 : BitVec 32 := 1#32
  let v8324 : BitVec 32 := Scalar.muli v1 c1_i32_10887
  let v8325 : BitVec 32 := Scalar.addi c0_i32_10888 v8324
  v8325.toNat
def k0_dev472 (v2 : BitVec 32) : Nat :=
  let c0_i32_10899 : BitVec 32 := 0#32
  let c1_i32_10898 : BitVec 32 := 1#32
  let v8330 : BitVec 32 := Scalar.muli v2 c1_i32_10898
  let v8331 : BitVec 32 := Scalar.addi c0_i32_10899 v8330
  v8331.toNat
def k0_dev473 (v2 : BitVec 32) : Nat :=
  let c0_i32_10922 : BitVec 32 := 0#32
  let c1_i32_10921 : BitVec 32 := 1#32
  let v8352 : BitVec 32 := Scalar.muli v2 c1_i32_10921
  let v8353 : BitVec 32 := Scalar.addi c0_i32_10922 v8352
  v8353.toNat
def k0_dev474 (v1 : BitVec 32) : Nat :=
  let c0_i32_10933 : BitVec 32 := 0#32
  let c1_i32_10932 : BitVec 32 := 1#32
  let v8358 : BitVec 32 := Scalar.muli v1 c1_i32_10932
  let v8359 : BitVec 32 := Scalar.addi c0_i32_10933 v8358
  v8359.toNat
def k0_dev475 (v1 : BitVec 32) : Nat :=
  let c0_i32_10961 : BitVec 32 := 0#32
  let c1_i32_10960 : BitVec 32 := 1#32
  let v8385 : BitVec 32 := Scalar.muli v1 c1_i32_10960
  let v8386 : BitVec 32 := Scalar.addi c0_i32_10961 v8385
  v8386.toNat
def k0_dev476 (v2 : BitVec 32) : Nat :=
  let c0_i32_10982 : BitVec 32 := 0#32
  let c1_i32_10981 : BitVec 32 := 1#32
  let v8401 : BitVec 32 := Scalar.muli v2 c1_i32_10981
  let v8402 : BitVec 32 := Scalar.addi c0_i32_10982 v8401
  v8402.toNat
def k0_dev477 (v1 : BitVec 32) : Nat :=
  let c0_i32_11003 : BitVec 32 := 0#32
  let c1_i32_11002 : BitVec 32 := 1#32
  let v8417 : BitVec 32 := Scalar.muli v1 c1_i32_11002
  let v8418 : BitVec 32 := Scalar.addi c0_i32_11003 v8417
  v8418.toNat
def k0_dev478 (v2 : BitVec 32) : Nat :=
  let c0_i32_11024 : BitVec 32 := 0#32
  let c1_i32_11023 : BitVec 32 := 1#32
  let v8433 : BitVec 32 := Scalar.muli v2 c1_i32_11023
  let v8434 : BitVec 32 := Scalar.addi c0_i32_11024 v8433
  v8434.toNat
def k0_dev479 (v1 : BitVec 32) : Nat :=
  let c0_i32_11045 : BitVec 32 := 0#32
  let c1_i32_11044 : BitVec 32 := 1#32
  let v8449 : BitVec 32 := Scalar.muli v1 c1_i32_11044
  let v8450 : BitVec 32 := Scalar.addi c0_i32_11045 v8449
  v8450.toNat
def k0_dev480 (v2 : BitVec 32) : Nat :=
  let c0_i32_11066 : BitVec 32 := 0#32
  let c1_i32_11065 : BitVec 32 := 1#32
  let v8465 : BitVec 32 := Scalar.muli v2 c1_i32_11065
  let v8466 : BitVec 32 := Scalar.addi c0_i32_11066 v8465
  v8466.toNat
def k0_dev481 (v1 : BitVec 32) : Nat :=
  let c0_i32_11087 : BitVec 32 := 0#32
  let c1_i32_11086 : BitVec 32 := 1#32
  let v8481 : BitVec 32 := Scalar.muli v1 c1_i32_11086
  let v8482 : BitVec 32 := Scalar.addi c0_i32_11087 v8481
  v8482.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD) ∧
  ((k0_dev63 v1) < nD)
def k0_chk1_1 (v1 : BitVec 32) : Prop :=
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD) ∧
  ((k0_dev119 v1) < nD) ∧
  ((k0_dev122 v1) < nD) ∧
  ((k0_dev123 v1) < nD) ∧
  ((k0_dev126 v1) < nD) ∧
  ((k0_dev127 v1) < nD)
def k0_chk1_2 (v1 : BitVec 32) : Prop :=
  ((k0_dev130 v1) < nD) ∧
  ((k0_dev131 v1) < nD) ∧
  ((k0_dev134 v1) < nD) ∧
  ((k0_dev135 v1) < nD) ∧
  ((k0_dev138 v1) < nD) ∧
  ((k0_dev139 v1) < nD) ∧
  ((k0_dev142 v1) < nD) ∧
  ((k0_dev143 v1) < nD) ∧
  ((k0_dev146 v1) < nD) ∧
  ((k0_dev147 v1) < nD) ∧
  ((k0_dev150 v1) < nD) ∧
  ((k0_dev151 v1) < nD) ∧
  ((k0_dev154 v1) < nD) ∧
  ((k0_dev155 v1) < nD) ∧
  ((k0_dev158 v1) < nD) ∧
  ((k0_dev159 v1) < nD) ∧
  ((k0_dev162 v1) < nD) ∧
  ((k0_dev163 v1) < nD) ∧
  ((k0_dev166 v1) < nD) ∧
  ((k0_dev167 v1) < nD) ∧
  ((k0_dev170 v1) < nD) ∧
  ((k0_dev171 v1) < nD) ∧
  ((k0_dev174 v1) < nD) ∧
  ((k0_dev175 v1) < nD) ∧
  ((k0_dev178 v1) < nD) ∧
  ((k0_dev179 v1) < nD) ∧
  ((k0_dev182 v1) < nD) ∧
  ((k0_dev183 v1) < nD) ∧
  ((k0_dev186 v1) < nD) ∧
  ((k0_dev187 v1) < nD) ∧
  ((k0_dev190 v1) < nD) ∧
  ((k0_dev191 v1) < nD)
def k0_chk1_3 (v1 : BitVec 32) : Prop :=
  ((k0_dev194 v1) < nD) ∧
  ((k0_dev195 v1) < nD) ∧
  ((k0_dev198 v1) < nD) ∧
  ((k0_dev199 v1) < nD) ∧
  ((k0_dev202 v1) < nD) ∧
  ((k0_dev203 v1) < nD) ∧
  ((k0_dev206 v1) < nD) ∧
  ((k0_dev207 v1) < nD) ∧
  ((k0_dev210 v1) < nD) ∧
  ((k0_dev211 v1) < nD) ∧
  ((k0_dev214 v1) < nD) ∧
  ((k0_dev215 v1) < nD) ∧
  ((k0_dev218 v1) < nD) ∧
  ((k0_dev219 v1) < nD) ∧
  ((k0_dev222 v1) < nD) ∧
  ((k0_dev223 v1) < nD) ∧
  ((k0_dev226 v1) < nD) ∧
  ((k0_dev227 v1) < nD) ∧
  ((k0_dev230 v1) < nD) ∧
  ((k0_dev231 v1) < nD) ∧
  ((k0_dev234 v1) < nD) ∧
  ((k0_dev235 v1) < nD) ∧
  ((k0_dev237 v1) < nD) ∧
  ((k0_dev239 v1) < nD) ∧
  ((k0_dev241 v1) < nD) ∧
  ((k0_dev244 v1) < nD) ∧
  ((k0_dev246 v1) < nD) ∧
  ((k0_dev248 v1) < nD) ∧
  ((k0_dev250 v1) < nD) ∧
  ((k0_dev251 v1) < nD) ∧
  ((k0_dev254 v1) < nD) ∧
  ((k0_dev255 v1) < nD)
def k0_chk1_4 (v1 : BitVec 32) : Prop :=
  ((k0_dev258 v1) < nD) ∧
  ((k0_dev259 v1) < nD) ∧
  ((k0_dev262 v1) < nD) ∧
  ((k0_dev263 v1) < nD) ∧
  ((k0_dev266 v1) < nD) ∧
  ((k0_dev267 v1) < nD) ∧
  ((k0_dev270 v1) < nD) ∧
  ((k0_dev271 v1) < nD) ∧
  ((k0_dev274 v1) < nD) ∧
  ((k0_dev275 v1) < nD) ∧
  ((k0_dev278 v1) < nD) ∧
  ((k0_dev279 v1) < nD) ∧
  ((k0_dev282 v1) < nD) ∧
  ((k0_dev283 v1) < nD) ∧
  ((k0_dev286 v1) < nD) ∧
  ((k0_dev287 v1) < nD) ∧
  ((k0_dev290 v1) < nD) ∧
  ((k0_dev291 v1) < nD) ∧
  ((k0_dev294 v1) < nD) ∧
  ((k0_dev295 v1) < nD) ∧
  ((k0_dev298 v1) < nD) ∧
  ((k0_dev299 v1) < nD) ∧
  ((k0_dev302 v1) < nD) ∧
  ((k0_dev303 v1) < nD) ∧
  ((k0_dev306 v1) < nD) ∧
  ((k0_dev307 v1) < nD) ∧
  ((k0_dev310 v1) < nD) ∧
  ((k0_dev311 v1) < nD) ∧
  ((k0_dev314 v1) < nD) ∧
  ((k0_dev315 v1) < nD) ∧
  ((k0_dev318 v1) < nD) ∧
  ((k0_dev319 v1) < nD)
def k0_chk1_5 (v1 : BitVec 32) : Prop :=
  ((k0_dev322 v1) < nD) ∧
  ((k0_dev323 v1) < nD) ∧
  ((k0_dev326 v1) < nD) ∧
  ((k0_dev327 v1) < nD) ∧
  ((k0_dev330 v1) < nD) ∧
  ((k0_dev331 v1) < nD) ∧
  ((k0_dev334 v1) < nD) ∧
  ((k0_dev335 v1) < nD) ∧
  ((k0_dev338 v1) < nD) ∧
  ((k0_dev339 v1) < nD) ∧
  ((k0_dev342 v1) < nD) ∧
  ((k0_dev343 v1) < nD) ∧
  ((k0_dev346 v1) < nD) ∧
  ((k0_dev347 v1) < nD) ∧
  ((k0_dev350 v1) < nD) ∧
  ((k0_dev351 v1) < nD) ∧
  ((k0_dev354 v1) < nD) ∧
  ((k0_dev355 v1) < nD) ∧
  ((k0_dev358 v1) < nD) ∧
  ((k0_dev359 v1) < nD) ∧
  ((k0_dev362 v1) < nD) ∧
  ((k0_dev363 v1) < nD) ∧
  ((k0_dev366 v1) < nD) ∧
  ((k0_dev367 v1) < nD) ∧
  ((k0_dev370 v1) < nD) ∧
  ((k0_dev371 v1) < nD) ∧
  ((k0_dev374 v1) < nD) ∧
  ((k0_dev375 v1) < nD) ∧
  ((k0_dev378 v1) < nD) ∧
  ((k0_dev379 v1) < nD) ∧
  ((k0_dev382 v1) < nD) ∧
  ((k0_dev383 v1) < nD)
def k0_chk1_6 (v1 : BitVec 32) : Prop :=
  ((k0_dev386 v1) < nD) ∧
  ((k0_dev387 v1) < nD) ∧
  ((k0_dev390 v1) < nD) ∧
  ((k0_dev391 v1) < nD) ∧
  ((k0_dev394 v1) < nD) ∧
  ((k0_dev395 v1) < nD) ∧
  ((k0_dev398 v1) < nD) ∧
  ((k0_dev399 v1) < nD) ∧
  ((k0_dev402 v1) < nD) ∧
  ((k0_dev403 v1) < nD) ∧
  ((k0_dev406 v1) < nD) ∧
  ((k0_dev407 v1) < nD) ∧
  ((k0_dev410 v1) < nD) ∧
  ((k0_dev411 v1) < nD) ∧
  ((k0_dev414 v1) < nD) ∧
  ((k0_dev415 v1) < nD) ∧
  ((k0_dev418 v1) < nD) ∧
  ((k0_dev419 v1) < nD) ∧
  ((k0_dev422 v1) < nD) ∧
  ((k0_dev423 v1) < nD) ∧
  ((k0_dev426 v1) < nD) ∧
  ((k0_dev427 v1) < nD) ∧
  ((k0_dev430 v1) < nD) ∧
  ((k0_dev431 v1) < nD) ∧
  ((k0_dev434 v1) < nD) ∧
  ((k0_dev435 v1) < nD) ∧
  ((k0_dev438 v1) < nD) ∧
  ((k0_dev439 v1) < nD) ∧
  ((k0_dev442 v1) < nD) ∧
  ((k0_dev443 v1) < nD) ∧
  ((k0_dev446 v1) < nD) ∧
  ((k0_dev447 v1) < nD)
def k0_chk1_7 (v1 : BitVec 32) : Prop :=
  ((k0_dev450 v1) < nD) ∧
  ((k0_dev451 v1) < nD) ∧
  ((k0_dev454 v1) < nD) ∧
  ((k0_dev455 v1) < nD) ∧
  ((k0_dev458 v1) < nD) ∧
  ((k0_dev459 v1) < nD) ∧
  ((k0_dev462 v1) < nD) ∧
  ((k0_dev463 v1) < nD) ∧
  ((k0_dev466 v1) < nD) ∧
  ((k0_dev467 v1) < nD) ∧
  ((k0_dev470 v1) < nD) ∧
  ((k0_dev471 v1) < nD) ∧
  ((k0_dev474 v1) < nD) ∧
  ((k0_dev475 v1) < nD) ∧
  ((k0_dev477 v1) < nD) ∧
  ((k0_dev479 v1) < nD) ∧
  ((k0_dev481 v1) < nD)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1 ∧
  k0_chk1_6 v1 ∧
  k0_chk1_7 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev11_lt : ∀ (v1 : BitVec 32) (k0_hw1 : k0_chk1 v1), (k0_dev11 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev15_lt : ∀ (v1 : BitVec 32) (k0_hw1 : k0_chk1 v1), (k0_dev15 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev19_lt : ∀ (v1 : BitVec 32) (k0_hw1 : k0_chk1 v1), (k0_dev19 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev23_lt : ∀ (v1 : BitVec 32) (k0_hw1 : k0_chk1 v1), (k0_dev23 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev27_lt : ∀ (v1 : BitVec 32) (k0_hw1 : k0_chk1 v1), (k0_dev27 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev31_lt : ∀ (v1 : BitVec 32) (k0_hw1 : k0_chk1 v1), (k0_dev31 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev35_lt : ∀ (v1 : BitVec 32) (k0_hw1 : k0_chk1 v1), (k0_dev35 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev39_lt : ∀ (v1 : BitVec 32) (k0_hw1 : k0_chk1 v1), (k0_dev39 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev43_lt : ∀ (v1 : BitVec 32) (k0_hw1 : k0_chk1 v1), (k0_dev43 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev51_lt : ∀ (v1 : BitVec 32) (k0_hw1 : k0_chk1 v1), (k0_dev51 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev55_lt : ∀ (v1 : BitVec 32) (k0_hw1 : k0_chk1 v1), (k0_dev55 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev63_lt : ∀ (v1 : BitVec 32) (k0_hw1 : k0_chk1 v1), (k0_dev63 v1) < nD := fun v1 k0_hw1 => k0_hw1.1.2.2.2.2.2.2.2.2.2.2.2.2.2.2.2.2.2.2.2.2.2.2.2.2.2.2.2.2.2.2.2
theorem k0_dev66_lt : ∀ (v1 : BitVec 32) (k0_hw1 : k0_chk1 v1), (k0_dev66 v1) < nD := fun v1 k0_hw1 => k0_hw1.2.1.1
theorem k0_dev67_lt : ∀ (v1 : BitVec 32) (k0_hw1 : k0_chk1 v1), (k0_dev67 v1) < nD := fun v1 k0_hw1 => k0_hw1.2.1.2.1
theorem k0_dev70_lt : ∀ (v1 : BitVec 32) (k0_hw1 : k0_chk1 v1), (k0_dev70 v1) < nD := fun v1 k0_hw1 => k0_hw1.2.1.2.2.1
theorem k0_dev71_lt : ∀ (v1 : BitVec 32) (k0_hw1 : k0_chk1 v1), (k0_dev71 v1) < nD := fun v1 k0_hw1 => k0_hw1.2.1.2.2.2.1
theorem k0_dev74_lt : ∀ (v1 : BitVec 32) (k0_hw1 : k0_chk1 v1), (k0_dev74 v1) < nD := fun v1 k0_hw1 => k0_hw1.2.1.2.2.2.2.1
theorem k0_dev75_lt : ∀ (v1 : BitVec 32) (k0_hw1 : k0_chk1 v1), (k0_dev75 v1) < nD := fun v1 k0_hw1 => k0_hw1.2.1.2.2.2.2.2.1
theorem k0_dev78_lt : ∀ (v1 : BitVec 32) (k0_hw1 : k0_chk1 v1), (k0_dev78 v1) < nD := fun v1 k0_hw1 => k0_hw1.2.1.2.2.2.2.2.2.1
theorem k0_dev79_lt : ∀ (v1 : BitVec 32) (k0_hw1 : k0_chk1 v1), (k0_dev79 v1) < nD := fun v1 k0_hw1 => k0_hw1.2.1.2.2.2.2.2.2.2.1
theorem k0_dev82_lt : ∀ (v1 : BitVec 32) (k0_hw1 : k0_chk1 v1), (k0_dev82 v1) < nD := fun v1 k0_hw1 => k0_hw1.2.1.2.2.2.2.2.2.2.2.1
theorem k0_dev83_lt : ∀ (v1 : BitVec 32) (k0_hw1 : k0_chk1 v1), (k0_dev83 v1) < nD := fun v1 k0_hw1 => k0_hw1.2.1.2.2.2.2.2.2.2.2.2.1
theorem k0_dev86_lt : ∀ (v1 : BitVec 32) (k0_hw1 : k0_chk1 v1), (k0_dev86 v1) < nD := fun v1 k0_hw1 => k0_hw1.2.1.2.2.2.2.2.2.2.2.2.2.1
theorem k0_dev87_lt : ∀ (v1 : BitVec 32) (k0_hw1 : k0_chk1 v1), (k0_dev87 v1) < nD := fun v1 k0_hw1 => k0_hw1.2.1.2.2.2.2.2.2.2.2.2.2.2.1
theorem k0_dev90_lt : ∀ (v1 : BitVec 32) (k0_hw1 : k0_chk1 v1), (k0_dev90 v1) < nD := fun v1 k0_hw1 => k0_hw1.2.1.2.2.2.2.2.2.2.2.2.2.2.2.1
theorem k0_dev91_lt : ∀ (v1 : BitVec 32) (k0_hw1 : k0_chk1 v1), (k0_dev91 v1) < nD := fun v1 k0_hw1 => k0_hw1.2.1.2.2.2.2.2.2.2.2.2.2.2.2.2.1
theorem k0_dev94_lt : ∀ (v1 : BitVec 32) (k0_hw1 : k0_chk1 v1), (k0_dev94 v1) < nD := fun v1 k0_hw1 => k0_hw1.2.1.2.2.2.2.2.2.2.2.2.2.2.2.2.2.1
theorem k0_dev95_lt : ∀ (v1 : BitVec 32) (k0_hw1 : k0_chk1 v1), (k0_dev95 v1) < nD := fun v1 k0_hw1 => k0_hw1.2.1.2.2.2.2.2.2.2.2.2.2.2.2.2.2.2.1
theorem k0_dev98_lt : ∀ (v1 : BitVec 32) (k0_hw1 : k0_chk1 v1), (k0_dev98 v1) < nD := fun v1 k0_hw1 => k0_hw1.2.1.2.2.2.2.2.2.2.2.2.2.2.2.2.2.2.2.1
theorem k0_dev99_lt : ∀ (v1 : BitVec 32) (k0_hw1 : k0_chk1 v1), (k0_dev99 v1) < nD := fun v1 k0_hw1 => k0_hw1.2.1.2.2.2.2.2.2.2.2.2.2.2.2.2.2.2.2.2.1
theorem k0_dev102_lt : ∀ (v1 : BitVec 32) (k0_hw1 : k0_chk1 v1), (k0_dev102 v1) < nD := fun v1 k0_hw1 => k0_hw1.2.1.2.2.2.2.2.2.2.2.2.2.2.2.2.2.2.2.2.2.1
theorem k0_dev103_lt : ∀ (v1 : BitVec 32) (k0_hw1 : k0_chk1 v1), (k0_dev103 v1) < nD := fun v1 k0_hw1 => k0_hw1.2.1.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.1.2.2.2.2.2.2.2.2.2.2.2.2.2.2.2.2.2.2.2.2.1
theorem k0_dev107_lt : ∀ (v1 : BitVec 32) (k0_hw1 : k0_chk1 v1), (k0_dev107 v1) < nD := fun v1 k0_hw1 => k0_hw1.2.1.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.1.2.2.2.2.2.2.2.2.2.2.2.2.2.2.2.2.2.2.2.2.2.2.1
theorem k0_dev111_lt : ∀ (v1 : BitVec 32) (k0_hw1 : k0_chk1 v1), (k0_dev111 v1) < nD := fun v1 k0_hw1 => k0_hw1.2.1.2.2.2.2.2.2.2.2.2.2.2.2.2.2.2.2.2.2.2.2.2.2.2.1
theorem k0_dev114_lt : ∀ (v1 : BitVec 32) (k0_hw1 : k0_chk1 v1), (k0_dev114 v1) < nD := fun v1 k0_hw1 => k0_hw1.2.1.2.2.2.2.2.2.2.2.2.2.2.2.2.2.2.2.2.2.2.2.2.2.2.2.1
theorem k0_dev115_lt : ∀ (v1 : BitVec 32) (k0_hw1 : k0_chk1 v1), (k0_dev115 v1) < nD := fun v1 k0_hw1 => k0_hw1.2.1.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.1.2.2.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.1.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.1.2.2.2.2.2.2.2.2.2.2.2.2.2.2.2.2.2.2.2.2.2.2.2.2.2.2.2.2.1
theorem k0_dev123_lt : ∀ (v1 : BitVec 32) (k0_hw1 : k0_chk1 v1), (k0_dev123 v1) < nD := fun v1 k0_hw1 => k0_hw1.2.1.2.2.2.2.2.2.2.2.2.2.2.2.2.2.2.2.2.2.2.2.2.2.2.2.2.2.2.2.2.1
theorem k0_dev126_lt : ∀ (v1 : BitVec 32) (k0_hw1 : k0_chk1 v1), (k0_dev126 v1) < nD := fun v1 k0_hw1 => k0_hw1.2.1.2.2.2.2.2.2.2.2.2.2.2.2.2.2.2.2.2.2.2.2.2.2.2.2.2.2.2.2.2.2.1
theorem k0_dev127_lt : ∀ (v1 : BitVec 32) (k0_hw1 : k0_chk1 v1), (k0_dev127 v1) < nD := fun v1 k0_hw1 => k0_hw1.2.1.2.2.2.2.2.2.2.2.2.2.2.2.2.2.2.2.2.2.2.2.2.2.2.2.2.2.2.2.2.2.2
theorem k0_dev130_lt : ∀ (v1 : BitVec 32) (k0_hw1 : k0_chk1 v1), (k0_dev130 v1) < nD := fun v1 k0_hw1 => k0_hw1.2.2.1.1
theorem k0_dev131_lt : ∀ (v1 : BitVec 32) (k0_hw1 : k0_chk1 v1), (k0_dev131 v1) < nD := fun v1 k0_hw1 => k0_hw1.2.2.1.2.1
theorem k0_dev134_lt : ∀ (v1 : BitVec 32) (k0_hw1 : k0_chk1 v1), (k0_dev134 v1) < nD := fun v1 k0_hw1 => k0_hw1.2.2.1.2.2.1
theorem k0_dev135_lt : ∀ (v1 : BitVec 32) (k0_hw1 : k0_chk1 v1), (k0_dev135 v1) < nD := fun v1 k0_hw1 => k0_hw1.2.2.1.2.2.2.1
theorem k0_dev138_lt : ∀ (v1 : BitVec 32) (k0_hw1 : k0_chk1 v1), (k0_dev138 v1) < nD := fun v1 k0_hw1 => k0_hw1.2.2.1.2.2.2.2.1
theorem k0_dev139_lt : ∀ (v1 : BitVec 32) (k0_hw1 : k0_chk1 v1), (k0_dev139 v1) < nD := fun v1 k0_hw1 => k0_hw1.2.2.1.2.2.2.2.2.1
theorem k0_dev142_lt : ∀ (v1 : BitVec 32) (k0_hw1 : k0_chk1 v1), (k0_dev142 v1) < nD := fun v1 k0_hw1 => k0_hw1.2.2.1.2.2.2.2.2.2.1
theorem k0_dev143_lt : ∀ (v1 : BitVec 32) (k0_hw1 : k0_chk1 v1), (k0_dev143 v1) < nD := fun v1 k0_hw1 => k0_hw1.2.2.1.2.2.2.2.2.2.2.1
theorem k0_dev146_lt : ∀ (v1 : BitVec 32) (k0_hw1 : k0_chk1 v1), (k0_dev146 v1) < nD := fun v1 k0_hw1 => k0_hw1.2.2.1.2.2.2.2.2.2.2.2.1
theorem k0_dev147_lt : ∀ (v1 : BitVec 32) (k0_hw1 : k0_chk1 v1), (k0_dev147 v1) < nD := fun v1 k0_hw1 => k0_hw1.2.2.1.2.2.2.2.2.2.2.2.2.1
theorem k0_dev150_lt : ∀ (v1 : BitVec 32) (k0_hw1 : k0_chk1 v1), (k0_dev150 v1) < nD := fun v1 k0_hw1 => k0_hw1.2.2.1.2.2.2.2.2.2.2.2.2.2.1
theorem k0_dev151_lt : ∀ (v1 : BitVec 32) (k0_hw1 : k0_chk1 v1), (k0_dev151 v1) < nD := fun v1 k0_hw1 => k0_hw1.2.2.1.2.2.2.2.2.2.2.2.2.2.2.1
theorem k0_dev154_lt : ∀ (v1 : BitVec 32) (k0_hw1 : k0_chk1 v1), (k0_dev154 v1) < nD := fun v1 k0_hw1 => k0_hw1.2.2.1.2.2.2.2.2.2.2.2.2.2.2.2.1
theorem k0_dev155_lt : ∀ (v1 : BitVec 32) (k0_hw1 : k0_chk1 v1), (k0_dev155 v1) < nD := fun v1 k0_hw1 => k0_hw1.2.2.1.2.2.2.2.2.2.2.2.2.2.2.2.2.1
theorem k0_dev158_lt : ∀ (v1 : BitVec 32) (k0_hw1 : k0_chk1 v1), (k0_dev158 v1) < nD := fun v1 k0_hw1 => k0_hw1.2.2.1.2.2.2.2.2.2.2.2.2.2.2.2.2.2.1
theorem k0_dev159_lt : ∀ (v1 : BitVec 32) (k0_hw1 : k0_chk1 v1), (k0_dev159 v1) < nD := fun v1 k0_hw1 => k0_hw1.2.2.1.2.2.2.2.2.2.2.2.2.2.2.2.2.2.2.1
theorem k0_dev162_lt : ∀ (v1 : BitVec 32) (k0_hw1 : k0_chk1 v1), (k0_dev162 v1) < nD := fun v1 k0_hw1 => k0_hw1.2.2.1.2.2.2.2.2.2.2.2.2.2.2.2.2.2.2.2.1
theorem k0_dev163_lt : ∀ (v1 : BitVec 32) (k0_hw1 : k0_chk1 v1), (k0_dev163 v1) < nD := fun v1 k0_hw1 => k0_hw1.2.2.1.2.2.2.2.2.2.2.2.2.2.2.2.2.2.2.2.2.1
theorem k0_dev166_lt : ∀ (v1 : BitVec 32) (k0_hw1 : k0_chk1 v1), (k0_dev166 v1) < nD := fun v1 k0_hw1 => k0_hw1.2.2.1.2.2.2.2.2.2.2.2.2.2.2.2.2.2.2.2.2.2.1
theorem k0_dev167_lt : ∀ (v1 : BitVec 32) (k0_hw1 : k0_chk1 v1), (k0_dev167 v1) < nD := fun v1 k0_hw1 => k0_hw1.2.2.1.2.2.2.2.2.2.2.2.2.2.2.2.2.2.2.2.2.2.2.1
theorem k0_dev170_lt : ∀ (v1 : BitVec 32) (k0_hw1 : k0_chk1 v1), (k0_dev170 v1) < nD := fun v1 k0_hw1 => k0_hw1.2.2.1.2.2.2.2.2.2.2.2.2.2.2.2.2.2.2.2.2.2.2.2.1
theorem k0_dev171_lt : ∀ (v1 : BitVec 32) (k0_hw1 : k0_chk1 v1), (k0_dev171 v1) < nD := fun v1 k0_hw1 => k0_hw1.2.2.1.2.2.2.2.2.2.2.2.2.2.2.2.2.2.2.2.2.2.2.2.2.1
theorem k0_dev174_lt : ∀ (v1 : BitVec 32) (k0_hw1 : k0_chk1 v1), (k0_dev174 v1) < nD := fun v1 k0_hw1 => k0_hw1.2.2.1.2.2.2.2.2.2.2.2.2.2.2.2.2.2.2.2.2.2.2.2.2.2.1
theorem k0_dev175_lt : ∀ (v1 : BitVec 32) (k0_hw1 : k0_chk1 v1), (k0_dev175 v1) < nD := fun v1 k0_hw1 => k0_hw1.2.2.1.2.2.2.2.2.2.2.2.2.2.2.2.2.2.2.2.2.2.2.2.2.2.2.1
theorem k0_dev178_lt : ∀ (v1 : BitVec 32) (k0_hw1 : k0_chk1 v1), (k0_dev178 v1) < nD := fun v1 k0_hw1 => k0_hw1.2.2.1.2.2.2.2.2.2.2.2.2.2.2.2.2.2.2.2.2.2.2.2.2.2.2.2.1
theorem k0_dev179_lt : ∀ (v1 : BitVec 32) (k0_hw1 : k0_chk1 v1), (k0_dev179 v1) < nD := fun v1 k0_hw1 => k0_hw1.2.2.1.2.2.2.2.2.2.2.2.2.2.2.2.2.2.2.2.2.2.2.2.2.2.2.2.2.1
theorem k0_dev182_lt : ∀ (v1 : BitVec 32) (k0_hw1 : k0_chk1 v1), (k0_dev182 v1) < nD := fun v1 k0_hw1 => k0_hw1.2.2.1.2.2.2.2.2.2.2.2.2.2.2.2.2.2.2.2.2.2.2.2.2.2.2.2.2.2.1
theorem k0_dev183_lt : ∀ (v1 : BitVec 32) (k0_hw1 : k0_chk1 v1), (k0_dev183 v1) < nD := fun v1 k0_hw1 => k0_hw1.2.2.1.2.2.2.2.2.2.2.2.2.2.2.2.2.2.2.2.2.2.2.2.2.2.2.2.2.2.2.1
theorem k0_dev186_lt : ∀ (v1 : BitVec 32) (k0_hw1 : k0_chk1 v1), (k0_dev186 v1) < nD := fun v1 k0_hw1 => k0_hw1.2.2.1.2.2.2.2.2.2.2.2.2.2.2.2.2.2.2.2.2.2.2.2.2.2.2.2.2.2.2.2.1
theorem k0_dev187_lt : ∀ (v1 : BitVec 32) (k0_hw1 : k0_chk1 v1), (k0_dev187 v1) < nD := fun v1 k0_hw1 => k0_hw1.2.2.1.2.2.2.2.2.2.2.2.2.2.2.2.2.2.2.2.2.2.2.2.2.2.2.2.2.2.2.2.2.1
theorem k0_dev190_lt : ∀ (v1 : BitVec 32) (k0_hw1 : k0_chk1 v1), (k0_dev190 v1) < nD := fun v1 k0_hw1 => k0_hw1.2.2.1.2.2.2.2.2.2.2.2.2.2.2.2.2.2.2.2.2.2.2.2.2.2.2.2.2.2.2.2.2.2.1
theorem k0_dev191_lt : ∀ (v1 : BitVec 32) (k0_hw1 : k0_chk1 v1), (k0_dev191 v1) < nD := fun v1 k0_hw1 => k0_hw1.2.2.1.2.2.2.2.2.2.2.2.2.2.2.2.2.2.2.2.2.2.2.2.2.2.2.2.2.2.2.2.2.2.2
theorem k0_dev194_lt : ∀ (v1 : BitVec 32) (k0_hw1 : k0_chk1 v1), (k0_dev194 v1) < nD := fun v1 k0_hw1 => k0_hw1.2.2.2.1.1
theorem k0_dev195_lt : ∀ (v1 : BitVec 32) (k0_hw1 : k0_chk1 v1), (k0_dev195 v1) < nD := fun v1 k0_hw1 => k0_hw1.2.2.2.1.2.1
theorem k0_dev198_lt : ∀ (v1 : BitVec 32) (k0_hw1 : k0_chk1 v1), (k0_dev198 v1) < nD := fun v1 k0_hw1 => k0_hw1.2.2.2.1.2.2.1
theorem k0_dev199_lt : ∀ (v1 : BitVec 32) (k0_hw1 : k0_chk1 v1), (k0_dev199 v1) < nD := fun v1 k0_hw1 => k0_hw1.2.2.2.1.2.2.2.1
theorem k0_dev202_lt : ∀ (v1 : BitVec 32) (k0_hw1 : k0_chk1 v1), (k0_dev202 v1) < nD := fun v1 k0_hw1 => k0_hw1.2.2.2.1.2.2.2.2.1
theorem k0_dev203_lt : ∀ (v1 : BitVec 32) (k0_hw1 : k0_chk1 v1), (k0_dev203 v1) < nD := fun v1 k0_hw1 => k0_hw1.2.2.2.1.2.2.2.2.2.1
theorem k0_dev206_lt : ∀ (v1 : BitVec 32) (k0_hw1 : k0_chk1 v1), (k0_dev206 v1) < nD := fun v1 k0_hw1 => k0_hw1.2.2.2.1.2.2.2.2.2.2.1
theorem k0_dev207_lt : ∀ (v1 : BitVec 32) (k0_hw1 : k0_chk1 v1), (k0_dev207 v1) < nD := fun v1 k0_hw1 => k0_hw1.2.2.2.1.2.2.2.2.2.2.2.1
theorem k0_dev210_lt : ∀ (v1 : BitVec 32) (k0_hw1 : k0_chk1 v1), (k0_dev210 v1) < nD := fun v1 k0_hw1 => k0_hw1.2.2.2.1.2.2.2.2.2.2.2.2.1
theorem k0_dev211_lt : ∀ (v1 : BitVec 32) (k0_hw1 : k0_chk1 v1), (k0_dev211 v1) < nD := fun v1 k0_hw1 => k0_hw1.2.2.2.1.2.2.2.2.2.2.2.2.2.1
theorem k0_dev214_lt : ∀ (v1 : BitVec 32) (k0_hw1 : k0_chk1 v1), (k0_dev214 v1) < nD := fun v1 k0_hw1 => k0_hw1.2.2.2.1.2.2.2.2.2.2.2.2.2.2.1
theorem k0_dev215_lt : ∀ (v1 : BitVec 32) (k0_hw1 : k0_chk1 v1), (k0_dev215 v1) < nD := fun v1 k0_hw1 => k0_hw1.2.2.2.1.2.2.2.2.2.2.2.2.2.2.2.1
theorem k0_dev218_lt : ∀ (v1 : BitVec 32) (k0_hw1 : k0_chk1 v1), (k0_dev218 v1) < nD := fun v1 k0_hw1 => k0_hw1.2.2.2.1.2.2.2.2.2.2.2.2.2.2.2.2.1
theorem k0_dev219_lt : ∀ (v1 : BitVec 32) (k0_hw1 : k0_chk1 v1), (k0_dev219 v1) < nD := fun v1 k0_hw1 => k0_hw1.2.2.2.1.2.2.2.2.2.2.2.2.2.2.2.2.2.1
theorem k0_dev222_lt : ∀ (v1 : BitVec 32) (k0_hw1 : k0_chk1 v1), (k0_dev222 v1) < nD := fun v1 k0_hw1 => k0_hw1.2.2.2.1.2.2.2.2.2.2.2.2.2.2.2.2.2.2.1
theorem k0_dev223_lt : ∀ (v1 : BitVec 32) (k0_hw1 : k0_chk1 v1), (k0_dev223 v1) < nD := fun v1 k0_hw1 => k0_hw1.2.2.2.1.2.2.2.2.2.2.2.2.2.2.2.2.2.2.2.1
theorem k0_dev226_lt : ∀ (v1 : BitVec 32) (k0_hw1 : k0_chk1 v1), (k0_dev226 v1) < nD := fun v1 k0_hw1 => k0_hw1.2.2.2.1.2.2.2.2.2.2.2.2.2.2.2.2.2.2.2.2.1
theorem k0_dev227_lt : ∀ (v1 : BitVec 32) (k0_hw1 : k0_chk1 v1), (k0_dev227 v1) < nD := fun v1 k0_hw1 => k0_hw1.2.2.2.1.2.2.2.2.2.2.2.2.2.2.2.2.2.2.2.2.2.1
theorem k0_dev230_lt : ∀ (v1 : BitVec 32) (k0_hw1 : k0_chk1 v1), (k0_dev230 v1) < nD := fun v1 k0_hw1 => k0_hw1.2.2.2.1.2.2.2.2.2.2.2.2.2.2.2.2.2.2.2.2.2.2.1
theorem k0_dev231_lt : ∀ (v1 : BitVec 32) (k0_hw1 : k0_chk1 v1), (k0_dev231 v1) < nD := fun v1 k0_hw1 => k0_hw1.2.2.2.1.2.2.2.2.2.2.2.2.2.2.2.2.2.2.2.2.2.2.2.1
theorem k0_dev234_lt : ∀ (v1 : BitVec 32) (k0_hw1 : k0_chk1 v1), (k0_dev234 v1) < nD := fun v1 k0_hw1 => k0_hw1.2.2.2.1.2.2.2.2.2.2.2.2.2.2.2.2.2.2.2.2.2.2.2.2.1
theorem k0_dev235_lt : ∀ (v1 : BitVec 32) (k0_hw1 : k0_chk1 v1), (k0_dev235 v1) < nD := fun v1 k0_hw1 => k0_hw1.2.2.2.1.2.2.2.2.2.2.2.2.2.2.2.2.2.2.2.2.2.2.2.2.2.1
theorem k0_dev237_lt : ∀ (v1 : BitVec 32) (k0_hw1 : k0_chk1 v1), (k0_dev237 v1) < nD := fun v1 k0_hw1 => k0_hw1.2.2.2.1.2.2.2.2.2.2.2.2.2.2.2.2.2.2.2.2.2.2.2.2.2.2.1
theorem k0_dev239_lt : ∀ (v1 : BitVec 32) (k0_hw1 : k0_chk1 v1), (k0_dev239 v1) < nD := fun v1 k0_hw1 => k0_hw1.2.2.2.1.2.2.2.2.2.2.2.2.2.2.2.2.2.2.2.2.2.2.2.2.2.2.2.1
theorem k0_dev241_lt : ∀ (v1 : BitVec 32) (k0_hw1 : k0_chk1 v1), (k0_dev241 v1) < nD := fun v1 k0_hw1 => k0_hw1.2.2.2.1.2.2.2.2.2.2.2.2.2.2.2.2.2.2.2.2.2.2.2.2.2.2.2.2.1
theorem k0_dev244_lt : ∀ (v1 : BitVec 32) (k0_hw1 : k0_chk1 v1), (k0_dev244 v1) < nD := fun v1 k0_hw1 => k0_hw1.2.2.2.1.2.2.2.2.2.2.2.2.2.2.2.2.2.2.2.2.2.2.2.2.2.2.2.2.2.1
theorem k0_dev246_lt : ∀ (v1 : BitVec 32) (k0_hw1 : k0_chk1 v1), (k0_dev246 v1) < nD := fun v1 k0_hw1 => k0_hw1.2.2.2.1.2.2.2.2.2.2.2.2.2.2.2.2.2.2.2.2.2.2.2.2.2.2.2.2.2.2.1
theorem k0_dev248_lt : ∀ (v1 : BitVec 32) (k0_hw1 : k0_chk1 v1), (k0_dev248 v1) < nD := fun v1 k0_hw1 => k0_hw1.2.2.2.1.2.2.2.2.2.2.2.2.2.2.2.2.2.2.2.2.2.2.2.2.2.2.2.2.2.2.2.1
theorem k0_dev250_lt : ∀ (v1 : BitVec 32) (k0_hw1 : k0_chk1 v1), (k0_dev250 v1) < nD := fun v1 k0_hw1 => k0_hw1.2.2.2.1.2.2.2.2.2.2.2.2.2.2.2.2.2.2.2.2.2.2.2.2.2.2.2.2.2.2.2.2.1
theorem k0_dev251_lt : ∀ (v1 : BitVec 32) (k0_hw1 : k0_chk1 v1), (k0_dev251 v1) < nD := fun v1 k0_hw1 => k0_hw1.2.2.2.1.2.2.2.2.2.2.2.2.2.2.2.2.2.2.2.2.2.2.2.2.2.2.2.2.2.2.2.2.2.1
theorem k0_dev254_lt : ∀ (v1 : BitVec 32) (k0_hw1 : k0_chk1 v1), (k0_dev254 v1) < nD := fun v1 k0_hw1 => k0_hw1.2.2.2.1.2.2.2.2.2.2.2.2.2.2.2.2.2.2.2.2.2.2.2.2.2.2.2.2.2.2.2.2.2.2.1
theorem k0_dev255_lt : ∀ (v1 : BitVec 32) (k0_hw1 : k0_chk1 v1), (k0_dev255 v1) < nD := fun v1 k0_hw1 => k0_hw1.2.2.2.1.2.2.2.2.2.2.2.2.2.2.2.2.2.2.2.2.2.2.2.2.2.2.2.2.2.2.2.2.2.2.2
theorem k0_dev258_lt : ∀ (v1 : BitVec 32) (k0_hw1 : k0_chk1 v1), (k0_dev258 v1) < nD := fun v1 k0_hw1 => k0_hw1.2.2.2.2.1.1
theorem k0_dev259_lt : ∀ (v1 : BitVec 32) (k0_hw1 : k0_chk1 v1), (k0_dev259 v1) < nD := fun v1 k0_hw1 => k0_hw1.2.2.2.2.1.2.1
theorem k0_dev262_lt : ∀ (v1 : BitVec 32) (k0_hw1 : k0_chk1 v1), (k0_dev262 v1) < nD := fun v1 k0_hw1 => k0_hw1.2.2.2.2.1.2.2.1
theorem k0_dev263_lt : ∀ (v1 : BitVec 32) (k0_hw1 : k0_chk1 v1), (k0_dev263 v1) < nD := fun v1 k0_hw1 => k0_hw1.2.2.2.2.1.2.2.2.1
theorem k0_dev266_lt : ∀ (v1 : BitVec 32) (k0_hw1 : k0_chk1 v1), (k0_dev266 v1) < nD := fun v1 k0_hw1 => k0_hw1.2.2.2.2.1.2.2.2.2.1
theorem k0_dev267_lt : ∀ (v1 : BitVec 32) (k0_hw1 : k0_chk1 v1), (k0_dev267 v1) < nD := fun v1 k0_hw1 => k0_hw1.2.2.2.2.1.2.2.2.2.2.1
theorem k0_dev270_lt : ∀ (v1 : BitVec 32) (k0_hw1 : k0_chk1 v1), (k0_dev270 v1) < nD := fun v1 k0_hw1 => k0_hw1.2.2.2.2.1.2.2.2.2.2.2.1
theorem k0_dev271_lt : ∀ (v1 : BitVec 32) (k0_hw1 : k0_chk1 v1), (k0_dev271 v1) < nD := fun v1 k0_hw1 => k0_hw1.2.2.2.2.1.2.2.2.2.2.2.2.1
theorem k0_dev274_lt : ∀ (v1 : BitVec 32) (k0_hw1 : k0_chk1 v1), (k0_dev274 v1) < nD := fun v1 k0_hw1 => k0_hw1.2.2.2.2.1.2.2.2.2.2.2.2.2.1
theorem k0_dev275_lt : ∀ (v1 : BitVec 32) (k0_hw1 : k0_chk1 v1), (k0_dev275 v1) < nD := fun v1 k0_hw1 => k0_hw1.2.2.2.2.1.2.2.2.2.2.2.2.2.2.1
theorem k0_dev278_lt : ∀ (v1 : BitVec 32) (k0_hw1 : k0_chk1 v1), (k0_dev278 v1) < nD := fun v1 k0_hw1 => k0_hw1.2.2.2.2.1.2.2.2.2.2.2.2.2.2.2.1
theorem k0_dev279_lt : ∀ (v1 : BitVec 32) (k0_hw1 : k0_chk1 v1), (k0_dev279 v1) < nD := fun v1 k0_hw1 => k0_hw1.2.2.2.2.1.2.2.2.2.2.2.2.2.2.2.2.1
theorem k0_dev282_lt : ∀ (v1 : BitVec 32) (k0_hw1 : k0_chk1 v1), (k0_dev282 v1) < nD := fun v1 k0_hw1 => k0_hw1.2.2.2.2.1.2.2.2.2.2.2.2.2.2.2.2.2.1
theorem k0_dev283_lt : ∀ (v1 : BitVec 32) (k0_hw1 : k0_chk1 v1), (k0_dev283 v1) < nD := fun v1 k0_hw1 => k0_hw1.2.2.2.2.1.2.2.2.2.2.2.2.2.2.2.2.2.2.1
theorem k0_dev286_lt : ∀ (v1 : BitVec 32) (k0_hw1 : k0_chk1 v1), (k0_dev286 v1) < nD := fun v1 k0_hw1 => k0_hw1.2.2.2.2.1.2.2.2.2.2.2.2.2.2.2.2.2.2.2.1
theorem k0_dev287_lt : ∀ (v1 : BitVec 32) (k0_hw1 : k0_chk1 v1), (k0_dev287 v1) < nD := fun v1 k0_hw1 => k0_hw1.2.2.2.2.1.2.2.2.2.2.2.2.2.2.2.2.2.2.2.2.1
theorem k0_dev290_lt : ∀ (v1 : BitVec 32) (k0_hw1 : k0_chk1 v1), (k0_dev290 v1) < nD := fun v1 k0_hw1 => k0_hw1.2.2.2.2.1.2.2.2.2.2.2.2.2.2.2.2.2.2.2.2.2.1
theorem k0_dev291_lt : ∀ (v1 : BitVec 32) (k0_hw1 : k0_chk1 v1), (k0_dev291 v1) < nD := fun v1 k0_hw1 => k0_hw1.2.2.2.2.1.2.2.2.2.2.2.2.2.2.2.2.2.2.2.2.2.2.1
theorem k0_dev294_lt : ∀ (v1 : BitVec 32) (k0_hw1 : k0_chk1 v1), (k0_dev294 v1) < nD := fun v1 k0_hw1 => k0_hw1.2.2.2.2.1.2.2.2.2.2.2.2.2.2.2.2.2.2.2.2.2.2.2.1
theorem k0_dev295_lt : ∀ (v1 : BitVec 32) (k0_hw1 : k0_chk1 v1), (k0_dev295 v1) < nD := fun v1 k0_hw1 => k0_hw1.2.2.2.2.1.2.2.2.2.2.2.2.2.2.2.2.2.2.2.2.2.2.2.2.1
theorem k0_dev298_lt : ∀ (v1 : BitVec 32) (k0_hw1 : k0_chk1 v1), (k0_dev298 v1) < nD := fun v1 k0_hw1 => k0_hw1.2.2.2.2.1.2.2.2.2.2.2.2.2.2.2.2.2.2.2.2.2.2.2.2.2.1
theorem k0_dev299_lt : ∀ (v1 : BitVec 32) (k0_hw1 : k0_chk1 v1), (k0_dev299 v1) < nD := fun v1 k0_hw1 => k0_hw1.2.2.2.2.1.2.2.2.2.2.2.2.2.2.2.2.2.2.2.2.2.2.2.2.2.2.1
theorem k0_dev302_lt : ∀ (v1 : BitVec 32) (k0_hw1 : k0_chk1 v1), (k0_dev302 v1) < nD := fun v1 k0_hw1 => k0_hw1.2.2.2.2.1.2.2.2.2.2.2.2.2.2.2.2.2.2.2.2.2.2.2.2.2.2.2.1
theorem k0_dev303_lt : ∀ (v1 : BitVec 32) (k0_hw1 : k0_chk1 v1), (k0_dev303 v1) < nD := fun v1 k0_hw1 => k0_hw1.2.2.2.2.1.2.2.2.2.2.2.2.2.2.2.2.2.2.2.2.2.2.2.2.2.2.2.2.1
theorem k0_dev306_lt : ∀ (v1 : BitVec 32) (k0_hw1 : k0_chk1 v1), (k0_dev306 v1) < nD := fun v1 k0_hw1 => k0_hw1.2.2.2.2.1.2.2.2.2.2.2.2.2.2.2.2.2.2.2.2.2.2.2.2.2.2.2.2.2.1
theorem k0_dev307_lt : ∀ (v1 : BitVec 32) (k0_hw1 : k0_chk1 v1), (k0_dev307 v1) < nD := fun v1 k0_hw1 => k0_hw1.2.2.2.2.1.2.2.2.2.2.2.2.2.2.2.2.2.2.2.2.2.2.2.2.2.2.2.2.2.2.1
theorem k0_dev310_lt : ∀ (v1 : BitVec 32) (k0_hw1 : k0_chk1 v1), (k0_dev310 v1) < nD := fun v1 k0_hw1 => k0_hw1.2.2.2.2.1.2.2.2.2.2.2.2.2.2.2.2.2.2.2.2.2.2.2.2.2.2.2.2.2.2.2.1
theorem k0_dev311_lt : ∀ (v1 : BitVec 32) (k0_hw1 : k0_chk1 v1), (k0_dev311 v1) < nD := fun v1 k0_hw1 => k0_hw1.2.2.2.2.1.2.2.2.2.2.2.2.2.2.2.2.2.2.2.2.2.2.2.2.2.2.2.2.2.2.2.2.1
theorem k0_dev314_lt : ∀ (v1 : BitVec 32) (k0_hw1 : k0_chk1 v1), (k0_dev314 v1) < nD := fun v1 k0_hw1 => k0_hw1.2.2.2.2.1.2.2.2.2.2.2.2.2.2.2.2.2.2.2.2.2.2.2.2.2.2.2.2.2.2.2.2.2.1
theorem k0_dev315_lt : ∀ (v1 : BitVec 32) (k0_hw1 : k0_chk1 v1), (k0_dev315 v1) < nD := fun v1 k0_hw1 => k0_hw1.2.2.2.2.1.2.2.2.2.2.2.2.2.2.2.2.2.2.2.2.2.2.2.2.2.2.2.2.2.2.2.2.2.2.1
theorem k0_dev318_lt : ∀ (v1 : BitVec 32) (k0_hw1 : k0_chk1 v1), (k0_dev318 v1) < nD := fun v1 k0_hw1 => k0_hw1.2.2.2.2.1.2.2.2.2.2.2.2.2.2.2.2.2.2.2.2.2.2.2.2.2.2.2.2.2.2.2.2.2.2.2.1
theorem k0_dev319_lt : ∀ (v1 : BitVec 32) (k0_hw1 : k0_chk1 v1), (k0_dev319 v1) < nD := fun v1 k0_hw1 => k0_hw1.2.2.2.2.1.2.2.2.2.2.2.2.2.2.2.2.2.2.2.2.2.2.2.2.2.2.2.2.2.2.2.2.2.2.2.2
theorem k0_dev322_lt : ∀ (v1 : BitVec 32) (k0_hw1 : k0_chk1 v1), (k0_dev322 v1) < nD := fun v1 k0_hw1 => k0_hw1.2.2.2.2.2.1.1
theorem k0_dev323_lt : ∀ (v1 : BitVec 32) (k0_hw1 : k0_chk1 v1), (k0_dev323 v1) < nD := fun v1 k0_hw1 => k0_hw1.2.2.2.2.2.1.2.1
theorem k0_dev326_lt : ∀ (v1 : BitVec 32) (k0_hw1 : k0_chk1 v1), (k0_dev326 v1) < nD := fun v1 k0_hw1 => k0_hw1.2.2.2.2.2.1.2.2.1
theorem k0_dev327_lt : ∀ (v1 : BitVec 32) (k0_hw1 : k0_chk1 v1), (k0_dev327 v1) < nD := fun v1 k0_hw1 => k0_hw1.2.2.2.2.2.1.2.2.2.1
theorem k0_dev330_lt : ∀ (v1 : BitVec 32) (k0_hw1 : k0_chk1 v1), (k0_dev330 v1) < nD := fun v1 k0_hw1 => k0_hw1.2.2.2.2.2.1.2.2.2.2.1
theorem k0_dev331_lt : ∀ (v1 : BitVec 32) (k0_hw1 : k0_chk1 v1), (k0_dev331 v1) < nD := fun v1 k0_hw1 => k0_hw1.2.2.2.2.2.1.2.2.2.2.2.1
theorem k0_dev334_lt : ∀ (v1 : BitVec 32) (k0_hw1 : k0_chk1 v1), (k0_dev334 v1) < nD := fun v1 k0_hw1 => k0_hw1.2.2.2.2.2.1.2.2.2.2.2.2.1
theorem k0_dev335_lt : ∀ (v1 : BitVec 32) (k0_hw1 : k0_chk1 v1), (k0_dev335 v1) < nD := fun v1 k0_hw1 => k0_hw1.2.2.2.2.2.1.2.2.2.2.2.2.2.1
theorem k0_dev338_lt : ∀ (v1 : BitVec 32) (k0_hw1 : k0_chk1 v1), (k0_dev338 v1) < nD := fun v1 k0_hw1 => k0_hw1.2.2.2.2.2.1.2.2.2.2.2.2.2.2.1
theorem k0_dev339_lt : ∀ (v1 : BitVec 32) (k0_hw1 : k0_chk1 v1), (k0_dev339 v1) < nD := fun v1 k0_hw1 => k0_hw1.2.2.2.2.2.1.2.2.2.2.2.2.2.2.2.1
theorem k0_dev342_lt : ∀ (v1 : BitVec 32) (k0_hw1 : k0_chk1 v1), (k0_dev342 v1) < nD := fun v1 k0_hw1 => k0_hw1.2.2.2.2.2.1.2.2.2.2.2.2.2.2.2.2.1
theorem k0_dev343_lt : ∀ (v1 : BitVec 32) (k0_hw1 : k0_chk1 v1), (k0_dev343 v1) < nD := fun v1 k0_hw1 => k0_hw1.2.2.2.2.2.1.2.2.2.2.2.2.2.2.2.2.2.1
theorem k0_dev346_lt : ∀ (v1 : BitVec 32) (k0_hw1 : k0_chk1 v1), (k0_dev346 v1) < nD := fun v1 k0_hw1 => k0_hw1.2.2.2.2.2.1.2.2.2.2.2.2.2.2.2.2.2.2.1
theorem k0_dev347_lt : ∀ (v1 : BitVec 32) (k0_hw1 : k0_chk1 v1), (k0_dev347 v1) < nD := fun v1 k0_hw1 => k0_hw1.2.2.2.2.2.1.2.2.2.2.2.2.2.2.2.2.2.2.2.1
theorem k0_dev350_lt : ∀ (v1 : BitVec 32) (k0_hw1 : k0_chk1 v1), (k0_dev350 v1) < nD := fun v1 k0_hw1 => k0_hw1.2.2.2.2.2.1.2.2.2.2.2.2.2.2.2.2.2.2.2.2.1
theorem k0_dev351_lt : ∀ (v1 : BitVec 32) (k0_hw1 : k0_chk1 v1), (k0_dev351 v1) < nD := fun v1 k0_hw1 => k0_hw1.2.2.2.2.2.1.2.2.2.2.2.2.2.2.2.2.2.2.2.2.2.1
theorem k0_dev354_lt : ∀ (v1 : BitVec 32) (k0_hw1 : k0_chk1 v1), (k0_dev354 v1) < nD := fun v1 k0_hw1 => k0_hw1.2.2.2.2.2.1.2.2.2.2.2.2.2.2.2.2.2.2.2.2.2.2.1
theorem k0_dev355_lt : ∀ (v1 : BitVec 32) (k0_hw1 : k0_chk1 v1), (k0_dev355 v1) < nD := fun v1 k0_hw1 => k0_hw1.2.2.2.2.2.1.2.2.2.2.2.2.2.2.2.2.2.2.2.2.2.2.2.1
theorem k0_dev358_lt : ∀ (v1 : BitVec 32) (k0_hw1 : k0_chk1 v1), (k0_dev358 v1) < nD := fun v1 k0_hw1 => k0_hw1.2.2.2.2.2.1.2.2.2.2.2.2.2.2.2.2.2.2.2.2.2.2.2.2.1
theorem k0_dev359_lt : ∀ (v1 : BitVec 32) (k0_hw1 : k0_chk1 v1), (k0_dev359 v1) < nD := fun v1 k0_hw1 => k0_hw1.2.2.2.2.2.1.2.2.2.2.2.2.2.2.2.2.2.2.2.2.2.2.2.2.2.1
theorem k0_dev362_lt : ∀ (v1 : BitVec 32) (k0_hw1 : k0_chk1 v1), (k0_dev362 v1) < nD := fun v1 k0_hw1 => k0_hw1.2.2.2.2.2.1.2.2.2.2.2.2.2.2.2.2.2.2.2.2.2.2.2.2.2.2.1
theorem k0_dev363_lt : ∀ (v1 : BitVec 32) (k0_hw1 : k0_chk1 v1), (k0_dev363 v1) < nD := fun v1 k0_hw1 => k0_hw1.2.2.2.2.2.1.2.2.2.2.2.2.2.2.2.2.2.2.2.2.2.2.2.2.2.2.2.1
theorem k0_dev366_lt : ∀ (v1 : BitVec 32) (k0_hw1 : k0_chk1 v1), (k0_dev366 v1) < nD := fun v1 k0_hw1 => k0_hw1.2.2.2.2.2.1.2.2.2.2.2.2.2.2.2.2.2.2.2.2.2.2.2.2.2.2.2.2.1
theorem k0_dev367_lt : ∀ (v1 : BitVec 32) (k0_hw1 : k0_chk1 v1), (k0_dev367 v1) < nD := fun v1 k0_hw1 => k0_hw1.2.2.2.2.2.1.2.2.2.2.2.2.2.2.2.2.2.2.2.2.2.2.2.2.2.2.2.2.2.1
theorem k0_dev370_lt : ∀ (v1 : BitVec 32) (k0_hw1 : k0_chk1 v1), (k0_dev370 v1) < nD := fun v1 k0_hw1 => k0_hw1.2.2.2.2.2.1.2.2.2.2.2.2.2.2.2.2.2.2.2.2.2.2.2.2.2.2.2.2.2.2.1
theorem k0_dev371_lt : ∀ (v1 : BitVec 32) (k0_hw1 : k0_chk1 v1), (k0_dev371 v1) < nD := fun v1 k0_hw1 => k0_hw1.2.2.2.2.2.1.2.2.2.2.2.2.2.2.2.2.2.2.2.2.2.2.2.2.2.2.2.2.2.2.2.1
theorem k0_dev374_lt : ∀ (v1 : BitVec 32) (k0_hw1 : k0_chk1 v1), (k0_dev374 v1) < nD := fun v1 k0_hw1 => k0_hw1.2.2.2.2.2.1.2.2.2.2.2.2.2.2.2.2.2.2.2.2.2.2.2.2.2.2.2.2.2.2.2.2.1
theorem k0_dev375_lt : ∀ (v1 : BitVec 32) (k0_hw1 : k0_chk1 v1), (k0_dev375 v1) < nD := fun v1 k0_hw1 => k0_hw1.2.2.2.2.2.1.2.2.2.2.2.2.2.2.2.2.2.2.2.2.2.2.2.2.2.2.2.2.2.2.2.2.2.1
theorem k0_dev378_lt : ∀ (v1 : BitVec 32) (k0_hw1 : k0_chk1 v1), (k0_dev378 v1) < nD := fun v1 k0_hw1 => k0_hw1.2.2.2.2.2.1.2.2.2.2.2.2.2.2.2.2.2.2.2.2.2.2.2.2.2.2.2.2.2.2.2.2.2.2.1
theorem k0_dev379_lt : ∀ (v1 : BitVec 32) (k0_hw1 : k0_chk1 v1), (k0_dev379 v1) < nD := fun v1 k0_hw1 => k0_hw1.2.2.2.2.2.1.2.2.2.2.2.2.2.2.2.2.2.2.2.2.2.2.2.2.2.2.2.2.2.2.2.2.2.2.2.1
theorem k0_dev382_lt : ∀ (v1 : BitVec 32) (k0_hw1 : k0_chk1 v1), (k0_dev382 v1) < nD := fun v1 k0_hw1 => k0_hw1.2.2.2.2.2.1.2.2.2.2.2.2.2.2.2.2.2.2.2.2.2.2.2.2.2.2.2.2.2.2.2.2.2.2.2.2.1
theorem k0_dev383_lt : ∀ (v1 : BitVec 32) (k0_hw1 : k0_chk1 v1), (k0_dev383 v1) < nD := fun v1 k0_hw1 => k0_hw1.2.2.2.2.2.1.2.2.2.2.2.2.2.2.2.2.2.2.2.2.2.2.2.2.2.2.2.2.2.2.2.2.2.2.2.2.2
theorem k0_dev386_lt : ∀ (v1 : BitVec 32) (k0_hw1 : k0_chk1 v1), (k0_dev386 v1) < nD := fun v1 k0_hw1 => k0_hw1.2.2.2.2.2.2.1.1
theorem k0_dev387_lt : ∀ (v1 : BitVec 32) (k0_hw1 : k0_chk1 v1), (k0_dev387 v1) < nD := fun v1 k0_hw1 => k0_hw1.2.2.2.2.2.2.1.2.1
theorem k0_dev390_lt : ∀ (v1 : BitVec 32) (k0_hw1 : k0_chk1 v1), (k0_dev390 v1) < nD := fun v1 k0_hw1 => k0_hw1.2.2.2.2.2.2.1.2.2.1
theorem k0_dev391_lt : ∀ (v1 : BitVec 32) (k0_hw1 : k0_chk1 v1), (k0_dev391 v1) < nD := fun v1 k0_hw1 => k0_hw1.2.2.2.2.2.2.1.2.2.2.1
theorem k0_dev394_lt : ∀ (v1 : BitVec 32) (k0_hw1 : k0_chk1 v1), (k0_dev394 v1) < nD := fun v1 k0_hw1 => k0_hw1.2.2.2.2.2.2.1.2.2.2.2.1
theorem k0_dev395_lt : ∀ (v1 : BitVec 32) (k0_hw1 : k0_chk1 v1), (k0_dev395 v1) < nD := fun v1 k0_hw1 => k0_hw1.2.2.2.2.2.2.1.2.2.2.2.2.1
theorem k0_dev398_lt : ∀ (v1 : BitVec 32) (k0_hw1 : k0_chk1 v1), (k0_dev398 v1) < nD := fun v1 k0_hw1 => k0_hw1.2.2.2.2.2.2.1.2.2.2.2.2.2.1
theorem k0_dev399_lt : ∀ (v1 : BitVec 32) (k0_hw1 : k0_chk1 v1), (k0_dev399 v1) < nD := fun v1 k0_hw1 => k0_hw1.2.2.2.2.2.2.1.2.2.2.2.2.2.2.1
theorem k0_dev402_lt : ∀ (v1 : BitVec 32) (k0_hw1 : k0_chk1 v1), (k0_dev402 v1) < nD := fun v1 k0_hw1 => k0_hw1.2.2.2.2.2.2.1.2.2.2.2.2.2.2.2.1
theorem k0_dev403_lt : ∀ (v1 : BitVec 32) (k0_hw1 : k0_chk1 v1), (k0_dev403 v1) < nD := fun v1 k0_hw1 => k0_hw1.2.2.2.2.2.2.1.2.2.2.2.2.2.2.2.2.1
theorem k0_dev406_lt : ∀ (v1 : BitVec 32) (k0_hw1 : k0_chk1 v1), (k0_dev406 v1) < nD := fun v1 k0_hw1 => k0_hw1.2.2.2.2.2.2.1.2.2.2.2.2.2.2.2.2.2.1
theorem k0_dev407_lt : ∀ (v1 : BitVec 32) (k0_hw1 : k0_chk1 v1), (k0_dev407 v1) < nD := fun v1 k0_hw1 => k0_hw1.2.2.2.2.2.2.1.2.2.2.2.2.2.2.2.2.2.2.1
theorem k0_dev410_lt : ∀ (v1 : BitVec 32) (k0_hw1 : k0_chk1 v1), (k0_dev410 v1) < nD := fun v1 k0_hw1 => k0_hw1.2.2.2.2.2.2.1.2.2.2.2.2.2.2.2.2.2.2.2.1
theorem k0_dev411_lt : ∀ (v1 : BitVec 32) (k0_hw1 : k0_chk1 v1), (k0_dev411 v1) < nD := fun v1 k0_hw1 => k0_hw1.2.2.2.2.2.2.1.2.2.2.2.2.2.2.2.2.2.2.2.2.1
theorem k0_dev414_lt : ∀ (v1 : BitVec 32) (k0_hw1 : k0_chk1 v1), (k0_dev414 v1) < nD := fun v1 k0_hw1 => k0_hw1.2.2.2.2.2.2.1.2.2.2.2.2.2.2.2.2.2.2.2.2.2.1
theorem k0_dev415_lt : ∀ (v1 : BitVec 32) (k0_hw1 : k0_chk1 v1), (k0_dev415 v1) < nD := fun v1 k0_hw1 => k0_hw1.2.2.2.2.2.2.1.2.2.2.2.2.2.2.2.2.2.2.2.2.2.2.1
theorem k0_dev418_lt : ∀ (v1 : BitVec 32) (k0_hw1 : k0_chk1 v1), (k0_dev418 v1) < nD := fun v1 k0_hw1 => k0_hw1.2.2.2.2.2.2.1.2.2.2.2.2.2.2.2.2.2.2.2.2.2.2.2.1
theorem k0_dev419_lt : ∀ (v1 : BitVec 32) (k0_hw1 : k0_chk1 v1), (k0_dev419 v1) < nD := fun v1 k0_hw1 => k0_hw1.2.2.2.2.2.2.1.2.2.2.2.2.2.2.2.2.2.2.2.2.2.2.2.2.1
theorem k0_dev422_lt : ∀ (v1 : BitVec 32) (k0_hw1 : k0_chk1 v1), (k0_dev422 v1) < nD := fun v1 k0_hw1 => k0_hw1.2.2.2.2.2.2.1.2.2.2.2.2.2.2.2.2.2.2.2.2.2.2.2.2.2.1
theorem k0_dev423_lt : ∀ (v1 : BitVec 32) (k0_hw1 : k0_chk1 v1), (k0_dev423 v1) < nD := fun v1 k0_hw1 => k0_hw1.2.2.2.2.2.2.1.2.2.2.2.2.2.2.2.2.2.2.2.2.2.2.2.2.2.2.1
theorem k0_dev426_lt : ∀ (v1 : BitVec 32) (k0_hw1 : k0_chk1 v1), (k0_dev426 v1) < nD := fun v1 k0_hw1 => k0_hw1.2.2.2.2.2.2.1.2.2.2.2.2.2.2.2.2.2.2.2.2.2.2.2.2.2.2.2.1
theorem k0_dev427_lt : ∀ (v1 : BitVec 32) (k0_hw1 : k0_chk1 v1), (k0_dev427 v1) < nD := fun v1 k0_hw1 => k0_hw1.2.2.2.2.2.2.1.2.2.2.2.2.2.2.2.2.2.2.2.2.2.2.2.2.2.2.2.2.1
theorem k0_dev430_lt : ∀ (v1 : BitVec 32) (k0_hw1 : k0_chk1 v1), (k0_dev430 v1) < nD := fun v1 k0_hw1 => k0_hw1.2.2.2.2.2.2.1.2.2.2.2.2.2.2.2.2.2.2.2.2.2.2.2.2.2.2.2.2.2.1
theorem k0_dev431_lt : ∀ (v1 : BitVec 32) (k0_hw1 : k0_chk1 v1), (k0_dev431 v1) < nD := fun v1 k0_hw1 => k0_hw1.2.2.2.2.2.2.1.2.2.2.2.2.2.2.2.2.2.2.2.2.2.2.2.2.2.2.2.2.2.2.1
theorem k0_dev434_lt : ∀ (v1 : BitVec 32) (k0_hw1 : k0_chk1 v1), (k0_dev434 v1) < nD := fun v1 k0_hw1 => k0_hw1.2.2.2.2.2.2.1.2.2.2.2.2.2.2.2.2.2.2.2.2.2.2.2.2.2.2.2.2.2.2.2.1
theorem k0_dev435_lt : ∀ (v1 : BitVec 32) (k0_hw1 : k0_chk1 v1), (k0_dev435 v1) < nD := fun v1 k0_hw1 => k0_hw1.2.2.2.2.2.2.1.2.2.2.2.2.2.2.2.2.2.2.2.2.2.2.2.2.2.2.2.2.2.2.2.2.1
theorem k0_dev438_lt : ∀ (v1 : BitVec 32) (k0_hw1 : k0_chk1 v1), (k0_dev438 v1) < nD := fun v1 k0_hw1 => k0_hw1.2.2.2.2.2.2.1.2.2.2.2.2.2.2.2.2.2.2.2.2.2.2.2.2.2.2.2.2.2.2.2.2.2.1
theorem k0_dev439_lt : ∀ (v1 : BitVec 32) (k0_hw1 : k0_chk1 v1), (k0_dev439 v1) < nD := fun v1 k0_hw1 => k0_hw1.2.2.2.2.2.2.1.2.2.2.2.2.2.2.2.2.2.2.2.2.2.2.2.2.2.2.2.2.2.2.2.2.2.2.1
theorem k0_dev442_lt : ∀ (v1 : BitVec 32) (k0_hw1 : k0_chk1 v1), (k0_dev442 v1) < nD := fun v1 k0_hw1 => k0_hw1.2.2.2.2.2.2.1.2.2.2.2.2.2.2.2.2.2.2.2.2.2.2.2.2.2.2.2.2.2.2.2.2.2.2.2.1
theorem k0_dev443_lt : ∀ (v1 : BitVec 32) (k0_hw1 : k0_chk1 v1), (k0_dev443 v1) < nD := fun v1 k0_hw1 => k0_hw1.2.2.2.2.2.2.1.2.2.2.2.2.2.2.2.2.2.2.2.2.2.2.2.2.2.2.2.2.2.2.2.2.2.2.2.2.1
theorem k0_dev446_lt : ∀ (v1 : BitVec 32) (k0_hw1 : k0_chk1 v1), (k0_dev446 v1) < nD := fun v1 k0_hw1 => k0_hw1.2.2.2.2.2.2.1.2.2.2.2.2.2.2.2.2.2.2.2.2.2.2.2.2.2.2.2.2.2.2.2.2.2.2.2.2.2.1
theorem k0_dev447_lt : ∀ (v1 : BitVec 32) (k0_hw1 : k0_chk1 v1), (k0_dev447 v1) < nD := fun v1 k0_hw1 => k0_hw1.2.2.2.2.2.2.1.2.2.2.2.2.2.2.2.2.2.2.2.2.2.2.2.2.2.2.2.2.2.2.2.2.2.2.2.2.2.2
theorem k0_dev450_lt : ∀ (v1 : BitVec 32) (k0_hw1 : k0_chk1 v1), (k0_dev450 v1) < nD := fun v1 k0_hw1 => k0_hw1.2.2.2.2.2.2.2.1
theorem k0_dev451_lt : ∀ (v1 : BitVec 32) (k0_hw1 : k0_chk1 v1), (k0_dev451 v1) < nD := fun v1 k0_hw1 => k0_hw1.2.2.2.2.2.2.2.2.1
theorem k0_dev454_lt : ∀ (v1 : BitVec 32) (k0_hw1 : k0_chk1 v1), (k0_dev454 v1) < nD := fun v1 k0_hw1 => k0_hw1.2.2.2.2.2.2.2.2.2.1
theorem k0_dev455_lt : ∀ (v1 : BitVec 32) (k0_hw1 : k0_chk1 v1), (k0_dev455 v1) < nD := fun v1 k0_hw1 => k0_hw1.2.2.2.2.2.2.2.2.2.2.1
theorem k0_dev458_lt : ∀ (v1 : BitVec 32) (k0_hw1 : k0_chk1 v1), (k0_dev458 v1) < nD := fun v1 k0_hw1 => k0_hw1.2.2.2.2.2.2.2.2.2.2.2.1
theorem k0_dev459_lt : ∀ (v1 : BitVec 32) (k0_hw1 : k0_chk1 v1), (k0_dev459 v1) < nD := fun v1 k0_hw1 => k0_hw1.2.2.2.2.2.2.2.2.2.2.2.2.1
theorem k0_dev462_lt : ∀ (v1 : BitVec 32) (k0_hw1 : k0_chk1 v1), (k0_dev462 v1) < nD := fun v1 k0_hw1 => k0_hw1.2.2.2.2.2.2.2.2.2.2.2.2.2.1
theorem k0_dev463_lt : ∀ (v1 : BitVec 32) (k0_hw1 : k0_chk1 v1), (k0_dev463 v1) < nD := fun v1 k0_hw1 => k0_hw1.2.2.2.2.2.2.2.2.2.2.2.2.2.2.1
theorem k0_dev466_lt : ∀ (v1 : BitVec 32) (k0_hw1 : k0_chk1 v1), (k0_dev466 v1) < nD := fun v1 k0_hw1 => k0_hw1.2.2.2.2.2.2.2.2.2.2.2.2.2.2.2.1
theorem k0_dev467_lt : ∀ (v1 : BitVec 32) (k0_hw1 : k0_chk1 v1), (k0_dev467 v1) < nD := fun v1 k0_hw1 => k0_hw1.2.2.2.2.2.2.2.2.2.2.2.2.2.2.2.2.1
theorem k0_dev470_lt : ∀ (v1 : BitVec 32) (k0_hw1 : k0_chk1 v1), (k0_dev470 v1) < nD := fun v1 k0_hw1 => k0_hw1.2.2.2.2.2.2.2.2.2.2.2.2.2.2.2.2.2.1
theorem k0_dev471_lt : ∀ (v1 : BitVec 32) (k0_hw1 : k0_chk1 v1), (k0_dev471 v1) < nD := fun v1 k0_hw1 => k0_hw1.2.2.2.2.2.2.2.2.2.2.2.2.2.2.2.2.2.2.1
theorem k0_dev474_lt : ∀ (v1 : BitVec 32) (k0_hw1 : k0_chk1 v1), (k0_dev474 v1) < nD := fun v1 k0_hw1 => k0_hw1.2.2.2.2.2.2.2.2.2.2.2.2.2.2.2.2.2.2.2.1
theorem k0_dev475_lt : ∀ (v1 : BitVec 32) (k0_hw1 : k0_chk1 v1), (k0_dev475 v1) < nD := fun v1 k0_hw1 => k0_hw1.2.2.2.2.2.2.2.2.2.2.2.2.2.2.2.2.2.2.2.2.1
theorem k0_dev477_lt : ∀ (v1 : BitVec 32) (k0_hw1 : k0_chk1 v1), (k0_dev477 v1) < nD := fun v1 k0_hw1 => k0_hw1.2.2.2.2.2.2.2.2.2.2.2.2.2.2.2.2.2.2.2.2.2.1
theorem k0_dev479_lt : ∀ (v1 : BitVec 32) (k0_hw1 : k0_chk1 v1), (k0_dev479 v1) < nD := fun v1 k0_hw1 => k0_hw1.2.2.2.2.2.2.2.2.2.2.2.2.2.2.2.2.2.2.2.2.2.2.1
theorem k0_dev481_lt : ∀ (v1 : BitVec 32) (k0_hw1 : k0_chk1 v1), (k0_dev481 v1) < nD := fun v1 k0_hw1 => k0_hw1.2.2.2.2.2.2.2.2.2.2.2.2.2.2.2.2.2.2.2.2.2.2.2

def k0_dev482 (v2 : BitVec 32) : Nat :=
  let c0_i32_11108 : BitVec 32 := 0#32
  let c1_i32_11107 : BitVec 32 := 1#32
  let v8497 : BitVec 32 := Scalar.muli v2 c1_i32_11107
  let v8498 : BitVec 32 := Scalar.addi c0_i32_11108 v8497
  v8498.toNat

def k0_chk2_0 (v2 : BitVec 32) : Prop :=
  ((k0_dev2 v2) < nD) ∧
  ((k0_dev3 v2) < nD) ∧
  ((k0_dev5 v2) < nD) ∧
  ((k0_dev7 v2) < nD) ∧
  ((k0_dev9 v2) < nD) ∧
  ((k0_dev12 v2) < nD) ∧
  ((k0_dev13 v2) < nD) ∧
  ((k0_dev16 v2) < nD) ∧
  ((k0_dev17 v2) < nD) ∧
  ((k0_dev20 v2) < nD) ∧
  ((k0_dev21 v2) < nD) ∧
  ((k0_dev24 v2) < nD) ∧
  ((k0_dev25 v2) < nD) ∧
  ((k0_dev28 v2) < nD) ∧
  ((k0_dev29 v2) < nD) ∧
  ((k0_dev32 v2) < nD) ∧
  ((k0_dev33 v2) < nD) ∧
  ((k0_dev36 v2) < nD) ∧
  ((k0_dev37 v2) < nD) ∧
  ((k0_dev40 v2) < nD) ∧
  ((k0_dev41 v2) < nD) ∧
  ((k0_dev44 v2) < nD) ∧
  ((k0_dev45 v2) < nD) ∧
  ((k0_dev48 v2) < nD) ∧
  ((k0_dev49 v2) < nD) ∧
  ((k0_dev52 v2) < nD) ∧
  ((k0_dev53 v2) < nD) ∧
  ((k0_dev56 v2) < nD) ∧
  ((k0_dev57 v2) < nD) ∧
  ((k0_dev60 v2) < nD) ∧
  ((k0_dev61 v2) < nD) ∧
  ((k0_dev64 v2) < nD)
def k0_chk2_1 (v2 : BitVec 32) : Prop :=
  ((k0_dev65 v2) < nD) ∧
  ((k0_dev68 v2) < nD) ∧
  ((k0_dev69 v2) < nD) ∧
  ((k0_dev72 v2) < nD) ∧
  ((k0_dev73 v2) < nD) ∧
  ((k0_dev76 v2) < nD) ∧
  ((k0_dev77 v2) < nD) ∧
  ((k0_dev80 v2) < nD) ∧
  ((k0_dev81 v2) < nD) ∧
  ((k0_dev84 v2) < nD) ∧
  ((k0_dev85 v2) < nD) ∧
  ((k0_dev88 v2) < nD) ∧
  ((k0_dev89 v2) < nD) ∧
  ((k0_dev92 v2) < nD) ∧
  ((k0_dev93 v2) < nD) ∧
  ((k0_dev96 v2) < nD) ∧
  ((k0_dev97 v2) < nD) ∧
  ((k0_dev100 v2) < nD) ∧
  ((k0_dev101 v2) < nD) ∧
  ((k0_dev104 v2) < nD) ∧
  ((k0_dev105 v2) < nD) ∧
  ((k0_dev108 v2) < nD) ∧
  ((k0_dev109 v2) < nD) ∧
  ((k0_dev112 v2) < nD) ∧
  ((k0_dev113 v2) < nD) ∧
  ((k0_dev116 v2) < nD) ∧
  ((k0_dev117 v2) < nD) ∧
  ((k0_dev120 v2) < nD) ∧
  ((k0_dev121 v2) < nD) ∧
  ((k0_dev124 v2) < nD) ∧
  ((k0_dev125 v2) < nD) ∧
  ((k0_dev128 v2) < nD)
def k0_chk2_2 (v2 : BitVec 32) : Prop :=
  ((k0_dev129 v2) < nD) ∧
  ((k0_dev132 v2) < nD) ∧
  ((k0_dev133 v2) < nD) ∧
  ((k0_dev136 v2) < nD) ∧
  ((k0_dev137 v2) < nD) ∧
  ((k0_dev140 v2) < nD) ∧
  ((k0_dev141 v2) < nD) ∧
  ((k0_dev144 v2) < nD) ∧
  ((k0_dev145 v2) < nD) ∧
  ((k0_dev148 v2) < nD) ∧
  ((k0_dev149 v2) < nD) ∧
  ((k0_dev152 v2) < nD) ∧
  ((k0_dev153 v2) < nD) ∧
  ((k0_dev156 v2) < nD) ∧
  ((k0_dev157 v2) < nD) ∧
  ((k0_dev160 v2) < nD) ∧
  ((k0_dev161 v2) < nD) ∧
  ((k0_dev164 v2) < nD) ∧
  ((k0_dev165 v2) < nD) ∧
  ((k0_dev168 v2) < nD) ∧
  ((k0_dev169 v2) < nD) ∧
  ((k0_dev172 v2) < nD) ∧
  ((k0_dev173 v2) < nD) ∧
  ((k0_dev176 v2) < nD) ∧
  ((k0_dev177 v2) < nD) ∧
  ((k0_dev180 v2) < nD) ∧
  ((k0_dev181 v2) < nD) ∧
  ((k0_dev184 v2) < nD) ∧
  ((k0_dev185 v2) < nD) ∧
  ((k0_dev188 v2) < nD) ∧
  ((k0_dev189 v2) < nD) ∧
  ((k0_dev192 v2) < nD)
def k0_chk2_3 (v2 : BitVec 32) : Prop :=
  ((k0_dev193 v2) < nD) ∧
  ((k0_dev196 v2) < nD) ∧
  ((k0_dev197 v2) < nD) ∧
  ((k0_dev200 v2) < nD) ∧
  ((k0_dev201 v2) < nD) ∧
  ((k0_dev204 v2) < nD) ∧
  ((k0_dev205 v2) < nD) ∧
  ((k0_dev208 v2) < nD) ∧
  ((k0_dev209 v2) < nD) ∧
  ((k0_dev212 v2) < nD) ∧
  ((k0_dev213 v2) < nD) ∧
  ((k0_dev216 v2) < nD) ∧
  ((k0_dev217 v2) < nD) ∧
  ((k0_dev220 v2) < nD) ∧
  ((k0_dev221 v2) < nD) ∧
  ((k0_dev224 v2) < nD) ∧
  ((k0_dev225 v2) < nD) ∧
  ((k0_dev228 v2) < nD) ∧
  ((k0_dev229 v2) < nD) ∧
  ((k0_dev232 v2) < nD) ∧
  ((k0_dev233 v2) < nD) ∧
  ((k0_dev236 v2) < nD) ∧
  ((k0_dev238 v2) < nD) ∧
  ((k0_dev240 v2) < nD) ∧
  ((k0_dev242 v2) < nD) ∧
  ((k0_dev243 v2) < nD) ∧
  ((k0_dev245 v2) < nD) ∧
  ((k0_dev247 v2) < nD) ∧
  ((k0_dev249 v2) < nD) ∧
  ((k0_dev252 v2) < nD) ∧
  ((k0_dev253 v2) < nD) ∧
  ((k0_dev256 v2) < nD)
def k0_chk2_4 (v2 : BitVec 32) : Prop :=
  ((k0_dev257 v2) < nD) ∧
  ((k0_dev260 v2) < nD) ∧
  ((k0_dev261 v2) < nD) ∧
  ((k0_dev264 v2) < nD) ∧
  ((k0_dev265 v2) < nD) ∧
  ((k0_dev268 v2) < nD) ∧
  ((k0_dev269 v2) < nD) ∧
  ((k0_dev272 v2) < nD) ∧
  ((k0_dev273 v2) < nD) ∧
  ((k0_dev276 v2) < nD) ∧
  ((k0_dev277 v2) < nD) ∧
  ((k0_dev280 v2) < nD) ∧
  ((k0_dev281 v2) < nD) ∧
  ((k0_dev284 v2) < nD) ∧
  ((k0_dev285 v2) < nD) ∧
  ((k0_dev288 v2) < nD) ∧
  ((k0_dev289 v2) < nD) ∧
  ((k0_dev292 v2) < nD) ∧
  ((k0_dev293 v2) < nD) ∧
  ((k0_dev296 v2) < nD) ∧
  ((k0_dev297 v2) < nD) ∧
  ((k0_dev300 v2) < nD) ∧
  ((k0_dev301 v2) < nD) ∧
  ((k0_dev304 v2) < nD) ∧
  ((k0_dev305 v2) < nD) ∧
  ((k0_dev308 v2) < nD) ∧
  ((k0_dev309 v2) < nD) ∧
  ((k0_dev312 v2) < nD) ∧
  ((k0_dev313 v2) < nD) ∧
  ((k0_dev316 v2) < nD) ∧
  ((k0_dev317 v2) < nD) ∧
  ((k0_dev320 v2) < nD)
def k0_chk2_5 (v2 : BitVec 32) : Prop :=
  ((k0_dev321 v2) < nD) ∧
  ((k0_dev324 v2) < nD) ∧
  ((k0_dev325 v2) < nD) ∧
  ((k0_dev328 v2) < nD) ∧
  ((k0_dev329 v2) < nD) ∧
  ((k0_dev332 v2) < nD) ∧
  ((k0_dev333 v2) < nD) ∧
  ((k0_dev336 v2) < nD) ∧
  ((k0_dev337 v2) < nD) ∧
  ((k0_dev340 v2) < nD) ∧
  ((k0_dev341 v2) < nD) ∧
  ((k0_dev344 v2) < nD) ∧
  ((k0_dev345 v2) < nD) ∧
  ((k0_dev348 v2) < nD) ∧
  ((k0_dev349 v2) < nD) ∧
  ((k0_dev352 v2) < nD) ∧
  ((k0_dev353 v2) < nD) ∧
  ((k0_dev356 v2) < nD) ∧
  ((k0_dev357 v2) < nD) ∧
  ((k0_dev360 v2) < nD) ∧
  ((k0_dev361 v2) < nD) ∧
  ((k0_dev364 v2) < nD) ∧
  ((k0_dev365 v2) < nD) ∧
  ((k0_dev368 v2) < nD) ∧
  ((k0_dev369 v2) < nD) ∧
  ((k0_dev372 v2) < nD) ∧
  ((k0_dev373 v2) < nD) ∧
  ((k0_dev376 v2) < nD) ∧
  ((k0_dev377 v2) < nD) ∧
  ((k0_dev380 v2) < nD) ∧
  ((k0_dev381 v2) < nD) ∧
  ((k0_dev384 v2) < nD)
def k0_chk2_6 (v2 : BitVec 32) : Prop :=
  ((k0_dev385 v2) < nD) ∧
  ((k0_dev388 v2) < nD) ∧
  ((k0_dev389 v2) < nD) ∧
  ((k0_dev392 v2) < nD) ∧
  ((k0_dev393 v2) < nD) ∧
  ((k0_dev396 v2) < nD) ∧
  ((k0_dev397 v2) < nD) ∧
  ((k0_dev400 v2) < nD) ∧
  ((k0_dev401 v2) < nD) ∧
  ((k0_dev404 v2) < nD) ∧
  ((k0_dev405 v2) < nD) ∧
  ((k0_dev408 v2) < nD) ∧
  ((k0_dev409 v2) < nD) ∧
  ((k0_dev412 v2) < nD) ∧
  ((k0_dev413 v2) < nD) ∧
  ((k0_dev416 v2) < nD) ∧
  ((k0_dev417 v2) < nD) ∧
  ((k0_dev420 v2) < nD) ∧
  ((k0_dev421 v2) < nD) ∧
  ((k0_dev424 v2) < nD) ∧
  ((k0_dev425 v2) < nD) ∧
  ((k0_dev428 v2) < nD) ∧
  ((k0_dev429 v2) < nD) ∧
  ((k0_dev432 v2) < nD) ∧
  ((k0_dev433 v2) < nD) ∧
  ((k0_dev436 v2) < nD) ∧
  ((k0_dev437 v2) < nD) ∧
  ((k0_dev440 v2) < nD) ∧
  ((k0_dev441 v2) < nD) ∧
  ((k0_dev444 v2) < nD) ∧
  ((k0_dev445 v2) < nD) ∧
  ((k0_dev448 v2) < nD)
def k0_chk2_7 (v2 : BitVec 32) : Prop :=
  ((k0_dev449 v2) < nD) ∧
  ((k0_dev452 v2) < nD) ∧
  ((k0_dev453 v2) < nD) ∧
  ((k0_dev456 v2) < nD) ∧
  ((k0_dev457 v2) < nD) ∧
  ((k0_dev460 v2) < nD) ∧
  ((k0_dev461 v2) < nD) ∧
  ((k0_dev464 v2) < nD) ∧
  ((k0_dev465 v2) < nD) ∧
  ((k0_dev468 v2) < nD) ∧
  ((k0_dev469 v2) < nD) ∧
  ((k0_dev472 v2) < nD) ∧
  ((k0_dev473 v2) < nD) ∧
  ((k0_dev476 v2) < nD) ∧
  ((k0_dev478 v2) < nD) ∧
  ((k0_dev480 v2) < nD) ∧
  ((k0_dev482 v2) < nD)
def k0_chk2 (v2 : BitVec 32) : Prop :=
  k0_chk2_0 v2 ∧
  k0_chk2_1 v2 ∧
  k0_chk2_2 v2 ∧
  k0_chk2_3 v2 ∧
  k0_chk2_4 v2 ∧
  k0_chk2_5 v2 ∧
  k0_chk2_6 v2 ∧
  k0_chk2_7 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev5_lt : ∀ (v2 : BitVec 32) (k0_hw2 : k0_chk2 v2), (k0_dev5 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev9_lt : ∀ (v2 : BitVec 32) (k0_hw2 : k0_chk2 v2), (k0_dev9 v2) < nD := fun v2 k0_hw2 => k0_hw2.1.2.2.2.2.1
theorem k0_dev12_lt : ∀ (v2 : BitVec 32) (k0_hw2 : k0_chk2 v2), (k0_dev12 v2) < nD := fun v2 k0_hw2 => k0_hw2.1.2.2.2.2.2.1
theorem k0_dev13_lt : ∀ (v2 : BitVec 32) (k0_hw2 : k0_chk2 v2), (k0_dev13 v2) < nD := fun v2 k0_hw2 => k0_hw2.1.2.2.2.2.2.2.1
theorem k0_dev16_lt : ∀ (v2 : BitVec 32) (k0_hw2 : k0_chk2 v2), (k0_dev16 v2) < nD := fun v2 k0_hw2 => k0_hw2.1.2.2.2.2.2.2.2.1
theorem k0_dev17_lt : ∀ (v2 : BitVec 32) (k0_hw2 : k0_chk2 v2), (k0_dev17 v2) < nD := fun v2 k0_hw2 => k0_hw2.1.2.2.2.2.2.2.2.2.1
theorem k0_dev20_lt : ∀ (v2 : BitVec 32) (k0_hw2 : k0_chk2 v2), (k0_dev20 v2) < nD := fun v2 k0_hw2 => k0_hw2.1.2.2.2.2.2.2.2.2.2.1
theorem k0_dev21_lt : ∀ (v2 : BitVec 32) (k0_hw2 : k0_chk2 v2), (k0_dev21 v2) < nD := fun v2 k0_hw2 => k0_hw2.1.2.2.2.2.2.2.2.2.2.2.1
theorem k0_dev24_lt : ∀ (v2 : BitVec 32) (k0_hw2 : k0_chk2 v2), (k0_dev24 v2) < nD := fun v2 k0_hw2 => k0_hw2.1.2.2.2.2.2.2.2.2.2.2.2.1
theorem k0_dev25_lt : ∀ (v2 : BitVec 32) (k0_hw2 : k0_chk2 v2), (k0_dev25 v2) < nD := fun v2 k0_hw2 => k0_hw2.1.2.2.2.2.2.2.2.2.2.2.2.2.1
theorem k0_dev28_lt : ∀ (v2 : BitVec 32) (k0_hw2 : k0_chk2 v2), (k0_dev28 v2) < nD := fun v2 k0_hw2 => k0_hw2.1.2.2.2.2.2.2.2.2.2.2.2.2.2.1
theorem k0_dev29_lt : ∀ (v2 : BitVec 32) (k0_hw2 : k0_chk2 v2), (k0_dev29 v2) < nD := fun v2 k0_hw2 => k0_hw2.1.2.2.2.2.2.2.2.2.2.2.2.2.2.2.1
theorem k0_dev32_lt : ∀ (v2 : BitVec 32) (k0_hw2 : k0_chk2 v2), (k0_dev32 v2) < nD := fun v2 k0_hw2 => k0_hw2.1.2.2.2.2.2.2.2.2.2.2.2.2.2.2.2.1
theorem k0_dev33_lt : ∀ (v2 : BitVec 32) (k0_hw2 : k0_chk2 v2), (k0_dev33 v2) < nD := fun v2 k0_hw2 => k0_hw2.1.2.2.2.2.2.2.2.2.2.2.2.2.2.2.2.2.1
theorem k0_dev36_lt : ∀ (v2 : BitVec 32) (k0_hw2 : k0_chk2 v2), (k0_dev36 v2) < nD := fun v2 k0_hw2 => k0_hw2.1.2.2.2.2.2.2.2.2.2.2.2.2.2.2.2.2.2.1
theorem k0_dev37_lt : ∀ (v2 : BitVec 32) (k0_hw2 : k0_chk2 v2), (k0_dev37 v2) < nD := fun v2 k0_hw2 => k0_hw2.1.2.2.2.2.2.2.2.2.2.2.2.2.2.2.2.2.2.2.1
theorem k0_dev40_lt : ∀ (v2 : BitVec 32) (k0_hw2 : k0_chk2 v2), (k0_dev40 v2) < nD := fun v2 k0_hw2 => k0_hw2.1.2.2.2.2.2.2.2.2.2.2.2.2.2.2.2.2.2.2.2.1
theorem k0_dev41_lt : ∀ (v2 : BitVec 32) (k0_hw2 : k0_chk2 v2), (k0_dev41 v2) < nD := fun v2 k0_hw2 => k0_hw2.1.2.2.2.2.2.2.2.2.2.2.2.2.2.2.2.2.2.2.2.2.1
theorem k0_dev44_lt : ∀ (v2 : BitVec 32) (k0_hw2 : k0_chk2 v2), (k0_dev44 v2) < nD := fun v2 k0_hw2 => k0_hw2.1.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.1.2.2.2.2.2.2.2.2.2.2.2.2.2.2.2.2.2.2.2.2.2.2.1
theorem k0_dev48_lt : ∀ (v2 : BitVec 32) (k0_hw2 : k0_chk2 v2), (k0_dev48 v2) < nD := fun v2 k0_hw2 => k0_hw2.1.2.2.2.2.2.2.2.2.2.2.2.2.2.2.2.2.2.2.2.2.2.2.2.1
theorem k0_dev49_lt : ∀ (v2 : BitVec 32) (k0_hw2 : k0_chk2 v2), (k0_dev49 v2) < nD := fun v2 k0_hw2 => k0_hw2.1.2.2.2.2.2.2.2.2.2.2.2.2.2.2.2.2.2.2.2.2.2.2.2.2.1
theorem k0_dev52_lt : ∀ (v2 : BitVec 32) (k0_hw2 : k0_chk2 v2), (k0_dev52 v2) < nD := fun v2 k0_hw2 => k0_hw2.1.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.1.2.2.2.2.2.2.2.2.2.2.2.2.2.2.2.2.2.2.2.2.2.2.2.2.2.2.1
theorem k0_dev56_lt : ∀ (v2 : BitVec 32) (k0_hw2 : k0_chk2 v2), (k0_dev56 v2) < nD := fun v2 k0_hw2 => k0_hw2.1.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.1.2.2.2.2.2.2.2.2.2.2.2.2.2.2.2.2.2.2.2.2.2.2.2.2.2.2.2.2.1
theorem k0_dev60_lt : ∀ (v2 : BitVec 32) (k0_hw2 : k0_chk2 v2), (k0_dev60 v2) < nD := fun v2 k0_hw2 => k0_hw2.1.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.1.2.2.2.2.2.2.2.2.2.2.2.2.2.2.2.2.2.2.2.2.2.2.2.2.2.2.2.2.2.2.1
theorem k0_dev64_lt : ∀ (v2 : BitVec 32) (k0_hw2 : k0_chk2 v2), (k0_dev64 v2) < nD := fun v2 k0_hw2 => k0_hw2.1.2.2.2.2.2.2.2.2.2.2.2.2.2.2.2.2.2.2.2.2.2.2.2.2.2.2.2.2.2.2.2
theorem k0_dev65_lt : ∀ (v2 : BitVec 32) (k0_hw2 : k0_chk2 v2), (k0_dev65 v2) < nD := fun v2 k0_hw2 => k0_hw2.2.1.1
theorem k0_dev68_lt : ∀ (v2 : BitVec 32) (k0_hw2 : k0_chk2 v2), (k0_dev68 v2) < nD := fun v2 k0_hw2 => k0_hw2.2.1.2.1
theorem k0_dev69_lt : ∀ (v2 : BitVec 32) (k0_hw2 : k0_chk2 v2), (k0_dev69 v2) < nD := fun v2 k0_hw2 => k0_hw2.2.1.2.2.1
theorem k0_dev72_lt : ∀ (v2 : BitVec 32) (k0_hw2 : k0_chk2 v2), (k0_dev72 v2) < nD := fun v2 k0_hw2 => k0_hw2.2.1.2.2.2.1
theorem k0_dev73_lt : ∀ (v2 : BitVec 32) (k0_hw2 : k0_chk2 v2), (k0_dev73 v2) < nD := fun v2 k0_hw2 => k0_hw2.2.1.2.2.2.2.1
theorem k0_dev76_lt : ∀ (v2 : BitVec 32) (k0_hw2 : k0_chk2 v2), (k0_dev76 v2) < nD := fun v2 k0_hw2 => k0_hw2.2.1.2.2.2.2.2.1
theorem k0_dev77_lt : ∀ (v2 : BitVec 32) (k0_hw2 : k0_chk2 v2), (k0_dev77 v2) < nD := fun v2 k0_hw2 => k0_hw2.2.1.2.2.2.2.2.2.1
theorem k0_dev80_lt : ∀ (v2 : BitVec 32) (k0_hw2 : k0_chk2 v2), (k0_dev80 v2) < nD := fun v2 k0_hw2 => k0_hw2.2.1.2.2.2.2.2.2.2.1
theorem k0_dev81_lt : ∀ (v2 : BitVec 32) (k0_hw2 : k0_chk2 v2), (k0_dev81 v2) < nD := fun v2 k0_hw2 => k0_hw2.2.1.2.2.2.2.2.2.2.2.1
theorem k0_dev84_lt : ∀ (v2 : BitVec 32) (k0_hw2 : k0_chk2 v2), (k0_dev84 v2) < nD := fun v2 k0_hw2 => k0_hw2.2.1.2.2.2.2.2.2.2.2.2.1
theorem k0_dev85_lt : ∀ (v2 : BitVec 32) (k0_hw2 : k0_chk2 v2), (k0_dev85 v2) < nD := fun v2 k0_hw2 => k0_hw2.2.1.2.2.2.2.2.2.2.2.2.2.1
theorem k0_dev88_lt : ∀ (v2 : BitVec 32) (k0_hw2 : k0_chk2 v2), (k0_dev88 v2) < nD := fun v2 k0_hw2 => k0_hw2.2.1.2.2.2.2.2.2.2.2.2.2.2.1
theorem k0_dev89_lt : ∀ (v2 : BitVec 32) (k0_hw2 : k0_chk2 v2), (k0_dev89 v2) < nD := fun v2 k0_hw2 => k0_hw2.2.1.2.2.2.2.2.2.2.2.2.2.2.2.1
theorem k0_dev92_lt : ∀ (v2 : BitVec 32) (k0_hw2 : k0_chk2 v2), (k0_dev92 v2) < nD := fun v2 k0_hw2 => k0_hw2.2.1.2.2.2.2.2.2.2.2.2.2.2.2.2.1
theorem k0_dev93_lt : ∀ (v2 : BitVec 32) (k0_hw2 : k0_chk2 v2), (k0_dev93 v2) < nD := fun v2 k0_hw2 => k0_hw2.2.1.2.2.2.2.2.2.2.2.2.2.2.2.2.2.1
theorem k0_dev96_lt : ∀ (v2 : BitVec 32) (k0_hw2 : k0_chk2 v2), (k0_dev96 v2) < nD := fun v2 k0_hw2 => k0_hw2.2.1.2.2.2.2.2.2.2.2.2.2.2.2.2.2.2.1
theorem k0_dev97_lt : ∀ (v2 : BitVec 32) (k0_hw2 : k0_chk2 v2), (k0_dev97 v2) < nD := fun v2 k0_hw2 => k0_hw2.2.1.2.2.2.2.2.2.2.2.2.2.2.2.2.2.2.2.1
theorem k0_dev100_lt : ∀ (v2 : BitVec 32) (k0_hw2 : k0_chk2 v2), (k0_dev100 v2) < nD := fun v2 k0_hw2 => k0_hw2.2.1.2.2.2.2.2.2.2.2.2.2.2.2.2.2.2.2.2.1
theorem k0_dev101_lt : ∀ (v2 : BitVec 32) (k0_hw2 : k0_chk2 v2), (k0_dev101 v2) < nD := fun v2 k0_hw2 => k0_hw2.2.1.2.2.2.2.2.2.2.2.2.2.2.2.2.2.2.2.2.2.1
theorem k0_dev104_lt : ∀ (v2 : BitVec 32) (k0_hw2 : k0_chk2 v2), (k0_dev104 v2) < nD := fun v2 k0_hw2 => k0_hw2.2.1.2.2.2.2.2.2.2.2.2.2.2.2.2.2.2.2.2.2.2.1
theorem k0_dev105_lt : ∀ (v2 : BitVec 32) (k0_hw2 : k0_chk2 v2), (k0_dev105 v2) < nD := fun v2 k0_hw2 => k0_hw2.2.1.2.2.2.2.2.2.2.2.2.2.2.2.2.2.2.2.2.2.2.2.1
theorem k0_dev108_lt : ∀ (v2 : BitVec 32) (k0_hw2 : k0_chk2 v2), (k0_dev108 v2) < nD := fun v2 k0_hw2 => k0_hw2.2.1.2.2.2.2.2.2.2.2.2.2.2.2.2.2.2.2.2.2.2.2.2.1
theorem k0_dev109_lt : ∀ (v2 : BitVec 32) (k0_hw2 : k0_chk2 v2), (k0_dev109 v2) < nD := fun v2 k0_hw2 => k0_hw2.2.1.2.2.2.2.2.2.2.2.2.2.2.2.2.2.2.2.2.2.2.2.2.2.1
theorem k0_dev112_lt : ∀ (v2 : BitVec 32) (k0_hw2 : k0_chk2 v2), (k0_dev112 v2) < nD := fun v2 k0_hw2 => k0_hw2.2.1.2.2.2.2.2.2.2.2.2.2.2.2.2.2.2.2.2.2.2.2.2.2.2.1
theorem k0_dev113_lt : ∀ (v2 : BitVec 32) (k0_hw2 : k0_chk2 v2), (k0_dev113 v2) < nD := fun v2 k0_hw2 => k0_hw2.2.1.2.2.2.2.2.2.2.2.2.2.2.2.2.2.2.2.2.2.2.2.2.2.2.2.1
theorem k0_dev116_lt : ∀ (v2 : BitVec 32) (k0_hw2 : k0_chk2 v2), (k0_dev116 v2) < nD := fun v2 k0_hw2 => k0_hw2.2.1.2.2.2.2.2.2.2.2.2.2.2.2.2.2.2.2.2.2.2.2.2.2.2.2.2.1
theorem k0_dev117_lt : ∀ (v2 : BitVec 32) (k0_hw2 : k0_chk2 v2), (k0_dev117 v2) < nD := fun v2 k0_hw2 => k0_hw2.2.1.2.2.2.2.2.2.2.2.2.2.2.2.2.2.2.2.2.2.2.2.2.2.2.2.2.2.1
theorem k0_dev120_lt : ∀ (v2 : BitVec 32) (k0_hw2 : k0_chk2 v2), (k0_dev120 v2) < nD := fun v2 k0_hw2 => k0_hw2.2.1.2.2.2.2.2.2.2.2.2.2.2.2.2.2.2.2.2.2.2.2.2.2.2.2.2.2.2.1
theorem k0_dev121_lt : ∀ (v2 : BitVec 32) (k0_hw2 : k0_chk2 v2), (k0_dev121 v2) < nD := fun v2 k0_hw2 => k0_hw2.2.1.2.2.2.2.2.2.2.2.2.2.2.2.2.2.2.2.2.2.2.2.2.2.2.2.2.2.2.2.1
theorem k0_dev124_lt : ∀ (v2 : BitVec 32) (k0_hw2 : k0_chk2 v2), (k0_dev124 v2) < nD := fun v2 k0_hw2 => k0_hw2.2.1.2.2.2.2.2.2.2.2.2.2.2.2.2.2.2.2.2.2.2.2.2.2.2.2.2.2.2.2.2.1
theorem k0_dev125_lt : ∀ (v2 : BitVec 32) (k0_hw2 : k0_chk2 v2), (k0_dev125 v2) < nD := fun v2 k0_hw2 => k0_hw2.2.1.2.2.2.2.2.2.2.2.2.2.2.2.2.2.2.2.2.2.2.2.2.2.2.2.2.2.2.2.2.2.1
theorem k0_dev128_lt : ∀ (v2 : BitVec 32) (k0_hw2 : k0_chk2 v2), (k0_dev128 v2) < nD := fun v2 k0_hw2 => k0_hw2.2.1.2.2.2.2.2.2.2.2.2.2.2.2.2.2.2.2.2.2.2.2.2.2.2.2.2.2.2.2.2.2.2
theorem k0_dev129_lt : ∀ (v2 : BitVec 32) (k0_hw2 : k0_chk2 v2), (k0_dev129 v2) < nD := fun v2 k0_hw2 => k0_hw2.2.2.1.1
theorem k0_dev132_lt : ∀ (v2 : BitVec 32) (k0_hw2 : k0_chk2 v2), (k0_dev132 v2) < nD := fun v2 k0_hw2 => k0_hw2.2.2.1.2.1
theorem k0_dev133_lt : ∀ (v2 : BitVec 32) (k0_hw2 : k0_chk2 v2), (k0_dev133 v2) < nD := fun v2 k0_hw2 => k0_hw2.2.2.1.2.2.1
theorem k0_dev136_lt : ∀ (v2 : BitVec 32) (k0_hw2 : k0_chk2 v2), (k0_dev136 v2) < nD := fun v2 k0_hw2 => k0_hw2.2.2.1.2.2.2.1
theorem k0_dev137_lt : ∀ (v2 : BitVec 32) (k0_hw2 : k0_chk2 v2), (k0_dev137 v2) < nD := fun v2 k0_hw2 => k0_hw2.2.2.1.2.2.2.2.1
theorem k0_dev140_lt : ∀ (v2 : BitVec 32) (k0_hw2 : k0_chk2 v2), (k0_dev140 v2) < nD := fun v2 k0_hw2 => k0_hw2.2.2.1.2.2.2.2.2.1
theorem k0_dev141_lt : ∀ (v2 : BitVec 32) (k0_hw2 : k0_chk2 v2), (k0_dev141 v2) < nD := fun v2 k0_hw2 => k0_hw2.2.2.1.2.2.2.2.2.2.1
theorem k0_dev144_lt : ∀ (v2 : BitVec 32) (k0_hw2 : k0_chk2 v2), (k0_dev144 v2) < nD := fun v2 k0_hw2 => k0_hw2.2.2.1.2.2.2.2.2.2.2.1
theorem k0_dev145_lt : ∀ (v2 : BitVec 32) (k0_hw2 : k0_chk2 v2), (k0_dev145 v2) < nD := fun v2 k0_hw2 => k0_hw2.2.2.1.2.2.2.2.2.2.2.2.1
theorem k0_dev148_lt : ∀ (v2 : BitVec 32) (k0_hw2 : k0_chk2 v2), (k0_dev148 v2) < nD := fun v2 k0_hw2 => k0_hw2.2.2.1.2.2.2.2.2.2.2.2.2.1
theorem k0_dev149_lt : ∀ (v2 : BitVec 32) (k0_hw2 : k0_chk2 v2), (k0_dev149 v2) < nD := fun v2 k0_hw2 => k0_hw2.2.2.1.2.2.2.2.2.2.2.2.2.2.1
theorem k0_dev152_lt : ∀ (v2 : BitVec 32) (k0_hw2 : k0_chk2 v2), (k0_dev152 v2) < nD := fun v2 k0_hw2 => k0_hw2.2.2.1.2.2.2.2.2.2.2.2.2.2.2.1
theorem k0_dev153_lt : ∀ (v2 : BitVec 32) (k0_hw2 : k0_chk2 v2), (k0_dev153 v2) < nD := fun v2 k0_hw2 => k0_hw2.2.2.1.2.2.2.2.2.2.2.2.2.2.2.2.1
theorem k0_dev156_lt : ∀ (v2 : BitVec 32) (k0_hw2 : k0_chk2 v2), (k0_dev156 v2) < nD := fun v2 k0_hw2 => k0_hw2.2.2.1.2.2.2.2.2.2.2.2.2.2.2.2.2.1
theorem k0_dev157_lt : ∀ (v2 : BitVec 32) (k0_hw2 : k0_chk2 v2), (k0_dev157 v2) < nD := fun v2 k0_hw2 => k0_hw2.2.2.1.2.2.2.2.2.2.2.2.2.2.2.2.2.2.1
theorem k0_dev160_lt : ∀ (v2 : BitVec 32) (k0_hw2 : k0_chk2 v2), (k0_dev160 v2) < nD := fun v2 k0_hw2 => k0_hw2.2.2.1.2.2.2.2.2.2.2.2.2.2.2.2.2.2.2.1
theorem k0_dev161_lt : ∀ (v2 : BitVec 32) (k0_hw2 : k0_chk2 v2), (k0_dev161 v2) < nD := fun v2 k0_hw2 => k0_hw2.2.2.1.2.2.2.2.2.2.2.2.2.2.2.2.2.2.2.2.1
theorem k0_dev164_lt : ∀ (v2 : BitVec 32) (k0_hw2 : k0_chk2 v2), (k0_dev164 v2) < nD := fun v2 k0_hw2 => k0_hw2.2.2.1.2.2.2.2.2.2.2.2.2.2.2.2.2.2.2.2.2.1
theorem k0_dev165_lt : ∀ (v2 : BitVec 32) (k0_hw2 : k0_chk2 v2), (k0_dev165 v2) < nD := fun v2 k0_hw2 => k0_hw2.2.2.1.2.2.2.2.2.2.2.2.2.2.2.2.2.2.2.2.2.2.1
theorem k0_dev168_lt : ∀ (v2 : BitVec 32) (k0_hw2 : k0_chk2 v2), (k0_dev168 v2) < nD := fun v2 k0_hw2 => k0_hw2.2.2.1.2.2.2.2.2.2.2.2.2.2.2.2.2.2.2.2.2.2.2.1
theorem k0_dev169_lt : ∀ (v2 : BitVec 32) (k0_hw2 : k0_chk2 v2), (k0_dev169 v2) < nD := fun v2 k0_hw2 => k0_hw2.2.2.1.2.2.2.2.2.2.2.2.2.2.2.2.2.2.2.2.2.2.2.2.1
theorem k0_dev172_lt : ∀ (v2 : BitVec 32) (k0_hw2 : k0_chk2 v2), (k0_dev172 v2) < nD := fun v2 k0_hw2 => k0_hw2.2.2.1.2.2.2.2.2.2.2.2.2.2.2.2.2.2.2.2.2.2.2.2.2.1
theorem k0_dev173_lt : ∀ (v2 : BitVec 32) (k0_hw2 : k0_chk2 v2), (k0_dev173 v2) < nD := fun v2 k0_hw2 => k0_hw2.2.2.1.2.2.2.2.2.2.2.2.2.2.2.2.2.2.2.2.2.2.2.2.2.2.1
theorem k0_dev176_lt : ∀ (v2 : BitVec 32) (k0_hw2 : k0_chk2 v2), (k0_dev176 v2) < nD := fun v2 k0_hw2 => k0_hw2.2.2.1.2.2.2.2.2.2.2.2.2.2.2.2.2.2.2.2.2.2.2.2.2.2.2.1
theorem k0_dev177_lt : ∀ (v2 : BitVec 32) (k0_hw2 : k0_chk2 v2), (k0_dev177 v2) < nD := fun v2 k0_hw2 => k0_hw2.2.2.1.2.2.2.2.2.2.2.2.2.2.2.2.2.2.2.2.2.2.2.2.2.2.2.2.1
theorem k0_dev180_lt : ∀ (v2 : BitVec 32) (k0_hw2 : k0_chk2 v2), (k0_dev180 v2) < nD := fun v2 k0_hw2 => k0_hw2.2.2.1.2.2.2.2.2.2.2.2.2.2.2.2.2.2.2.2.2.2.2.2.2.2.2.2.2.1
theorem k0_dev181_lt : ∀ (v2 : BitVec 32) (k0_hw2 : k0_chk2 v2), (k0_dev181 v2) < nD := fun v2 k0_hw2 => k0_hw2.2.2.1.2.2.2.2.2.2.2.2.2.2.2.2.2.2.2.2.2.2.2.2.2.2.2.2.2.2.1
theorem k0_dev184_lt : ∀ (v2 : BitVec 32) (k0_hw2 : k0_chk2 v2), (k0_dev184 v2) < nD := fun v2 k0_hw2 => k0_hw2.2.2.1.2.2.2.2.2.2.2.2.2.2.2.2.2.2.2.2.2.2.2.2.2.2.2.2.2.2.2.1
theorem k0_dev185_lt : ∀ (v2 : BitVec 32) (k0_hw2 : k0_chk2 v2), (k0_dev185 v2) < nD := fun v2 k0_hw2 => k0_hw2.2.2.1.2.2.2.2.2.2.2.2.2.2.2.2.2.2.2.2.2.2.2.2.2.2.2.2.2.2.2.2.1
theorem k0_dev188_lt : ∀ (v2 : BitVec 32) (k0_hw2 : k0_chk2 v2), (k0_dev188 v2) < nD := fun v2 k0_hw2 => k0_hw2.2.2.1.2.2.2.2.2.2.2.2.2.2.2.2.2.2.2.2.2.2.2.2.2.2.2.2.2.2.2.2.2.1
theorem k0_dev189_lt : ∀ (v2 : BitVec 32) (k0_hw2 : k0_chk2 v2), (k0_dev189 v2) < nD := fun v2 k0_hw2 => k0_hw2.2.2.1.2.2.2.2.2.2.2.2.2.2.2.2.2.2.2.2.2.2.2.2.2.2.2.2.2.2.2.2.2.2.1
theorem k0_dev192_lt : ∀ (v2 : BitVec 32) (k0_hw2 : k0_chk2 v2), (k0_dev192 v2) < nD := fun v2 k0_hw2 => k0_hw2.2.2.1.2.2.2.2.2.2.2.2.2.2.2.2.2.2.2.2.2.2.2.2.2.2.2.2.2.2.2.2.2.2.2
theorem k0_dev193_lt : ∀ (v2 : BitVec 32) (k0_hw2 : k0_chk2 v2), (k0_dev193 v2) < nD := fun v2 k0_hw2 => k0_hw2.2.2.2.1.1
theorem k0_dev196_lt : ∀ (v2 : BitVec 32) (k0_hw2 : k0_chk2 v2), (k0_dev196 v2) < nD := fun v2 k0_hw2 => k0_hw2.2.2.2.1.2.1
theorem k0_dev197_lt : ∀ (v2 : BitVec 32) (k0_hw2 : k0_chk2 v2), (k0_dev197 v2) < nD := fun v2 k0_hw2 => k0_hw2.2.2.2.1.2.2.1
theorem k0_dev200_lt : ∀ (v2 : BitVec 32) (k0_hw2 : k0_chk2 v2), (k0_dev200 v2) < nD := fun v2 k0_hw2 => k0_hw2.2.2.2.1.2.2.2.1
theorem k0_dev201_lt : ∀ (v2 : BitVec 32) (k0_hw2 : k0_chk2 v2), (k0_dev201 v2) < nD := fun v2 k0_hw2 => k0_hw2.2.2.2.1.2.2.2.2.1
theorem k0_dev204_lt : ∀ (v2 : BitVec 32) (k0_hw2 : k0_chk2 v2), (k0_dev204 v2) < nD := fun v2 k0_hw2 => k0_hw2.2.2.2.1.2.2.2.2.2.1
theorem k0_dev205_lt : ∀ (v2 : BitVec 32) (k0_hw2 : k0_chk2 v2), (k0_dev205 v2) < nD := fun v2 k0_hw2 => k0_hw2.2.2.2.1.2.2.2.2.2.2.1
theorem k0_dev208_lt : ∀ (v2 : BitVec 32) (k0_hw2 : k0_chk2 v2), (k0_dev208 v2) < nD := fun v2 k0_hw2 => k0_hw2.2.2.2.1.2.2.2.2.2.2.2.1
theorem k0_dev209_lt : ∀ (v2 : BitVec 32) (k0_hw2 : k0_chk2 v2), (k0_dev209 v2) < nD := fun v2 k0_hw2 => k0_hw2.2.2.2.1.2.2.2.2.2.2.2.2.1
theorem k0_dev212_lt : ∀ (v2 : BitVec 32) (k0_hw2 : k0_chk2 v2), (k0_dev212 v2) < nD := fun v2 k0_hw2 => k0_hw2.2.2.2.1.2.2.2.2.2.2.2.2.2.1
theorem k0_dev213_lt : ∀ (v2 : BitVec 32) (k0_hw2 : k0_chk2 v2), (k0_dev213 v2) < nD := fun v2 k0_hw2 => k0_hw2.2.2.2.1.2.2.2.2.2.2.2.2.2.2.1
theorem k0_dev216_lt : ∀ (v2 : BitVec 32) (k0_hw2 : k0_chk2 v2), (k0_dev216 v2) < nD := fun v2 k0_hw2 => k0_hw2.2.2.2.1.2.2.2.2.2.2.2.2.2.2.2.1
theorem k0_dev217_lt : ∀ (v2 : BitVec 32) (k0_hw2 : k0_chk2 v2), (k0_dev217 v2) < nD := fun v2 k0_hw2 => k0_hw2.2.2.2.1.2.2.2.2.2.2.2.2.2.2.2.2.1
theorem k0_dev220_lt : ∀ (v2 : BitVec 32) (k0_hw2 : k0_chk2 v2), (k0_dev220 v2) < nD := fun v2 k0_hw2 => k0_hw2.2.2.2.1.2.2.2.2.2.2.2.2.2.2.2.2.2.1
theorem k0_dev221_lt : ∀ (v2 : BitVec 32) (k0_hw2 : k0_chk2 v2), (k0_dev221 v2) < nD := fun v2 k0_hw2 => k0_hw2.2.2.2.1.2.2.2.2.2.2.2.2.2.2.2.2.2.2.1
theorem k0_dev224_lt : ∀ (v2 : BitVec 32) (k0_hw2 : k0_chk2 v2), (k0_dev224 v2) < nD := fun v2 k0_hw2 => k0_hw2.2.2.2.1.2.2.2.2.2.2.2.2.2.2.2.2.2.2.2.1
theorem k0_dev225_lt : ∀ (v2 : BitVec 32) (k0_hw2 : k0_chk2 v2), (k0_dev225 v2) < nD := fun v2 k0_hw2 => k0_hw2.2.2.2.1.2.2.2.2.2.2.2.2.2.2.2.2.2.2.2.2.1
theorem k0_dev228_lt : ∀ (v2 : BitVec 32) (k0_hw2 : k0_chk2 v2), (k0_dev228 v2) < nD := fun v2 k0_hw2 => k0_hw2.2.2.2.1.2.2.2.2.2.2.2.2.2.2.2.2.2.2.2.2.2.1
theorem k0_dev229_lt : ∀ (v2 : BitVec 32) (k0_hw2 : k0_chk2 v2), (k0_dev229 v2) < nD := fun v2 k0_hw2 => k0_hw2.2.2.2.1.2.2.2.2.2.2.2.2.2.2.2.2.2.2.2.2.2.2.1
theorem k0_dev232_lt : ∀ (v2 : BitVec 32) (k0_hw2 : k0_chk2 v2), (k0_dev232 v2) < nD := fun v2 k0_hw2 => k0_hw2.2.2.2.1.2.2.2.2.2.2.2.2.2.2.2.2.2.2.2.2.2.2.2.1
theorem k0_dev233_lt : ∀ (v2 : BitVec 32) (k0_hw2 : k0_chk2 v2), (k0_dev233 v2) < nD := fun v2 k0_hw2 => k0_hw2.2.2.2.1.2.2.2.2.2.2.2.2.2.2.2.2.2.2.2.2.2.2.2.2.1
theorem k0_dev236_lt : ∀ (v2 : BitVec 32) (k0_hw2 : k0_chk2 v2), (k0_dev236 v2) < nD := fun v2 k0_hw2 => k0_hw2.2.2.2.1.2.2.2.2.2.2.2.2.2.2.2.2.2.2.2.2.2.2.2.2.2.1
theorem k0_dev238_lt : ∀ (v2 : BitVec 32) (k0_hw2 : k0_chk2 v2), (k0_dev238 v2) < nD := fun v2 k0_hw2 => k0_hw2.2.2.2.1.2.2.2.2.2.2.2.2.2.2.2.2.2.2.2.2.2.2.2.2.2.2.1
theorem k0_dev240_lt : ∀ (v2 : BitVec 32) (k0_hw2 : k0_chk2 v2), (k0_dev240 v2) < nD := fun v2 k0_hw2 => k0_hw2.2.2.2.1.2.2.2.2.2.2.2.2.2.2.2.2.2.2.2.2.2.2.2.2.2.2.2.1
theorem k0_dev242_lt : ∀ (v2 : BitVec 32) (k0_hw2 : k0_chk2 v2), (k0_dev242 v2) < nD := fun v2 k0_hw2 => k0_hw2.2.2.2.1.2.2.2.2.2.2.2.2.2.2.2.2.2.2.2.2.2.2.2.2.2.2.2.2.1
theorem k0_dev243_lt : ∀ (v2 : BitVec 32) (k0_hw2 : k0_chk2 v2), (k0_dev243 v2) < nD := fun v2 k0_hw2 => k0_hw2.2.2.2.1.2.2.2.2.2.2.2.2.2.2.2.2.2.2.2.2.2.2.2.2.2.2.2.2.2.1
theorem k0_dev245_lt : ∀ (v2 : BitVec 32) (k0_hw2 : k0_chk2 v2), (k0_dev245 v2) < nD := fun v2 k0_hw2 => k0_hw2.2.2.2.1.2.2.2.2.2.2.2.2.2.2.2.2.2.2.2.2.2.2.2.2.2.2.2.2.2.2.1
theorem k0_dev247_lt : ∀ (v2 : BitVec 32) (k0_hw2 : k0_chk2 v2), (k0_dev247 v2) < nD := fun v2 k0_hw2 => k0_hw2.2.2.2.1.2.2.2.2.2.2.2.2.2.2.2.2.2.2.2.2.2.2.2.2.2.2.2.2.2.2.2.1
theorem k0_dev249_lt : ∀ (v2 : BitVec 32) (k0_hw2 : k0_chk2 v2), (k0_dev249 v2) < nD := fun v2 k0_hw2 => k0_hw2.2.2.2.1.2.2.2.2.2.2.2.2.2.2.2.2.2.2.2.2.2.2.2.2.2.2.2.2.2.2.2.2.1
theorem k0_dev252_lt : ∀ (v2 : BitVec 32) (k0_hw2 : k0_chk2 v2), (k0_dev252 v2) < nD := fun v2 k0_hw2 => k0_hw2.2.2.2.1.2.2.2.2.2.2.2.2.2.2.2.2.2.2.2.2.2.2.2.2.2.2.2.2.2.2.2.2.2.1
theorem k0_dev253_lt : ∀ (v2 : BitVec 32) (k0_hw2 : k0_chk2 v2), (k0_dev253 v2) < nD := fun v2 k0_hw2 => k0_hw2.2.2.2.1.2.2.2.2.2.2.2.2.2.2.2.2.2.2.2.2.2.2.2.2.2.2.2.2.2.2.2.2.2.2.1
theorem k0_dev256_lt : ∀ (v2 : BitVec 32) (k0_hw2 : k0_chk2 v2), (k0_dev256 v2) < nD := fun v2 k0_hw2 => k0_hw2.2.2.2.1.2.2.2.2.2.2.2.2.2.2.2.2.2.2.2.2.2.2.2.2.2.2.2.2.2.2.2.2.2.2.2
theorem k0_dev257_lt : ∀ (v2 : BitVec 32) (k0_hw2 : k0_chk2 v2), (k0_dev257 v2) < nD := fun v2 k0_hw2 => k0_hw2.2.2.2.2.1.1
theorem k0_dev260_lt : ∀ (v2 : BitVec 32) (k0_hw2 : k0_chk2 v2), (k0_dev260 v2) < nD := fun v2 k0_hw2 => k0_hw2.2.2.2.2.1.2.1
theorem k0_dev261_lt : ∀ (v2 : BitVec 32) (k0_hw2 : k0_chk2 v2), (k0_dev261 v2) < nD := fun v2 k0_hw2 => k0_hw2.2.2.2.2.1.2.2.1
theorem k0_dev264_lt : ∀ (v2 : BitVec 32) (k0_hw2 : k0_chk2 v2), (k0_dev264 v2) < nD := fun v2 k0_hw2 => k0_hw2.2.2.2.2.1.2.2.2.1
theorem k0_dev265_lt : ∀ (v2 : BitVec 32) (k0_hw2 : k0_chk2 v2), (k0_dev265 v2) < nD := fun v2 k0_hw2 => k0_hw2.2.2.2.2.1.2.2.2.2.1
theorem k0_dev268_lt : ∀ (v2 : BitVec 32) (k0_hw2 : k0_chk2 v2), (k0_dev268 v2) < nD := fun v2 k0_hw2 => k0_hw2.2.2.2.2.1.2.2.2.2.2.1
theorem k0_dev269_lt : ∀ (v2 : BitVec 32) (k0_hw2 : k0_chk2 v2), (k0_dev269 v2) < nD := fun v2 k0_hw2 => k0_hw2.2.2.2.2.1.2.2.2.2.2.2.1
theorem k0_dev272_lt : ∀ (v2 : BitVec 32) (k0_hw2 : k0_chk2 v2), (k0_dev272 v2) < nD := fun v2 k0_hw2 => k0_hw2.2.2.2.2.1.2.2.2.2.2.2.2.1
theorem k0_dev273_lt : ∀ (v2 : BitVec 32) (k0_hw2 : k0_chk2 v2), (k0_dev273 v2) < nD := fun v2 k0_hw2 => k0_hw2.2.2.2.2.1.2.2.2.2.2.2.2.2.1
theorem k0_dev276_lt : ∀ (v2 : BitVec 32) (k0_hw2 : k0_chk2 v2), (k0_dev276 v2) < nD := fun v2 k0_hw2 => k0_hw2.2.2.2.2.1.2.2.2.2.2.2.2.2.2.1
theorem k0_dev277_lt : ∀ (v2 : BitVec 32) (k0_hw2 : k0_chk2 v2), (k0_dev277 v2) < nD := fun v2 k0_hw2 => k0_hw2.2.2.2.2.1.2.2.2.2.2.2.2.2.2.2.1
theorem k0_dev280_lt : ∀ (v2 : BitVec 32) (k0_hw2 : k0_chk2 v2), (k0_dev280 v2) < nD := fun v2 k0_hw2 => k0_hw2.2.2.2.2.1.2.2.2.2.2.2.2.2.2.2.2.1
theorem k0_dev281_lt : ∀ (v2 : BitVec 32) (k0_hw2 : k0_chk2 v2), (k0_dev281 v2) < nD := fun v2 k0_hw2 => k0_hw2.2.2.2.2.1.2.2.2.2.2.2.2.2.2.2.2.2.1
theorem k0_dev284_lt : ∀ (v2 : BitVec 32) (k0_hw2 : k0_chk2 v2), (k0_dev284 v2) < nD := fun v2 k0_hw2 => k0_hw2.2.2.2.2.1.2.2.2.2.2.2.2.2.2.2.2.2.2.1
theorem k0_dev285_lt : ∀ (v2 : BitVec 32) (k0_hw2 : k0_chk2 v2), (k0_dev285 v2) < nD := fun v2 k0_hw2 => k0_hw2.2.2.2.2.1.2.2.2.2.2.2.2.2.2.2.2.2.2.2.1
theorem k0_dev288_lt : ∀ (v2 : BitVec 32) (k0_hw2 : k0_chk2 v2), (k0_dev288 v2) < nD := fun v2 k0_hw2 => k0_hw2.2.2.2.2.1.2.2.2.2.2.2.2.2.2.2.2.2.2.2.2.1
theorem k0_dev289_lt : ∀ (v2 : BitVec 32) (k0_hw2 : k0_chk2 v2), (k0_dev289 v2) < nD := fun v2 k0_hw2 => k0_hw2.2.2.2.2.1.2.2.2.2.2.2.2.2.2.2.2.2.2.2.2.2.1
theorem k0_dev292_lt : ∀ (v2 : BitVec 32) (k0_hw2 : k0_chk2 v2), (k0_dev292 v2) < nD := fun v2 k0_hw2 => k0_hw2.2.2.2.2.1.2.2.2.2.2.2.2.2.2.2.2.2.2.2.2.2.2.1
theorem k0_dev293_lt : ∀ (v2 : BitVec 32) (k0_hw2 : k0_chk2 v2), (k0_dev293 v2) < nD := fun v2 k0_hw2 => k0_hw2.2.2.2.2.1.2.2.2.2.2.2.2.2.2.2.2.2.2.2.2.2.2.2.1
theorem k0_dev296_lt : ∀ (v2 : BitVec 32) (k0_hw2 : k0_chk2 v2), (k0_dev296 v2) < nD := fun v2 k0_hw2 => k0_hw2.2.2.2.2.1.2.2.2.2.2.2.2.2.2.2.2.2.2.2.2.2.2.2.2.1
theorem k0_dev297_lt : ∀ (v2 : BitVec 32) (k0_hw2 : k0_chk2 v2), (k0_dev297 v2) < nD := fun v2 k0_hw2 => k0_hw2.2.2.2.2.1.2.2.2.2.2.2.2.2.2.2.2.2.2.2.2.2.2.2.2.2.1
theorem k0_dev300_lt : ∀ (v2 : BitVec 32) (k0_hw2 : k0_chk2 v2), (k0_dev300 v2) < nD := fun v2 k0_hw2 => k0_hw2.2.2.2.2.1.2.2.2.2.2.2.2.2.2.2.2.2.2.2.2.2.2.2.2.2.2.1
theorem k0_dev301_lt : ∀ (v2 : BitVec 32) (k0_hw2 : k0_chk2 v2), (k0_dev301 v2) < nD := fun v2 k0_hw2 => k0_hw2.2.2.2.2.1.2.2.2.2.2.2.2.2.2.2.2.2.2.2.2.2.2.2.2.2.2.2.1
theorem k0_dev304_lt : ∀ (v2 : BitVec 32) (k0_hw2 : k0_chk2 v2), (k0_dev304 v2) < nD := fun v2 k0_hw2 => k0_hw2.2.2.2.2.1.2.2.2.2.2.2.2.2.2.2.2.2.2.2.2.2.2.2.2.2.2.2.2.1
theorem k0_dev305_lt : ∀ (v2 : BitVec 32) (k0_hw2 : k0_chk2 v2), (k0_dev305 v2) < nD := fun v2 k0_hw2 => k0_hw2.2.2.2.2.1.2.2.2.2.2.2.2.2.2.2.2.2.2.2.2.2.2.2.2.2.2.2.2.2.1
theorem k0_dev308_lt : ∀ (v2 : BitVec 32) (k0_hw2 : k0_chk2 v2), (k0_dev308 v2) < nD := fun v2 k0_hw2 => k0_hw2.2.2.2.2.1.2.2.2.2.2.2.2.2.2.2.2.2.2.2.2.2.2.2.2.2.2.2.2.2.2.1
theorem k0_dev309_lt : ∀ (v2 : BitVec 32) (k0_hw2 : k0_chk2 v2), (k0_dev309 v2) < nD := fun v2 k0_hw2 => k0_hw2.2.2.2.2.1.2.2.2.2.2.2.2.2.2.2.2.2.2.2.2.2.2.2.2.2.2.2.2.2.2.2.1
theorem k0_dev312_lt : ∀ (v2 : BitVec 32) (k0_hw2 : k0_chk2 v2), (k0_dev312 v2) < nD := fun v2 k0_hw2 => k0_hw2.2.2.2.2.1.2.2.2.2.2.2.2.2.2.2.2.2.2.2.2.2.2.2.2.2.2.2.2.2.2.2.2.1
theorem k0_dev313_lt : ∀ (v2 : BitVec 32) (k0_hw2 : k0_chk2 v2), (k0_dev313 v2) < nD := fun v2 k0_hw2 => k0_hw2.2.2.2.2.1.2.2.2.2.2.2.2.2.2.2.2.2.2.2.2.2.2.2.2.2.2.2.2.2.2.2.2.2.1
theorem k0_dev316_lt : ∀ (v2 : BitVec 32) (k0_hw2 : k0_chk2 v2), (k0_dev316 v2) < nD := fun v2 k0_hw2 => k0_hw2.2.2.2.2.1.2.2.2.2.2.2.2.2.2.2.2.2.2.2.2.2.2.2.2.2.2.2.2.2.2.2.2.2.2.1
theorem k0_dev317_lt : ∀ (v2 : BitVec 32) (k0_hw2 : k0_chk2 v2), (k0_dev317 v2) < nD := fun v2 k0_hw2 => k0_hw2.2.2.2.2.1.2.2.2.2.2.2.2.2.2.2.2.2.2.2.2.2.2.2.2.2.2.2.2.2.2.2.2.2.2.2.1
theorem k0_dev320_lt : ∀ (v2 : BitVec 32) (k0_hw2 : k0_chk2 v2), (k0_dev320 v2) < nD := fun v2 k0_hw2 => k0_hw2.2.2.2.2.1.2.2.2.2.2.2.2.2.2.2.2.2.2.2.2.2.2.2.2.2.2.2.2.2.2.2.2.2.2.2.2
theorem k0_dev321_lt : ∀ (v2 : BitVec 32) (k0_hw2 : k0_chk2 v2), (k0_dev321 v2) < nD := fun v2 k0_hw2 => k0_hw2.2.2.2.2.2.1.1
theorem k0_dev324_lt : ∀ (v2 : BitVec 32) (k0_hw2 : k0_chk2 v2), (k0_dev324 v2) < nD := fun v2 k0_hw2 => k0_hw2.2.2.2.2.2.1.2.1
theorem k0_dev325_lt : ∀ (v2 : BitVec 32) (k0_hw2 : k0_chk2 v2), (k0_dev325 v2) < nD := fun v2 k0_hw2 => k0_hw2.2.2.2.2.2.1.2.2.1
theorem k0_dev328_lt : ∀ (v2 : BitVec 32) (k0_hw2 : k0_chk2 v2), (k0_dev328 v2) < nD := fun v2 k0_hw2 => k0_hw2.2.2.2.2.2.1.2.2.2.1
theorem k0_dev329_lt : ∀ (v2 : BitVec 32) (k0_hw2 : k0_chk2 v2), (k0_dev329 v2) < nD := fun v2 k0_hw2 => k0_hw2.2.2.2.2.2.1.2.2.2.2.1
theorem k0_dev332_lt : ∀ (v2 : BitVec 32) (k0_hw2 : k0_chk2 v2), (k0_dev332 v2) < nD := fun v2 k0_hw2 => k0_hw2.2.2.2.2.2.1.2.2.2.2.2.1
theorem k0_dev333_lt : ∀ (v2 : BitVec 32) (k0_hw2 : k0_chk2 v2), (k0_dev333 v2) < nD := fun v2 k0_hw2 => k0_hw2.2.2.2.2.2.1.2.2.2.2.2.2.1
theorem k0_dev336_lt : ∀ (v2 : BitVec 32) (k0_hw2 : k0_chk2 v2), (k0_dev336 v2) < nD := fun v2 k0_hw2 => k0_hw2.2.2.2.2.2.1.2.2.2.2.2.2.2.1
theorem k0_dev337_lt : ∀ (v2 : BitVec 32) (k0_hw2 : k0_chk2 v2), (k0_dev337 v2) < nD := fun v2 k0_hw2 => k0_hw2.2.2.2.2.2.1.2.2.2.2.2.2.2.2.1
theorem k0_dev340_lt : ∀ (v2 : BitVec 32) (k0_hw2 : k0_chk2 v2), (k0_dev340 v2) < nD := fun v2 k0_hw2 => k0_hw2.2.2.2.2.2.1.2.2.2.2.2.2.2.2.2.1
theorem k0_dev341_lt : ∀ (v2 : BitVec 32) (k0_hw2 : k0_chk2 v2), (k0_dev341 v2) < nD := fun v2 k0_hw2 => k0_hw2.2.2.2.2.2.1.2.2.2.2.2.2.2.2.2.2.1
theorem k0_dev344_lt : ∀ (v2 : BitVec 32) (k0_hw2 : k0_chk2 v2), (k0_dev344 v2) < nD := fun v2 k0_hw2 => k0_hw2.2.2.2.2.2.1.2.2.2.2.2.2.2.2.2.2.2.1
theorem k0_dev345_lt : ∀ (v2 : BitVec 32) (k0_hw2 : k0_chk2 v2), (k0_dev345 v2) < nD := fun v2 k0_hw2 => k0_hw2.2.2.2.2.2.1.2.2.2.2.2.2.2.2.2.2.2.2.1
theorem k0_dev348_lt : ∀ (v2 : BitVec 32) (k0_hw2 : k0_chk2 v2), (k0_dev348 v2) < nD := fun v2 k0_hw2 => k0_hw2.2.2.2.2.2.1.2.2.2.2.2.2.2.2.2.2.2.2.2.1
theorem k0_dev349_lt : ∀ (v2 : BitVec 32) (k0_hw2 : k0_chk2 v2), (k0_dev349 v2) < nD := fun v2 k0_hw2 => k0_hw2.2.2.2.2.2.1.2.2.2.2.2.2.2.2.2.2.2.2.2.2.1
theorem k0_dev352_lt : ∀ (v2 : BitVec 32) (k0_hw2 : k0_chk2 v2), (k0_dev352 v2) < nD := fun v2 k0_hw2 => k0_hw2.2.2.2.2.2.1.2.2.2.2.2.2.2.2.2.2.2.2.2.2.2.1
theorem k0_dev353_lt : ∀ (v2 : BitVec 32) (k0_hw2 : k0_chk2 v2), (k0_dev353 v2) < nD := fun v2 k0_hw2 => k0_hw2.2.2.2.2.2.1.2.2.2.2.2.2.2.2.2.2.2.2.2.2.2.2.1
theorem k0_dev356_lt : ∀ (v2 : BitVec 32) (k0_hw2 : k0_chk2 v2), (k0_dev356 v2) < nD := fun v2 k0_hw2 => k0_hw2.2.2.2.2.2.1.2.2.2.2.2.2.2.2.2.2.2.2.2.2.2.2.2.1
theorem k0_dev357_lt : ∀ (v2 : BitVec 32) (k0_hw2 : k0_chk2 v2), (k0_dev357 v2) < nD := fun v2 k0_hw2 => k0_hw2.2.2.2.2.2.1.2.2.2.2.2.2.2.2.2.2.2.2.2.2.2.2.2.2.1
theorem k0_dev360_lt : ∀ (v2 : BitVec 32) (k0_hw2 : k0_chk2 v2), (k0_dev360 v2) < nD := fun v2 k0_hw2 => k0_hw2.2.2.2.2.2.1.2.2.2.2.2.2.2.2.2.2.2.2.2.2.2.2.2.2.2.1
theorem k0_dev361_lt : ∀ (v2 : BitVec 32) (k0_hw2 : k0_chk2 v2), (k0_dev361 v2) < nD := fun v2 k0_hw2 => k0_hw2.2.2.2.2.2.1.2.2.2.2.2.2.2.2.2.2.2.2.2.2.2.2.2.2.2.2.1
theorem k0_dev364_lt : ∀ (v2 : BitVec 32) (k0_hw2 : k0_chk2 v2), (k0_dev364 v2) < nD := fun v2 k0_hw2 => k0_hw2.2.2.2.2.2.1.2.2.2.2.2.2.2.2.2.2.2.2.2.2.2.2.2.2.2.2.2.1
theorem k0_dev365_lt : ∀ (v2 : BitVec 32) (k0_hw2 : k0_chk2 v2), (k0_dev365 v2) < nD := fun v2 k0_hw2 => k0_hw2.2.2.2.2.2.1.2.2.2.2.2.2.2.2.2.2.2.2.2.2.2.2.2.2.2.2.2.2.1
theorem k0_dev368_lt : ∀ (v2 : BitVec 32) (k0_hw2 : k0_chk2 v2), (k0_dev368 v2) < nD := fun v2 k0_hw2 => k0_hw2.2.2.2.2.2.1.2.2.2.2.2.2.2.2.2.2.2.2.2.2.2.2.2.2.2.2.2.2.2.1
theorem k0_dev369_lt : ∀ (v2 : BitVec 32) (k0_hw2 : k0_chk2 v2), (k0_dev369 v2) < nD := fun v2 k0_hw2 => k0_hw2.2.2.2.2.2.1.2.2.2.2.2.2.2.2.2.2.2.2.2.2.2.2.2.2.2.2.2.2.2.2.1
theorem k0_dev372_lt : ∀ (v2 : BitVec 32) (k0_hw2 : k0_chk2 v2), (k0_dev372 v2) < nD := fun v2 k0_hw2 => k0_hw2.2.2.2.2.2.1.2.2.2.2.2.2.2.2.2.2.2.2.2.2.2.2.2.2.2.2.2.2.2.2.2.1
theorem k0_dev373_lt : ∀ (v2 : BitVec 32) (k0_hw2 : k0_chk2 v2), (k0_dev373 v2) < nD := fun v2 k0_hw2 => k0_hw2.2.2.2.2.2.1.2.2.2.2.2.2.2.2.2.2.2.2.2.2.2.2.2.2.2.2.2.2.2.2.2.2.1
theorem k0_dev376_lt : ∀ (v2 : BitVec 32) (k0_hw2 : k0_chk2 v2), (k0_dev376 v2) < nD := fun v2 k0_hw2 => k0_hw2.2.2.2.2.2.1.2.2.2.2.2.2.2.2.2.2.2.2.2.2.2.2.2.2.2.2.2.2.2.2.2.2.2.1
theorem k0_dev377_lt : ∀ (v2 : BitVec 32) (k0_hw2 : k0_chk2 v2), (k0_dev377 v2) < nD := fun v2 k0_hw2 => k0_hw2.2.2.2.2.2.1.2.2.2.2.2.2.2.2.2.2.2.2.2.2.2.2.2.2.2.2.2.2.2.2.2.2.2.2.1
theorem k0_dev380_lt : ∀ (v2 : BitVec 32) (k0_hw2 : k0_chk2 v2), (k0_dev380 v2) < nD := fun v2 k0_hw2 => k0_hw2.2.2.2.2.2.1.2.2.2.2.2.2.2.2.2.2.2.2.2.2.2.2.2.2.2.2.2.2.2.2.2.2.2.2.2.1
theorem k0_dev381_lt : ∀ (v2 : BitVec 32) (k0_hw2 : k0_chk2 v2), (k0_dev381 v2) < nD := fun v2 k0_hw2 => k0_hw2.2.2.2.2.2.1.2.2.2.2.2.2.2.2.2.2.2.2.2.2.2.2.2.2.2.2.2.2.2.2.2.2.2.2.2.2.1
theorem k0_dev384_lt : ∀ (v2 : BitVec 32) (k0_hw2 : k0_chk2 v2), (k0_dev384 v2) < nD := fun v2 k0_hw2 => k0_hw2.2.2.2.2.2.1.2.2.2.2.2.2.2.2.2.2.2.2.2.2.2.2.2.2.2.2.2.2.2.2.2.2.2.2.2.2.2
theorem k0_dev385_lt : ∀ (v2 : BitVec 32) (k0_hw2 : k0_chk2 v2), (k0_dev385 v2) < nD := fun v2 k0_hw2 => k0_hw2.2.2.2.2.2.2.1.1
theorem k0_dev388_lt : ∀ (v2 : BitVec 32) (k0_hw2 : k0_chk2 v2), (k0_dev388 v2) < nD := fun v2 k0_hw2 => k0_hw2.2.2.2.2.2.2.1.2.1
theorem k0_dev389_lt : ∀ (v2 : BitVec 32) (k0_hw2 : k0_chk2 v2), (k0_dev389 v2) < nD := fun v2 k0_hw2 => k0_hw2.2.2.2.2.2.2.1.2.2.1
theorem k0_dev392_lt : ∀ (v2 : BitVec 32) (k0_hw2 : k0_chk2 v2), (k0_dev392 v2) < nD := fun v2 k0_hw2 => k0_hw2.2.2.2.2.2.2.1.2.2.2.1
theorem k0_dev393_lt : ∀ (v2 : BitVec 32) (k0_hw2 : k0_chk2 v2), (k0_dev393 v2) < nD := fun v2 k0_hw2 => k0_hw2.2.2.2.2.2.2.1.2.2.2.2.1
theorem k0_dev396_lt : ∀ (v2 : BitVec 32) (k0_hw2 : k0_chk2 v2), (k0_dev396 v2) < nD := fun v2 k0_hw2 => k0_hw2.2.2.2.2.2.2.1.2.2.2.2.2.1
theorem k0_dev397_lt : ∀ (v2 : BitVec 32) (k0_hw2 : k0_chk2 v2), (k0_dev397 v2) < nD := fun v2 k0_hw2 => k0_hw2.2.2.2.2.2.2.1.2.2.2.2.2.2.1
theorem k0_dev400_lt : ∀ (v2 : BitVec 32) (k0_hw2 : k0_chk2 v2), (k0_dev400 v2) < nD := fun v2 k0_hw2 => k0_hw2.2.2.2.2.2.2.1.2.2.2.2.2.2.2.1
theorem k0_dev401_lt : ∀ (v2 : BitVec 32) (k0_hw2 : k0_chk2 v2), (k0_dev401 v2) < nD := fun v2 k0_hw2 => k0_hw2.2.2.2.2.2.2.1.2.2.2.2.2.2.2.2.1
theorem k0_dev404_lt : ∀ (v2 : BitVec 32) (k0_hw2 : k0_chk2 v2), (k0_dev404 v2) < nD := fun v2 k0_hw2 => k0_hw2.2.2.2.2.2.2.1.2.2.2.2.2.2.2.2.2.1
theorem k0_dev405_lt : ∀ (v2 : BitVec 32) (k0_hw2 : k0_chk2 v2), (k0_dev405 v2) < nD := fun v2 k0_hw2 => k0_hw2.2.2.2.2.2.2.1.2.2.2.2.2.2.2.2.2.2.1
theorem k0_dev408_lt : ∀ (v2 : BitVec 32) (k0_hw2 : k0_chk2 v2), (k0_dev408 v2) < nD := fun v2 k0_hw2 => k0_hw2.2.2.2.2.2.2.1.2.2.2.2.2.2.2.2.2.2.2.1
theorem k0_dev409_lt : ∀ (v2 : BitVec 32) (k0_hw2 : k0_chk2 v2), (k0_dev409 v2) < nD := fun v2 k0_hw2 => k0_hw2.2.2.2.2.2.2.1.2.2.2.2.2.2.2.2.2.2.2.2.1
theorem k0_dev412_lt : ∀ (v2 : BitVec 32) (k0_hw2 : k0_chk2 v2), (k0_dev412 v2) < nD := fun v2 k0_hw2 => k0_hw2.2.2.2.2.2.2.1.2.2.2.2.2.2.2.2.2.2.2.2.2.1
theorem k0_dev413_lt : ∀ (v2 : BitVec 32) (k0_hw2 : k0_chk2 v2), (k0_dev413 v2) < nD := fun v2 k0_hw2 => k0_hw2.2.2.2.2.2.2.1.2.2.2.2.2.2.2.2.2.2.2.2.2.2.1
theorem k0_dev416_lt : ∀ (v2 : BitVec 32) (k0_hw2 : k0_chk2 v2), (k0_dev416 v2) < nD := fun v2 k0_hw2 => k0_hw2.2.2.2.2.2.2.1.2.2.2.2.2.2.2.2.2.2.2.2.2.2.2.1
theorem k0_dev417_lt : ∀ (v2 : BitVec 32) (k0_hw2 : k0_chk2 v2), (k0_dev417 v2) < nD := fun v2 k0_hw2 => k0_hw2.2.2.2.2.2.2.1.2.2.2.2.2.2.2.2.2.2.2.2.2.2.2.2.1
theorem k0_dev420_lt : ∀ (v2 : BitVec 32) (k0_hw2 : k0_chk2 v2), (k0_dev420 v2) < nD := fun v2 k0_hw2 => k0_hw2.2.2.2.2.2.2.1.2.2.2.2.2.2.2.2.2.2.2.2.2.2.2.2.2.1
theorem k0_dev421_lt : ∀ (v2 : BitVec 32) (k0_hw2 : k0_chk2 v2), (k0_dev421 v2) < nD := fun v2 k0_hw2 => k0_hw2.2.2.2.2.2.2.1.2.2.2.2.2.2.2.2.2.2.2.2.2.2.2.2.2.2.1
theorem k0_dev424_lt : ∀ (v2 : BitVec 32) (k0_hw2 : k0_chk2 v2), (k0_dev424 v2) < nD := fun v2 k0_hw2 => k0_hw2.2.2.2.2.2.2.1.2.2.2.2.2.2.2.2.2.2.2.2.2.2.2.2.2.2.2.1
theorem k0_dev425_lt : ∀ (v2 : BitVec 32) (k0_hw2 : k0_chk2 v2), (k0_dev425 v2) < nD := fun v2 k0_hw2 => k0_hw2.2.2.2.2.2.2.1.2.2.2.2.2.2.2.2.2.2.2.2.2.2.2.2.2.2.2.2.1
theorem k0_dev428_lt : ∀ (v2 : BitVec 32) (k0_hw2 : k0_chk2 v2), (k0_dev428 v2) < nD := fun v2 k0_hw2 => k0_hw2.2.2.2.2.2.2.1.2.2.2.2.2.2.2.2.2.2.2.2.2.2.2.2.2.2.2.2.2.1
theorem k0_dev429_lt : ∀ (v2 : BitVec 32) (k0_hw2 : k0_chk2 v2), (k0_dev429 v2) < nD := fun v2 k0_hw2 => k0_hw2.2.2.2.2.2.2.1.2.2.2.2.2.2.2.2.2.2.2.2.2.2.2.2.2.2.2.2.2.2.1
theorem k0_dev432_lt : ∀ (v2 : BitVec 32) (k0_hw2 : k0_chk2 v2), (k0_dev432 v2) < nD := fun v2 k0_hw2 => k0_hw2.2.2.2.2.2.2.1.2.2.2.2.2.2.2.2.2.2.2.2.2.2.2.2.2.2.2.2.2.2.2.1
theorem k0_dev433_lt : ∀ (v2 : BitVec 32) (k0_hw2 : k0_chk2 v2), (k0_dev433 v2) < nD := fun v2 k0_hw2 => k0_hw2.2.2.2.2.2.2.1.2.2.2.2.2.2.2.2.2.2.2.2.2.2.2.2.2.2.2.2.2.2.2.2.1
theorem k0_dev436_lt : ∀ (v2 : BitVec 32) (k0_hw2 : k0_chk2 v2), (k0_dev436 v2) < nD := fun v2 k0_hw2 => k0_hw2.2.2.2.2.2.2.1.2.2.2.2.2.2.2.2.2.2.2.2.2.2.2.2.2.2.2.2.2.2.2.2.2.1
theorem k0_dev437_lt : ∀ (v2 : BitVec 32) (k0_hw2 : k0_chk2 v2), (k0_dev437 v2) < nD := fun v2 k0_hw2 => k0_hw2.2.2.2.2.2.2.1.2.2.2.2.2.2.2.2.2.2.2.2.2.2.2.2.2.2.2.2.2.2.2.2.2.2.1
theorem k0_dev440_lt : ∀ (v2 : BitVec 32) (k0_hw2 : k0_chk2 v2), (k0_dev440 v2) < nD := fun v2 k0_hw2 => k0_hw2.2.2.2.2.2.2.1.2.2.2.2.2.2.2.2.2.2.2.2.2.2.2.2.2.2.2.2.2.2.2.2.2.2.2.1
theorem k0_dev441_lt : ∀ (v2 : BitVec 32) (k0_hw2 : k0_chk2 v2), (k0_dev441 v2) < nD := fun v2 k0_hw2 => k0_hw2.2.2.2.2.2.2.1.2.2.2.2.2.2.2.2.2.2.2.2.2.2.2.2.2.2.2.2.2.2.2.2.2.2.2.2.1
theorem k0_dev444_lt : ∀ (v2 : BitVec 32) (k0_hw2 : k0_chk2 v2), (k0_dev444 v2) < nD := fun v2 k0_hw2 => k0_hw2.2.2.2.2.2.2.1.2.2.2.2.2.2.2.2.2.2.2.2.2.2.2.2.2.2.2.2.2.2.2.2.2.2.2.2.2.1
theorem k0_dev445_lt : ∀ (v2 : BitVec 32) (k0_hw2 : k0_chk2 v2), (k0_dev445 v2) < nD := fun v2 k0_hw2 => k0_hw2.2.2.2.2.2.2.1.2.2.2.2.2.2.2.2.2.2.2.2.2.2.2.2.2.2.2.2.2.2.2.2.2.2.2.2.2.2.1
theorem k0_dev448_lt : ∀ (v2 : BitVec 32) (k0_hw2 : k0_chk2 v2), (k0_dev448 v2) < nD := fun v2 k0_hw2 => k0_hw2.2.2.2.2.2.2.1.2.2.2.2.2.2.2.2.2.2.2.2.2.2.2.2.2.2.2.2.2.2.2.2.2.2.2.2.2.2.2
theorem k0_dev449_lt : ∀ (v2 : BitVec 32) (k0_hw2 : k0_chk2 v2), (k0_dev449 v2) < nD := fun v2 k0_hw2 => k0_hw2.2.2.2.2.2.2.2.1
theorem k0_dev452_lt : ∀ (v2 : BitVec 32) (k0_hw2 : k0_chk2 v2), (k0_dev452 v2) < nD := fun v2 k0_hw2 => k0_hw2.2.2.2.2.2.2.2.2.1
theorem k0_dev453_lt : ∀ (v2 : BitVec 32) (k0_hw2 : k0_chk2 v2), (k0_dev453 v2) < nD := fun v2 k0_hw2 => k0_hw2.2.2.2.2.2.2.2.2.2.1
theorem k0_dev456_lt : ∀ (v2 : BitVec 32) (k0_hw2 : k0_chk2 v2), (k0_dev456 v2) < nD := fun v2 k0_hw2 => k0_hw2.2.2.2.2.2.2.2.2.2.2.1
theorem k0_dev457_lt : ∀ (v2 : BitVec 32) (k0_hw2 : k0_chk2 v2), (k0_dev457 v2) < nD := fun v2 k0_hw2 => k0_hw2.2.2.2.2.2.2.2.2.2.2.2.1
theorem k0_dev460_lt : ∀ (v2 : BitVec 32) (k0_hw2 : k0_chk2 v2), (k0_dev460 v2) < nD := fun v2 k0_hw2 => k0_hw2.2.2.2.2.2.2.2.2.2.2.2.2.1
theorem k0_dev461_lt : ∀ (v2 : BitVec 32) (k0_hw2 : k0_chk2 v2), (k0_dev461 v2) < nD := fun v2 k0_hw2 => k0_hw2.2.2.2.2.2.2.2.2.2.2.2.2.2.1
theorem k0_dev464_lt : ∀ (v2 : BitVec 32) (k0_hw2 : k0_chk2 v2), (k0_dev464 v2) < nD := fun v2 k0_hw2 => k0_hw2.2.2.2.2.2.2.2.2.2.2.2.2.2.2.1
theorem k0_dev465_lt : ∀ (v2 : BitVec 32) (k0_hw2 : k0_chk2 v2), (k0_dev465 v2) < nD := fun v2 k0_hw2 => k0_hw2.2.2.2.2.2.2.2.2.2.2.2.2.2.2.2.1
theorem k0_dev468_lt : ∀ (v2 : BitVec 32) (k0_hw2 : k0_chk2 v2), (k0_dev468 v2) < nD := fun v2 k0_hw2 => k0_hw2.2.2.2.2.2.2.2.2.2.2.2.2.2.2.2.2.1
theorem k0_dev469_lt : ∀ (v2 : BitVec 32) (k0_hw2 : k0_chk2 v2), (k0_dev469 v2) < nD := fun v2 k0_hw2 => k0_hw2.2.2.2.2.2.2.2.2.2.2.2.2.2.2.2.2.2.1
theorem k0_dev472_lt : ∀ (v2 : BitVec 32) (k0_hw2 : k0_chk2 v2), (k0_dev472 v2) < nD := fun v2 k0_hw2 => k0_hw2.2.2.2.2.2.2.2.2.2.2.2.2.2.2.2.2.2.2.1
theorem k0_dev473_lt : ∀ (v2 : BitVec 32) (k0_hw2 : k0_chk2 v2), (k0_dev473 v2) < nD := fun v2 k0_hw2 => k0_hw2.2.2.2.2.2.2.2.2.2.2.2.2.2.2.2.2.2.2.2.1
theorem k0_dev476_lt : ∀ (v2 : BitVec 32) (k0_hw2 : k0_chk2 v2), (k0_dev476 v2) < nD := fun v2 k0_hw2 => k0_hw2.2.2.2.2.2.2.2.2.2.2.2.2.2.2.2.2.2.2.2.2.1
theorem k0_dev478_lt : ∀ (v2 : BitVec 32) (k0_hw2 : k0_chk2 v2), (k0_dev478 v2) < nD := fun v2 k0_hw2 => k0_hw2.2.2.2.2.2.2.2.2.2.2.2.2.2.2.2.2.2.2.2.2.2.1
theorem k0_dev480_lt : ∀ (v2 : BitVec 32) (k0_hw2 : k0_chk2 v2), (k0_dev480 v2) < nD := fun v2 k0_hw2 => k0_hw2.2.2.2.2.2.2.2.2.2.2.2.2.2.2.2.2.2.2.2.2.2.2.1
theorem k0_dev482_lt : ∀ (v2 : BitVec 32) (k0_hw2 : k0_chk2 v2), (k0_dev482 v2) < nD := fun v2 k0_hw2 => k0_hw2.2.2.2.2.2.2.2.2.2.2.2.2.2.2.2.2.2.2.2.2.2.2.2

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S2048x16384, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Prog.lean ====
module

public import proofs.«01_k».proof.Proof.Gen.KernelIdeal.Points
public import proofs.«01_k».proof.Proof.Gen.KernelIdeal.Regions

@[expose] public section

noncomputable section

namespace Cert.KernelIdeal

open Idealize.ShloMosaic Idealize.SL.Sem
open Facts₀ Facts

variable {F : FTy → Type} [FloatOps F]

/-! # The kernel's body as a program over its hops and streams

The printed body is one straight line. Here it is written as what it is: fifteen hops of a reduce-scatter and fifteen of an
all-gather, each over eight streams, every step a function of its hop and its stream. -/

/-- Programs of one core of the kernel. -/
abbrev PG (F : FTy → Type) : Type 1 := Prog (TpuEff nD τ sig (Elt F) Λ₀ .tc) PUnit

/-- The staged scalars: position on the ring, left neighbour, right neighbour. -/
abbrev mS : Memref sig .tc .smem S3 .i32 := win0_0.stage 0
/-- The staged block of the left factor. -/
abbrev mA : Memref sig .tc .vmem S2048x1024 .bf16 := win0_1.stage 0
/-- The staged block of the right factor. -/
abbrev mB : Memref sig .tc .vmem S1024x2048 .bf16 := win0_2.stage 0
/-- The staged result. -/
abbrev mO : Memref sig .tc .vmem S2048x2048 .bf16 := win0_3.stage 0
/-- The kernel's own copy of the right factor. -/
abbrev mC : Memref sig .tc .vmem S1024x2048 .bf16 := Memref.whole cc0_scratch0
/-- The send buffers. -/
abbrev mX : Memref sig .tc .vmem S8x2x32x1024 .bf16 := Memref.whole cc0_scratch1
/-- The receive buffers. -/
abbrev mR : Memref sig .tc .vmem S8x2x32x1024 .bf16 := Memref.whole cc0_scratch2
/-- The send semaphores, one per stream and slot. -/
abbrev qS : DmaSems sig S8x2 := cc0_scratch3
/-- The receive semaphores, one per stream and slot. -/
abbrev qR : DmaSems sig S8x2 := cc0_scratch4
/-- The credit semaphores, one per stream. -/
abbrev qC : Sems sig S8 := cc0_scratch5
/-- The barrier. -/
abbrev qB : Sem sig := sig.barrier 0 rfl

theorem inb4 (s : Fin 8) (σ : Fin 2) (a : Fin 4) :
    (![s.val, σ.val, 0, 0] : Fin 4 → Nat) a + S1x1x32x1024.size a ≤ S8x2x32x1024.size a := by
  revert s σ a; decide

theorem packed4 (s : Fin 8) (σ : Fin 2) :
    (Rect.unit (s := S8x2x32x1024) ![s.val, σ.val, 0, 0] S1x1x32x1024.size (inb4 s σ)).PackedRows (EltTy.packing .bf16) := by
  revert s σ; decide

theorem words4 (s : Fin 8) (σ : Fin 2) :
    (Rect.unit (s := S8x2x32x1024) ![s.val, σ.val, 0, 0] S1x1x32x1024.size (inb4 s σ)).WholeWords (EltTy.packing .bf16) := by
  revert s σ; decide

theorem inbQ (s : Fin 8) (σ : Fin 2) (a : Fin 2) :
    (![s.val, σ.val] : Fin 2 → Nat) a + S1x1.size a ≤ S8x2.size a := by
  revert s σ a; decide

theorem inbC (s : Fin 8) (a : Fin 1) : (![s.val] : Fin 1 → Nat) a + S1.size a ≤ S8.size a := by
  revert s a; decide

/-- Stream `s`'s rectangle of slot `σ` in the send or the receive buffers. -/
abbrev slotRect (s : Fin 8) (σ : Fin 2) : Rect S8x2x32x1024 :=
  Rect.unit (s := S8x2x32x1024) ![s.val, σ.val, 0, 0] S1x1x32x1024.size (inb4 s σ)

/-- Stream `s`'s send buffer of slot `σ`, as a block of rows. -/
abbrev xView (s : Fin 8) (σ : Fin 2) : Memref sig .tc .vmem S32x1024 .bf16 :=
  (mX.slice (slotRect s σ) (fun _ => rfl)).squeeze S32x1024 squeezes_S1x1x32x1024_S32x1024
/-- Stream `s`'s receive buffer of slot `σ`, as a block of rows. -/
abbrev rView (s : Fin 8) (σ : Fin 2) : Memref sig .tc .vmem S32x1024 .bf16 :=
  (mR.slice (slotRect s σ) (fun _ => rfl)).squeeze S32x1024 squeezes_S1x1x32x1024_S32x1024
/-- The send semaphore of stream `s` and slot `σ`. -/
abbrev sSem (s : Fin 8) (σ : Fin 2) : DmaSem sig :=
  ((qS.slice (Rect.unit (s := S8x2) ![s.val, σ.val] S1x1.size (inbQ s σ))).squeeze S_ squeezes_S1x1_S_).sem
/-- The receive semaphore of stream `s` and slot `σ`. -/
abbrev rSem (s : Fin 8) (σ : Fin 2) : DmaSem sig :=
  ((qR.slice (Rect.unit (s := S8x2) ![s.val, σ.val] S1x1.size (inbQ s σ))).squeeze S_ squeezes_S1x1_S_).sem
/-- The credit semaphore of stream `s`. -/
abbrev cSem (s : Fin 8) : Sem sig :=
  ((qC.slice (Rect.unit (s := S8) ![s.val] S1.size (inbC s))).squeeze S_ squeezes_S1_S_).sem

/-- A stream's block of rows in a chunk. -/
def sub (s : Fin 8) : Fin 4 := ⟨s.val / 2, by omega⟩
/-- Even streams run one way round the ring, odd ones the other. -/
def cw (s : Fin 8) : Bool := s.val % 2 == 0
/-- The slot of hop `h`. -/
def slotOf (h : Nat) : Fin 2 := ⟨h % 2, Nat.mod_lt _ Nat.two_pos⟩

theorem slices4 (q : Fin 4) : S128x1024.Slices ![32 * q.val, 0] S32x1024 := by
  revert q; decide

/-- The block of rows `q` of a chunk. -/
abbrev rowsOf (q : Fin 4) (v : FVec F S128x1024 .f32) : FVec F S32x1024 .f32 :=
  extractStridedSlice S32x1024 ![32 * q.val, 0] v (slices4 q)

/-- One block of the product. -/
abbrev mm (x : Vec F S128x1024 .bf16) (y : Vec F S1024x1024 .bf16) : FVec F S128x1024 .f32 :=
  matmul dot_S128x1024_S1024x1024_S128x1024_1_0_0_1_n_n none (shapeCast S128x1024 x shapeCasts_S128x1024_S128x1024) y
    (constant S128x1024 .f32 0x00000000#32)

/-- What a stream sends on: its part and what it received. -/
abbrev updOf (q : Fin 4) (prt : FVec F S128x1024 .f32) (f : Vec F S1x1x32x1024 .bf16) : FVec F S32x1024 .f32 :=
  addf (rowsOf q prt) (extf .f32 (shapeCast S32x1024 f shapeCasts_S1x1x32x1024_S32x1024) bitsLt_bf16_f32)

/-- The activation as the kernel computes it. -/
abbrev siluV (z : FVec F S32x1024 .f32) : FVec F S32x1024 .f32 :=
  mulf z (divf (broadcast S32x1024 (Scalar.ofBits .f32 0x3F800000#32 : F .f32))
    (addf (broadcast S32x1024 (Scalar.ofBits .f32 0x3F800000#32 : F .f32))
      (exp (subf (broadcast S32x1024 (Scalar.ofBits .f32 0x00000000#32 : F .f32)) z))))

/-- A step for each of the eight streams in turn. -/
def eachS (f : Fin 8 → PG F → PG F) (k : PG F) : PG F :=
  f 0 (f 1 (f 2 (f 3 (f 4 (f 5 (f 6 (f 7 k)))))))

/-- Write a stream's send buffer. -/
def putX (s : Fin 8) (σ : Fin 2) (v : FVec F S32x1024 .bf16) (k : PG F) : PG F :=
  .op (.load mX (slotRect s σ).toLoadRect (View.loadsAt_vmem h_S1x1x32x1024)) fun _ =>
  .op (.store mX (slotRect s σ) (shapeCast S1x1x32x1024 v shapeCasts_S32x1024_S1x1x32x1024) Finset.univ
    (View.stores_vmem h_S1x1x32x1024 ((Memref.isWhole_whole _).storeExact_slice rfl _ (packed4 s σ)) (fun _ => rfl)) (.inl rfl)) fun _ => k

/-- Start a reduce-scatter transfer. -/
def rsSend (dst : Dev nD) (s : Fin 8) (σ : Fin 2) (k : PG F) : PG F :=
  .op (.enqueueDma (xView s σ) (.remote (Dev.tc dst) (rView s σ) (.dma (sSem s σ))) (.dma (rSem s σ))
    (((Memref.isWhole_whole _).wordExact_slice rfl _ (words4 s σ)).reshape _ _)
    (((Memref.isWhole_whole _).wordExact_slice rfl _ (words4 s σ)).reshape _ _) ⟨⟨rfl, Or.inl rfl⟩, trivial⟩) fun _ => k

/-- Wait for a reduce-scatter transfer: the own one sent, the neighbour's arrived. -/
def rsWait (s : Fin 8) (σ : Fin 2) (k : PG F) : PG F :=
  .op (.waitDma2 (sSem s σ) (rView s σ) (xView s σ)
    (((Memref.isWhole_whole _).wordExact_slice rfl _ (words4 s σ)).reshape _ _)
    (((Memref.isWhole_whole _).wordExact_slice rfl _ (words4 s σ)).reshape _ _)) fun _ =>
  .op (.waitDma2 (rSem s σ) (xView s σ) (rView s σ)
    (((Memref.isWhole_whole _).wordExact_slice rfl _ (words4 s σ)).reshape _ _)
    (((Memref.isWhole_whole _).wordExact_slice rfl _ (words4 s σ)).reshape _ _)) fun _ => k

/-- Give the upstream neighbour a credit. -/
def credit (up : Dev nD) (s : Fin 8) (k : PG F) : PG F :=
  .op (.semSignal (up, .tc) (cSem s) 1) fun _ => k

/-- From the second hop on, wait for a credit. -/
def creditWait : Nat → Fin 8 → PG F → PG F
  | 0, _, k => k
  | _ + 1, s, k => .op (.semWait (cSem s) 1) fun _ => k

/-- Wait for the two credits left over. -/
def creditDrain (s : Fin 8) (k : PG F) : PG F := .op (.semWait (cSem s) 2) fun _ => k

/-- The destination of a stream, from the two neighbours. -/
def dstOf (l r : Dev nD) (s : Fin 8) : Dev nD := bif cw s then r else l
/-- The neighbour a stream receives from. -/
def upOf (l r : Dev nD) (s : Fin 8) : Dev nD := bif cw s then l else r

/-- One stream's step of the reduce-scatter hop `h`, not the last. -/
def rsStep (l r : Dev nD) (pr pl : FVec F S128x1024 .f32) (h : Nat) (s : Fin 8) (k : PG F) : PG F :=
  rsWait s (slotOf h) <|
  .op (.load mR (slotRect s (slotOf h)).toLoadRect (View.loadsAt_vmem h_S1x1x32x1024)) fun f =>
  putX s (slotOf (h + 1)) (truncf .bf16 (updOf (sub s) (bif cw s then pr else pl) f) bitsLt_bf16_f32) <|
  credit (upOf l r s) s <| creditWait h s <| rsSend (dstOf l r s) s (slotOf (h + 1)) k

/-- The two parts of a chunk row: a block of the left factor by each half of the right factor. -/
def parts (o₁ o₂ : Fin 2 → Nat) (h₁ : ∀ a, o₁ a + S128x1024.size a ≤ S2048x1024.size a)
    (h₂ : ∀ a, o₂ a + S128x1024.size a ≤ S2048x1024.size a) (k : FVec F S128x1024 .f32 → FVec F S128x1024 .f32 → PG F) : PG F :=
  .op (.load mA (Rect.unit (s := S2048x1024) o₁ S128x1024.size h₁).toLoadRect (View.loadsAt_vmem h_S128x1024)) fun a₁ =>
  .op (.load mC (Rect.unit (s := S1024x2048) ![0, 0] S1024x1024.size inb_S1024x2048_S1024x1024_0_0).toLoadRect (View.loadsAt_vmem h_S1024x1024)) fun b₁ =>
  .op (.load mA (Rect.unit (s := S2048x1024) o₂ S128x1024.size h₂).toLoadRect (View.loadsAt_vmem h_S128x1024)) fun a₂ =>
  .op (.load mC (Rect.unit (s := S1024x2048) ![0, 1024] S1024x1024.size inb_S1024x2048_S1024x1024_0_1024).toLoadRect (View.loadsAt_vmem h_S1024x1024)) fun b₂ =>
  k (mm a₁ b₁) (mm a₂ b₂)

/-- A stream's rectangle of the result. -/
structure OutR where
  /-- its corner -/
  off : Fin 2 → Nat
  inb : ∀ a, off a + S32x1024.size a ≤ S2048x2048.size a

/-- The rectangle itself. -/
abbrev OutR.rect (o : OutR) : Rect S2048x2048 := Rect.unit (s := S2048x2048) o.off S32x1024.size o.inb
/-- The rectangle as a block of rows of the result. -/
abbrev OutR.view (o : OutR) : Memref sig .tc .vmem S32x1024 .bf16 := mO.slice o.rect (fun _ => rfl)

/-- One stream's step of the last reduce-scatter hop: finish its block of the result. -/
def rsLast (l r : Dev nD) (o : Fin 8 → OutR) (hp : ∀ s, (o s).rect.PackedRows (EltTy.packing .bf16))
    (pr pl : FVec F S128x1024 .f32) (s : Fin 8) (k : PG F) : PG F :=
  rsWait s 0 <|
  .op (.load mR (slotRect s 0).toLoadRect (View.loadsAt_vmem h_S1x1x32x1024)) fun f =>
  .op (.load mO (o s).rect.toLoadRect (View.loadsAt_vmem h_S32x1024)) fun _ =>
  .op (.store mO (o s).rect (truncf .bf16 (siluV (updOf (sub s) (bif cw s then pr else pl) f)) bitsLt_bf16_f32) Finset.univ
    (View.stores_vmem h_S32x1024 ((Memref.isWhole_whole _).storeExact_slice rfl _ (hp s)) (fun _ => rfl)) (.inl rfl)) fun _ =>
  credit (upOf l r s) s k

/-- Start an all-gather transfer. -/
def agSend (dst : Dev nD) (o : OutR) (hw : o.rect.WholeWords (EltTy.packing .bf16)) (s : Fin 8) (σ : Fin 2) (k : PG F) : PG F :=
  .op (.enqueueDma o.view (.remote (Dev.tc dst) o.view (.dma (sSem s σ))) (.dma (rSem s σ))
    ((Memref.isWhole_whole _).wordExact_slice rfl _ hw) ((Memref.isWhole_whole _).wordExact_slice rfl _ hw)
    ⟨⟨rfl, Or.inl rfl⟩, trivial⟩) fun _ => k

/-- Wait for an all-gather transfer. -/
def agWait (o : OutR) (hw : o.rect.WholeWords (EltTy.packing .bf16)) (s : Fin 8) (σ : Fin 2) (k : PG F) : PG F :=
  .op (.waitDma2 (sSem s σ) o.view o.view
    ((Memref.isWhole_whole _).wordExact_slice rfl _ hw) ((Memref.isWhole_whole _).wordExact_slice rfl _ hw)) fun _ =>
  .op (.waitDma2 (rSem s σ) o.view o.view
    ((Memref.isWhole_whole _).wordExact_slice rfl _ hw) ((Memref.isWhole_whole _).wordExact_slice rfl _ hw)) fun _ => k

/-- One stream's step of the all-gather hop `h`, not the last. -/
def agStep (l r : Dev nD) (o : Fin 8 → OutR) (hw : ∀ s, (o s).rect.WholeWords (EltTy.packing .bf16)) (h : Nat) (s : Fin 8) (k : PG F) : PG F :=
  agWait (o s) (hw s) s (slotOf h) <| credit (upOf l r s) s <| creditWait h s <| agSend (dstOf l r s) (o s) (hw s) s (slotOf (h + 1)) k

/-- One stream's step of the last all-gather hop. -/
def agLast (l r : Dev nD) (o : Fin 8 → OutR) (hw : ∀ s, (o s).rect.WholeWords (EltTy.packing .bf16)) (s : Fin 8) (k : PG F) : PG F :=
  agWait (o s) (hw s) s 0 <| credit (upOf l r s) s k

/-- What a run takes from its scalars: the neighbours, the chunk offsets of its parts, the rectangles of the result. -/
structure Geo where
  l : Dev nD
  r : Dev nD
  own : Fin 2 → Nat
  ownB : ∀ a, own a + S128x1024.size a ≤ S2048x1024.size a
  /-- the chunks of the parts of the first hop, right and left -/
  fst₁ : Fin 2 → Nat
  fst₁B : ∀ a, fst₁ a + S128x1024.size a ≤ S2048x1024.size a
  fst₂ : Fin 2 → Nat
  fst₂B : ∀ a, fst₂ a + S128x1024.size a ≤ S2048x1024.size a
  /-- the chunks of the parts of the later hops -/
  nxt₁ : Fin 14 → Fin 2 → Nat
  nxt₁B : ∀ h a, nxt₁ h a + S128x1024.size a ≤ S2048x1024.size a
  nxt₂ : Fin 14 → Fin 2 → Nat
  nxt₂B : ∀ h a, nxt₂ h a + S128x1024.size a ≤ S2048x1024.size a
  /-- where the last hop writes the own chunk -/
  fin : Fin 8 → OutR
  finP : ∀ s, (fin s).rect.PackedRows (EltTy.packing .bf16)
  /-- where the own chunk is sent from -/
  ago : Fin 8 → OutR
  agoW : ∀ s, (ago s).rect.WholeWords (EltTy.packing .bf16)
  /-- the chunk of the all-gather's hops -/
  agh : Fin 15 → Fin 8 → OutR
  aghW : ∀ h s, (agh h s).rect.WholeWords (EltTy.packing .bf16)

/-- The all-gather from hop `14 - m` on. -/
def agFrom (g : Geo) : (m : Nat) → m ≤ 14 → PG F
  | 0, _ => eachS (agLast g.l g.r (g.agh 14) (g.aghW 14)) <| eachS creditDrain <| .ret ⟨⟩
  | m + 1, hm => eachS (agStep g.l g.r (g.agh ⟨13 - m, by omega⟩) (g.aghW _) (13 - m)) (agFrom g m (by omega))

/-- The reduce-scatter from hop `14 - m` on, then the all-gather. -/
def rsFrom (g : Geo) : (m : Nat) → m ≤ 14 → FVec F S128x1024 .f32 → FVec F S128x1024 .f32 → PG F
  | 0, _, pr, pl =>
    eachS (rsLast g.l g.r g.fin g.finP pr pl) <| eachS creditDrain <|
    eachS (fun s => agSend (dstOf g.l g.r s) (g.ago s) (g.agoW s) s 0) <| agFrom g 14 (le_refl _)
  | m + 1, hm, pr, pl =>
    eachS (rsStep g.l g.r pr pl (13 - m)) <|
    parts (g.nxt₁ ⟨13 - m, by omega⟩) (g.nxt₂ ⟨13 - m, by omega⟩) (g.nxt₁B _) (g.nxt₂B _) (rsFrom g m (by omega))

/-- The body after its scalars are read. -/
def bodyG (g : Geo) : PG F :=
  .op (.semSignal (g.l, .tc) qB 1) fun _ =>
  .op (.semSignal (g.r, .tc) qB 1) fun _ =>
  .op (.semWait qB 2) fun _ =>
  .op (.load mB (Rect.unit (s := S1024x2048) ![0, 0] S1024x2048.size inb_S1024x2048_S1024x2048_0_0).toLoadRect (View.loadsAt_vmem h_S1024x2048)) fun b =>
  .op (.load mC (Rect.unit (s := S1024x2048) ![0, 0] S1024x2048.size inb_S1024x2048_S1024x2048_0_0).toLoadRect (View.loadsAt_vmem h_S1024x2048)) fun _ =>
  .op (.store mC (Rect.unit (s := S1024x2048) ![0, 0] S1024x2048.size inb_S1024x2048_S1024x2048_0_0)
    (shapeCast S1024x2048 (shapeCast S1024x2048 b shapeCasts_S1024x2048_S1024x2048) shapeCasts_S1024x2048_S1024x2048) Finset.univ
    (View.stores_vmem h_S1024x2048 ((Memref.isWhole_whole _).storeExact_slice rfl _ packedbf16_S1024x2048_S1024x2048_0_0) (fun _ => rfl)) (.inl rfl)) fun _ =>
  parts g.own g.own g.ownB g.ownB fun pr pl =>
  eachS (fun s => putX s 0 (truncf .bf16 (rowsOf (sub s) (bif cw s then pr else pl)) bitsLt_bf16_f32)) <|
  eachS (fun s => rsSend (dstOf g.l g.r s) s 0) <|
  parts g.fst₁ g.fst₂ g.fst₁B g.fst₂B (rsFrom g 14 (le_refl _))

/-- The rectangles of the result named by corners and their side conditions. -/
abbrev outOf (o₁ o₂ : Fin 4 → Fin 2 → Nat) (h₁ : ∀ q a, o₁ q a + S32x1024.size a ≤ S2048x2048.size a)
    (h₂ : ∀ q a, o₂ q a + S32x1024.size a ≤ S2048x2048.size a) (s : Fin 8) : OutR :=
  match cw s with
  | true => ⟨o₁ (sub s), h₁ _⟩
  | false => ⟨o₂ (sub s), h₂ _⟩

theorem outOf_words {o₁ o₂ : Fin 4 → Fin 2 → Nat} {h₁ : ∀ q a, o₁ q a + S32x1024.size a ≤ S2048x2048.size a}
    {h₂ : ∀ q a, o₂ q a + S32x1024.size a ≤ S2048x2048.size a}
    (w₁ : ∀ q, (Rect.unit (s := S2048x2048) (o₁ q) S32x1024.size (h₁ q)).WholeWords (EltTy.packing .bf16))
    (w₂ : ∀ q, (Rect.unit (s := S2048x2048) (o₂ q) S32x1024.size (h₂ q)).WholeWords (EltTy.packing .bf16)) (s : Fin 8) :
    (outOf o₁ o₂ h₁ h₂ s).rect.WholeWords (EltTy.packing .bf16) := by
  unfold outOf; cases cw s; exacts [w₂ _, w₁ _]

theorem outOf_packed {o₁ o₂ : Fin 4 → Fin 2 → Nat} {h₁ : ∀ q a, o₁ q a + S32x1024.size a ≤ S2048x2048.size a}
    {h₂ : ∀ q a, o₂ q a + S32x1024.size a ≤ S2048x2048.size a}
    (w₁ : ∀ q, (Rect.unit (s := S2048x2048) (o₁ q) S32x1024.size (h₁ q)).PackedRows (EltTy.packing .bf16))
    (w₂ : ∀ q, (Rect.unit (s := S2048x2048) (o₂ q) S32x1024.size (h₂ q)).PackedRows (EltTy.packing .bf16)) (s : Fin 8) :
    (outOf o₁ o₂ h₁ h₂ s).rect.PackedRows (EltTy.packing .bf16) := by
  unfold outOf; cases cw s; exacts [w₂ _, w₁ _]

/-- What a run takes from its scalars. -/
abbrev geoOf (v0 : BitVec 32) (h0 : k0_chk3 v0) (v1 : BitVec 32) (h1 : k0_chk1 v1) (v2 : BitVec 32) (h2 : k0_chk2 v2) : Geo where
  l := ⟨k0_dev1 v1, k0_dev1_lt v1 h1⟩
  r := ⟨k0_dev2 v2, k0_dev2_lt v2 h2⟩
  own := k0_off1 v0
  ownB := k0_off1_inb v0 h0
  fst₁ := k0_off2 v0
  fst₁B := k0_off2_inb v0 h0
  fst₂ := k0_off3 v0
  fst₂B := k0_off3_inb v0 h0
  nxt₁ h := k0_off4 v0 (BitVec.ofNat 32 h.val)
  nxt₁B h := k0_off4_inb v0 h0 h
  nxt₂ h := k0_off5 v0 (BitVec.ofNat 32 h.val)
  nxt₂B h := k0_off5_inb v0 h0 h
  fin := outOf (fun q => k0_off6 v0 (BitVec.ofNat 32 (32 * q.val))) (fun q => k0_off7 v0 (BitVec.ofNat 32 (32 * q.val)))
    (k0_off6_inb v0 h0) (k0_off7_inb v0 h0)
  finP := outOf_packed (k0_off6_packedbf16 v0 h0) (k0_off7_packedbf16 v0 h0)
  ago := outOf (fun q => k0_off8 v0 (BitVec.ofNat 32 (32 * q.val))) (fun q => k0_off9 v0 (BitVec.ofNat 32 (32 * q.val)))
    (k0_off8_inb v0 h0) (k0_off9_inb v0 h0)
  agoW := outOf_words (k0_off8_wordsbf16 v0 h0) (k0_off9_wordsbf16 v0 h0)
  agh h := outOf (fun q => k0_off10 v0 (BitVec.ofNat 32 h.val) (BitVec.ofNat 32 (32 * q.val)))
    (fun q => k0_off11 v0 (BitVec.ofNat 32 h.val) (BitVec.ofNat 32 (32 * q.val)))
    (k0_off10_inb v0 h0 h) (k0_off11_inb v0 h0 h)
  aghW h := outOf_words (k0_off10_wordsbf16 v0 h0 h) (k0_off11_wordsbf16 v0 h0 h)

/-- The body: read the scalars, then run. -/
def body : PG F :=
  .op (.load mS (Rect.unit (s := S3) ![0] S1.size inb_S3_S1_0) (View.loadsAt_rect (View.loads_smem_one rfl numel1_S1))) fun f0 =>
  .op (.assume (k0_chk3 (f0 (Shape.Idx.first (numel1_S1.symm ▸ Nat.one_pos)))) (k0_chk3.dec _)) fun h0 =>
  .op (.load mS (Rect.unit (s := S3) ![1] S1.size inb_S3_S1_1) (View.loadsAt_rect (View.loads_smem_one rfl numel1_S1))) fun f1 =>
  .op (.assume (k0_chk1 (f1 (Shape.Idx.first (numel1_S1.symm ▸ Nat.one_pos)))) (k0_chk1.dec _)) fun h1 =>
  .op (.load mS (Rect.unit (s := S3) ![2] S1.size inb_S3_S1_2) (View.loadsAt_rect (View.loads_smem_one rfl numel1_S1))) fun f2 =>
  .op (.assume (k0_chk2 (f2 (Shape.Idx.first (numel1_S1.symm ▸ Nat.one_pos)))) (k0_chk2.dec _)) fun h2 =>
  bodyG (geoOf _ h0.down _ h1.down _ h2.down)

end Cert.KernelIdeal

end
-- ==== Proof.ProgEq.lean ====
module

public import proofs.«01_k».proof.Proof.Prog

@[expose] public section

noncomputable section

namespace Cert.KernelIdeal

open Idealize.ShloMosaic Idealize.SL.Sem
open Facts₀ Facts

variable {F : FTy → Type} [FloatOps F]

/-- The printed body is the body over hops and streams. -/
theorem body_eq (t : Fin cfg0.N) : Gen.bodyAt0 (F := F) t = body (F := F) := by
  chain_rfl

end Cert.KernelIdeal

end
-- ==== Proof.Ring.lean ====
module

public import proofs.«01_k».proof.Proof.ProgEq

@[expose] public section

noncomputable section

namespace Cert.KernelIdeal

open Idealize.ShloMosaic Idealize.SL.Sem
open Facts₀ Facts

/-! # The ring, the chunks that move on it, and the values that travel

Sixteen devices stand on a ring. Even streams move to the right neighbour, odd ones to the left. -/

/-- The device at a position of the ring. -/
def ringL : Fin 16 → Dev nD := ![0, 4, 8, 12, 13, 9, 5, 1, 2, 6, 10, 14, 15, 11, 7, 3]
/-- A device's position on the ring. -/
def pos : Dev nD → Fin 16 := ![0, 7, 8, 15, 1, 6, 9, 14, 2, 5, 10, 13, 3, 4, 11, 12]
/-- The right neighbour. -/
def rt (c : Dev nD) : Dev nD := ringL (pos c + 1)
/-- The left neighbour. -/
def lf (c : Dev nD) : Dev nD := ringL (pos c - 1)

theorem rt_lf (c : Dev nD) : rt (lf c) = c := by revert c; decide
theorem lf_rt (c : Dev nD) : lf (rt c) = c := by revert c; decide
theorem pos_rt (c : Dev nD) : pos (rt c) = pos c + 1 := by revert c; decide
theorem pos_lf (c : Dev nD) : pos (lf c) = pos c - 1 := by revert c; decide
theorem ringL_pos (c : Dev nD) : ringL (pos c) = c := by revert c; decide
theorem pos_ringL (k : Fin 16) : pos (ringL k) = k := by revert k; decide
theorem lf_ne_rt (c : Dev nD) : lf c ≠ rt c := by revert c; decide

/-- Where stream `s` sends. -/
def dn (c : Dev nD) (s : Fin 8) : Dev nD := dstOf (lf c) (rt c) s
/-- Where stream `s` comes from. -/
def up (c : Dev nD) (s : Fin 8) : Dev nD := upOf (lf c) (rt c) s

theorem dn_up (c : Dev nD) (s : Fin 8) : dn (up c s) s = c := by
  unfold dn up dstOf upOf; cases cw s <;> simp only [cond_true, cond_false, rt_lf, lf_rt]
theorem up_dn (c : Dev nD) (s : Fin 8) : up (dn c s) s = c := by
  unfold dn up dstOf upOf; cases cw s <;> simp only [cond_true, cond_false, rt_lf, lf_rt]

/-- The chunk `j` steps back along stream `s` from device `c`. -/
def ch (c : Dev nD) (s : Fin 8) (j : Nat) : Fin 16 :=
  bif cw s then pos c - Fin.ofNat 16 j else pos c + Fin.ofNat 16 j

theorem sub_add_step (x y : Fin 16) : x - 1 + (y + 1) = x + y := by revert x y; decide
theorem add_sub_step (x y : Fin 16) : x + 1 - (y + 1) = x - y := by revert x y; decide

theorem ch_dn (c : Dev nD) (s : Fin 8) (j : Nat) : ch (dn c s) s (j + 1) = ch c s j := by
  have e : Fin.ofNat 16 (j + 1) = Fin.ofNat 16 j + 1 := Fin.ext (by simp [Fin.val_add])
  unfold ch dn dstOf
  cases cw s
  · simp only [cond_false, pos_lf, e]; exact (sub_add_step _ _)
  · simp only [cond_true, pos_rt, e]; exact (add_sub_step _ _)

theorem ch_up (c : Dev nD) (s : Fin 8) (j : Nat) : ch (up c s) s j = ch c s (j + 1) := by
  rw [← ch_dn (up c s), dn_up]

theorem ch_wrap (c : Dev nD) (s : Fin 8) (j : Nat) : ch c s (j + 16) = ch c s j := by
  have e : Fin.ofNat 16 (j + 16) = Fin.ofNat 16 j := Fin.ext (by simp)
  unfold ch; rw [e]

theorem ch_inj (c : Dev nD) (s : Fin 8) (i j : Fin 16) (h : ch c s (i.val + 15) = ch c s (j.val + 15)) : i = j := by
  unfold ch at h
  cases hc : cw s <;> rw [hc] at h
  · have h' : (pos c + Fin.ofNat 16 (i.val + 15)).val = (pos c + Fin.ofNat 16 (j.val + 15)).val := congrArg Fin.val h
    simp only [Fin.val_add, Fin.val_ofNat] at h'
    omega
  · have h' : (pos c - Fin.ofNat 16 (i.val + 15)).val = (pos c - Fin.ofNat 16 (j.val + 15)).val := congrArg Fin.val h
    simp only [Fin.sub_def, Fin.val_ofNat] at h'
    omega

/-- The corner of chunk `k`'s block of rows of stream `s` in the result. -/
def regOff (k : Fin 16) (s : Fin 8) : Fin 2 → Nat := ![128 * k.val + 32 * (sub s).val, bif cw s then 0 else 1024]

theorem regOff_inb (k : Fin 16) (s : Fin 8) (a : Fin 2) : regOff k s a + S32x1024.size a ≤ S2048x2048.size a := by
  revert k s a; decide

/-- Chunk `k`'s block of rows of stream `s` in the result. -/
def reg (k : Fin 16) (s : Fin 8) : OutR := ⟨regOff k s, regOff_inb k s⟩

theorem reg_words (k : Fin 16) (s : Fin 8) : (reg k s).rect.WholeWords (EltTy.packing .bf16) := by revert k s; decide
theorem reg_packed (k : Fin 16) (s : Fin 8) : (reg k s).rect.PackedRows (EltTy.packing .bf16) := by revert k s; decide

/-- The corner of chunk `k` in the left factor's block. -/
def aOff (k : Fin 16) : Fin 2 → Nat := ![128 * k.val, 0]
theorem aOff_inb (k : Fin 16) (a : Fin 2) : aOff k a + S128x1024.size a ≤ S2048x1024.size a := by revert k a; decide

/-- The run of the device at a given place. -/
def geoC (c : Dev nD) : Geo where
  l := lf c
  r := rt c
  own := aOff (pos c)
  ownB := aOff_inb _
  fst₁ := aOff (ch c 0 1)
  fst₁B := aOff_inb _
  fst₂ := aOff (ch c 1 1)
  fst₂B := aOff_inb _
  nxt₁ h := aOff (ch c 0 (h.val + 2))
  nxt₁B _ := aOff_inb _
  nxt₂ h := aOff (ch c 1 (h.val + 2))
  nxt₂B _ := aOff_inb _
  fin s := reg (ch c s 15) s
  finP s := reg_packed _ _
  ago s := reg (ch c s 15) s
  agoW s := reg_words _ _
  agh h s := reg (ch c s (h.val + 16)) s
  aghW h s := reg_words _ _

theorem OutR.eq_of {o o' : OutR} (h : o.off = o'.off) : o = o' := by
  obtain ⟨x, hx⟩ := o; obtain ⟨y, hy⟩ := o'; obtain rfl : x = y := h; rfl

theorem Geo.eq_of {g g' : Geo} (h1 : g.l = g'.l) (h2 : g.r = g'.r) (h3 : g.own = g'.own) (h4 : g.fst₁ = g'.fst₁) (h5 : g.fst₂ = g'.fst₂)
    (h6 : g.nxt₁ = g'.nxt₁) (h7 : g.nxt₂ = g'.nxt₂) (h8 : g.fin = g'.fin) (h9 : g.ago = g'.ago) (h10 : g.agh = g'.agh) : g = g' := by
  obtain ⟨a1, a2, a3, b3, a4, b4, a5, b5, a6, b6, a7, b7, a8, b8, a9, b9, a10, b10⟩ := g
  obtain ⟨c1, c2, c3, d3, c4, d4, c5, d5, c6, d6, c7, d7, c8, d8, c9, d9, c10, d10⟩ := g'
  obtain rfl : a1 = c1 := h1
  obtain rfl : a2 = c2 := h2
  obtain rfl : a3 = c3 := h3
  obtain rfl : a4 = c4 := h4
  obtain rfl : a5 = c5 := h5
  obtain rfl : a6 = c6 := h6
  obtain rfl : a7 = c7 := h7
  obtain rfl : a8 = c8 := h8
  obtain rfl : a9 = c9 := h9
  obtain rfl : a10 = c10 := h10
  rfl

/-- The position as the word the host passes. -/
abbrev wP (c : Dev nD) : BitVec 32 := BitVec.ofNat 32 (pos c).val
/-- The left neighbour as the word the host passes. -/
abbrev wL (c : Dev nD) : BitVec 32 := BitVec.ofNat 32 (lf c).val
/-- The right neighbour as the word the host passes. -/
abbrev wR (c : Dev nD) : BitVec 32 := BitVec.ofNat 32 (rt c).val

theorem nxt₁_eq (c : Dev nD) (h : Fin 14) (a : Fin 2) : k0_off4 (wP c) (BitVec.ofNat 32 h.val) a = aOff (ch c 0 (h.val + 2)) a := by
  revert c h a; decide
theorem nxt₂_eq (c : Dev nD) (h : Fin 14) (a : Fin 2) : k0_off5 (wP c) (BitVec.ofNat 32 h.val) a = aOff (ch c 1 (h.val + 2)) a := by
  revert c h a; decide
theorem agh₁_eq (c : Dev nD) (h : Fin 15) (q : Fin 4) (a : Fin 2) :
    k0_off10 (wP c) (BitVec.ofNat 32 h.val) (BitVec.ofNat 32 (32 * q.val)) a = regOff (ch c ⟨2 * q.val, by omega⟩ (h.val + 16)) ⟨2 * q.val, by omega⟩ a := by
  revert c h q a; decide
theorem agh₂_eq (c : Dev nD) (h : Fin 15) (q : Fin 4) (a : Fin 2) :
    k0_off11 (wP c) (BitVec.ofNat 32 h.val) (BitVec.ofNat 32 (32 * q.val)) a = regOff (ch c ⟨2 * q.val + 1, by omega⟩ (h.val + 16)) ⟨2 * q.val + 1, by omega⟩ a := by
  revert c h q a; decide

theorem ago₁_eq (c : Dev nD) (q : Fin 4) (a : Fin 2) :
    k0_off8 (wP c) (BitVec.ofNat 32 (32 * q.val)) a = regOff (ch c ⟨2 * q.val, by omega⟩ 15) ⟨2 * q.val, by omega⟩ a := by
  revert c q a; decide
theorem ago₂_eq (c : Dev nD) (q : Fin 4) (a : Fin 2) :
    k0_off9 (wP c) (BitVec.ofNat 32 (32 * q.val)) a = regOff (ch c ⟨2 * q.val + 1, by omega⟩ 15) ⟨2 * q.val + 1, by omega⟩ a := by
  revert c q a; decide
theorem fin₁_eq (c : Dev nD) (q : Fin 4) (a : Fin 2) :
    k0_off6 (wP c) (BitVec.ofNat 32 (32 * q.val)) a = regOff (ch c ⟨2 * q.val, by omega⟩ 15) ⟨2 * q.val, by omega⟩ a := by
  revert c q a; decide
theorem fin₂_eq (c : Dev nD) (q : Fin 4) (a : Fin 2) :
    k0_off7 (wP c) (BitVec.ofNat 32 (32 * q.val)) a = regOff (ch c ⟨2 * q.val + 1, by omega⟩ 15) ⟨2 * q.val + 1, by omega⟩ a := by
  revert c q a; decide

/-- A rectangle named by a stream's direction is the stream's own. -/
theorem outOf_reg {o₁ o₂ : Fin 4 → Fin 2 → Nat} {h₁ : ∀ q a, o₁ q a + S32x1024.size a ≤ S2048x2048.size a}
    {h₂ : ∀ q a, o₂ q a + S32x1024.size a ≤ S2048x2048.size a} (k : Fin 8 → Fin 16)
    (e₁ : ∀ q a, o₁ q a = regOff (k ⟨2 * q.val, by omega⟩) ⟨2 * q.val, by omega⟩ a)
    (e₂ : ∀ q a, o₂ q a = regOff (k ⟨2 * q.val + 1, by omega⟩) ⟨2 * q.val + 1, by omega⟩ a) (s : Fin 8) :
    outOf o₁ o₂ h₁ h₂ s = reg (k s) s := by
  have hs : ∀ s : Fin 8, (cw s = true → (⟨2 * (sub s).val, by omega⟩ : Fin 8) = s) ∧ (cw s = false → (⟨2 * (sub s).val + 1, by omega⟩ : Fin 8) = s) := by decide
  apply OutR.eq_of
  unfold outOf reg
  split
  · rename_i hc
    funext a; refine (e₁ _ a).trans ?_; rw [(hs s).1 hc]
  · rename_i hc
    funext a; refine (e₂ _ a).trans ?_; rw [(hs s).2 hc]

theorem geoOf_eq (c : Dev nD) (h0 : k0_chk3 (wP c)) (h1 : k0_chk1 (wL c)) (h2 : k0_chk2 (wR c)) :
    geoOf (wP c) h0 (wL c) h1 (wR c) h2 = geoC c := by
  apply Geo.eq_of
  · apply Fin.ext; show k0_dev1 (wL c) = (lf c).val; clear h0 h1 h2; revert c; decide
  · apply Fin.ext; show k0_dev2 (wR c) = (rt c).val; clear h0 h1 h2; revert c; decide
  · show k0_off1 (wP c) = aOff (pos c); clear h0 h1 h2; revert c; decide
  · show k0_off2 (wP c) = aOff (ch c 0 1); clear h0 h1 h2; revert c; decide
  · show k0_off3 (wP c) = aOff (ch c 1 1); clear h0 h1 h2; revert c; decide
  · funext h a; exact nxt₁_eq c h a
  · funext h a; exact nxt₂_eq c h a
  · funext s; exact outOf_reg (h₁ := k0_off6_inb _ h0) (h₂ := k0_off7_inb _ h0) (fun s => ch c s 15) (fin₁_eq c) (fin₂_eq c) s
  · funext s; exact outOf_reg (h₁ := k0_off8_inb _ h0) (h₂ := k0_off9_inb _ h0) (fun s => ch c s 15) (ago₁_eq c) (ago₂_eq c) s
  · funext h s; exact outOf_reg (h₁ := k0_off10_inb _ h0 h) (h₂ := k0_off11_inb _ h0 h) (fun s => ch c s (h.val + 16)) (agh₁_eq c h) (agh₂_eq c h) s

theorem chk3_pos (c : Dev nD) : k0_chk3 (wP c) := by revert c; decide
theorem chk1_lf (c : Dev nD) : k0_chk1 (wL c) := by revert c; decide
theorem chk2_rt (c : Dev nD) : k0_chk2 (wR c) := by revert c; decide

end Cert.KernelIdeal

end
-- ==== Proof.Vals.lean ====
module

public import proofs.«01_k».proof.Proof.Ring

@[expose] public section

noncomputable section

namespace Cert.KernelIdeal

open Idealize.ShloMosaic Idealize.SL.Sem
open Facts₀ Facts

variable {F : FTy → Type} [FloatOps F]

/-! # The values that travel

`A` is each device's block of the left factor, `B` each device's block of the right one. -/

variable (A : Dev nD → Vec F S2048x1024 .bf16) (B : Dev nD → Vec F S1024x2048 .bf16)

/-- A chunk's rows of a block of the left factor. -/
abbrev aPart (v : Vec F S2048x1024 .bf16) (k : Fin 16) : Vec F S128x1024 .bf16 :=
  mA.view.readAt (Elt F) (Rect.unit (s := S2048x1024) (aOff k) S128x1024.size (aOff_inb k)).toLoadRect v
/-- The half of a block of the right factor that a direction works on. -/
abbrev bPart (v : Vec F S1024x2048 .bf16) : Bool → Vec F S1024x1024 .bf16
  | true => mC.view.readAt (Elt F) (Rect.unit (s := S1024x2048) ![0, 0] S1024x1024.size inb_S1024x2048_S1024x1024_0_0).toLoadRect v
  | false => mC.view.readAt (Elt F) (Rect.unit (s := S1024x2048) ![0, 1024] S1024x1024.size inb_S1024x2048_S1024x1024_0_1024).toLoadRect v

/-- Device `c`'s part of the product for hop `j` of the reduce-scatter, in the direction `b`. -/
def prtB (c : Dev nD) : Bool → Nat → FVec F S128x1024 .f32
  | true, j => mm (aPart (A c) (ch c 0 j)) (bPart (B c) true)
  | false, j => mm (aPart (A c) (ch c 1 j)) (bPart (B c) false)

/-- A part of a chunk and the sum that arrived. -/
abbrev updV (q : Fin 4) (prt : FVec F S128x1024 .f32) (v : FVec F S32x1024 .bf16) : FVec F S32x1024 .f32 :=
  addf (rowsOf q prt) (extf .f32 v bitsLt_bf16_f32)

/-- What device `c` sends in hop `t` of stream `s` of the reduce-scatter. -/
def X : Nat → Dev nD → Fin 8 → FVec F S32x1024 .bf16
  | 0, c, s => truncf .bf16 (rowsOf (sub s) (prtB A B c (cw s) 0)) bitsLt_bf16_f32
  | t + 1, c, s => truncf .bf16 (updV (sub s) (prtB A B c (cw s) (t + 1)) (X t (up c s) s)) bitsLt_bf16_f32

/-- The block of the result that device `c` finishes for stream `s`. -/
def Y (c : Dev nD) (s : Fin 8) : FVec F S32x1024 .bf16 :=
  truncf .bf16 (siluV (updV (sub s) (prtB A B c (cw s) 15) (X A B 14 (up c s) s))) bitsLt_bf16_f32

/-- What device `c` sends in hop `h` of stream `s` of the all-gather. -/
def H : Nat → Dev nD → Fin 8 → FVec F S32x1024 .bf16
  | 0, c, s => Y A B c s
  | h + 1, c, s => H h (up c s) s

/-- What device `c` sends in hop `t` of stream `s`, both halves counted through. -/
def V (t : Nat) (c : Dev nD) (s : Fin 8) : FVec F S32x1024 .bf16 :=
  if t < 15 then X A B t c s else H A B (t - 15) c s

theorem V_next (t : Nat) (ht : 15 ≤ t) (c : Dev nD) (s : Fin 8) : V A B t (up c s) s = V A B (t + 1) c s := by
  unfold V
  rw [if_neg (by omega), if_neg (by omega), show t + 1 - 15 = (t - 15) + 1 by omega]
  rfl

/-! ## Hops, slots and rounds -/

/-- The slot of hop `t`, both halves counted through. -/
def slotT (t : Nat) : Fin 2 := if t < 15 then slotOf t else slotOf (t - 15)
/-- How many hops before `t` use slot `σ`. -/
def nxt (σ : Fin 2) (t : Nat) : Nat :=
  if σ = 0 then (if t ≤ 15 then (t + 1) / 2 else 8 + (t - 14) / 2) else (if t ≤ 15 then t / 2 else 7 + (t - 15) / 2)
/-- The round of hop `t` on its slot. -/
def rndT (t : Nat) : Nat := nxt (slotT t) t
/-- The hop of a slot's round. -/
def hopOf (σ : Fin 2) (r : Nat) : Nat :=
  if σ = 0 then (if r < 8 then 2 * r else 2 * r - 1) else (if r < 7 then 2 * r + 1 else 2 * r + 2)
/-- How many rounds a slot has. -/
def rounds (σ : Fin 2) : Nat := if σ = 0 then 16 else 14
/-- The hop whose landing place a credit answers for. -/
def nextT (d : Nat) : Nat := if d = 13 then 16 else if d = 14 then 15 else d + 2

theorem slotT_val (t : Nat) : (slotT t).val = if t < 15 then t % 2 else (t - 15) % 2 := by
  unfold slotT; split <;> rfl
theorem slotT_lt {t : Nat} (h : t < 15) : slotT t = slotOf t := if_pos h
theorem slotT_ge {t : Nat} (h : 15 ≤ t) : slotT t = slotOf (t - 15) := if_neg (by omega)
theorem slot01 (σ : Fin 2) : σ = 0 ∨ σ = 1 := by revert σ; decide

theorem hopOf_rndT {t : Nat} (h : t < 30) : hopOf (slotT t) (rndT t) = t := by
  revert t; decide
theorem rndT_lt {t : Nat} (h : t < 30) : rndT t < rounds (slotT t) := by
  revert t; decide
theorem nxt_succ {t : Nat} (h : t < 30) (σ : Fin 2) : nxt σ (t + 1) = nxt σ t + (if σ = slotT t then 1 else 0) := by
  revert σ; revert t; decide
theorem nxt_end (σ : Fin 2) : nxt σ 30 = rounds σ := by revert σ; decide
theorem nxt_zero (σ : Fin 2) : nxt σ 0 = 0 := by revert σ; decide
theorem rndT_nextT {d : Nat} (h : d < 30) : rndT (nextT d) = rndT d + 1 := by
  revert d; decide
theorem slotT_nextT {d : Nat} (h : d < 30) : slotT (nextT d) = slotT d := by
  revert d; decide
theorem nextT_lt {d : Nat} : nextT d < 15 ↔ d ≤ 12 := by
  unfold nextT; split
  · omega
  · split <;> omega

/-- How many credits a stream has used when it starts hop `t`. -/
def used (t : Nat) : Nat := if t = 15 ∨ t = 16 then 15 else t - 1
/-- The hop whose credit answers for the landing place of hop `t`. -/
def prevT (t : Nat) : Nat := if t = 15 then 14 else if t = 16 then 13 else t - 2
theorem prevT_lt {t : Nat} (h : 2 ≤ t) : prevT t < used t := by
  unfold prevT used
  by_cases h1 : t = 15
  · simp only [h1, if_true, true_or]; decide
  · by_cases h2 : t = 16
    · simp only [h2]; decide
    · simp only [h1, h2, if_false, or_self]; omega
theorem nextT_prevT {t : Nat} (h : 2 ≤ t) : nextT (prevT t) = t := by
  unfold prevT nextT
  by_cases h1 : t = 15
  · simp only [h1, if_true]; decide
  · by_cases h2 : t = 16
    · simp only [h2]; decide
    · simp only [h1, h2, if_false]
      rw [if_neg (by omega), if_neg (by omega)]; omega

end Cert.KernelIdeal

end
-- ==== Proof.Cells.lean ====
module

public import proofs.«01_k».proof.Proof.Vals
public import Idealize.ShloMosaic.Lib.Pipeline.Regions
public import Idealize.ShloMosaic.Lib.Pipeline.Kit
public import Idealize.ShloMosaic.Lib.Pipeline.RegionTalk
public import Idealize.ShloMosaic.Lib.Pipeline.TalkSites
public import Idealize.ShloMosaic.Lib.Rounds
public import Idealize.ShloMosaic.Lib.Release
public import Idealize.ShloMosaic.Lib.Tactic

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

/-! # The semaphores of the kernel as cells, and what their units hand over -/

/-- A receive slot: the device, the stream, the slot. -/
abbrev Key : Type := Dev nD × Fin 8 × Fin 2

/-- The ghost state: the staging's rounds; the talk's rounds and the records of the receive slots. -/
abbrev UU : Type := UR sig nD τ × (URounds (GSem nD τ sig) ℕ × Release.USlots Key)

local notation "𝕄" => MT nD τ sig ℕ (Elt F) ℕ UU ℕ

abbrev EP : Emb (UR sig nD τ) (MT nD τ sig ℕ (Elt F) ℕ UU ℕ) := embL
abbrev EQ : Emb (URounds (GSem nD τ sig) ℕ × Release.USlots Key) (MT nD τ sig ℕ (Elt F) ℕ UU ℕ) := embR
def ER : Emb (URounds (GSem nD τ sig) ℕ) (MT nD τ sig ℕ (Elt F) ℕ UU ℕ) :=
  (Emb.inl : Emb (URounds (GSem nD τ sig) ℕ) (URounds (GSem nD τ sig) ℕ × Release.USlots Key)).trans EQ
def EK : Emb (Release.USlots Key) (MT nD τ sig ℕ (Elt F) ℕ UU ℕ) :=
  (Emb.inr : Emb (Release.USlots Key) (URounds (GSem nD τ sig) ℕ × Release.USlots Key)).trans EQ

instance ER_landsIn : (ER : Emb _ 𝕄).LandsIn (upEmb : UEmb _ 𝕄) := by unfold ER; infer_instance
instance EK_landsIn : (EK : Emb _ 𝕄).LandsIn (upEmb : UEmb _ 𝕄) := by unfold EK; infer_instance

/-! ## The cells -/

abbrev sCell (c : Dev nD) (s : Fin 8) (σ : Fin 2) : GSem nD τ sig := ((c : Thread nD τ), .dma (sSem s σ))
abbrev rCell (c : Dev nD) (s : Fin 8) (σ : Fin 2) : GSem nD τ sig := ((c : Thread nD τ), .dma (rSem s σ))
abbrev cCell (c : Dev nD) (s : Fin 8) : GSem nD τ sig := ((c : Thread nD τ), .reg (cSem s))
abbrev bCell (c : Dev nD) : GSem nD τ sig := ((c : Thread nD τ), .reg qB)

/-- What a semaphore is for. -/
inductive Kd where
  | snd (s : Fin 8) (σ : Fin 2)
  | rcv (s : Fin 8) (σ : Fin 2)
  | crd (s : Fin 8)
  | bar
  | other
deriving DecidableEq

/-- What a semaphore is for, by its number. -/
def kd : SemLoc sig → Kd
  | .dma q =>
    if h : 4 ≤ q.val ∧ q.val < 20 then .snd ⟨(q.val - 4) / 2, by omega⟩ ⟨(q.val - 4) % 2, by omega⟩
    else if h : 20 ≤ q.val ∧ q.val < 36 then .rcv ⟨(q.val - 20) / 2, by omega⟩ ⟨(q.val - 20) % 2, by omega⟩
    else .other
  | .reg q => if h : q.val < 8 then .crd ⟨q.val, h⟩ else .bar

theorem kd_s (s : Fin 8) (σ : Fin 2) : kd (.dma (sSem s σ)) = .snd s σ := by revert s σ; decide
theorem kd_r (s : Fin 8) (σ : Fin 2) : kd (.dma (rSem s σ)) = .rcv s σ := by revert s σ; decide
theorem kd_c (s : Fin 8) : kd (.reg (cSem s)) = .crd s := by revert s; decide
theorem kd_b : kd (.reg qB) = .bar := by decide

/-- The units a transfer moves its semaphores by. -/
def N : ℕ := (rView 0 0).view.dmaCredit
theorem N_pos : 0 < N := View.dmaCredit_pos _ (by decide)

/-! ## Buffers and their contents -/

/-- Device `c` holds the buffer `M` whole, and it reads `v`. -/
def has (c : Dev nD) (M : Memref sig .tc .vmem S32x1024 .bf16) (v : FVec F S32x1024 .bf16) : sProp 𝕄 :=
  iprop(∃ f, ⌜M.view.read (Elt F) f = v⌝ ∗ M.view.loc (c : Thread nD τ) ↦[M.view.set]{fullShare} f)
/-- Device `c` holds the buffer `M` whole. -/
def hasAny (c : Dev nD) (M : Memref sig .tc .vmem S32x1024 .bf16) : sProp 𝕄 :=
  iprop(∃ f, M.view.loc (c : Thread nD τ) ↦[M.view.set]{fullShare} f)

theorem has_any (c : Dev nD) (M : Memref sig .tc .vmem S32x1024 .bf16) (v : FVec F S32x1024 .bf16) :
    has c M v ⊢ (hasAny c M : sProp 𝕄) := by
  unfold has hasAny
  iintro ⟨%f, -, H⟩
  iexists f; iexact H

instance has_storable (c : Dev nD) (M : Memref sig .tc .vmem S32x1024 .bf16) (v : FVec F S32x1024 .bf16) :
    BI.Storable (upEmb : UEmb _ 𝕄) (has c M v) := by unfold has; infer_instance
instance hasAny_storable (c : Dev nD) (M : Memref sig .tc .vmem S32x1024 .bf16) :
    BI.Storable (upEmb : UEmb _ 𝕄) (hasAny c M : sProp 𝕄) := by unfold hasAny; infer_instance

/-- The buffer that hop `t` of stream `s` leaves device `c` from. -/
def bufS (c : Dev nD) (s : Fin 8) (t : ℕ) : Memref sig .tc .vmem S32x1024 .bf16 :=
  if t < 15 then xView s (slotT t) else (reg (ch c s t) s).view
/-- The buffer that hop `t` of stream `s` reaches device `c` in. -/
def bufR (c : Dev nD) (s : Fin 8) (t : ℕ) : Memref sig .tc .vmem S32x1024 .bf16 :=
  if t < 15 then rView s (slotT t) else (reg (ch c s (t + 1)) s).view

theorem bufR_dn (c : Dev nD) (s : Fin 8) (t : ℕ) (h : 15 ≤ t) : bufR (dn c s) s t = bufS c s t := by
  unfold bufR bufS
  rw [if_neg (by omega), if_neg (by omega), ch_dn]

/-- Hop `t` of stream `s` may be sent to device `e`: its receive cell has got that far, its landing slot was let go. -/
def ready (e : Dev nD) (s : Fin 8) (t : ℕ) : sProp 𝕄 :=
  iprop(reached ER (rCell e s (slotT t)) (rndT t)
    ∗ if t < 15 then Release.released EK (e, s, slotT t) (rndT t + 1) else emp)

instance ready_persistent (e : Dev nD) (s : Fin 8) (t : ℕ) : BI.Persistent (ready e s t : sProp 𝕄) := by
  unfold ready; split <;> infer_instance
instance ready_storable (e : Dev nD) (s : Fin 8) (t : ℕ) : BI.Storable (upEmb : UEmb _ 𝕄) (ready e s t : sProp 𝕄) := by
  unfold ready; split <;> infer_instance

/-- What the credit of hop `d` says about device `e`: the landing places of the hops that follow hops up to `d` are free. -/
def credPay (e : Dev nD) (s : Fin 8) (d : ℕ) : sProp 𝕄 :=
  bigSep (Finset.range (d + 1)) fun d' => ready e s (nextT d')

instance credPay_persistent (e : Dev nD) (s : Fin 8) (d : ℕ) : BI.Persistent (credPay e s d : sProp 𝕄) := by
  unfold credPay; infer_instance
instance credPay_storable (e : Dev nD) (s : Fin 8) (d : ℕ) : BI.Storable (upEmb : UEmb _ 𝕄) (credPay e s d : sProp 𝕄) := by
  unfold credPay; infer_instance

/-- What device `e` hands upstream on entry: its slots are free, and the blocks of the result that the all-gather writes. -/
def downPack (e : Dev nD) (s : Fin 8) : sProp 𝕄 :=
  iprop(ready e s 0 ∗ ready e s 1 ∗ bigSep (Finset.range 15) fun h => hasAny e (reg (ch e s (h + 16)) s).view)
/-- What device `u` hands downstream on entry: its credit cell is open. -/
def upPack (u : Dev nD) (s : Fin 8) : sProp 𝕄 := reached ER (cCell u s) 0

instance downPack_storable (e : Dev nD) (s : Fin 8) : BI.Storable (upEmb : UEmb _ 𝕄) (downPack e s : sProp 𝕄) := by
  unfold downPack; infer_instance
instance upPack_storable (e : Dev nD) (s : Fin 8) : BI.Storable (upEmb : UEmb _ 𝕄) (upPack e s : sProp 𝕄) := by
  unfold upPack; infer_instance

/-- What the neighbour on one side hands device `c` on entry, duty 0 the left one and duty 1 the right one. -/
def barPay (c : Dev nD) (d : ℕ) : sProp 𝕄 :=
  bigSep Finset.univ fun s : Fin 8 => if (cw s == (d == 1)) = true then downPack (dn c s) s else upPack (up c s) s

instance barPay_storable (c : Dev nD) (d : ℕ) : BI.Storable (upEmb : UEmb _ 𝕄) (barPay c d : sProp 𝕄) := by
  have h : ∀ s : Fin 8, BI.Storable (upEmb : UEmb _ 𝕄) (if (cw s == (d == 1)) = true then downPack (dn c s) s else upPack (up c s) s : sProp 𝕄) := by
    intro s; split <;> infer_instance
  unfold barPay; infer_instance

/-! ## The schedule -/

variable (A : Dev nD → Vec F S2048x1024 .bf16) (B : Dev nD → Vec F S1024x2048 .bf16)

/-- Which units a cell's round takes. -/
def dutiesK : Kd → ℕ → Finset ℕ
  | .snd _ σ, r => if r < rounds σ then {0} else ∅
  | .rcv _ σ, r => if r < rounds σ then {0} else ∅
  | .crd _, r => if r = 0 then Finset.range 30 else ∅
  | .bar, r => if r = 0 then Finset.range 2 else ∅
  | .other, _ => ∅

/-- How many units each of them is. -/
def amountK : Kd → ℕ
  | .snd _ _ => N
  | .rcv _ _ => N
  | _ => 1

/-- What they hand to the cell's device. -/
def payK (c : Dev nD) : Kd → ℕ → ℕ → sProp 𝕄
  | .snd s σ, r, _ => has c (bufS c s (hopOf σ r)) (V A B (hopOf σ r) c s)
  | .rcv s σ, r, _ => has c (bufR c s (hopOf σ r)) (V A B (hopOf σ r) (up c s) s)
  | .crd s, _, d => credPay (dn c s) s d
  | .bar, _, d => barPay c d
  | .other, _, _ => iprop(emp)

/-- The talk. -/
def Rd : Rounds.Schedule (GSem nD τ sig) ℕ 𝕄 where
  duties g r := if g.1.2 = .tc then dutiesK (kd g.2) r else ∅
  unitless _ := False
  amount g _ _ := amountK (kd g.2)
  payload g r d := payK A B g.1.1 (kd g.2) r d
  amount_pos g _ _ _ := by
    show 0 < amountK (kd g.2)
    cases kd g.2 <;> first | exact N_pos | exact Nat.one_pos

instance Rd_storable (g : GSem nD τ sig) (r d : ℕ) : BI.Storable (upEmb : UEmb _ 𝕄) ((Rd A B).payload g r d) := by
  show BI.Storable upEmb (payK A B g.1.1 (kd g.2) r d)
  cases kd g.2 <;> (unfold payK; infer_instance)

section Sched

variable (c : Dev nD) (s : Fin 8) {t : ℕ}

theorem duties_tc (sm : SemLoc sig) (r : ℕ) : (Rd A B).duties ((c : Thread nD τ), sm) r = dutiesK (kd sm) r := by
  dsimp only [Rd]; exact if_pos rfl
theorem duties_s (σ : Fin 2) (r : ℕ) : (Rd A B).duties (sCell c s σ) r = if r < rounds σ then {0} else ∅ := by
  refine (duties_tc A B c (.dma (sSem s σ)) r).trans ?_
  rw [kd_s]; rfl
theorem duties_r (σ : Fin 2) (r : ℕ) : (Rd A B).duties (rCell c s σ) r = if r < rounds σ then {0} else ∅ := by
  refine (duties_tc A B c (.dma (rSem s σ)) r).trans ?_
  rw [kd_r]; rfl
theorem duties_c (r : ℕ) : (Rd A B).duties (cCell c s) r = if r = 0 then Finset.range 30 else ∅ := by
  refine (duties_tc A B c (.reg (cSem s)) r).trans ?_
  rw [kd_c]; rfl
theorem duties_b (r : ℕ) : (Rd A B).duties (bCell c) r = if r = 0 then Finset.range 2 else ∅ := by
  refine (duties_tc A B c (.reg qB) r).trans ?_
  rw [kd_b]; rfl

theorem amount_s (σ : Fin 2) (r d : ℕ) : (Rd A B).amount (sCell c s σ) r d = N := by
  show amountK (kd (.dma (sSem s σ))) = N; rw [kd_s]; rfl
theorem amount_r (σ : Fin 2) (r d : ℕ) : (Rd A B).amount (rCell c s σ) r d = N := by
  show amountK (kd (.dma (rSem s σ))) = N; rw [kd_r]; rfl
theorem amount_c (r d : ℕ) : (Rd A B).amount (cCell c s) r d = 1 := by
  show amountK (kd (.reg (cSem s))) = 1; rw [kd_c]; rfl
theorem amount_b (r d : ℕ) : (Rd A B).amount (bCell c) r d = 1 := by
  show amountK (kd (.reg qB)) = 1; rw [kd_b]; rfl

theorem duties_st (h : t < 30) : (Rd A B).duties (sCell c s (slotT t)) (rndT t) = {0} := by rw [duties_s, if_pos (rndT_lt h)]
theorem duties_rt (h : t < 30) : (Rd A B).duties (rCell c s (slotT t)) (rndT t) = {0} := by rw [duties_r, if_pos (rndT_lt h)]

theorem expect_st (h : t < 30) : (Rd A B).expect (sCell c s (slotT t)) (rndT t) = N := by
  unfold Schedule.expect Schedule.amountOf; rw [duties_st A B c s h, Finset.sum_singleton, amount_s]
theorem expect_rt (h : t < 30) : (Rd A B).expect (rCell c s (slotT t)) (rndT t) = N := by
  unfold Schedule.expect Schedule.amountOf; rw [duties_rt A B c s h, Finset.sum_singleton, amount_r]
theorem expect_c : (Rd A B).expect (cCell c s) 0 = 30 := by
  unfold Schedule.expect Schedule.amountOf
  rw [duties_c, if_pos rfl, Finset.sum_congr rfl (fun d _ => amount_c A B c s 0 d), Finset.sum_const, Finset.card_range]; rfl
theorem expect_b : (Rd A B).expect (bCell c) 0 = 2 := by
  unfold Schedule.expect Schedule.amountOf
  rw [duties_b, if_pos rfl, Finset.sum_congr rfl (fun d _ => amount_b A B c 0 d), Finset.sum_const, Finset.card_range]; rfl

theorem payload_st (h : t < 30) (d : ℕ) : (Rd A B).payload (sCell c s (slotT t)) (rndT t) d = has c (bufS c s t) (V A B t c s) := by
  show payK A B c (kd (.dma (sSem s (slotT t)))) (rndT t) d = _
  rw [kd_s]
  show has c (bufS c s (hopOf (slotT t) (rndT t))) (V A B (hopOf (slotT t) (rndT t)) c s) = _
  rw [hopOf_rndT h]
theorem payload_rt (h : t < 30) (d : ℕ) : (Rd A B).payload (rCell c s (slotT t)) (rndT t) d = has c (bufR c s t) (V A B t (up c s) s) := by
  show payK A B c (kd (.dma (rSem s (slotT t)))) (rndT t) d = _
  rw [kd_r]
  show has c (bufR c s (hopOf (slotT t) (rndT t))) (V A B (hopOf (slotT t) (rndT t)) (up c s) s) = _
  rw [hopOf_rndT h]
theorem payload_c (r d : ℕ) : (Rd A B).payload (cCell c s) r d = credPay (dn c s) s d := by
  show payK A B c (kd (.reg (cSem s))) r d = _
  rw [kd_c]; rfl
theorem payload_b (r d : ℕ) : (Rd A B).payload (bCell c) r d = barPay c d := by
  show payK A B c (kd (.reg qB)) r d = _
  rw [kd_b]; rfl

theorem rest_st (h : t < 30) : bigSep ((Rd A B).duties (sCell c s (slotT t)) (rndT t) \ ∅) (fun u => (Rd A B).payload (sCell c s (slotT t)) (rndT t) u)
    = has c (bufS c s t) (V A B t c s) := by
  rw [Finset.sdiff_empty, duties_st A B c s h, bigSep_singleton, payload_st A B c s h]
theorem rest_rt (h : t < 30) : bigSep ((Rd A B).duties (rCell c s (slotT t)) (rndT t) \ ∅) (fun u => (Rd A B).payload (rCell c s (slotT t)) (rndT t) u)
    = has c (bufR c s t) (V A B t (up c s) s) := by
  rw [Finset.sdiff_empty, duties_rt A B c s h, bigSep_singleton, payload_rt A B c s h]

theorem bufS_amount (q : DmaSem sig) : (bufS c s t).view.dmaCredit = N ∧ (bufS c s t).view.amount (.dma q) = N := by
  unfold bufS; split <;> exact ⟨rfl, rfl⟩
theorem bufR_amount (q : DmaSem sig) : (bufR c s t).view.dmaCredit = N ∧ (bufR c s t).view.amount (.dma q) = N := by
  unfold bufR; split <;> exact ⟨rfl, rfl⟩

end Sched

/-! ## What is owed, and at which levels -/

/-- The index of the units hop `t`'s transfer moves. -/
abbrev lT (t : ℕ) : ℕ := 2 * t + 2
/-- The index of hop `d`'s credit. -/
abbrev lC (d : ℕ) : ℕ := 2 * d + 3

/-- The arrivals still owed to device `e` in stream `s` from hop `a` on. -/
def dueR (e : Dev nD) (s : Fin 8) (a : ℕ) : CellTallies nD τ sig ℕ :=
  ∑ t ∈ Finset.Ico a 30, tallyAt (rCell e s (slotT t)) (lT t) N
/-- The credits still owed to device `u` in stream `s` from hop `b` on. -/
def dueC (u : Dev nD) (s : Fin 8) (b : ℕ) : CellTallies nD τ sig ℕ :=
  ∑ d ∈ Finset.Ico b 30, tallyAt (cCell u s) (lC d) 1
/-- What device `c` still owes in stream `s`. -/
def dueS (c : Dev nD) (s : Fin 8) (a b : ℕ) : CellTallies nD τ sig ℕ := dueR (dn c s) s a + dueC (up c s) s b

theorem Ico_cons {a n : ℕ} (h : a < n) : Finset.Ico a n = insert a (Finset.Ico (a + 1) n) := by
  ext x; simp only [Finset.mem_Ico, Finset.mem_insert]; omega

theorem dueR_step (e : Dev nD) (s : Fin 8) {a : ℕ} (h : a < 30) :
    dueR e s a = dueR e s (a + 1) + tallyAt (rCell e s (slotT a)) (lT a) N := by
  unfold dueR
  rw [Ico_cons h, Finset.sum_insert (by simp), add_comm]
theorem dueC_step (u : Dev nD) (s : Fin 8) {b : ℕ} (h : b < 30) :
    dueC u s b = dueC u s (b + 1) + tallyAt (cCell u s) (lC b) 1 := by
  unfold dueC
  rw [Ico_cons h, Finset.sum_insert (by simp), add_comm]

end Cert.KernelIdeal

end
-- ==== Proof.State.lean ====
module

public import proofs.«01_k».proof.Proof.Cells

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # What a device holds of one stream between two of its steps -/

variable (A : Dev nD → Vec F S2048x1024 .bf16) (B : Dev nD → Vec F S1024x2048 .bf16)

abbrev 𝒱₀ : Variants := Variants.none

/-- A stretch of one core's run. -/
abbrev run (c : Dev nD) (p : PG F) (Q : PUnit → sProp 𝕄) : sProp 𝕄 :=
  wp frame (wpE (defs₀ (F := F)) 𝒱₀ (c : Thread nD τ) none) Set.univ p Q

/-- The barriers. -/
def cellsB : Finset (GSem nD τ sig) := Finset.univ.image bCell
/-- The kernel's own cells of one device. -/
def ownCells (c : Dev nD) : Finset (GSem nD τ sig) :=
  (Finset.univ.image fun x : Fin 8 × Fin 2 => sCell c x.1 x.2) ∪ (Finset.univ.image fun x : Fin 8 × Fin 2 => rCell c x.1 x.2)
    ∪ Finset.univ.image (cCell c)
/-- The kernel's own cells. -/
def cellsD : Finset (GSem nD τ sig) := Finset.univ.biUnion ownCells

theorem mem_s (c : Dev nD) (s : Fin 8) (σ : Fin 2) : sCell c s σ ∈ cellsB ∪ cellsD :=
  Finset.mem_union_right _ <| Finset.mem_biUnion.2 ⟨c, Finset.mem_univ _, Finset.mem_union_left _ <| Finset.mem_union_left _ <|
    Finset.mem_image.2 ⟨(s, σ), Finset.mem_univ _, rfl⟩⟩
theorem mem_r (c : Dev nD) (s : Fin 8) (σ : Fin 2) : rCell c s σ ∈ cellsB ∪ cellsD :=
  Finset.mem_union_right _ <| Finset.mem_biUnion.2 ⟨c, Finset.mem_univ _, Finset.mem_union_left _ <| Finset.mem_union_right _ <|
    Finset.mem_image.2 ⟨(s, σ), Finset.mem_univ _, rfl⟩⟩
theorem mem_c (c : Dev nD) (s : Fin 8) : cCell c s ∈ cellsB ∪ cellsD :=
  Finset.mem_union_right _ <| Finset.mem_biUnion.2 ⟨c, Finset.mem_univ _, Finset.mem_union_right _ <|
    Finset.mem_image.2 ⟨s, Finset.mem_univ _, rfl⟩⟩
theorem mem_b (c : Dev nD) : bCell c ∈ cellsB ∪ cellsD :=
  Finset.mem_union_left _ <| Finset.mem_image.2 ⟨c, Finset.mem_univ _, rfl⟩

/-- What all devices know: the cells, the receive slots' records, the levels. -/
def ctx (K : GSem nD τ sig → ℕ) (ιs : Key → ℕ) : sProp 𝕄 :=
  iprop((bigSep (cellsB ∪ cellsD) fun g => cellInv ER (Rd A B) (K g) g)
    ∗ (bigSep Finset.univ fun k : Key => Release.slotInv EK (ιs k) k (hasAny k.1 (rView k.2.1 k.2.2)))
    ∗ levAts (L 64) lv)

instance ctx_persistent (K : GSem nD τ sig → ℕ) (ιs : Key → ℕ) : BI.Persistent (ctx A B K ιs) := by unfold ctx; infer_instance

variable {A B} {K : GSem nD τ sig → ℕ} {ιs : Key → ℕ}

theorem ctx_cell {g : GSem nD τ sig} (h : g ∈ cellsB ∪ cellsD) : ctx A B K ιs ⊢ cellInv ER (Rd A B) (K g) g := by
  unfold ctx
  iintro ⟨H, -, -⟩
  have he : (bigSep (cellsB ∪ cellsD) fun g => cellInv ER (Rd A B) (K g) g) ⊢ cellInv ER (Rd A B) (K g) g :=
    bigSep_elim (Φ := fun g => (cellInv ER (Rd A B) (K g) g : sProp 𝕄)) h
  iapply he; iexact H
theorem ctx_slot (k : Key) : ctx A B K ιs ⊢ Release.slotInv EK (ιs k) k (hasAny k.1 (rView k.2.1 k.2.2) : sProp 𝕄) := by
  unfold ctx
  iintro ⟨-, H, -⟩
  have he : (bigSep Finset.univ fun k : Key => (Release.slotInv EK (ιs k) k (hasAny k.1 (rView k.2.1 k.2.2)) : sProp 𝕄)) ⊢ Release.slotInv EK (ιs k) k (hasAny k.1 (rView k.2.1 k.2.2)) :=
    bigSep_elim (Φ := fun k : Key => (Release.slotInv EK (ιs k) k (hasAny k.1 (rView k.2.1 k.2.2)) : sProp 𝕄)) (Finset.mem_univ k)
  iapply he; iexact H
theorem ctx_lev : ctx A B K ιs ⊢ (levAts (L 64) lv : sProp 𝕄) := by
  unfold ctx
  iintro ⟨-, -, H⟩
  iexact H

/-! ## Dues above a level -/

/-- Everything in `O` is owed above the index `b`. -/
def Ab (b : ℕ) (O : CellTallies nD τ sig ℕ) : Prop := ∀ g (k : ℕ), 0 < O g k → k ∈ L 64 g ∧ b < k

theorem Ab.zero (b : ℕ) : Ab b 0 := fun _ _ h => absurd h (Nat.lt_irrefl 0)
theorem Ab.add {b : ℕ} {O O' : CellTallies nD τ sig ℕ} (h : Ab b O) (h' : Ab b O') : Ab b (O + O') := fun g k hk => by
  have : 0 < O g k + O' g k := hk
  rcases Nat.eq_zero_or_pos (O g k) with h0 | h0
  · exact h' g k (by omega)
  · exact h g k h0
theorem Ab.mono {b b' : ℕ} {O : CellTallies nD τ sig ℕ} (h : Ab b O) (hb : b' ≤ b) : Ab b' O :=
  fun g k hk => ⟨(h g k hk).1, lt_of_le_of_lt hb (h g k hk).2⟩
theorem Ab.at {b i : ℕ} (hb : b < i) (hi : i < 64) (c : Dev nD) (sm : SemLoc sig) (n : ℕ) : Ab b (tallyAt ((c : Thread nD τ), sm) i n) :=
  fun g k hk => by
    obtain ⟨rfl, rfl⟩ := Pipeline.tallyAt_pos hk
    exact ⟨mem_L _ _ hi, hb⟩
theorem Ab.sum {b : ℕ} {ι : Type} (S : Finset ι) {O : ι → CellTallies nD τ sig ℕ} (h : ∀ i ∈ S, Ab b (O i)) : Ab b (∑ i ∈ S, O i) := by
  classical
  induction S using Finset.induction_on with
  | empty => exact Ab.zero b
  | insert i S hi ih =>
    rw [Finset.sum_insert hi]
    exact (h i (Finset.mem_insert_self ..)).add (ih fun j hj => h j (Finset.mem_insert_of_mem hj))
theorem Ab.dueR {b a : ℕ} (e : Dev nD) (s : Fin 8) (h : b < lT a) : Ab b (dueR e s a) :=
  Ab.sum _ fun t ht => Ab.at (by have := Finset.mem_Ico.1 ht; dsimp only [lT] at *; omega) (by have := Finset.mem_Ico.1 ht; dsimp only [lT] at *; omega) e _ N
theorem Ab.dueC {b a : ℕ} (e : Dev nD) (s : Fin 8) (h : b < lC a) : Ab b (dueC e s a) :=
  Ab.sum _ fun t ht => Ab.at (by have := Finset.mem_Ico.1 ht; dsimp only [lC] at *; omega) (by have := Finset.mem_Ico.1 ht; dsimp only [lC] at *; omega) e _ 1
theorem Ab.dueS {b a d : ℕ} (c : Dev nD) (s : Fin 8) (h : b < lT a) (h' : b < lC d) : Ab b (dueS c s a d) :=
  (Ab.dueR _ _ h).add (Ab.dueC _ _ h')

theorem ctx_mayWait {b : ℕ} (hb : b < 64) {O : CellTallies nD τ sig ℕ} (h : Ab b O) (c : Dev nD) (sm : SemLoc sig) :
    ctx A B K ιs ⊢ (MayWait (c : Thread nD τ) sm b O : sProp 𝕄) := ctx_lev.trans (mayWait_of hb c sm O h)

/-- What a device owes, whatever it has waited for so far. -/
def owing (c : Dev nD) (O : CellTallies nD τ sig ℕ) : sProp 𝕄 := iprop(∃ W, owes (c : Thread nD τ) O W)

/-! ## One stream's holdings -/

/-- Where device `c` stands on its send and receive cells of one slot. -/
def posAt (c : Dev nD) (s : Fin 8) (σ : Fin 2) (n : ℕ) : sProp 𝕄 :=
  iprop(atPos ER (sCell c s σ) n ∅ 0 ∗ reached ER (sCell c s σ) n ∗ atPos ER (rCell c s σ) n ∅ 0 ∗ reached ER (rCell c s σ) n)
/-- Where it stands on both slots, `t` hops done. -/
def posn (c : Dev nD) (s : Fin 8) (t : ℕ) : sProp 𝕄 := bigSep Finset.univ fun σ : Fin 2 => posAt c s σ (nxt σ t)

/-- The right to send hop `t`. -/
def sendTok (c : Dev nD) (s : Fin 8) (t : ℕ) : sProp 𝕄 :=
  iprop(dutyTok ER (sCell c s (slotT t)) (rndT t) 0 ∗ dutyTok ER (rCell (dn c s) s (slotT t)) (rndT t) 0
    ∗ if t < 15 then Release.writeTok EK (dn c s, s, slotT t) (rndT t + 1) else emp)
/-- The right to give credit `d`. -/
def payTok (c : Dev nD) (s : Fin 8) (d : ℕ) : sProp 𝕄 := dutyTok ER (cCell (up c s) s) 0 d
/-- What hop `t`'s arrival is waited with. -/
def recvCred (c : Dev nD) (s : Fin 8) (t : ℕ) : sProp 𝕄 := cred (tallyAt (rCell c s (slotT t)) (lT t) N)
/-- What hop `t`'s departure is waited with. -/
def sendCred (c : Dev nD) (s : Fin 8) (t : ℕ) : sProp 𝕄 := cred (tallyAt (sCell c s (slotT t)) (lT t) N)
/-- What credit `d` is waited with. -/
def credCred (c : Dev nD) (s : Fin 8) (d : ℕ) : sProp 𝕄 := cred (tallyAt (cCell c s) (lC d) 1)

/-- The receive slots that hops up to `n` may next land in. -/
def acc (c : Dev nD) (s : Fin 8) (n : ℕ) : sProp 𝕄 := bigSep (Finset.range n) fun d => ready c s (nextT d)
instance acc_persistent (c : Dev nD) (s : Fin 8) (n : ℕ) : BI.Persistent (acc c s n : sProp 𝕄) := by unfold acc; infer_instance

/-- `m` credits used. -/
def crdSt (c : Dev nD) (s : Fin 8) (m : ℕ) : sProp 𝕄 :=
  iprop(∃ S : Finset ℕ, ⌜S ⊆ Finset.range 30 ∧ m ≤ S.card⌝ ∗ atPos ER (cCell c s) 0 S m ∗ bigSep S fun d => credPay (dn c s) s d)

/-- What was handed over on entry and is kept. -/
def base (c : Dev nD) (s : Fin 8) : sProp 𝕄 := iprop(ready (dn c s) s 0 ∗ ready (dn c s) s 1 ∗ upPack (up c s) s)
instance base_persistent (c : Dev nD) (s : Fin 8) : BI.Persistent (base c s : sProp 𝕄) := by unfold base upPack; infer_instance

/-- Stream `s` with `t` hops waited for, `a` sent, `q` credits given and `m` used. -/
def st (c : Dev nD) (s : Fin 8) (t a q m : ℕ) : sProp 𝕄 :=
  iprop(posn c s t ∗ (bigSep (Finset.Ico t 30) (recvCred c s)) ∗ (bigSep (Finset.Ico a 30) (sendTok c s)) ∗ (bigSep (Finset.Ico q 30) (payTok c s))
    ∗ (bigSep (Finset.Ico m 30) (credCred c s)) ∗ crdSt c s m ∗ acc c s q ∗ base c s)

theorem posn_step (c : Dev nD) (s : Fin 8) {t : ℕ} (h : t < 30) :
    posn c s t ⊢ (iprop(posAt c s (slotT t) (rndT t) ∗ (posAt c s (slotT t) (rndT t + 1) -∗ posn c s (t + 1))) : sProp 𝕄) := by
  have e : rndT t + 1 = nxt (slotT t) (t + 1) := by rw [nxt_succ h, if_pos rfl]; rfl
  rw [e]
  refine bigSep_univ_update (Φ := fun σ => (posAt c s σ (nxt σ t) : sProp 𝕄)) (Ψ := fun σ => posAt c s σ (nxt σ (t + 1))) (slotT t) fun j hj => ?_
  rw [nxt_succ h, if_neg hj, Nat.add_zero]

theorem posn_reached (c : Dev nD) (s : Fin 8) (t : ℕ) :
    posn c s t ⊢ (iprop(reached ER (sCell c s (slotT t)) (rndT t)) : sProp 𝕄) := by
  have h : posn c s t ⊢ (posAt c s (slotT t) (rndT t) : sProp 𝕄) :=
    bigSep_elim (Φ := fun σ => (posAt c s σ (nxt σ t) : sProp 𝕄)) (Finset.mem_univ (slotT t))
  refine h.trans ?_
  unfold posAt
  iintro ⟨-, H, -, -⟩; iexact H

/-! ## The waits -/

section Steps

variable (c : Dev nD) (s : Fin 8) {t a q m : ℕ}

/-- Waiting for hop `t`: what was sent is back, what was sent to us is here. -/
theorem run_hop {σ : Fin 2} (hσ : σ = slotT t) (ht : t < 30) {O : CellTallies nD τ sig ℕ} (hO : Ab (lT t) O) {k : PG F} {Q : PUnit → sProp 𝕄}
    {M₁ M₂ M₃ M₄ : Memref sig .tc .vmem S32x1024 .bf16} {h₁ h₂ h₃ h₄}
    (hM₂ : M₂.view.dmaCredit = N) (hM₄ : M₄.view.dmaCredit = N) :
    iprop(ctx A B K ιs ∗ st c s t a q m ∗ sendCred c s t ∗ owing c O
        ∗ (st c s (t + 1) a q m ∗ reached ER (rCell c s (slotT t)) (rndT t + 1) ∗ has c (bufS c s t) (V A B t c s)
            ∗ has c (bufR c s t) (V A B t (up c s) s) ∗ owing c O -∗ run c k Q))
      ⊢ run c (.op (.waitDma2 (sSem s σ) M₁ M₂ h₁ h₂) fun _ => .op (.waitDma2 (rSem s σ) M₃ M₄ h₃ h₄) fun _ => k) Q := by
  subst hσ
  unfold st sendCred owing run
  rw [bigSep_Ico_succ_bot ht]
  iintro ⟨#Hctx, ⟨Hpos, ⟨Hrc, Hrcs⟩, Hsd, Hpay, Hcc, Hcs, #Hacc, #Hbase⟩, Hsc, ⟨%W, HO⟩, Hk⟩
  ihave Hp := (posn_step c s ht) $$ Hpos
  icases Hp with ⟨Hp, Hpk⟩
  unfold posAt recvCred
  icases Hp with ⟨HaS, -, HaR, -⟩
  ihave #HiS := (ctx_cell (mem_s c s (slotT t))) $$ Hctx
  ihave #HiR := (ctx_cell (mem_r c s (slotT t))) $$ Hctx
  iapply (Rounds.wp_wait_rest_token 𝒱₀ ER (Rd A B) (c : Thread nD τ) none (κ := K (sCell c s (slotT t)))
      (wpE_waitDma2_eq 𝒱₀ (c : Thread nD τ) none Set.univ) (Set.mem_univ _) (lT t) (O := O) (W := W) (R := rndT t) (m := 0) (T := ∅)
      (by rw [expect_st A B c s ht, hM₂, Nat.zero_add])) $$ [Hsc HO HaS]
  · isplitr; · iexact HiS
    isplitl [Hsc]; · rw [hM₂]; iexact Hsc
    isplitl [HO]; · iexact HO
    isplitr; · iapply (ctx_mayWait (by dsimp only [lT]; omega) hO c _); iexact Hctx
    iexact HaS
  iintro ⟨HO, HaS, #HrS, HpS⟩
  iapply (Rounds.wp_wait_rest_token 𝒱₀ ER (Rd A B) (c : Thread nD τ) none (κ := K (rCell c s (slotT t)))
      (wpE_waitDma2_eq 𝒱₀ (c : Thread nD τ) none Set.univ) (Set.mem_univ _) (lT t) (O := O) (R := rndT t) (m := 0) (T := ∅)
      (by rw [expect_rt A B c s ht, hM₄, Nat.zero_add])) $$ [Hrc HO HaR]
  · isplitr; · iexact HiR
    isplitl [Hrc]; · rw [hM₄]; iexact Hrc
    isplitl [HO]; · iexact HO
    isplitr; · iapply (ctx_mayWait (by dsimp only [lT]; omega) hO c _); iexact Hctx
    iexact HaR
  iintro ⟨HO, HaR, #HrR, HpR⟩
  ihave HpS := (Entails.of_eq (rest_st A B c s ht)) $$ HpS
  ihave HpR := (Entails.of_eq (rest_rt A B c s ht)) $$ HpR
  iapply Hk
  isplitl [Hpk HaS HaR Hrcs Hsd Hpay Hcc Hcs]
  · isplitl [Hpk HaS HaR]
    · iapply Hpk
      isplitl [HaS]; · iexact HaS
      isplitr; · iexact HrS
      isplitl [HaR]; · iexact HaR
      iexact HrR
    isplitl [Hrcs]; · iexact Hrcs
    isplitl [Hsd]; · iexact Hsd
    isplitl [Hpay]; · iexact Hpay
    isplitl [Hcc]; · iexact Hcc
    isplitl [Hcs]; · iexact Hcs
    isplitr; · iexact Hacc
    iexact Hbase
  isplitr; · iexact HrR
  isplitl [HpS]; · iexact HpS
  isplitl [HpR]; · iexact HpR
  iexists _; iexact HO

end Steps

end Cert.KernelIdeal

end
-- ==== Proof.Steps.lean ====
module

public import proofs.«01_k».proof.Proof.State

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Idealize.SL.Util (total total_add total_single)
open Facts₀ Facts

variable {F : FTy → Type} [FloatOps F]

local notation "𝕄" => MT nD τ sig ℕ (Elt F) ℕ UU ℕ

/-! # Giving and using credits, sending -/

variable {A : Dev nD → Vec F S2048x1024 .bf16} {B : Dev nD → Vec F S1024x2048 .bf16}
variable {K : GSem nD τ sig → ℕ} {ιs : Key → ℕ}

variable (c : Dev nD) (s : Fin 8) {t a q m : ℕ}

/-- Giving the credit of hop `q`, once its landing place is free again. -/
theorem run_credit {dst : Dev nD} (hdst : dst = up c s) (hq : q < 30) {R : CellTallies nD τ sig ℕ} {k : PG F} {Q : PUnit → sProp 𝕄} :
    iprop(ctx A B K ιs ∗ st c s t a q m ∗ ready c s (nextT q) ∗ owing c (dueS c s a q + R)
        ∗ (st c s t a (q + 1) m ∗ owing c (dueS c s a (q + 1) + R) -∗ run c k Q))
      ⊢ run c (credit dst s k) Q := by
  subst hdst
  have hacc : iprop(ready c s (nextT q) ∗ acc c s q) ⊢ (acc c s (q + 1) : sProp 𝕄) := by
    unfold acc; rw [bigSep_range_succ]
  have hO : dueS c s a q + R = (dueS c s a (q + 1) + R) + tallyAt (cCell (up c s) s) (lC q) 1 := by
    unfold dueS; rw [dueC_step (up c s) s hq]
    rw [← add_assoc, add_right_comm]
  unfold st owing run credit
  rw [bigSep_Ico_succ_bot hq]
  unfold base upPack payTok
  iintro ⟨#Hctx, ⟨Hpos, Hrc, Hsd, ⟨Ht, Hpay⟩, Hcc, Hcs, #Hacc, #⟨Hb0, Hb1, Hb2⟩⟩, #Hrdy, ⟨%W, HO⟩, Hk⟩
  ihave #HiC := (ctx_cell (mem_c (up c s) s)) $$ Hctx
  ihave #Hacc' := hacc $$ [Hrdy Hacc]
  · isplitr; · iexact Hrdy
    iexact Hacc
  iapply (Rounds.wp_signal 𝒱₀ ER (Rd A B) (c : Thread nD τ) none (dst := (up c s : Thread nD τ)) (sem := cSem s) (r := 0) (d := q)
      (κ := K (cCell (up c s) s)) (by rw [duties_c, if_pos rfl]; exact Finset.mem_range.2 hq) (amount_c A B (up c s) s 0 q) (lC q)
      (dueS c s a (q + 1) + R) hO) $$ [HO Ht]
  · isplitr; · iexact HiC
    isplitl [HO]; · iexact HO
    isplitl [Ht]; · iexact Ht
    isplitr
    · rw [payload_c, dn_up]; unfold credPay; unfold acc at *; iexact Hacc'
    · iexact Hb2
  iintro HO
  iapply Hk
  isplitl [Hpos Hrc Hsd Hpay Hcc Hcs]
  · isplitl [Hpos]; · iexact Hpos
    isplitl [Hrc]; · iexact Hrc
    isplitl [Hsd]; · iexact Hsd
    isplitl [Hpay]; · iexact Hpay
    isplitl [Hcc]; · iexact Hcc
    isplitl [Hcs]; · iexact Hcs
    isplitr; · iexact Hacc'
    isplitr; · iexact Hb0
    isplitr; · iexact Hb1
    iexact Hb2
  iexists _; iexact HO

/-- Credits of two cells' duties put together. -/
theorem crd_union (S T : Finset ℕ) (h : T ⊆ S) (P : ℕ → sProp 𝕄) : iprop(bigSep (S \ T) P ∗ bigSep T P) ⊢ bigSep S P := by
  have e : bigSep (S \ T ∪ T) P = iprop(bigSep (S \ T) P ∗ bigSep T P) := bigSep_union Finset.sdiff_disjoint
  rw [← e, Finset.sdiff_union_of_subset h]

/-- Using credits, some more still to come. -/
theorem run_use {n : ℕ} {cr : ℕ →₀ ℕ} (htot : total cr = n) (hcr : ∀ i ∈ cr.support, i ≤ lC (m + n - 1)) (hn : 0 < n) (hm : m + n ≤ 30)
    {O : CellTallies nD τ sig ℕ} (hO : Ab (lC (m + n - 1)) O) {k : PG F} {Q : PUnit → sProp 𝕄} :
    iprop(ctx A B K ιs ∗ cred (tallyOn (cCell c s) cr) ∗ crdSt c s m ∗ owing c O
        ∗ (crdSt c s (m + n) ∗ owing c O -∗ run c k Q))
      ⊢ run c (.op (.semWait (cSem s) n) fun _ => k) Q := by
  unfold crdSt owing run
  iintro ⟨#Hctx, Hcr, ⟨%S, %hS, Hat, HS⟩, ⟨%W, HO⟩, Hk⟩
  obtain ⟨hS, hmS⟩ := hS
  ihave #HiC := (ctx_cell (mem_c c s)) $$ Hctx
  have hlt : lC (m + n - 1) < 64 := by clear hO htot hcr; show 2 * (m + n - 1) + 3 < 64; omega
  have hmay : ctx A B K ιs ⊢ (MayOwe (c : Thread nD τ) (cr.support.image (SemLoc.reg (cSem s), ·)) O : sProp 𝕄) := by
    refine ctx_lev.trans ?_
    refine MayOwe.of_cut (lev := lv) (lC (m + n - 1)) (fun p hp => ?_) (fun g k h => (hO g k h).1) (fun p hp => ?_) (fun g k h => (hO g k h).2)
    · obtain ⟨i, hi, rfl⟩ := Finset.mem_image.1 hp
      exact mem_L _ _ (lt_of_le_of_lt (hcr i hi) hlt)
    · obtain ⟨i, hi, rfl⟩ := Finset.mem_image.1 hp
      exact hcr i hi
  iapply (Rounds.wp_wait 𝒱₀ ER (Rd A B) (c : Thread nD τ) none (κ := K (cCell c s)) (wpE_semWait_eq 𝒱₀ (c : Thread nD τ) none Set.univ) (Set.mem_univ _)
      (cr := cr) (O := O) (W := W) (cr.support.image (SemLoc.reg (cSem s), ·)) (R := 0) (m := m) (T := S) htot (Finset.Subset.refl _)) $$ [Hcr HO Hat]
  · isplitr; · iexact HiC
    isplitl [Hcr]; · iexact Hcr
    isplitl [HO]; · iexact HO
    isplitr; · iapply hmay; iexact Hctx
    iexact Hat
  iintro %S' ⟨%hS', HO, Hat, Hpay⟩
  obtain ⟨hSS, hS'd, hle⟩ := hS'
  rw [duties_c, if_pos rfl] at hS'd
  rw [duties_c, if_pos rfl, expect_c, Finset.card_sdiff_of_subset hS'd, Finset.card_range] at hle
  have hcard : S'.card ≤ 30 := (Finset.card_le_card hS'd).trans (by rw [Finset.card_range])
  iapply Hk
  isplitl [Hat Hpay HS]
  · iexists S'
    isplitr; · ipureintro; exact ⟨hS'd, by omega⟩
    isplitl [Hat]; · iexact Hat
    have hp : bigSep (S' \ S) (fun d => (Rd A B).payload (cCell c s) 0 d) = bigSep (S' \ S) fun d => credPay (dn c s) s d :=
      bigSep_congr fun d _ => payload_c A B c s 0 d
    ihave Hpay := (Entails.of_eq hp) $$ Hpay
    have he : iprop(bigSep (S' \ S) (fun d => credPay (dn c s) s d) ∗ bigSep S (fun d => credPay (dn c s) s d))
        ⊢ (bigSep S' fun d => credPay (dn c s) s d : sProp 𝕄) := crd_union S' S hSS _
    iapply he
    isplitl [Hpay]; · iexact Hpay
    iexact HS
  iexists _; iexact HO

theorem total_one (i : ℕ) : total (Finsupp.single i 1) = 1 := total_single i 1

/-- Using one credit. -/
theorem run_use1 (hm : m < 30) {O : CellTallies nD τ sig ℕ} (hO : Ab (lC m) O) {k : PG F} {Q : PUnit → sProp 𝕄} :
    iprop(ctx A B K ιs ∗ st c s t a q m ∗ owing c O ∗ (st c s t a q (m + 1) ∗ owing c O -∗ run c k Q))
      ⊢ run c (.op (.semWait (cSem s) 1) fun _ => k) Q := by
  unfold st
  rw [bigSep_Ico_succ_bot hm]
  unfold credCred
  iintro ⟨#Hctx, ⟨Hpos, Hrc, Hsd, Hpay, ⟨Hc, Hcc⟩, Hcs, #Hacc, #Hbase⟩, HO, Hk⟩
  iapply (run_use c s (m := m) (n := 1) (cr := Finsupp.single (lC m) 1) (total_one _)
    (fun i hi => by rw [Finset.mem_singleton.1 (Finsupp.support_single_subset hi)]; exact le_refl _) Nat.one_pos (by omega) (O := O) hO)
  isplitr; · iexact Hctx
  isplitl [Hc]; · iexact Hc
  isplitl [Hcs]; · iexact Hcs
  isplitl [HO]; · iexact HO
  iintro ⟨Hcs, HO⟩
  iapply Hk
  isplitr [HO]
  · isplitl [Hpos]; · iexact Hpos
    isplitl [Hrc]; · iexact Hrc
    isplitl [Hsd]; · iexact Hsd
    isplitl [Hpay]; · iexact Hpay
    isplitl [Hcc]; · iexact Hcc
    isplitl [Hcs]; · iexact Hcs
    isplitr; · iexact Hacc
    iexact Hbase
  iexact HO

/-- Two credits as one count. -/
theorem two_credits (i j : ℕ) : iprop(cred (tallyAt (cCell c s) i 1) ∗ cred (tallyAt (cCell c s) j 1))
    ⊢ (cred (tallyOn (cCell c s) (Finsupp.single i 1 + Finsupp.single j 1)) : sProp 𝕄) := by
  rw [tallyOn_add]; exact (cred_add _ _).2

/-- Using two credits. -/
theorem run_use2 (hm : m + 1 < 30) {O : CellTallies nD τ sig ℕ} (hO : Ab (lC (m + 1)) O) {k : PG F} {Q : PUnit → sProp 𝕄} :
    iprop(ctx A B K ιs ∗ st c s t a q m ∗ owing c O ∗ (st c s t a q (m + 2) ∗ owing c O -∗ run c k Q))
      ⊢ run c (creditDrain s k) Q := by
  unfold st creditDrain
  rw [bigSep_Ico_succ_bot (show m < 30 by omega), bigSep_Ico_succ_bot hm]
  unfold credCred
  iintro ⟨#Hctx, ⟨Hpos, Hrc, Hsd, Hpay, ⟨Hc, Hc', Hcc⟩, Hcs, #Hacc, #Hbase⟩, HO, Hk⟩
  ihave Hc := (two_credits c s (lC m) (lC (m + 1))) $$ [Hc Hc']
  · isplitl [Hc]; · iexact Hc
    iexact Hc'
  iapply (run_use c s (m := m) (n := 2) (cr := Finsupp.single (lC m) 1 + Finsupp.single (lC (m + 1)) 1)
    (by rw [total_add, total_one, total_one])
    (fun i hi => by
      rcases Finset.mem_union.1 (Finsupp.support_add hi) with h | h
      · rw [Finset.mem_singleton.1 (Finsupp.support_single_subset h)]; dsimp only [lC]; omega
      · rw [Finset.mem_singleton.1 (Finsupp.support_single_subset h)]; dsimp only [lC]; omega) Nat.two_pos (by omega) (O := O) hO)
  isplitr; · iexact Hctx
  isplitl [Hc]; · iexact Hc
  isplitl [Hcs]; · iexact Hcs
  isplitl [HO]; · iexact HO
  iintro ⟨Hcs, HO⟩
  iapply Hk
  isplitr [HO]
  · isplitl [Hpos]; · iexact Hpos
    isplitl [Hrc]; · iexact Hrc
    isplitl [Hsd]; · iexact Hsd
    isplitl [Hpay]; · iexact Hpay
    isplitl [Hcc]; · iexact Hcc
    isplitl [Hcs]; · iexact Hcs
    isplitr; · iexact Hacc
    iexact Hbase
  iexact HO

/-! ## Sending -/

/-- Where hop `t` lands is ready: told on entry, or by the credits used. -/
theorem dst_ready (hm : 2 ≤ t → prevT t < m) :
    iprop(crdSt c s m ∗ base c s) ⊢ (iprop(crdSt c s m ∗ ready (dn c s) s t) : sProp 𝕄) := by
  unfold base
  iintro ⟨Hcs, #Hb0, #Hb1, -⟩
  rcases Nat.lt_or_ge t 2 with h | h
  · isplitl [Hcs]; · iexact Hcs
    rcases Nat.lt_or_ge t 1 with h' | h'
    · obtain rfl : t = 0 := by omega
      iexact Hb0
    · obtain rfl : t = 1 := by omega
      iexact Hb1
  · unfold crdSt
    icases Hcs with ⟨%S, %hS, Hat, #HS⟩
    obtain ⟨d, hd, hpd⟩ : ∃ d ∈ S, prevT t ≤ d := by
      by_contra hne
      have hsub : S ⊆ Finset.range (prevT t) := fun d hd => Finset.mem_range.2 (by
        by_contra hlt; exact hne ⟨d, hd, by omega⟩)
      have := Finset.card_le_card hsub
      rw [Finset.card_range] at this
      have := hm h; omega
    have h1 : (bigSep S fun d => credPay (dn c s) s d) ⊢ (credPay (dn c s) s d : sProp 𝕄) :=
      bigSep_elim (Φ := fun d => (credPay (dn c s) s d : sProp 𝕄)) hd
    have h2 : credPay (dn c s) s d ⊢ (ready (dn c s) s (nextT (prevT t)) : sProp 𝕄) :=
      bigSep_elim (Φ := fun d' => (ready (dn c s) s (nextT d') : sProp 𝕄)) (Finset.mem_range.2 (by omega))
    rw [nextT_prevT h] at h2
    isplitl [Hat]
    · iexists S
      isplitr; · ipureintro; exact hS
      isplitl [Hat]; · iexact Hat
      iexact HS
    iapply h2; iapply h1; iexact HS

/-- Sending hop `t`. -/
theorem run_send {dst : Dev nD} (hdst : dst = dn c s) {σ : Fin 2} (hσ : σ = slotT t) (ht : t < 30) (hm : 2 ≤ t → prevT t < m)
    {M₁ M₂ : Memref sig .tc .vmem S32x1024 .bf16} (hM₁ : M₁ = bufS c s t) (hM₂ : M₂ = bufR (dn c s) s t)
    {h₁ : M₁.view.WordExact} {h₂ : M₂.view.WordExact} {hv : M₂.view.ref.isScScratch = false}
    {h₃ : DmaTarget.Typed .vmem (.dma (rSem s σ)) (.remote (Dev.tc dst : Thread nD τ) M₂ (.dma (sSem s σ)) hv)}
    {R : CellTallies nD τ sig ℕ} {k : PG F} {Q : PUnit → sProp 𝕄} :
    iprop(ctx A B K ιs ∗ st c s t t q m ∗ has c (bufS c s t) (V A B t c s) ∗ (if t < 15 then emp else hasAny (dn c s) (bufR (dn c s) s t))
        ∗ owing c (dueS c s t q + R)
        ∗ (st c s t (t + 1) q m ∗ sendCred c s t ∗ owing c (dueS c s (t + 1) q + R) -∗ run c k Q))
      ⊢ run c (.op (.enqueueDma M₁ (.remote (Dev.tc dst) M₂ (.dma (sSem s σ)) hv) (.dma (rSem s σ)) h₁ h₂ h₃) fun _ => k) Q := by
  subst hσ; subst hdst; subst hM₁; subst hM₂
  have hO : dueS c s t q + R = (dueS c s (t + 1) q + R) + tallyAt (rCell (dn c s) s (slotT t)) (lT t) N := by
    unfold dueS; rw [dueR_step (dn c s) s ht]
    rw [add_right_comm (dueR (dn c s) s (t + 1)), add_right_comm _ _ R]
  unfold st owing run
  rw [bigSep_Ico_succ_bot (A := sendTok c s) ht]
  unfold sendTok
  iintro ⟨#Hctx, ⟨Hpos, Hrc, ⟨⟨HtS, HtR, Hw⟩, Hsd⟩, Hpay, Hcc, Hcs, #Hacc, #Hbase⟩, Hsrc, Hdst, ⟨%W, HO⟩, Hk⟩
  ihave #HiS := (ctx_cell (mem_s c s (slotT t))) $$ Hctx
  ihave #HiR := (ctx_cell (mem_r (dn c s) s (slotT t))) $$ Hctx
  ihave #HrS := (posn_reached c s t) $$ Hpos
  ihave Hd := (dst_ready c s hm) $$ [Hcs]
  · isplitl [Hcs]; · iexact Hcs
    iexact Hbase
  unfold ready
  icases Hd with ⟨Hcs, #Hrdy, #Hrel⟩
  have htake : iprop(ctx A B K ιs ∗ (if t < 15 then Release.released EK (dn c s, s, slotT t) (rndT t + 1) else emp)
      ∗ (if t < 15 then Release.writeTok EK (dn c s, s, slotT t) (rndT t + 1) else emp) ∗ (if t < 15 then emp else hasAny (dn c s) (bufR (dn c s) s t)))
      ⊢ (|={Set.univ}=> hasAny (dn c s) (bufR (dn c s) s t) : sProp 𝕄) := by
    by_cases h : t < 15
    · simp only [if_pos h]
      have e : bufR (dn c s) s t = rView s (slotT t) := if_pos h
      rw [e]
      iintro ⟨#Hctx, #Hrel, Hw, -⟩
      ihave #Hi := (ctx_slot (dn c s, s, slotT t)) $$ Hctx
      iapply (Release.slot_take EK (Set.mem_univ _) (rndT t + 1))
      isplitr; · iexact Hi
      isplitr; · iexact Hrel
      iexact Hw
    · simp only [if_neg h]
      iintro ⟨-, -, -, H⟩
      imodintro
      iexact H
  imod htake $$ [Hw Hdst] with Hdst
  · isplitr; · iexact Hctx
    isplitr; · iexact Hrel
    isplitl [Hw]; · iexact Hw
    iexact Hdst
  unfold has hasAny
  icases Hsrc with ⟨%fs, %hfs, Hsrc⟩
  icases Hdst with ⟨%fd, Hdst⟩
  iapply (Rounds.wp_send_pointsTo 𝒱₀ ER (Rd A B) (c : Thread nD τ) none (c' := (dn c s : Thread nD τ)) (src := bufS c s t) (dst := bufR (dn c s) s t)
      (sS := .dma (sSem s (slotT t))) (sem := .dma (rSem s (slotT t))) (q := fullShare) (fs := fs) (κ₁ := K (sCell c s (slotT t)))
      (κ₂ := K (rCell (dn c s) s (slotT t))) (r₁ := rndT t) (r₂ := rndT t) (d₁ := 0) (d₂ := 0) (fd := fd)
      (by rw [duties_st A B c s ht]; exact Finset.mem_singleton_self _) (by rw [duties_rt A B (dn c s) s ht]; exact Finset.mem_singleton_self _)
      (lT t) (lT t) N (bufR_amount (dn c s) s _).2 (amount_s A B c s _ _ _) (amount_r A B (dn c s) s _ _ _)
      (dueS c s (t + 1) q + R) hO (W := W)
      (by
        rw [payload_st A B c s ht]; unfold has
        iintro H; iexists fs; isplitr; · ipureintro; exact hfs
        iexact H)
      (by
        rw [payload_rt A B (dn c s) s ht, up_dn]; unfold has
        iintro H; iexists ((bufR (dn c s) s t).view.write (Elt F) fd ((bufS c s t).view.read (Elt F) fs) Finset.univ)
        isplitr; · ipureintro; exact (View.read_write_univ ..).trans hfs
        iexact H)) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact Hrdy
  iintro ⟨Hsc, HO⟩
  iapply Hk
  unfold sendCred
  isplitr [Hsc HO]
  · isplitl [Hpos]; · iexact Hpos
    isplitl [Hrc]; · iexact Hrc
    isplitl [Hsd]; · iexact Hsd
    isplitl [Hpay]; · iexact Hpay
    isplitl [Hcc]; · iexact Hcc
    isplitl [Hcs]; · iexact Hcs
    isplitr; · iexact Hacc
    iexact Hbase
  isplitl [Hsc]; · iexact Hsc
  iexists _; iexact HO

end Cert.KernelIdeal

end
-- ==== Proof.Local.lean ====
module

public import proofs.«01_k».proof.Proof.Steps
public import Idealize.ShloMosaic.Lib.Pipeline.Value

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # Reading and writing a device's own buffers -/

variable (c : Dev nD) (s : Fin 8)

/-- Reading a receive slot. -/
theorem run_loadR {σ : Fin 2} {v : FVec F S32x1024 .bf16} {hl} {k : Vec F S1x1x32x1024 .bf16 → PG F} {Q : PUnit → sProp 𝕄} :
    iprop(has c (rView s σ) v ∗ (∀ f : Vec F S1x1x32x1024 .bf16, ⌜shapeCast S32x1024 f shapeCasts_S1x1x32x1024_S32x1024 = v⌝ -∗ has c (rView s σ) v -∗ run c (k f) Q))
      ⊢ run c (.op (.load mR (slotRect s σ).toLoadRect hl) k) Q := by
  have hset : mR.view.setOn (slotRect s σ).toLoadRect.set ⊆ (rView s σ).view.set := by
    rw [Memref.set_view_squeeze]; exact subset_of_eq (View.set_slice _ _).symm
  unfold has run
  iintro ⟨⟨%f, %hf, H⟩, Hk⟩
  iapply (wp_load 𝒱₀ (c : Thread nD τ) none Set.univ (m := mR) (r := (slotRect s σ).toLoadRect) (S := (rView s σ).view.set) (q := fullShare) (f := f) hset) $$ H
  iintro H
  ispecialize Hk $$ %(mR.view.readAt (Elt F) (slotRect s σ).toLoadRect f)
  iapply Hk
  · ipureintro; exact hf
  iexists f
  isplitr; · ipureintro; exact hf
  iexact H

/-- Writing a send slot. -/
theorem run_putX {σ : Fin 2} {v : FVec F S32x1024 .bf16} {k : PG F} {Q : PUnit → sProp 𝕄} :
    iprop(hasAny c (xView s σ) ∗ (has c (xView s σ) v -∗ run c k Q)) ⊢ run c (putX s σ v k) Q := by
  have hset : (xView s σ).view.set = (mX.access (slotRect s σ)).setOn Finset.univ := Memref.set_view_squeeze _ _
  have hset' : mX.view.setOn (slotRect s σ).toLoadRect.set ⊆ (xView s σ).view.set := by
    rw [Memref.set_view_squeeze]; exact subset_of_eq (View.set_slice _ _).symm
  unfold has hasAny run putX
  iintro ⟨⟨%f, H⟩, Hk⟩
  iapply (wp_load 𝒱₀ (c : Thread nD τ) none Set.univ (m := mX) (r := (slotRect s σ).toLoadRect) (S := (xView s σ).view.set) (q := fullShare) (f := f) hset') $$ H
  iintro H
  iapply (wp_store 𝒱₀ (c : Thread nD τ) none Set.univ (m := mX) (r := slotRect s σ) (S := (xView s σ).view.set) (f := f) (subset_of_eq hset.symm)) $$ H
  iintro H
  iapply Hk
  iexists _
  isplitr
  rotate_left
  · iexact H
  · ipureintro
    have e : (mX.access (slotRect s σ)).read (Elt F) ((mX.access (slotRect s σ)).write (Elt F) f (shapeCast S1x1x32x1024 v shapeCasts_S32x1024_S1x1x32x1024) Finset.univ)
        = shapeCast S1x1x32x1024 v shapeCasts_S32x1024_S1x1x32x1024 := View.read_write_univ ..
    have e' := congrArg (fun w => shapeCast S32x1024 w shapeCasts_S1x1x32x1024_S32x1024) e
    refine Eq.trans ?_ (e'.trans ?_)
    · rfl
    · exact shapeCast_shapeCast ..

/-- Writing a block of the result. -/
theorem run_putO {o : OutR} {w : FVec F S32x1024 .bf16} {hl hs hm} {k : PG F} {Q : PUnit → sProp 𝕄} :
    iprop(hasAny c o.view ∗ (has c o.view w -∗ run c k Q))
      ⊢ run c (.op (.load mO o.rect.toLoadRect hl) fun _ => .op (.store mO o.rect w Finset.univ hs hm) fun _ => k) Q := by
  unfold has hasAny run
  iintro ⟨⟨%f, H⟩, Hk⟩
  iapply (wp_load 𝒱₀ (c : Thread nD τ) none Set.univ (m := mO) (r := o.rect.toLoadRect) (S := o.view.view.set) (q := fullShare) (f := f) (subset_of_eq (View.set_slice _ _).symm)) $$ H
  iintro H
  iapply (wp_store 𝒱₀ (c : Thread nD τ) none Set.univ (m := mO) (r := o.rect) (S := o.view.view.set) (f := f) (subset_of_eq rfl)) $$ H
  iintro H
  iapply Hk
  iexists _
  isplitr
  rotate_left
  · iexact H
  · ipureintro
    exact View.read_write_univ ..

/-! ## Receive slots that are being read -/

/-- A receive slot on the device's side before its round `n`: to be let go of when read, or, at the end, kept. -/
def rslotN (c : Dev nD) (s : Fin 8) (σ : Fin 2) (n : ℕ) : sProp 𝕄 :=
  if 15 ≤ hopOf σ n then hasAny c (rView s σ) else Release.readerAt EK (c, s, σ) (n + 1)
/-- Both receive slots, `t` hops done. -/
def rd (c : Dev nD) (s : Fin 8) (t : ℕ) : sProp 𝕄 := bigSep Finset.univ fun σ : Fin 2 => rslotN c s σ (nxt σ t)

theorem rd_step {t : ℕ} (h : t < 15) :
    rd c s t ⊢ (iprop(Release.readerAt EK (c, s, slotT t) (rndT t + 1) ∗ (rslotN c s (slotT t) (rndT t + 1) -∗ rd c s (t + 1))) : sProp 𝕄) := by
  have e : rndT t + 1 = nxt (slotT t) (t + 1) := by rw [nxt_succ (by omega), if_pos rfl]; rfl
  have hs : Release.readerAt EK (c, s, slotT t) (rndT t + 1) = (rslotN c s (slotT t) (nxt (slotT t) t) : sProp 𝕄) := by
    unfold rslotN
    rw [show hopOf (slotT t) (nxt (slotT t) t) = t from hopOf_rndT (by omega), if_neg (by omega)]; rfl
  rw [hs, e]
  refine bigSep_univ_update (Φ := fun σ => (rslotN c s σ (nxt σ t) : sProp 𝕄)) (Ψ := fun σ => rslotN c s σ (nxt σ (t + 1))) (slotT t) fun j hj => ?_
  rw [nxt_succ (by omega), if_neg hj, Nat.add_zero]

theorem hop_after {t : ℕ} (h : t < 15) : hopOf (slotT t) (rndT t + 1) = nextT t := by
  revert t; decide

variable {A : Dev nD → Vec F S2048x1024 .bf16} {B : Dev nD → Vec F S1024x2048 .bf16}
variable {K : GSem nD τ sig → ℕ} {ιs : Key → ℕ}

/-- Letting go of the slot of hop `t` once it is read. -/
theorem let_go {t : ℕ} (h : t < 15) :
    iprop(ctx A B K ιs ∗ rd c s t ∗ reached ER (rCell c s (slotT t)) (rndT t + 1) ∗ hasAny c (rView s (slotT t)))
      ⊢ (|={Set.univ}=> (rd c s (t + 1) ∗ ready c s (nextT t)) : sProp 𝕄) := by
  unfold ready
  rw [slotT_nextT (by omega), rndT_nextT (by omega)]
  iintro ⟨#Hctx, Hrd, #Hr, Hm⟩
  ihave Hrd := (rd_step c s h) $$ Hrd
  icases Hrd with ⟨Hat, Hk⟩
  unfold rslotN
  rw [hop_after h]
  by_cases h' : nextT t < 15
  · rw [if_neg (by omega), if_pos h']
    ihave #Hi := (ctx_slot (c, s, slotT t)) $$ Hctx
    have hne : (rView s (slotT t)).view.set.Nonempty := by
      rw [View.set]
      exact Finset.Nonempty.map ⟨Shape.Idx.first (by decide), Finset.mem_univ _⟩
    have hex : iprop(hasAny c (rView s (slotT t)) ∗ hasAny c (rView s (slotT t))) ⊢ (False : sProp 𝕄) :=
      Release.slot_slot_false (ℓ := (rView s (slotT t)).view.loc (c : Thread nD τ)) (I := (rView s (slotT t)).view.set) hne
    imod (Release.slot_release EK (Set.mem_univ _) hex (rndT t + 1)) $$ [Hat Hm] with ⟨Hat, #Hrel⟩
    · isplitr; · iexact Hi
      isplitl [Hat]; · iexact Hat
      iexact Hm
    imodintro
    isplitl [Hk Hat]
    · iapply Hk; iexact Hat
    isplitr; · iexact Hr
    iexact Hrel
  · rw [if_pos (by omega), if_neg h']
    imodintro
    isplitl [Hk Hm]
    · iapply Hk; iexact Hm
    isplitr; · iexact Hr
    iempintro

end Cert.KernelIdeal

end
-- ==== Proof.Each.lean ====
module

public import proofs.«01_k».proof.Proof.Local

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # A step of every stream in turn -/

variable {A : Dev nD → Vec F S2048x1024 .bf16} {B : Dev nD → Vec F S1024x2048 .bf16}
variable {K : GSem nD τ sig → ℕ} {ιs : Key → ℕ}

/-- The streams in a list, each with its own holdings. -/
def sepL (P : Fin 8 → sProp 𝕄) : List (Fin 8) → sProp 𝕄
  | [] => iprop(emp)
  | s :: l => iprop(P s ∗ sepL P l)
/-- What they owe. -/
def sumL (D : Fin 8 → CellTallies nD τ sig ℕ) : List (Fin 8) → CellTallies nD τ sig ℕ
  | [] => 0
  | s :: l => D s + sumL D l

theorem sumL_ab {b : ℕ} {D : Fin 8 → CellTallies nD τ sig ℕ} (h : ∀ s, Ab b (D s)) (l : List (Fin 8)) : Ab b (sumL D l) := by
  induction l with
  | nil => exact Ab.zero b
  | cons s l ih => exact (h s).add ih

/-- The eight streams in order. -/
def all8 : List (Fin 8) := [0, 1, 2, 3, 4, 5, 6, 7]
theorem all8_eq : all8.toFinset = Finset.univ ∧ all8.Nodup := by decide
theorem eachS_eq (f : Fin 8 → PG F → PG F) (k : PG F) : eachS f k = all8.foldr f k := rfl

theorem sepL_bigSep (P : Fin 8 → sProp 𝕄) : sepL P all8 = bigSep Finset.univ P := by
  have h : ∀ l : List (Fin 8), l.Nodup → sepL P l = bigSep l.toFinset P := by
    intro l hl
    induction l with
    | nil => exact bigSep_empty.symm
    | cons s l ih =>
      obtain ⟨h1, h2⟩ := List.nodup_cons.1 hl
      rw [List.toFinset_cons, bigSep_insert (by rwa [List.mem_toFinset]), ← ih h2]; rfl
  rw [h _ all8_eq.2, all8_eq.1]
theorem sumL_sum (D : Fin 8 → CellTallies nD τ sig ℕ) : sumL D all8 = ∑ s, D s := by
  have h : ∀ l : List (Fin 8), l.Nodup → sumL D l = ∑ s ∈ l.toFinset, D s := by
    intro l hl
    induction l with
    | nil => rfl
    | cons s l ih =>
      obtain ⟨h1, h2⟩ := List.nodup_cons.1 hl
      rw [List.toFinset_cons, Finset.sum_insert (by rwa [List.mem_toFinset]), ← ih h2]; rfl
  rw [h _ all8_eq.2, all8_eq.1]

/-- One stream's step: from `P` to `P'`, paying `D` off to `D'`, whatever else is owed above `b`. -/
def Step (A : Dev nD → Vec F S2048x1024 .bf16) (B : Dev nD → Vec F S1024x2048 .bf16) (K : GSem nD τ sig → ℕ) (ιs : Key → ℕ) (c : Dev nD)
    (b : ℕ) (P P' : Fin 8 → sProp 𝕄) (D D' : Fin 8 → CellTallies nD τ sig ℕ) (f : Fin 8 → PG F → PG F) : Prop :=
  ∀ (s : Fin 8) (R : CellTallies nD τ sig ℕ), Ab b R → ∀ (k : PG F) (Q : PUnit → sProp 𝕄),
    iprop(ctx A B K ιs ∗ P s ∗ owing c (D s + R) ∗ (P' s ∗ owing c (D' s + R) -∗ run c k Q)) ⊢ run c (f s k) Q

theorem run_list {c : Dev nD} {b : ℕ} {P P' : Fin 8 → sProp 𝕄} {D D' : Fin 8 → CellTallies nD τ sig ℕ} {f : Fin 8 → PG F → PG F}
    (hf : Step A B K ιs c b P P' D D' f) (hD : ∀ s, Ab b (D s)) (hD' : ∀ s, Ab b (D' s)) {Q : PUnit → sProp 𝕄} (k : PG F) :
    ∀ (l : List (Fin 8)) (R : CellTallies nD τ sig ℕ), Ab b R →
    iprop(ctx A B K ιs ∗ sepL P l ∗ owing c (sumL D l + R) ∗ (sepL P' l ∗ owing c (sumL D' l + R) -∗ run c k Q)) ⊢ run c (l.foldr f k) Q
  | [], R, hR => by
    show iprop(ctx A B K ιs ∗ sepL P [] ∗ owing c (sumL D [] + R) ∗ (sepL P' [] ∗ owing c (sumL D' [] + R) -∗ run c k Q)) ⊢ run c k Q
    unfold sepL sumL
    iintro ⟨-, He, HO, Hk⟩
    iapply Hk
    isplitl [He]; · iexact He
    iexact HO
  | s :: l, R, hR => by
    have e : sumL D (s :: l) + R = D s + (sumL D l + R) := add_assoc ..
    have e' : D' s + (sumL D l + R) = sumL D l + (D' s + R) := add_left_comm ..
    have e'' : sumL D' l + (D' s + R) = sumL D' (s :: l) + R := by
      show _ = (D' s + sumL D' l) + R
      rw [add_left_comm, add_assoc]
    have h1 := hf s (sumL D l + R) ((sumL_ab hD l).add hR) (l.foldr f k) Q
    have h2 := run_list hf hD hD' k (Q := Q) l (D' s + R) ((hD' s).add hR)
    rw [e'] at h1
    rw [e'', ] at h2
    rw [e]
    show iprop(ctx A B K ιs ∗ (P s ∗ sepL P l) ∗ owing c (D s + (sumL D l + R)) ∗ ((P' s ∗ sepL P' l) ∗ owing c (sumL D' (s :: l) + R) -∗ run c k Q)) ⊢ run c (f s (l.foldr f k)) Q
    iintro ⟨#Hctx, ⟨HP, HPl⟩, HO, Hk⟩
    iapply h1
    isplitr; · iexact Hctx
    isplitl [HP]; · iexact HP
    isplitl [HO]; · iexact HO
    iintro ⟨HP', HO⟩
    iapply h2
    isplitr; · iexact Hctx
    isplitl [HPl]; · iexact HPl
    isplitl [HO]; · iexact HO
    iintro ⟨HPl, HO⟩
    iapply Hk
    isplitr [HO]
    · isplitl [HP']; · iexact HP'
      iexact HPl
    iexact HO

/-- The step of all eight streams. -/
theorem run_each {c : Dev nD} {b : ℕ} {P P' : Fin 8 → sProp 𝕄} {D D' : Fin 8 → CellTallies nD τ sig ℕ} {f : Fin 8 → PG F → PG F}
    (hf : Step A B K ιs c b P P' D D' f) (hD : ∀ s, Ab b (D s)) (hD' : ∀ s, Ab b (D' s)) {k : PG F} {Q : PUnit → sProp 𝕄} :
    iprop(ctx A B K ιs ∗ bigSep Finset.univ P ∗ owing c (∑ s, D s) ∗ (bigSep Finset.univ P' ∗ owing c (∑ s, D' s) -∗ run c k Q))
      ⊢ run c (eachS f k) Q := by
  have h := run_list hf hD hD' (Q := Q) k all8 0 (Ab.zero b)
  rw [add_zero, add_zero, sepL_bigSep, sepL_bigSep, sumL_sum, sumL_sum] at h
  exact h

end Cert.KernelIdeal

end
-- ==== Proof.Streams.lean ====
module

public import proofs.«01_k».proof.Proof.Each

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # One stream's hops -/

variable {A : Dev nD → Vec F S2048x1024 .bf16} {B : Dev nD → Vec F S1024x2048 .bf16}
variable {K : GSem nD τ sig → ℕ} {ιs : Key → ℕ}

theorem dstOf_eq (c : Dev nD) (s : Fin 8) : dstOf (lf c) (rt c) s = dn c s := by unfold dstOf dn; rfl
theorem upOf_eq (c : Dev nD) (s : Fin 8) : upOf (lf c) (rt c) s = up c s := by unfold upOf up; rfl

theorem used_succ {t h : ℕ} (hh : t < 15 ∧ h = t ∧ t ≠ 14 ∨ 15 ≤ t ∧ h = t - 15) :
    used (t + 1) = if h = 0 then used t else used t + 1 := by
  unfold used
  split <;> split <;> split <;> omega
theorem used_lt {t : ℕ} (h : t < 30) : used t < 30 := by unfold used; split <;> omega
theorem used_le {t : ℕ} (h : 15 ≤ t ∨ t < 15) : t ≠ 15 → used t ≤ t - 1 := by unfold used; split <;> omega

/-- Waiting for the credit a hop needs. -/
theorem run_creditWait (c : Dev nD) (s : Fin 8) {h t a q m m' : ℕ} (hm' : m' = if h = 0 then m else m + 1) (hm : m < 30)
    {O : CellTallies nD τ sig ℕ} (hO : h ≠ 0 → Ab (lC m) O) {k : PG F} {Q : PUnit → sProp 𝕄} :
    iprop(ctx A B K ιs ∗ st c s t a q m ∗ owing c O ∗ (st c s t a q m' ∗ owing c O -∗ run c k Q))
      ⊢ run c (creditWait h s k) Q := by
  cases h with
  | zero =>
    rw [if_pos rfl] at hm'; subst hm'
    show _ ⊢ run c k Q
    iintro ⟨-, Hst, HO, Hk⟩
    iapply Hk
    isplitl [Hst]; · iexact Hst
    iexact HO
  | succ h =>
    rw [if_neg (by omega)] at hm'; subst hm'
    exact run_use1 c s hm (hO (by omega))

/-! ## The reduce-scatter -/

/-- Hop `t` of the reduce-scatter is under way. -/
def rsSt (c : Dev nD) (t : ℕ) (s : Fin 8) : sProp 𝕄 :=
  iprop(st c s t (t + 1) t (used t) ∗ sendCred c s t ∗ hasAny c (xView s (slotOf (t + 1))) ∗ rd c s t)

theorem bufS_rs (c : Dev nD) (s : Fin 8) {t : ℕ} (h : t < 15) : bufS c s t = xView s (slotOf t) := by
  unfold bufS; rw [if_pos h, slotT_lt h]
theorem bufR_rs (c : Dev nD) (s : Fin 8) {t : ℕ} (h : t < 15) : bufR c s t = rView s (slotOf t) := by
  unfold bufR; rw [if_pos h, slotT_lt h]
theorem V_rs {t : ℕ} (c : Dev nD) (s : Fin 8) (h : t < 15) : V A B t c s = X A B t c s := if_pos h
theorem prt_cw (c : Dev nD) (s : Fin 8) (j : ℕ) : (bif cw s then prtB A B c true j else prtB A B c false j) = prtB A B c (cw s) j := by
  cases cw s <;> rfl

theorem step_rs (c : Dev nD) {t : ℕ} (ht : t < 14) :
    Step A B K ιs c (lT t) (rsSt c t) (rsSt c (t + 1)) (fun s => dueS c s (t + 1) t) (fun s => dueS c s (t + 1 + 1) (t + 1))
      (rsStep (lf c) (rt c) (prtB A B c true (t + 1)) (prtB A B c false (t + 1)) t) := by
  intro s R hR k Q
  have h15 : t < 15 := by omega
  have hO : Ab (lT t) (dueS c s (t + 1) t + R) := (Ab.dueS c s (by dsimp only [lT]; omega) (by dsimp only [lT, lC]; omega)).add hR
  have hO' : t ≠ 0 → Ab (lC (used t)) (dueS c s (t + 1) (t + 1) + R) := fun h0 =>
    ((Ab.dueS (b := lT t) c s (by dsimp only [lT]; omega) (by dsimp only [lT, lC]; omega)).add hR).mono (by
      have : used t = t - 1 := if_neg (by omega)
      dsimp only [lT, lC]; omega)
  unfold rsSt rsStep rsWait
  iintro ⟨#Hctx, ⟨Hst, Hsc, Hx, Hrd⟩, HO, Hk⟩
  iapply (run_hop c s (t := t) (a := t + 1) (q := t) (m := used t) (slotT_lt h15).symm (by omega) hO (Q := Q) (by rfl) (by rfl))
  isplitr; · iexact Hctx
  isplitl [Hst]; · iexact Hst
  isplitl [Hsc]; · iexact Hsc
  isplitl [HO]; · iexact HO
  rw [bufS_rs c s h15, bufR_rs c s h15, slotT_lt h15, V_rs (up c s) s h15]
  iintro ⟨Hst, #Hr, Hs, Hm, HO⟩
  iapply (run_loadR c s)
  isplitl [Hm]; · iexact Hm
  iintro %f %hf Hm
  have hv : truncf .bf16 (updOf (sub s) (bif cw s then prtB A B c true (t + 1) else prtB A B c false (t + 1)) f) bitsLt_bf16_f32 = X A B (t + 1) c s := by
    rw [prt_cw]
    show truncf .bf16 (addf (rowsOf (sub s) (prtB A B c (cw s) (t + 1))) (extf .f32 (shapeCast S32x1024 f shapeCasts_S1x1x32x1024_S32x1024) bitsLt_bf16_f32)) bitsLt_bf16_f32 = _
    rw [hf]; rfl
  rw [hv]
  ihave Hm := (has_any c (rView s (slotOf t)) _) $$ Hm
  iapply (run_putX c s)
  isplitl [Hx]; · iexact Hx
  iintro Hx
  have hlg := let_go (A := A) (B := B) (K := K) (ιs := ιs) c s h15
  rw [slotT_lt h15] at hlg
  imod hlg $$ [Hrd Hm] with ⟨Hrd, #Hrdy⟩
  · isplitr; · iexact Hctx
    isplitl [Hrd]; · iexact Hrd
    isplitr; · iexact Hr
    iexact Hm
  iapply (run_credit c s (t := t + 1) (a := t + 1) (q := t) (m := used t) (upOf_eq c s) (by omega) (R := R) (Q := Q))
  isplitr; · iexact Hctx
  isplitl [Hst]; · iexact Hst
  isplitr; · iexact Hrdy
  isplitl [HO]; · iexact HO
  iintro ⟨Hst, HO⟩
  iapply (run_creditWait c s (h := t) (t := t + 1) (a := t + 1) (q := t + 1) (m := used t) (m' := used (t + 1)) (used_succ (t := t) (Or.inl ⟨h15, rfl, by omega⟩)) (used_lt (by omega)) hO' (Q := Q))
  isplitr; · iexact Hctx
  isplitl [Hst]; · iexact Hst
  isplitl [HO]; · iexact HO
  iintro ⟨Hst, HO⟩
  unfold rsSend
  iapply (run_send c s (t := t + 1) (q := t + 1) (m := used (t + 1)) (R := R) (Q := Q) (dstOf_eq c s) (slotT_lt (by omega)).symm (by omega) prevT_lt (bufS_rs c s (by omega)).symm (bufR_rs _ s (by omega)).symm)
  isplitr; · iexact Hctx
  isplitl [Hst]; · iexact Hst
  rw [bufS_rs c s (t := t + 1) (by omega), V_rs c s (t := t + 1) (by omega), if_pos (show t + 1 < 15 by omega)]
  isplitl [Hx]; · iexact Hx
  isplitr; · iempintro
  isplitl [HO]; · iexact HO
  iintro ⟨Hst, Hsc, HO⟩
  iapply Hk
  isplitr [HO]
  · isplitl [Hst]; · iexact Hst
    isplitl [Hsc]; · iexact Hsc
    isplitl [Hs]
    · rw [show slotOf (t + 1 + 1) = slotOf t from Fin.ext (by show (t + 1 + 1) % 2 = t % 2; omega)]
      iapply (has_any c (xView s (slotOf t)) _); iexact Hs
    iexact Hrd
  iexact HO

end Cert.KernelIdeal

end
-- ==== Proof.Gather.lean ====
module

public import proofs.«01_k».proof.Proof.Streams

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # The last hop of the reduce-scatter, and the all-gather -/

variable {A : Dev nD → Vec F S2048x1024 .bf16} {B : Dev nD → Vec F S1024x2048 .bf16}
variable {K : GSem nD τ sig → ℕ} {ιs : Key → ℕ}

/-- Both send slots and both receive slots, at rest. -/
def rest (c : Dev nD) (s : Fin 8) : sProp 𝕄 :=
  iprop(hasAny c (xView s 0) ∗ hasAny c (xView s 1) ∗ rd c s 15)
/-- The reduce-scatter is over: `m` credits used, the own block finished. -/
def rsEnd (A : Dev nD → Vec F S2048x1024 .bf16) (B : Dev nD → Vec F S1024x2048 .bf16) (c : Dev nD) (m : ℕ) (s : Fin 8) : sProp 𝕄 :=
  iprop(st c s 15 15 15 m ∗ rest c s ∗ has c (reg (ch c s 15) s).view (Y A B c s))

theorem step_last (c : Dev nD) (hp : ∀ s, ((reg (ch c s 15) s)).rect.PackedRows (EltTy.packing .bf16)) :
    Step A B K ιs c (lT 14) (fun s => iprop(rsSt c 14 s ∗ hasAny c (reg (ch c s 15) s).view)) (rsEnd A B c 13)
      (fun s => dueS c s 15 14) (fun s => dueS c s 15 15)
      (rsLast (lf c) (rt c) (fun s => reg (ch c s 15) s) hp (prtB A B c true 15) (prtB A B c false 15)) := by
  intro s R hR k Q
  have hO : Ab (lT 14) (dueS c s 15 14 + R) := (Ab.dueS c s (by decide) (by decide)).add hR
  unfold rsSt rsEnd rest rsLast rsWait
  iintro ⟨#Hctx, ⟨⟨Hst, Hsc, Hx, Hrd⟩, Ho⟩, HO, Hk⟩
  iapply (run_hop c s (t := 14) (a := 15) (q := 14) (m := 13) (by rfl) (by omega) hO (Q := Q) (by rfl) (by rfl))
  isplitr; · iexact Hctx
  isplitl [Hst]; · iexact Hst
  isplitl [Hsc]; · iexact Hsc
  isplitl [HO]; · iexact HO
  rw [bufS_rs c s (t := 14) (by omega), bufR_rs c s (t := 14) (by omega), slotT_lt (show 14 < 15 by omega), V_rs (t := 14) (up c s) s (by omega)]
  iintro ⟨Hst, #Hr, Hs, Hm, HO⟩
  iapply (run_loadR c s)
  isplitl [Hm]; · iexact Hm
  iintro %f %hf Hm
  have hv : truncf .bf16 (siluV (updOf (sub s) (bif cw s then prtB A B c true 15 else prtB A B c false 15) f)) bitsLt_bf16_f32 = Y A B c s := by
    rw [prt_cw]
    show truncf .bf16 (siluV (addf (rowsOf (sub s) (prtB A B c (cw s) 15)) (extf .f32 (shapeCast S32x1024 f shapeCasts_S1x1x32x1024_S32x1024) bitsLt_bf16_f32))) bitsLt_bf16_f32 = _
    rw [hf]; rfl
  rw [hv]
  ihave Hm := (has_any c (rView s 0) _) $$ Hm
  iapply (run_putO c)
  isplitl [Ho]; · iexact Ho
  iintro Ho
  have hlg := let_go (A := A) (B := B) (K := K) (ιs := ιs) c s (t := 14) (by omega)
  imod hlg $$ [Hrd Hm] with ⟨Hrd, #Hrdy⟩
  · isplitr; · iexact Hctx
    isplitl [Hrd]; · iexact Hrd
    isplitr; · iexact Hr
    iexact Hm
  iapply (run_credit c s (t := 15) (a := 15) (q := 14) (m := 13) (upOf_eq c s) (by omega) (R := R) (Q := Q))
  isplitr; · iexact Hctx
  isplitl [Hst]; · iexact Hst
  isplitr; · iexact Hrdy
  isplitl [HO]; · iexact HO
  iintro ⟨Hst, HO⟩
  iapply Hk
  isplitr [HO]
  · isplitl [Hst]; · iexact Hst
    isplitl [Hs Hx Hrd]
    · isplitl [Hs]
      · iapply (has_any c (xView s (slotOf 14)) _); iexact Hs
      isplitl [Hx]; · iexact Hx
      iexact Hrd
    iexact Ho
  iexact HO

theorem step_drain (c : Dev nD) :
    Step A B K ιs c (lC 14) (rsEnd A B c 13) (rsEnd A B c 15) (fun s => dueS c s 15 15) (fun s => dueS c s 15 15) creditDrain := by
  intro s R hR k Q
  have hO : Ab (lC 14) (dueS c s 15 15 + R) := (Ab.dueS c s (by decide) (by decide)).add hR
  unfold rsEnd
  iintro ⟨#Hctx, ⟨Hst, Hx⟩, HO, Hk⟩
  iapply (run_use2 c s (t := 15) (a := 15) (q := 15) (m := 13) (by omega) hO (Q := Q))
  isplitr; · iexact Hctx
  isplitl [Hst]; · iexact Hst
  isplitl [HO]; · iexact HO
  iintro ⟨Hst, HO⟩
  iapply Hk
  isplitr [HO]
  · isplitl [Hst]; · iexact Hst
    iexact Hx
  iexact HO

/-- The blocks of the next device's result from the `a`-th on, for writing. -/
def outs (c : Dev nD) (s : Fin 8) (a : ℕ) : sProp 𝕄 :=
  bigSep (Finset.Ico a 15) fun h => hasAny (dn c s) (reg (ch (dn c s) s (h + 16)) s).view
/-- The blocks of the own result that are finished and at rest. -/
def done (A : Dev nD → Vec F S2048x1024 .bf16) (B : Dev nD → Vec F S1024x2048 .bf16) (c : Dev nD) (s : Fin 8) (n : ℕ) : sProp 𝕄 :=
  bigSep (Finset.range n) fun h => has c (reg (ch c s (h + 15)) s).view (H A B h c s)

/-- Hop `t` of the all-gather is under way. -/
def agSt (A : Dev nD → Vec F S2048x1024 .bf16) (B : Dev nD → Vec F S1024x2048 .bf16) (c : Dev nD) (h : ℕ) (s : Fin 8) : sProp 𝕄 :=
  iprop(st c s (h + 15) (h + 16) (h + 15) (used (h + 15)) ∗ sendCred c s (h + 15) ∗ outs c s (h + 1) ∗ done A B c s h)

theorem bufS_ag (c : Dev nD) (s : Fin 8) (h : ℕ) : bufS c s (h + 15) = (reg (ch c s (h + 15)) s).view := by
  unfold bufS; rw [if_neg (by omega)]
theorem bufR_ag (c : Dev nD) (s : Fin 8) (h : ℕ) : bufR c s (h + 15) = (reg (ch c s (h + 16)) s).view := by
  unfold bufR; rw [if_neg (by omega)]
theorem V_ag (c : Dev nD) (s : Fin 8) (h : ℕ) : V A B (h + 15) c s = H A B h c s := by
  unfold V; rw [if_neg (by omega), Nat.add_sub_cancel]
theorem slotT_ag (h : ℕ) : slotT (h + 15) = slotOf h := by rw [slotT_ge (by omega), Nat.add_sub_cancel]

/-- Sending the block that hop `h` of the all-gather passes on. -/
theorem run_agSend (c : Dev nD) (s : Fin 8) {h q m : ℕ} (hh : h < 15) (hm : prevT (h + 15) < m) {o : OutR} (ho : o = reg (ch c s (h + 15)) s)
    {hw : o.rect.WholeWords (EltTy.packing .bf16)} {R : CellTallies nD τ sig ℕ} {k : PG F} {Q : PUnit → sProp 𝕄} :
    iprop(ctx A B K ιs ∗ st c s (h + 15) (h + 15) q m ∗ has c (reg (ch c s (h + 15)) s).view (H A B h c s) ∗ outs c s h
        ∗ owing c (dueS c s (h + 15) q + R)
        ∗ (st c s (h + 15) (h + 16) q m ∗ sendCred c s (h + 15) ∗ outs c s (h + 1) ∗ owing c (dueS c s (h + 16) q + R) -∗ run c k Q))
      ⊢ run c (agSend (dstOf (lf c) (rt c) s) o hw s (slotOf h) k) Q := by
  subst ho
  have e1 : (reg (ch c s (h + 15)) s).view = bufS c s (h + 15) := (bufS_ag c s h).symm
  have e2 : (reg (ch c s (h + 15)) s).view = bufR (dn c s) s (h + 15) := by rw [bufR_dn c s _ (by omega), e1]
  have e3 : (reg (ch (dn c s) s (h + 16)) s).view = bufR (dn c s) s (h + 15) := (bufR_ag (dn c s) s h).symm
  unfold agSend outs
  rw [bigSep_Ico_succ_bot hh, e3]
  iintro ⟨#Hctx, Hst, Hs, ⟨Ho, Hos⟩, HO, Hk⟩
  iapply (run_send c s (t := h + 15) (q := q) (m := m) (R := R) (Q := Q) (dstOf_eq c s) (slotT_ag h).symm (by omega) (fun _ => hm) e1 e2)
  isplitr; · iexact Hctx
  isplitl [Hst]; · iexact Hst
  rw [bufS_ag, V_ag, if_neg (by omega)]
  isplitl [Hs]; · iexact Hs
  isplitl [Ho]; · iexact Ho
  isplitl [HO]; · iexact HO
  iintro ⟨Hst, Hsc, HO⟩
  iapply Hk
  isplitl [Hst]; · iexact Hst
  isplitl [Hsc]; · iexact Hsc
  isplitl [Hos]; · iexact Hos
  iexact HO

/-- Waiting for hop `h` of the all-gather. -/
theorem run_agWait (c : Dev nD) (s : Fin 8) {h a q m : ℕ} (hh : h < 15) {O : CellTallies nD τ sig ℕ} (hO : Ab (lT (h + 15)) O) {o : OutR}
    {hw : o.rect.WholeWords (EltTy.packing .bf16)} {k : PG F} {Q : PUnit → sProp 𝕄} :
    iprop(ctx A B K ιs ∗ st c s (h + 15) a q m ∗ sendCred c s (h + 15) ∗ done A B c s h ∗ owing c O
        ∗ (st c s (h + 16) a q m ∗ ready c s (nextT (h + 15)) ∗ done A B c s (h + 1) ∗ has c (reg (ch c s (h + 16)) s).view (H A B (h + 1) c s) ∗ owing c O
          -∗ run c k Q))
      ⊢ run c (agWait o hw s (slotOf h) k) Q := by
  have hn : nextT (h + 15) = h + 17 := by unfold nextT; rw [if_neg (by omega), if_neg (by omega)]
  have hrd : reached ER (rCell c s (slotT (h + 15))) (rndT (h + 15) + 1) ⊢ (ready c s (nextT (h + 15)) : sProp 𝕄) := by
    unfold ready
    rw [slotT_nextT (by omega), rndT_nextT (by omega), if_neg (by rw [hn]; omega)]
    iintro H
    isplitl; · iexact H
    iempintro
  have hdone : iprop(has c (reg (ch c s (h + 15)) s).view (H A B h c s) ∗ done A B c s h) ⊢ (done A B c s (h + 1) : sProp 𝕄) := by
    unfold done; rw [bigSep_range_succ]
  unfold agWait
  iintro ⟨#Hctx, Hst, Hsc, Hd, HO, Hk⟩
  iapply (run_hop c s (t := h + 15) (a := a) (q := q) (m := m) (slotT_ag h).symm (by omega) hO (Q := Q) (by rfl) (by rfl))
  isplitr; · iexact Hctx
  isplitl [Hst]; · iexact Hst
  isplitl [Hsc]; · iexact Hsc
  isplitl [HO]; · iexact HO
  rw [V_next A B (h + 15) (by omega) c s, bufS_ag, bufR_ag, V_ag, show h + 15 + 1 = (h + 1) + 15 by omega, V_ag]
  iintro ⟨Hst, #Hr, Hs, Hm, HO⟩
  iapply Hk
  isplitl [Hst]; · iexact Hst
  isplitr; · iapply hrd; iexact Hr
  isplitl [Hs Hd]
  · iapply hdone
    isplitl [Hs]; · iexact Hs
    iexact Hd
  isplitl [Hm]; · iexact Hm
  iexact HO

theorem step_ag0 (c : Dev nD) (hw : ∀ s, ((reg (ch c s 15) s)).rect.WholeWords (EltTy.packing .bf16)) :
    Step A B K ιs c (lC 14) (fun s => iprop(rsEnd A B c 15 s ∗ outs c s 0)) (fun s => iprop(agSt A B c 0 s ∗ rest c s)) (fun s => dueS c s 15 15) (fun s => dueS c s 16 15)
      (fun s => agSend (dstOf (lf c) (rt c) s) (reg (ch c s 15) s) (hw s) s 0) := by
  intro s R hR k Q
  unfold rsEnd agSt
  iintro ⟨#Hctx, ⟨⟨Hst, Hrest, Hs⟩, Ho⟩, HO, Hk⟩
  iapply (run_agSend c s (h := 0) (q := 15) (m := 15) (by omega) (by decide) (by rfl) (R := R) (Q := Q))
  isplitr; · iexact Hctx
  isplitl [Hst]; · iexact Hst
  isplitl [Hs]; · iexact Hs
  isplitl [Ho]; · iexact Ho
  isplitl [HO]; · iexact HO
  iintro ⟨Hst, Hsc, Ho, HO⟩
  iapply Hk
  isplitr [HO]
  · isplitr [Hrest]
    · isplitl [Hst]; · iexact Hst
      isplitl [Hsc]; · iexact Hsc
      isplitl [Ho]; · iexact Ho
      unfold done; rw [Finset.range_zero, bigSep_empty]; iempintro
    iexact Hrest
  iexact HO

theorem step_ag (c : Dev nD) {h : ℕ} (hh : h < 14) (o : Fin 8 → OutR) (ho : ∀ s, o s = reg (ch c s (h + 16)) s)
    (hw : ∀ s, (o s).rect.WholeWords (EltTy.packing .bf16)) :
    Step A B K ιs c (lT (h + 15)) (agSt A B c h) (agSt A B c (h + 1)) (fun s => dueS c s (h + 16) (h + 15)) (fun s => dueS c s (h + 17) (h + 16))
      (agStep (lf c) (rt c) o hw h) := by
  intro s R hR k Q
  have hO : Ab (lT (h + 15)) (dueS c s (h + 16) (h + 15) + R) := (Ab.dueS c s (by dsimp only [lT]; omega) (by dsimp only [lT, lC]; omega)).add hR
  have hu : used (h + 15) ≤ h + 15 := by unfold used; split <;> omega
  have hO' : h ≠ 0 → Ab (lC (used (h + 15))) (dueS c s (h + 16) (h + 16) + R) := fun h0 =>
    ((Ab.dueS (b := lT (h + 15)) c s (by dsimp only [lT]; omega) (by dsimp only [lT, lC]; omega)).add hR).mono (by
      by_cases h1 : h = 1
      · subst h1; decide
      · have : used (h + 15) = h + 15 - 1 := if_neg (by omega)
        dsimp only [lT, lC]; omega)
  unfold agStep agSt
  iintro ⟨#Hctx, ⟨Hst, Hsc, Ho, Hd⟩, HO, Hk⟩
  iapply (run_agWait c s (h := h) (a := h + 16) (q := h + 15) (m := used (h + 15)) (by omega) hO (Q := Q))
  isplitr; · iexact Hctx
  isplitl [Hst]; · iexact Hst
  isplitl [Hsc]; · iexact Hsc
  isplitl [Hd]; · iexact Hd
  isplitl [HO]; · iexact HO
  iintro ⟨Hst, #Hrdy, Hd, Hm, HO⟩
  iapply (run_credit c s (t := h + 16) (a := h + 16) (q := h + 15) (m := used (h + 15)) (upOf_eq c s) (by omega) (R := R) (Q := Q))
  isplitr; · iexact Hctx
  isplitl [Hst]; · iexact Hst
  isplitr; · iexact Hrdy
  isplitl [HO]; · iexact HO
  iintro ⟨Hst, HO⟩
  iapply (run_creditWait c s (h := h) (t := h + 16) (a := h + 16) (q := h + 16) (m := used (h + 15)) (m' := used (h + 16))
    (used_succ (t := h + 15) (Or.inr ⟨by omega, by omega⟩)) (used_lt (by omega)) hO' (Q := Q))
  isplitr; · iexact Hctx
  isplitl [Hst]; · iexact Hst
  isplitl [HO]; · iexact HO
  iintro ⟨Hst, HO⟩
  iapply (run_agSend c s (h := h + 1) (q := h + 16) (m := used (h + 16)) (by omega) (prevT_lt (by omega)) (ho s) (R := R) (Q := Q))
  isplitr; · iexact Hctx
  isplitl [Hst]; · iexact Hst
  isplitl [Hm]; · iexact Hm
  isplitl [Ho]; · iexact Ho
  isplitl [HO]; · iexact HO
  iintro ⟨Hst, Hsc, Ho, HO⟩
  iapply Hk
  isplitr [HO]
  · isplitl [Hst]; · iexact Hst
    isplitl [Hsc]; · iexact Hsc
    isplitl [Ho]; · iexact Ho
    iexact Hd
  iexact HO

/-- The all-gather is over, but for two credits. -/
def agEnd (A : Dev nD → Vec F S2048x1024 .bf16) (B : Dev nD → Vec F S1024x2048 .bf16) (c : Dev nD) (s : Fin 8) : sProp 𝕄 :=
  iprop(st c s 30 30 30 28 ∗ done A B c s 16)

theorem step_agLast (c : Dev nD) (o : Fin 8 → OutR) (hw : ∀ s, (o s).rect.WholeWords (EltTy.packing .bf16)) :
    Step A B K ιs c (lT 29) (agSt A B c 14) (agEnd A B c) (fun s => dueS c s 30 29) (fun s => dueS c s 30 30)
      (agLast (lf c) (rt c) o hw) := by
  intro s R hR k Q
  have hO : Ab (lT 29) (dueS c s 30 29 + R) := (Ab.dueS c s (by decide) (by decide)).add hR
  unfold agLast agSt agEnd
  iintro ⟨#Hctx, ⟨Hst, Hsc, Ho, Hd⟩, HO, Hk⟩
  iapply (run_agWait c s (h := 14) (a := 30) (q := 29) (m := 28) (by omega) hO (Q := Q))
  isplitr; · iexact Hctx
  isplitl [Hst]; · iexact Hst
  isplitl [Hsc]; · iexact Hsc
  isplitl [Hd]; · iexact Hd
  isplitl [HO]; · iexact HO
  iintro ⟨Hst, #Hrdy, Hd, Hm, HO⟩
  iapply (run_credit c s (t := 30) (a := 30) (q := 29) (m := 28) (upOf_eq c s) (by omega) (R := R) (Q := Q))
  isplitr; · iexact Hctx
  isplitl [Hst]; · iexact Hst
  isplitr; · iexact Hrdy
  isplitl [HO]; · iexact HO
  iintro ⟨Hst, HO⟩
  iapply Hk
  isplitr [HO]
  · isplitl [Hst]; · iexact Hst
    unfold done
    rw [bigSep_range_succ (k := 15)]
    isplitl [Hm]; · iexact Hm
    iexact Hd
  iexact HO

/-- All of a stream's cells at their last rounds, its blocks of the result finished. -/
def fin (A : Dev nD → Vec F S2048x1024 .bf16) (B : Dev nD → Vec F S1024x2048 .bf16) (c : Dev nD) (s : Fin 8) : sProp 𝕄 :=
  iprop(posn c s 30 ∗ atPos ER (cCell c s) 1 ∅ 0 ∗ done A B c s 16)

theorem step_fin (c : Dev nD) :
    Step A B K ιs c (lC 29) (agEnd A B c) (fin A B c) (fun s => dueS c s 30 30) (fun s => dueS c s 30 30) creditDrain := by
  intro s R hR k Q
  have hO : Ab (lC 29) (dueS c s 30 30 + R) := (Ab.dueS c s (by decide) (by decide)).add hR
  have hmay : ctx A B K ιs ⊢ (MayOwe (c : Thread nD τ) ((Finsupp.single (lC 28) 1 + Finsupp.single (lC 29) 1).support.image (SemLoc.reg (cSem s), ·))
      (dueS c s 30 30 + R) : sProp 𝕄) := by
    refine ctx_lev.trans ?_
    have hle : ∀ i ∈ (Finsupp.single (lC 28) 1 + Finsupp.single (lC 29) 1).support, i ≤ lC 29 := fun i hi => by
      rcases Finset.mem_union.1 (Finsupp.support_add hi) with h | h <;>
        (rw [Finset.mem_singleton.1 (Finsupp.support_single_subset h)] <;> decide)
    refine MayOwe.of_cut (lev := SiteBlocks.lv) (lC 29) (fun p hp => ?_) (fun g k h => (hO g k h).1) (fun p hp => ?_) (fun g k h => (hO g k h).2)
    · obtain ⟨i, hi, rfl⟩ := Finset.mem_image.1 hp
      exact SiteBlocks.mem_L _ _ (lt_of_le_of_lt (hle i hi) (by decide))
    · obtain ⟨i, hi, rfl⟩ := Finset.mem_image.1 hp
      exact hle i hi
  unfold agEnd fin st creditDrain crdSt owing run
  rw [bigSep_Ico_succ_bot (show 28 < 30 by omega), bigSep_Ico_succ_bot (show 29 < 30 by omega)]
  unfold credCred
  iintro ⟨#Hctx, ⟨⟨Hpos, -, -, -, ⟨Hc, Hc', -⟩, ⟨%S, %hS, Hat, -⟩, -, -⟩, Hd⟩, ⟨%W, HO⟩, Hk⟩
  obtain ⟨hS, hmS⟩ := hS
  ihave Hc := (two_credits c s (lC 28) (lC 29)) $$ [Hc Hc']
  · isplitl [Hc]; · iexact Hc
    iexact Hc'
  ihave #HiC := (ctx_cell (mem_c c s)) $$ Hctx
  iapply (Rounds.wp_wait_rest 𝒱₀ ER (Rd A B) (c : Thread nD τ) none (κ := K (cCell c s)) (wpE_semWait_eq 𝒱₀ (c : Thread nD τ) none Set.univ) (Set.mem_univ _)
      (cr := Finsupp.single (lC 28) 1 + Finsupp.single (lC 29) 1) (O := dueS c s 30 30 + R) (W := W)
      ((Finsupp.single (lC 28) 1 + Finsupp.single (lC 29) 1).support.image (SemLoc.reg (cSem s), ·)) (R := 0) (m := 28) (T := S)
      (by rw [expect_c]) (by rw [Util.total_add, total_one, total_one]) (Finset.Subset.refl _)) $$ [Hc HO Hat]
  · isplitr; · iexact HiC
    isplitl [Hc]; · iexact Hc
    isplitl [HO]; · iexact HO
    isplitr; · iapply hmay; iexact Hctx
    iexact Hat
  iintro ⟨HO, Hat, -, -⟩
  iapply Hk
  isplitr [HO]
  · isplitl [Hpos]; · iexact Hpos
    isplitl [Hat]; · iexact Hat
    iexact Hd
  iexists _; iexact HO

end Cert.KernelIdeal

end
-- ==== Proof.Run.lean ====
module

public import proofs.«01_k».proof.Proof.Gather

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # All streams' hops -/

variable {A : Dev nD → Vec F S2048x1024 .bf16} {B : Dev nD → Vec F S1024x2048 .bf16}
variable {K : GSem nD τ sig → ℕ} {ιs : Key → ℕ}

/-- The blocks of the two factors, in the device's own memory. -/
def hold (A : Dev nD → Vec F S2048x1024 .bf16) (B : Dev nD → Vec F S1024x2048 .bf16) (c : Dev nD) : sProp 𝕄 :=
  iprop((mA.view.loc (c : Thread nD τ) ↦[Finset.univ]{fullShare} A c) ∗ (mC.view.loc (c : Thread nD τ) ↦[Finset.univ]{fullShare} B c))

/-- The two parts of the product for one hop. -/
theorem run_parts (c : Dev nD) (i j : Fin 16) {h₁ h₂} {k : FVec F S128x1024 .f32 → FVec F S128x1024 .f32 → PG F} {Q : PUnit → sProp 𝕄} :
    iprop(hold A B c ∗ (hold A B c -∗ run c (k (mm (aPart (A c) i) (bPart (B c) true)) (mm (aPart (A c) j) (bPart (B c) false))) Q))
      ⊢ run c (parts (aOff i) (aOff j) h₁ h₂ k) Q := by
  unfold hold run parts
  iintro ⟨⟨HA, HB⟩, Hk⟩
  iapply (wp_load 𝒱₀ (c : Thread nD τ) none Set.univ (m := mA) (S := Finset.univ) (q := fullShare) (f := A c) (Finset.subset_univ _)) $$ HA
  iintro HA
  iapply (wp_load 𝒱₀ (c : Thread nD τ) none Set.univ (m := mC) (S := Finset.univ) (q := fullShare) (f := B c) (Finset.subset_univ _)) $$ HB
  iintro HB
  iapply (wp_load 𝒱₀ (c : Thread nD τ) none Set.univ (m := mA) (S := Finset.univ) (q := fullShare) (f := A c) (Finset.subset_univ _)) $$ HA
  iintro HA
  iapply (wp_load 𝒱₀ (c : Thread nD τ) none Set.univ (m := mC) (S := Finset.univ) (q := fullShare) (f := B c) (Finset.subset_univ _)) $$ HB
  iintro HB
  iapply Hk
  isplitl [HA]; · iexact HA
  iexact HB

theorem dueS_end (c : Dev nD) : ∑ s, dueS c s 30 30 = 0 :=
  Finset.sum_eq_zero fun s _ => by unfold dueS dueR dueC; rw [Finset.Ico_self, Finset.sum_empty, Finset.sum_empty, add_zero]

/-- The all-gather from hop `h` on. -/
theorem run_agFrom (c : Dev nD) {Q : PUnit → sProp 𝕄} : ∀ (m h : ℕ) (hm : m ≤ 14), h + m = 14 →
    iprop(ctx A B K ιs ∗ bigSep Finset.univ (agSt A B c h) ∗ owing c (∑ s, dueS c s (h + 16) (h + 15))
        ∗ (bigSep Finset.univ (fin A B c) ∗ owing c 0 -∗ Q ⟨⟩))
      ⊢ run c (agFrom (geoC c) m hm) Q
  | 0, h, hm, hh => by
    obtain rfl : h = 14 := by omega
    unfold agFrom
    iintro ⟨#Hctx, Hst, HO, Hk⟩
    iapply (run_each (step_agLast c ((geoC c).agh 14) ((geoC c).aghW 14)) (fun s => Ab.dueS c s (by decide) (by decide)) (fun s => Ab.dueS c s (by decide) (by decide)))
    isplitr; · iexact Hctx
    isplitl [Hst]; · iexact Hst
    isplitl [HO]; · iexact HO
    iintro ⟨Hst, HO⟩
    iapply (run_each (step_fin c) (fun s => Ab.dueS c s (by decide) (by decide)) (fun s => Ab.dueS c s (by decide) (by decide)))
    isplitr; · iexact Hctx
    isplitl [Hst]; · iexact Hst
    isplitl [HO]; · iexact HO
    rw [dueS_end]
    iintro H
    unfold run
    rw [wp_ret]
    imodintro
    iapply Hk
    iexact H
  | m + 1, h, hm, hh => by
    have ih := run_agFrom c (Q := Q) m (h + 1) (by omega) (by omega)
    have e : 13 - m = h := by omega
    unfold agFrom
    iintro ⟨#Hctx, Hst, HO, Hk⟩
    have hs : Step A B K ιs c (lT (h + 15)) (agSt A B c h) (agSt A B c (h + 1)) (fun s => dueS c s (h + 16) (h + 15)) (fun s => dueS c s (h + 17) (h + 16))
      (agStep (geoC c).l (geoC c).r ((geoC c).agh ⟨13 - m, by omega⟩) ((geoC c).aghW ⟨13 - m, by omega⟩) (13 - m)) := by
      have hj : ∀ (j : ℕ) (_ : j = h) (o : Fin 8 → OutR) (_ : ∀ s, o s = reg (ch c s (h + 16)) s) (hw : ∀ s, (o s).rect.WholeWords (EltTy.packing .bf16)),
          Step A B K ιs c (lT (h + 15)) (agSt A B c h) (agSt A B c (h + 1)) (fun s => dueS c s (h + 16) (h + 15)) (fun s => dueS c s (h + 17) (h + 16))
            (agStep (lf c) (rt c) o hw j) := by
        intro j hj o ho hw; subst hj; exact step_ag c (by omega) o ho hw
      exact hj _ e _ (fun s => by show reg (ch c s (13 - m + 16)) s = _; rw [e]) _
    iapply (run_each hs (fun s => Ab.dueS c s (by dsimp only [lT]; omega) (by dsimp only [lT, lC]; omega))
      (fun s => Ab.dueS c s (by dsimp only [lT]; omega) (by dsimp only [lT, lC]; omega)))
    isplitr; · iexact Hctx
    isplitl [Hst]; · iexact Hst
    isplitl [HO]; · iexact HO
    iintro ⟨Hst, HO⟩
    iapply ih
    isplitr; · iexact Hctx
    isplitl [Hst]; · iexact Hst
    isplitl [HO]; · iexact HO
    iexact Hk

/-- What the reduce-scatter leaves alone: the blocks of the result, own and the next device's. -/
def own (c : Dev nD) : sProp 𝕄 := bigSep Finset.univ fun s => iprop(hasAny c (reg (ch c s 15) s).view ∗ outs c s 0)

theorem sep4 (P Q R S : sProp 𝕄) : iprop((P ∗ Q) ∗ (R ∗ S)) ⊢ (iprop((P ∗ R) ∗ (Q ∗ S)) : sProp 𝕄) := by
  iintro ⟨⟨H1, H2⟩, H3, H4⟩
  isplitl [H1 H3]
  · isplitl [H1]; · iexact H1
    iexact H3
  isplitl [H2]; · iexact H2
  iexact H4

/-- What is at rest in the end. -/
def endAll (A : Dev nD → Vec F S2048x1024 .bf16) (B : Dev nD → Vec F S1024x2048 .bf16) (c : Dev nD) : sProp 𝕄 :=
  iprop(bigSep Finset.univ (fin A B c) ∗ bigSep Finset.univ (rest c) ∗ hold A B c ∗ owing c 0)

/-- The reduce-scatter from hop `t` on, then the all-gather. -/
theorem run_rsFrom (c : Dev nD) {Q : PUnit → sProp 𝕄} : ∀ (m t : ℕ) (hm : m ≤ 14), t + m = 14 →
    iprop(ctx A B K ιs ∗ bigSep Finset.univ (rsSt c t) ∗ own c ∗ hold A B c ∗ owing c (∑ s, dueS c s (t + 1) t)
        ∗ (endAll A B c -∗ Q ⟨⟩))
      ⊢ run c (rsFrom (geoC c) m hm (prtB A B c true (t + 1)) (prtB A B c false (t + 1))) Q
  | 0, t, hm, ht => by
    obtain rfl : t = 14 := by omega
    unfold rsFrom own endAll
    rw [bigSep_sep']
    iintro ⟨#Hctx, Hst, ⟨Ho, Hos⟩, Hh, HO, Hk⟩
    iapply (run_each (step_last c (geoC c).finP) (fun s => Ab.dueS c s (by decide) (by decide)) (fun s => Ab.dueS c s (by decide) (by decide)))
    isplitr; · iexact Hctx
    isplitl [Hst Ho]
    · rw [bigSep_sep']
      isplitl [Hst]; · iexact Hst
      iexact Ho
    isplitl [HO]; · iexact HO
    iintro ⟨Hst, HO⟩
    iapply (run_each (step_drain c) (fun s => Ab.dueS c s (by decide) (by decide)) (fun s => Ab.dueS c s (by decide) (by decide)))
    isplitr; · iexact Hctx
    isplitl [Hst]; · iexact Hst
    isplitl [HO]; · iexact HO
    iintro ⟨Hst, HO⟩
    iapply (run_each (step_ag0 c (geoC c).agoW) (fun s => Ab.dueS c s (by decide) (by decide)) (fun s => Ab.dueS c s (by decide) (by decide)))
    isplitr; · iexact Hctx
    isplitl [Hst Hos]
    · rw [bigSep_sep']
      isplitl [Hst]; · iexact Hst
      iexact Hos
    isplitl [HO]; · iexact HO
    rw [bigSep_sep']
    iintro ⟨⟨Hst, Hr⟩, HO⟩
    iapply (run_agFrom c 14 0 (le_refl _) (by rfl))
    isplitr; · iexact Hctx
    isplitl [Hst]; · iexact Hst
    isplitl [HO]; · iexact HO
    iintro ⟨Hf, HO⟩
    iapply Hk
    isplitl [Hf]; · iexact Hf
    isplitl [Hr]; · iexact Hr
    isplitl [Hh]; · iexact Hh
    iexact HO
  | m + 1, t, hm, ht => by
    have ih := run_rsFrom c (Q := Q) m (t + 1) (by omega) (by omega)
    have e : 13 - m = t := by omega
    have hs : Step A B K ιs c (lT t) (rsSt c t) (rsSt c (t + 1)) (fun s => dueS c s (t + 1) t) (fun s => dueS c s (t + 1 + 1) (t + 1))
        (rsStep (geoC c).l (geoC c).r (prtB A B c true (t + 1)) (prtB A B c false (t + 1)) (13 - m)) := by
      rw [e]; exact step_rs c (by omega)
    have hp1 : (geoC c).nxt₁ ⟨13 - m, by omega⟩ = aOff (ch c 0 (t + 2)) := by show aOff (ch c 0 (13 - m + 2)) = _; rw [e]
    have hp2 : (geoC c).nxt₂ ⟨13 - m, by omega⟩ = aOff (ch c 1 (t + 2)) := by show aOff (ch c 1 (13 - m + 2)) = _; rw [e]
    have hparts : ∀ {o₁ o₂ : Fin 2 → Nat} {h₁ h₂} (_ : o₁ = aOff (ch c 0 (t + 2))) (_ : o₂ = aOff (ch c 1 (t + 2))) (k : FVec F S128x1024 .f32 → FVec F S128x1024 .f32 → PG F),
        iprop(hold A B c ∗ (hold A B c -∗ run c (k (prtB A B c true (t + 1 + 1)) (prtB A B c false (t + 1 + 1))) Q))
          ⊢ run c (parts o₁ o₂ h₁ h₂ k) Q := by
      intro o₁ o₂ h₁ h₂ e1 e2 k
      subst e1; subst e2
      exact run_parts c _ _
    unfold rsFrom
    iintro ⟨#Hctx, Hst, Ho, Hh, HO, Hk⟩
    iapply (run_each hs (fun s => Ab.dueS c s (by dsimp only [lT]; omega) (by dsimp only [lT, lC]; omega))
      (fun s => Ab.dueS c s (by dsimp only [lT]; omega) (by dsimp only [lT, lC]; omega)))
    isplitr; · iexact Hctx
    isplitl [Hst]; · iexact Hst
    isplitl [HO]; · iexact HO
    iintro ⟨Hst, HO⟩
    iapply (hparts hp1 hp2)
    isplitl [Hh]; · iexact Hh
    iintro Hh
    iapply ih
    isplitr; · iexact Hctx
    isplitl [Hst]; · iexact Hst
    isplitl [Ho]; · iexact Ho
    isplitl [Hh]; · iexact Hh
    isplitl [HO]; · iexact HO
    iexact Hk

end Cert.KernelIdeal

end
-- ==== Proof.Entry.lean ====
module

public import proofs.«01_k».proof.Proof.Run

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.SL.Util (total total_add total_single)
open Facts₀ Facts

variable {F : FTy → Type} [FloatOps F]

local notation "𝕄" => MT nD τ sig ℕ (Elt F) ℕ UU ℕ

/-! # The way into the first hop: the slots let go, the barrier, the copy of the right factor -/

variable {A : Dev nD → Vec F S2048x1024 .bf16} {B : Dev nD → Vec F S1024x2048 .bf16}
variable {K : GSem nD τ sig → ℕ} {ιs : Key → ℕ}

/-- What a stream's run starts with, its memory apart. -/
def pre (c : Dev nD) (s : Fin 8) : sProp 𝕄 :=
  iprop((bigSep (Finset.Ico 0 30) (recvCred c s)) ∗ (bigSep (Finset.Ico 0 30) (sendTok c s)) ∗ (bigSep (Finset.Ico 0 30) (payTok c s))
    ∗ (bigSep (Finset.Ico 0 30) (credCred c s)) ∗ posn c s 0 ∗ atPos ER (cCell c s) 0 ∅ 0 ∗ reached ER (cCell c s) 0
    ∗ bigSep Finset.univ fun σ : Fin 2 => Release.readerAt EK (c, s, σ) 0)

/-- A stream's buffers. -/
def slots (c : Dev nD) (s : Fin 8) : sProp 𝕄 :=
  iprop((bigSep Finset.univ fun σ : Fin 2 => hasAny c (xView s σ)) ∗ bigSep Finset.univ fun σ : Fin 2 => hasAny c (rView s σ))

theorem bigSep_two (P : Fin 2 → sProp 𝕄) : bigSep Finset.univ P = iprop(P 0 ∗ P 1) := by
  rw [bigSep_univ_eq_bigSepL [0, 1] (by decide) (by decide)]
  show iprop(P 0 ∗ P 1) = _
  rfl

/-- One receive slot is let go for the first time. -/
theorem slot_open (c : Dev nD) (s : Fin 8) (σ : Fin 2) :
    iprop(ctx A B K ιs ∗ Release.readerAt EK (c, s, σ) 0 ∗ hasAny c (rView s σ))
      ⊢ (|={Set.univ}=> (rslotN c s σ 0 ∗ Release.released EK (c, s, σ) 1) : sProp 𝕄) := by
  have h0 : ¬ 15 ≤ hopOf σ 0 := by revert σ; decide
  unfold rslotN
  rw [if_neg h0]
  iintro ⟨#Hctx, Hat, Hm⟩
  ihave #Hi := (ctx_slot (c, s, σ)) $$ Hctx
  have hne : (rView s σ).view.set.Nonempty := by
    rw [View.set]
    exact Finset.Nonempty.map ⟨Shape.Idx.first (by decide), Finset.mem_univ _⟩
  have hex : iprop(hasAny c (rView s σ) ∗ hasAny c (rView s σ)) ⊢ (False : sProp 𝕄) :=
    Release.slot_slot_false (ℓ := (rView s σ).view.loc (c : Thread nD τ)) (I := (rView s σ).view.set) hne
  iapply (Release.slot_release EK (Set.mem_univ _) hex 0)
  isplitr; · iexact Hi
  isplitl [Hat]; · iexact Hat
  iexact Hm

theorem posn_ready0 (c : Dev nD) (s : Fin 8) :
    iprop(posn c s 0 ∗ Release.released EK (c, s, 0) 1 ∗ Release.released EK (c, s, 1) 1)
      ⊢ (iprop(posn c s 0 ∗ ready c s 0 ∗ ready c s 1) : sProp 𝕄) := by
  have hr : ∀ t < 2, iprop(posn c s 0 ∗ Release.released EK (c, s, 0) 1 ∗ Release.released EK (c, s, 1) 1) ⊢ (ready c s t : sProp 𝕄) := by
    intro t ht
    have h0 : rndT t = nxt (slotT t) 0 := by revert t; decide
    have h1 : rndT t + 1 = 1 := by revert t; decide
    have hp : posn c s 0 ⊢ (reached ER (rCell c s (slotT t)) (rndT t) : sProp 𝕄) := by
      rw [h0]
      refine (bigSep_elim (Φ := fun σ => (posAt c s σ (nxt σ 0) : sProp 𝕄)) (Finset.mem_univ (slotT t))).trans ?_
      have h4 : ∀ P₁ P₂ P₃ P₄ : sProp 𝕄, iprop(P₁ ∗ P₂ ∗ P₃ ∗ P₄) ⊢ P₄ := fun _ _ _ _ => by
        iintro ⟨-, -, -, H⟩; iexact H
      exact h4 _ _ _ _
    have hs : slotT t = 0 ∨ slotT t = 1 := slot01 _
    unfold ready
    rw [if_pos (by omega), h1]
    iintro ⟨Hp, #H0, #H1⟩
    isplitl [Hp]; · iapply hp; iexact Hp
    rcases hs with h | h <;> rw [h]
    · iexact H0
    · iexact H1
  have h2 := hr 0 (by omega)
  have h3 := hr 1 (by omega)
  iintro H
  ihave #H0 := h2 $$ H
  ihave #H1 := h3 $$ H
  icases H with ⟨Hp, -, -⟩
  isplitl [Hp]; · iexact Hp
  isplitr; · iexact H0
  iexact H1

/-- A stream with its slots let go, nothing sent yet. -/
def mid (c : Dev nD) (s : Fin 8) : sProp 𝕄 :=
  iprop((bigSep (Finset.Ico 0 30) (recvCred c s)) ∗ (bigSep (Finset.Ico 0 30) (sendTok c s)) ∗ (bigSep (Finset.Ico 0 30) (payTok c s))
    ∗ (bigSep (Finset.Ico 0 30) (credCred c s)) ∗ posn c s 0 ∗ atPos ER (cCell c s) 0 ∅ 0 ∗ hasAny c (xView s 0) ∗ hasAny c (xView s 1) ∗ rd c s 0)

theorem enter (c : Dev nD) (s : Fin 8) :
    iprop(ctx A B K ιs ∗ pre c s ∗ slots c s ∗ bigSep (Finset.range 15) fun h => hasAny c (reg (ch c s (h + 16)) s).view)
      ⊢ (|={Set.univ}=> (mid c s ∗ downPack c s ∗ upPack c s) : sProp 𝕄) := by
  have hrd : iprop(rslotN c s 0 0 ∗ rslotN c s 1 0) ⊢ (rd c s 0 : sProp 𝕄) := by
    unfold rd; rw [bigSep_two, nxt_zero, nxt_zero]
  unfold pre slots mid downPack upPack
  rw [bigSep_two, bigSep_two, bigSep_two]
  iintro ⟨#Hctx, ⟨Hrc, Hsd, Hpay, Hcc, Hpos, HaC, #HrC, Hr0, Hr1⟩, ⟨⟨Hx0, Hx1⟩, Hm0, Hm1⟩, Ho⟩
  imod (slot_open c s 0) $$ [Hr0 Hm0] with ⟨Hs0, #Hl0⟩
  · isplitr; · iexact Hctx
    isplitl [Hr0]; · iexact Hr0
    iexact Hm0
  imod (slot_open c s 1) $$ [Hr1 Hm1] with ⟨Hs1, #Hl1⟩
  · isplitr; · iexact Hctx
    isplitl [Hr1]; · iexact Hr1
    iexact Hm1
  ihave Hp := (posn_ready0 c s) $$ [Hpos]
  · isplitl [Hpos]; · iexact Hpos
    isplitr; · iexact Hl0
    iexact Hl1
  icases Hp with ⟨Hpos, #Hd0, #Hd1⟩
  ihave Hrd := hrd $$ [Hs0 Hs1]
  · isplitl [Hs0]; · iexact Hs0
    iexact Hs1
  imodintro
  isplitl [Hrc Hsd Hpay Hcc Hpos HaC Hx0 Hx1 Hrd]
  · isplitl [Hrc]; · iexact Hrc
    isplitl [Hsd]; · iexact Hsd
    isplitl [Hpay]; · iexact Hpay
    isplitl [Hcc]; · iexact Hcc
    isplitl [Hpos]; · iexact Hpos
    isplitl [HaC]; · iexact HaC
    isplitl [Hx0]; · iexact Hx0
    isplitl [Hx1]; · iexact Hx1
    iexact Hrd
  isplitl [Ho]
  · isplitr; · iexact Hd0
    isplitr; · iexact Hd1
    iexact Ho
  iexact HrC

/-! ## The barrier -/

theorem swap2 (P Q : sProp 𝕄) : iprop(P ∗ Q) ⊢ iprop(Q ∗ P) := by
  iintro ⟨H1, H2⟩
  isplitl [H2]; · iexact H2
  iexact H1

/-- What a device hands its two neighbours. -/
theorem hand_out (c : Dev nD) :
    (bigSep Finset.univ fun s : Fin 8 => iprop(downPack c s ∗ upPack c s)) ⊢ (iprop(barPay (lf c) 1 ∗ barPay (rt c) 0) : sProp 𝕄) := by
  unfold barPay
  rw [← bigSep_sep']
  refine bigSep_mono fun s _ => ?_
  cases hc : cw s
  · have h1 : up (lf c) s = c := by unfold up upOf; rw [hc]; exact rt_lf c
    have h2 : dn (rt c) s = c := by unfold dn dstOf; rw [hc]; exact lf_rt c
    rw [h1, h2, if_neg (by decide), if_pos (by decide)]
    exact swap2 _ _
  · have h1 : dn (lf c) s = c := by unfold dn dstOf; rw [hc]; exact rt_lf c
    have h2 : up (rt c) s = c := by unfold up upOf; rw [hc]; exact lf_rt c
    rw [h1, h2, if_pos (by decide), if_neg (by decide)]
    exact BI.Entails.refl _

/-- What it gets from them. -/
theorem hand_in (c : Dev nD) :
    iprop(barPay c 0 ∗ barPay c 1) ⊢ (bigSep Finset.univ fun s : Fin 8 => iprop(downPack (dn c s) s ∗ upPack (up c s) s) : sProp 𝕄) := by
  unfold barPay
  rw [← bigSep_sep']
  refine bigSep_mono fun s _ => ?_
  cases hc : cw s
  · rw [if_pos (by decide), if_neg (by decide)]
    exact BI.Entails.refl _
  · rw [if_neg (by decide), if_pos (by decide)]
    exact swap2 _ _

/-- What a device owes on entry. -/
def due (c : Dev nD) : CellTallies nD τ sig ℕ := ((∑ s, dueS c s 0 0) + tallyAt (bCell (rt c)) 1 1) + tallyAt (bCell (lf c)) 1 1

theorem due_tail (c : Dev nD) : Ab 1 (∑ s, dueS c s 0 0) :=
  Ab.sum _ fun s _ => Ab.dueS c s (by decide) (by decide)

/-- The barrier's holdings: own place, the neighbours' units to pay. -/
def barSt (c : Dev nD) : sProp 𝕄 :=
  iprop(atPos ER (bCell c) 0 ∅ 0 ∗ reached ER (bCell (lf c)) 0 ∗ reached ER (bCell (rt c)) 0 ∗ dutyTok ER (bCell (lf c)) 0 1
    ∗ dutyTok ER (bCell (rt c)) 0 0 ∗ cred (tallyAt (bCell c) 1 2))

theorem rest_b (c : Dev nD) : bigSep ((Rd A B).duties (bCell c) 0 \ ∅) (fun u => (Rd A B).payload (bCell c) 0 u)
    = iprop(barPay c 0 ∗ barPay c 1) := by
  rw [Finset.sdiff_empty, duties_b, if_pos rfl]
  rw [bigSep_congr (Ψ := fun u => (barPay c u : sProp 𝕄)) (fun u _ => payload_b A B c 0 u)]
  rw [bigSep_eq_bigSepL_of_eq [0, 1] (by decide) (by decide)]
  show iprop(barPay c 0 ∗ barPay c 1) = _
  rfl

/-- The barrier: hand out, wait, get. -/
theorem run_barrier (c : Dev nD) {k : PG F} {Q : PUnit → sProp 𝕄} :
    iprop(ctx A B K ιs ∗ barSt c ∗ (bigSep Finset.univ fun s : Fin 8 => iprop(downPack c s ∗ upPack c s)) ∗ owing c (due c)
        ∗ (atPos ER (bCell c) 1 ∅ 0 ∗ (bigSep Finset.univ fun s : Fin 8 => iprop(downPack (dn c s) s ∗ upPack (up c s) s))
            ∗ owing c (∑ s, dueS c s 0 0) -∗ run c k Q))
      ⊢ run c (.op (.semSignal (lf c, .tc) qB 1) fun _ => .op (.semSignal (rt c, .tc) qB 1) fun _ => .op (.semWait qB 2) fun _ => k) Q := by
  unfold barSt owing run
  iintro ⟨#Hctx, ⟨Hat, #Hl, #Hr, Htl, Htr, Hcr⟩, Hp, ⟨%W, HO⟩, Hk⟩
  ihave #HiL := (ctx_cell (mem_b (lf c))) $$ Hctx
  ihave #HiR := (ctx_cell (mem_b (rt c))) $$ Hctx
  ihave #HiB := (ctx_cell (mem_b c)) $$ Hctx
  ihave Hp := (hand_out c) $$ Hp
  icases Hp with ⟨Hp1, Hp0⟩
  iapply (Rounds.wp_signal 𝒱₀ ER (Rd A B) (c : Thread nD τ) none (dst := (lf c : Thread nD τ)) (sem := qB) (r := 0) (d := 1)
      (κ := K (bCell (lf c))) (by rw [duties_b, if_pos rfl]; decide) (amount_b A B (lf c) 0 1) 1
      ((∑ s, dueS c s 0 0) + tallyAt (bCell (rt c)) 1 1) rfl) $$ [HO Htl Hp1]
  · isplitr; · iexact HiL
    isplitl [HO]; · unfold due; iexact HO
    isplitl [Htl]; · iexact Htl
    isplitl [Hp1]; · rw [payload_b]; iexact Hp1
    iexact Hl
  iintro HO
  iapply (Rounds.wp_signal 𝒱₀ ER (Rd A B) (c : Thread nD τ) none (dst := (rt c : Thread nD τ)) (sem := qB) (r := 0) (d := 0)
      (κ := K (bCell (rt c))) (by rw [duties_b, if_pos rfl]; decide) (amount_b A B (rt c) 0 0) 1
      (∑ s, dueS c s 0 0) rfl) $$ [HO Htr Hp0]
  · isplitr; · iexact HiR
    isplitl [HO]; · iexact HO
    isplitl [Htr]; · iexact Htr
    isplitl [Hp0]; · rw [payload_b]; iexact Hp0
    iexact Hr
  iintro HO
  iapply (Rounds.wp_wait_rest_token 𝒱₀ ER (Rd A B) (c : Thread nD τ) none (κ := K (bCell c))
      (wpE_semWait_eq 𝒱₀ (c : Thread nD τ) none Set.univ) (Set.mem_univ _) 1 (O := ∑ s, dueS c s 0 0) (R := 0) (m := 0) (T := ∅)
      (by rw [expect_b])) $$ [Hcr HO Hat]
  · isplitr; · iexact HiB
    isplitl [Hcr]; · iexact Hcr
    isplitl [HO]; · iexact HO
    isplitr; · iapply (ctx_mayWait (by decide) (due_tail c) c _); iexact Hctx
    iexact Hat
  iintro ⟨HO, Hat, -, Hp⟩
  ihave Hp := (Entails.of_eq (rest_b (A := A) (B := B) c)) $$ Hp
  ihave Hp := (hand_in c) $$ Hp
  iapply Hk
  isplitl [Hat]; · iexact Hat
  isplitl [Hp]; · iexact Hp
  iexists _; iexact HO

end Cert.KernelIdeal

end
-- ==== Proof.Start.lean ====
module

public import proofs.«01_k».proof.Proof.Entry

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # The body from its first signal on -/

variable {A : Dev nD → Vec F S2048x1024 .bf16} {B : Dev nD → Vec F S1024x2048 .bf16}
variable {K : GSem nD τ sig → ℕ} {ιs : Key → ℕ}

/-- A stream past the barrier, its first send buffer to be written. -/
def st0 (c : Dev nD) (s : Fin 8) : sProp 𝕄 :=
  iprop(st c s 0 0 0 0 ∗ hasAny c (xView s 0) ∗ hasAny c (xView s 1) ∗ rd c s 0)
/-- A stream whose first send buffer is written. -/
def st1 (A : Dev nD → Vec F S2048x1024 .bf16) (B : Dev nD → Vec F S1024x2048 .bf16) (c : Dev nD) (s : Fin 8) : sProp 𝕄 :=
  iprop(st c s 0 0 0 0 ∗ has c (xView s 0) (X A B 0 c s) ∗ hasAny c (xView s 1) ∗ rd c s 0)

theorem past (c : Dev nD) (s : Fin 8) :
    iprop(mid c s ∗ downPack (dn c s) s ∗ upPack (up c s) s) ⊢ (iprop(st0 c s ∗ outs c s 0) : sProp 𝕄) := by
  have hac : (BI.emp : sProp 𝕄) ⊢ acc c s 0 := by
    unfold acc; rw [Finset.range_zero, bigSep_empty]
  have hcr : atPos ER (cCell c s) 0 ∅ 0 ⊢ (crdSt c s 0 : sProp 𝕄) := by
    unfold crdSt
    iintro H
    iexists ∅
    rw [bigSep_empty]
    isplitr; · ipureintro; exact ⟨Finset.empty_subset _, le_refl _⟩
    isplitl [H]; · iexact H
    iempintro
  unfold mid downPack st0 st base upPack outs
  rw [Finset.range_eq_Ico]
  iintro ⟨⟨Hrc, Hsd, Hpay, Hcc, Hpos, HaC, Hx0, Hx1, Hrd⟩, ⟨#H0, #H1, Ho⟩, #Hu⟩
  isplitr [Ho]
  · isplitl [Hrc Hsd Hpay Hcc Hpos HaC]
    · isplitl [Hpos]; · iexact Hpos
      isplitl [Hrc]; · iexact Hrc
      isplitl [Hsd]; · iexact Hsd
      isplitl [Hpay]; · iexact Hpay
      isplitl [Hcc]; · iexact Hcc
      isplitl [HaC]; · iapply hcr; iexact HaC
      isplitr; · iapply hac; iempintro
      isplitr; · iexact H0
      isplitr; · iexact H1
      iexact Hu
    isplitl [Hx0]; · iexact Hx0
    isplitl [Hx1]; · iexact Hx1
    iexact Hrd
  iexact Ho

theorem step_put (c : Dev nD) :
    Step A B K ιs c 1 (st0 c) (st1 A B c) (fun s => dueS c s 0 0) (fun s => dueS c s 0 0)
      (fun s => putX s 0 (truncf .bf16 (rowsOf (sub s) (bif cw s then prtB A B c true 0 else prtB A B c false 0)) bitsLt_bf16_f32)) := by
  intro s R hR k Q
  dsimp only
  rw [prt_cw]
  unfold st0 st1
  iintro ⟨-, ⟨Hst, Hx0, Hx1, Hrd⟩, HO, Hk⟩
  iapply (run_putX c s)
  isplitl [Hx0]; · iexact Hx0
  iintro Hx0
  iapply Hk
  isplitr [HO]
  · isplitl [Hst]; · iexact Hst
    isplitl [Hx0]; · iexact Hx0
    isplitl [Hx1]; · iexact Hx1
    iexact Hrd
  iexact HO

theorem step_send0 (c : Dev nD) :
    Step A B K ιs c 1 (st1 A B c) (rsSt c 0) (fun s => dueS c s 0 0) (fun s => dueS c s 1 0)
      (fun s => rsSend (dstOf (lf c) (rt c) s) s 0) := by
  intro s R hR k Q
  unfold st1 rsSt
  have hu : used 0 = 0 := by decide
  have hsl : slotOf (0 + 1) = 1 := by decide
  rw [hu, hsl]
  iintro ⟨#Hctx, ⟨Hst, Hx0, Hx1, Hrd⟩, HO, Hk⟩
  have h0 : bufS c s 0 = xView s 0 := bufS_rs c s (by omega)
  have h1 : bufR (dn c s) s 0 = rView s 0 := bufR_rs (dn c s) s (by omega)
  have hsend := run_send (A := A) (B := B) (K := K) (ιs := ιs) c s (t := 0) (q := 0) (m := 0) (dstOf_eq c s) (σ := 0) (by decide) (by decide) (by omega)
    (M₁ := xView s 0) (M₂ := rView s 0) h0.symm h1.symm (h₁ := (((Memref.isWhole_whole _).wordExact_slice rfl _ (words4 s 0)).reshape _ _))
    (h₂ := (((Memref.isWhole_whole _).wordExact_slice rfl _ (words4 s 0)).reshape _ _)) (hv := rfl) (h₃ := ⟨⟨rfl, Or.inl rfl⟩, trivial⟩) (R := R) (k := k) (Q := Q)
  rw [h0, V_rs c s (by omega), if_pos (by omega)] at hsend
  unfold rsSend
  iapply hsend
  isplitr; · iexact Hctx
  isplitl [Hst]; · iexact Hst
  isplitl [Hx0]; · iexact Hx0
  isplitr; · iempintro
  isplitl [HO]; · iexact HO
  iintro ⟨Hst, Hsc, HO⟩
  iapply Hk
  isplitr [HO]
  · isplitl [Hst]; · iexact Hst
    isplitl [Hsc]; · iexact Hsc
    isplitl [Hx1]; · iexact Hx1
    iexact Hrd
  iexact HO

/-- The blocks of the result that stream `s` writes. -/
def blocks (c : Dev nD) (s : Fin 8) : sProp 𝕄 :=
  iprop(hasAny c (reg (ch c s 15) s).view ∗ bigSep (Finset.range 15) fun h => hasAny c (reg (ch c s (h + 16)) s).view)

/-- The parts of the product, wherever the chunks' corners come from. -/
theorem run_partsAt (c : Dev nD) (j : ℕ) {o₁ o₂ : Fin 2 → Nat} {h₁ h₂} (e₁ : o₁ = aOff (ch c 0 j)) (e₂ : o₂ = aOff (ch c 1 j))
    {k : FVec F S128x1024 .f32 → FVec F S128x1024 .f32 → PG F} {Q : PUnit → sProp 𝕄} :
    iprop(hold A B c ∗ (hold A B c -∗ run c (k (prtB A B c true j) (prtB A B c false j)) Q)) ⊢ run c (parts o₁ o₂ h₁ h₂ k) Q := by
  subst e₁; subst e₂
  exact run_parts c _ _

theorem ch_zero (c : Dev nD) (s : Fin 8) : ch c s 0 = pos c := by
  unfold ch; cases cw s
  · show pos c + 0 = pos c; exact Fin.add_zero _
  · show pos c - 0 = pos c
    generalize pos c = k
    revert k; decide

/-- The copy of the right factor. -/
theorem run_copy (c : Dev nD) {hl₁ hl₂ hs hm} {k : PG F} {Q : PUnit → sProp 𝕄} :
    iprop((mB.view.loc (c : Thread nD τ) ↦[Finset.univ]{fullShare} B c) ∗ (∃ f, mC.view.loc (c : Thread nD τ) ↦[Finset.univ]{fullShare} f)
        ∗ ((mB.view.loc (c : Thread nD τ) ↦[Finset.univ]{fullShare} B c) ∗ (mC.view.loc (c : Thread nD τ) ↦[Finset.univ]{fullShare} B c) -∗ run c k Q))
      ⊢ run c (.op (.load mB (Rect.unit (s := S1024x2048) ![0, 0] S1024x2048.size inb_S1024x2048_S1024x2048_0_0).toLoadRect hl₁) fun b =>
          .op (.load mC (Rect.unit (s := S1024x2048) ![0, 0] S1024x2048.size inb_S1024x2048_S1024x2048_0_0).toLoadRect hl₂) fun _ =>
          .op (.store mC (Rect.unit (s := S1024x2048) ![0, 0] S1024x2048.size inb_S1024x2048_S1024x2048_0_0)
            (shapeCast S1024x2048 (shapeCast S1024x2048 b shapeCasts_S1024x2048_S1024x2048) shapeCasts_S1024x2048_S1024x2048) Finset.univ hs hm) fun _ => k) Q := by
  have hz : (![0, 0] : Fin 2 → ℕ) = fun _ => 0 := by decide
  have hrd : mB.view.readAt (Elt F) (Rect.unit (s := S1024x2048) ![0, 0] S1024x2048.size inb_S1024x2048_S1024x2048_0_0).toLoadRect (B c) = B c :=
    Memref.readAt_unit_zero (Elt F) cc0_stg2_0 hz _ (B c)
  unfold run
  iintro ⟨HB, ⟨%f, HC⟩, Hk⟩
  iapply (wp_load 𝒱₀ (c : Thread nD τ) none Set.univ (m := mB) (S := Finset.univ) (q := fullShare) (f := B c) (Finset.subset_univ _)) $$ HB
  iintro HB
  iapply (wp_load 𝒱₀ (c : Thread nD τ) none Set.univ (m := mC) (S := Finset.univ) (q := fullShare) (f := f) (Finset.subset_univ _)) $$ HC
  iintro HC
  iapply (wp_store 𝒱₀ (c : Thread nD τ) none Set.univ (m := mC)
      (r := Rect.unit (s := S1024x2048) ![0, 0] S1024x2048.size inb_S1024x2048_S1024x2048_0_0) (S := Finset.univ) (f := f) (Finset.subset_univ _)) $$ HC
  have hself : shapeCast S1024x2048 (B c) shapeCasts_S1024x2048_S1024x2048 = B c := shapeCast_self ..
  rw [hrd, hself, hself]
  have hw : (mC.access (Rect.unit (s := S1024x2048) ![0, 0] S1024x2048.size inb_S1024x2048_S1024x2048_0_0)).write (Elt F) f (B c) Finset.univ = B c :=
    Memref.write_access_unit_zero_univ (Elt F) cc0_scratch0 hz _ f (B c)
  rw [hw]
  iintro HC
  iapply Hk
  isplitl [HB]; · iexact HB
  iexact HC

/-- The body past its scalars. -/
theorem run_bodyG (c : Dev nD) {Q : PUnit → sProp 𝕄} :
    iprop(ctx A B K ιs ∗ barSt c ∗ bigSep Finset.univ (pre c) ∗ bigSep Finset.univ (slots c) ∗ bigSep Finset.univ (blocks c)
        ∗ (mA.view.loc (c : Thread nD τ) ↦[Finset.univ]{fullShare} A c) ∗ (mB.view.loc (c : Thread nD τ) ↦[Finset.univ]{fullShare} B c)
        ∗ (∃ f, mC.view.loc (c : Thread nD τ) ↦[Finset.univ]{fullShare} f) ∗ owing c (due c)
        ∗ (endAll A B c ∗ atPos ER (bCell c) 1 ∅ 0 ∗ (mB.view.loc (c : Thread nD τ) ↦[Finset.univ]{fullShare} B c) -∗ Q ⟨⟩))
      ⊢ run c (bodyG (geoC c)) Q := by
  have hent : iprop(ctx A B K ιs ∗ bigSep Finset.univ (pre c) ∗ bigSep Finset.univ (slots c)
      ∗ bigSep Finset.univ fun s : Fin 8 => bigSep (Finset.range 15) fun h => hasAny c (reg (ch c s (h + 16)) s).view)
      ⊢ (|={Set.univ}=> (bigSep Finset.univ (mid c) ∗ bigSep Finset.univ fun s : Fin 8 => iprop(downPack c s ∗ upPack c s)) : sProp 𝕄) := by
    have h1 := bigSep_with_persistent (R := ctx A B K ιs) (S := (Finset.univ : Finset (Fin 8)))
      (Φ := fun s => iprop(pre c s ∗ slots c s ∗ bigSep (Finset.range 15) fun h => hasAny c (reg (ch c s (h + 16)) s).view))
      (Ψ := fun s => iprop(|={Set.univ}=> (mid c s ∗ downPack c s ∗ upPack c s))) (fun s _ => enter c s)
    have h2 := h1.trans (bigSep_fupd _ _)
    rw [bigSep_sep', bigSep_sep', bigSep_sep'] at h2
    exact h2
  have hpast : iprop(bigSep Finset.univ (mid c) ∗ bigSep Finset.univ fun s : Fin 8 => iprop(downPack (dn c s) s ∗ upPack (up c s) s))
      ⊢ (iprop(bigSep Finset.univ (st0 c) ∗ bigSep Finset.univ fun s : Fin 8 => outs c s 0) : sProp 𝕄) := by
    rw [← bigSep_sep', ← bigSep_sep']
    exact bigSep_mono fun s _ => past c s
  have hown : iprop((bigSep Finset.univ fun s : Fin 8 => hasAny c (reg (ch c s 15) s).view) ∗ bigSep Finset.univ fun s : Fin 8 => outs c s 0)
      ⊢ (own c : sProp 𝕄) := by
    unfold own; rw [bigSep_sep']
  have hbl : bigSep Finset.univ (blocks c) ⊢ (iprop((bigSep Finset.univ fun s : Fin 8 => hasAny c (reg (ch c s 15) s).view)
      ∗ bigSep Finset.univ fun s : Fin 8 => bigSep (Finset.range 15) fun h => hasAny c (reg (ch c s (h + 16)) s).view) : sProp 𝕄) := by
    rw [← bigSep_sep']; exact BI.Entails.refl _
  have hz1 : (geoC c).own = aOff (ch c 0 0) := by rw [ch_zero]; rfl
  have hz2 : (geoC c).own = aOff (ch c 1 0) := by rw [ch_zero]; rfl
  unfold bodyG
  iintro ⟨#Hctx, Hbar, Hpre, Hsl, Hbl, HA, HB, HC, HO, Hk⟩
  ihave Hbl := hbl $$ Hbl
  icases Hbl with ⟨Hown, Hoth⟩
  imod hent $$ [Hpre Hsl Hoth] with ⟨Hmid, Hpk⟩
  · isplitr; · iexact Hctx
    isplitl [Hpre]; · iexact Hpre
    isplitl [Hsl]; · iexact Hsl
    iexact Hoth
  iapply (run_barrier c)
  isplitr; · iexact Hctx
  isplitl [Hbar]; · iexact Hbar
  isplitl [Hpk]; · iexact Hpk
  isplitl [HO]; · iexact HO
  iintro ⟨Hat, Hpk, HO⟩
  ihave Hp := hpast $$ [Hmid Hpk]
  · isplitl [Hmid]; · iexact Hmid
    iexact Hpk
  icases Hp with ⟨Hst, Hos⟩
  ihave Hown := hown $$ [Hown Hos]
  · isplitl [Hown]; · iexact Hown
    iexact Hos
  iapply (run_copy c)
  isplitl [HB]; · iexact HB
  isplitl [HC]; · iexact HC
  iintro ⟨HB, HC⟩
  iapply (run_partsAt (A := A) (B := B) c 0 hz1 hz2)
  isplitl [HA HC]
  · unfold hold
    isplitl [HA]; · iexact HA
    iexact HC
  iintro Hh
  iapply (run_each (step_put (A := A) (B := B) (K := K) (ιs := ιs) c) (fun s => Ab.dueS c s (by decide) (by decide)) (fun s => Ab.dueS c s (by decide) (by decide)))
  isplitr; · iexact Hctx
  isplitl [Hst]; · iexact Hst
  isplitl [HO]; · iexact HO
  iintro ⟨Hst, HO⟩
  iapply (run_each (step_send0 (A := A) (B := B) (K := K) (ιs := ιs) c) (fun s => Ab.dueS c s (by decide) (by decide)) (fun s => Ab.dueS c s (by decide) (by decide)))
  isplitr; · iexact Hctx
  isplitl [Hst]; · iexact Hst
  isplitl [HO]; · iexact HO
  iintro ⟨Hst, HO⟩
  iapply (run_partsAt (A := A) (B := B) c 1 rfl rfl)
  isplitl [Hh]; · iexact Hh
  iintro Hh
  iapply (run_rsFrom c 14 0 (le_refl _) rfl)
  isplitr; · iexact Hctx
  isplitl [Hst]; · iexact Hst
  isplitl [Hown]; · iexact Hown
  isplitl [Hh]; · iexact Hh
  isplitl [HO]; · iexact HO
  iintro He
  iapply Hk
  isplitl [He]; · iexact He
  isplitl [Hat]; · iexact Hat
  iexact HB

end Cert.KernelIdeal

end
-- ==== Proof.Body.lean ====
module

public import proofs.«01_k».proof.Proof.Start

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig ℕ (Elt F) ℕ UU ℕ

/-! # The whole body: its scalars, then the run -/

variable {A : Dev nD → Vec F S2048x1024 .bf16} {B : Dev nD → Vec F S1024x2048 .bf16}
variable {K : GSem nD τ sig → ℕ} {ιs : Key → ℕ}

/-- The three scalars the host hands a device. -/
def scal (c : Dev nD) : Vec F S3 .i32 := fun i => (![wP c, wL c, wR c] : Fin 3 → BitVec 32) (i 0)

/-- The body. -/
theorem run_body (c : Dev nD) {Q : PUnit → sProp 𝕄} :
    iprop(ctx A B K ιs ∗ (mS.view.loc (c : Thread nD τ) ↦[Finset.univ]{fullShare} scal c)
        ∗ barSt c ∗ bigSep Finset.univ (pre c) ∗ bigSep Finset.univ (slots c) ∗ bigSep Finset.univ (blocks c)
        ∗ (mA.view.loc (c : Thread nD τ) ↦[Finset.univ]{fullShare} A c) ∗ (mB.view.loc (c : Thread nD τ) ↦[Finset.univ]{fullShare} B c)
        ∗ (∃ f, mC.view.loc (c : Thread nD τ) ↦[Finset.univ]{fullShare} f) ∗ owing c (due c)
        ∗ (endAll A B c ∗ atPos ER (bCell c) 1 ∅ 0 ∗ (mS.view.loc (c : Thread nD τ) ↦[Finset.univ]{fullShare} scal c)
            ∗ (mB.view.loc (c : Thread nD τ) ↦[Finset.univ]{fullShare} B c) -∗ Q ⟨⟩))
      ⊢ run c body Q := by
  have c0 : k0_chk3 (mS.view.readAt (Elt F) (Rect.unit (s := S3) ![0] S1.size inb_S3_S1_0) (scal c) (Shape.Idx.first (numel1_S1.symm ▸ Nat.one_pos))) :=
    chk3_pos c
  have c1 : k0_chk1 (mS.view.readAt (Elt F) (Rect.unit (s := S3) ![1] S1.size inb_S3_S1_1) (scal c) (Shape.Idx.first (numel1_S1.symm ▸ Nat.one_pos))) :=
    chk1_lf c
  have c2 : k0_chk2 (mS.view.readAt (Elt F) (Rect.unit (s := S3) ![2] S1.size inb_S3_S1_2) (scal c) (Shape.Idx.first (numel1_S1.symm ▸ Nat.one_pos))) :=
    chk2_rt c
  have hg : geoOf _ c0 _ c1 _ c2 = geoC c := geoOf_eq c (chk3_pos c) (chk1_lf c) (chk2_rt c)
  unfold body run
  iintro ⟨#Hctx, HS, Hbar, Hpre, Hsl, Hbl, HA, HB, HC, HO, Hk⟩
  iapply (wp_load 𝒱₀ (c : Thread nD τ) none Set.univ (m := mS) (r := Rect.unit (s := S3) ![0] S1.size inb_S3_S1_0)
    (S := Finset.univ) (q := fullShare) (f := scal c) (Finset.subset_univ _)) $$ HS
  iintro HS
  iapply (wp_assume 𝒱₀ (c : Thread nD τ) none Set.univ c0)
  iapply (wp_load 𝒱₀ (c : Thread nD τ) none Set.univ (m := mS) (r := Rect.unit (s := S3) ![1] S1.size inb_S3_S1_1)
    (S := Finset.univ) (q := fullShare) (f := scal c) (Finset.subset_univ _)) $$ HS
  iintro HS
  iapply (wp_assume 𝒱₀ (c : Thread nD τ) none Set.univ c1)
  iapply (wp_load 𝒱₀ (c : Thread nD τ) none Set.univ (m := mS) (r := Rect.unit (s := S3) ![2] S1.size inb_S3_S1_2)
    (S := Finset.univ) (q := fullShare) (f := scal c) (Finset.subset_univ _)) $$ HS
  iintro HS
  iapply (wp_assume 𝒱₀ (c : Thread nD τ) none Set.univ c2)
  dsimp only
  rw [hg]
  iapply (run_bodyG (A := A) (B := B) (K := K) (ιs := ιs) c)
  isplitr; · iexact Hctx
  isplitl [Hbar]; · iexact Hbar
  isplitl [Hpre]; · iexact Hpre
  isplitl [Hsl]; · iexact Hsl
  isplitl [Hbl]; · iexact Hbl
  isplitl [HA]; · iexact HA
  isplitl [HB]; · iexact HB
  isplitl [HC]; · iexact HC
  isplitl [HO]; · iexact HO
  iintro ⟨He, Hat, HB⟩
  iapply Hk
  isplitl [He]; · iexact He
  isplitl [Hat]; · iexact Hat
  isplitl [HS]; · iexact HS
  iexact HB

end Cert.KernelIdeal

end
-- ==== Proof.Mem.lean ====
module

public import proofs.«01_k».proof.Proof.Body

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig ℕ (Elt F) ℕ UU ℕ

/-! # Whole buffers and their blocks -/

section Cover

variable {ℓ : Loc nD τ sig} {T : Type} [Fintype T] [DecidableEq T] (Kt : T → Finset (Idx ℓ))

/-- A whole buffer is its blocks, each at some contents. -/
theorem cover_split (hd : ∀ t t', t ≠ t' → Disjoint (Kt t) (Kt t')) (hc : Finset.univ.biUnion Kt = Finset.univ) (f : Buf (Elt F) ℓ) :
    (ℓ ↦[Finset.univ]{fullShare} f) ⊢ (bigSep Finset.univ fun t => iprop(∃ f, ℓ ↦[Kt t]{fullShare} f) : sProp 𝕄) := by
  rw [← hc, pointsTo_biUnion Finset.univ Kt fun t _ t' _ => hd t t']
  refine bigSep_mono fun t _ => ?_
  have h : ∀ P : Buf (Elt F) ℓ → sProp 𝕄, P f ⊢ iprop(∃ f, P f) := fun P => by
    iintro H; iexists f; iexact H
  exact h fun f => ℓ ↦[Kt t]{fullShare} f

/-- Its blocks make up the whole. -/
theorem cover_join (hd : ∀ t t', t ≠ t' → Disjoint (Kt t) (Kt t')) (hc : Finset.univ.biUnion Kt = Finset.univ) [Nonempty (Buf (Elt F) ℓ)] :
    (bigSep Finset.univ fun t => iprop(∃ f, ℓ ↦[Kt t]{fullShare} f)) ⊢ (iprop(∃ f, ℓ ↦[Finset.univ]{fullShare} f) : sProp 𝕄) := by
  refine (bigSep_exists_pi Finset.univ fun t (f : Buf (Elt F) ℓ) => (ℓ ↦[Kt t]{fullShare} f : sProp 𝕄)).trans ?_
  iintro ⟨%fs, H⟩
  ihave H := (pointsTo_biUnion_join Finset.univ Kt fs (Classical.arbitrary _) fun t _ t' _ => hd t t') $$ H
  icases H with ⟨%g, -, H⟩
  rw [hc]
  iexists g; iexact H

end Cover

/-! ## The send and the receive buffers -/

theorem mem_slot {s : Fin 8} {σ : Fin 2} {i : S8x2x32x1024.Idx} : i ∈ (slotRect s σ).set ↔ (i 0).val = s.val ∧ (i 1).val = σ.val := by
  rw [Rect.mem_set_unit]
  constructor
  · intro h
    have h0 : s.val ≤ (i 0).val ∧ (i 0).val < s.val + 1 := h 0
    have h1 : σ.val ≤ (i 1).val ∧ (i 1).val < σ.val + 1 := h 1
    omega
  · rintro ⟨h0, h1⟩
    have b2 : (i 2).val < 32 := (i 2).isLt
    have b3 : (i 3).val < 1024 := (i 3).isLt
    refine Fin.forall_fin_succ.2 ⟨?_, Fin.forall_fin_succ.2 ⟨?_, Fin.forall_fin_succ.2 ⟨?_, Fin.forall_fin_succ.2 ⟨?_, fun a => a.elim0⟩⟩⟩⟩
    · show s.val ≤ (i 0).val ∧ (i 0).val < s.val + 1; omega
    · show σ.val ≤ (i 1).val ∧ (i 1).val < σ.val + 1; omega
    · show 0 ≤ (i 2).val ∧ (i 2).val < 0 + 32; omega
    · show 0 ≤ (i 3).val ∧ (i 3).val < 0 + 1024; omega

theorem slot_disj (t t' : Fin 8 × Fin 2) (h : t ≠ t') : Disjoint (slotRect t.1 t.2).set (slotRect t'.1 t'.2).set := by
  rw [Finset.disjoint_left]
  intro i hi hi'
  obtain ⟨h1, h2⟩ := mem_slot.1 hi
  obtain ⟨h3, h4⟩ := mem_slot.1 hi'
  exact h (Prod.ext (Fin.ext (by omega)) (Fin.ext (by omega)))

theorem slot_cover : (Finset.univ.biUnion fun t : Fin 8 × Fin 2 => (slotRect t.1 t.2).set) = Finset.univ :=
  Finset.eq_univ_of_forall fun i => Finset.mem_biUnion.2 ⟨(⟨(i 0).val, (i 0).isLt⟩, ⟨(i 1).val, (i 1).isLt⟩), Finset.mem_univ _, mem_slot.2 ⟨rfl, rfl⟩⟩

theorem xView_set (s : Fin 8) (σ : Fin 2) : (xView s σ).view.set = (slotRect s σ).set := by
  rw [Memref.set_view_squeeze]; exact View.set_slice_whole _ _
theorem rView_set (s : Fin 8) (σ : Fin 2) : (rView s σ).view.set = (slotRect s σ).set := by
  rw [Memref.set_view_squeeze]; exact View.set_slice_whole _ _

/-- The send and the receive buffers of a device, whole. -/
def bufs (c : Dev nD) : sProp 𝕄 :=
  iprop((∃ f, mX.view.loc (c : Thread nD τ) ↦[Finset.univ]{fullShare} f) ∗ ∃ f, mR.view.loc (c : Thread nD τ) ↦[Finset.univ]{fullShare} f)

theorem hasAny_x (c : Dev nD) (s : Fin 8) (σ : Fin 2) :
    hasAny c (xView s σ) = (iprop(∃ f, mX.view.loc (c : Thread nD τ) ↦[(slotRect s σ).set]{fullShare} f) : sProp 𝕄) := by
  unfold hasAny; rw [xView_set]
theorem hasAny_r (c : Dev nD) (s : Fin 8) (σ : Fin 2) :
    hasAny c (rView s σ) = (iprop(∃ f, mR.view.loc (c : Thread nD τ) ↦[(slotRect s σ).set]{fullShare} f) : sProp 𝕄) := by
  unfold hasAny; rw [rView_set]

theorem slots_eq (c : Dev nD) : bigSep Finset.univ (slots c)
    = (iprop((bigSep Finset.univ fun t : Fin 8 × Fin 2 => hasAny c (xView t.1 t.2)) ∗ bigSep Finset.univ fun t : Fin 8 × Fin 2 => hasAny c (rView t.1 t.2)) : sProp 𝕄) := by
  rw [bigSep_univ_prod, bigSep_univ_prod, ← bigSep_sep']; rfl

theorem slots_split (c : Dev nD) : bufs c ⊢ (bigSep Finset.univ (slots c) : sProp 𝕄) := by
  rw [slots_eq]
  simp only [hasAny_x, hasAny_r]
  unfold bufs
  iintro ⟨⟨%f, HX⟩, ⟨%g, HR⟩⟩
  isplitl [HX]
  · iapply (cover_split (F := F) (ℓ := mX.view.loc (c : Thread nD τ)) (fun t : Fin 8 × Fin 2 => (slotRect t.1 t.2).set) slot_disj slot_cover f); iexact HX
  · iapply (cover_split (F := F) (ℓ := mR.view.loc (c : Thread nD τ)) (fun t : Fin 8 × Fin 2 => (slotRect t.1 t.2).set) slot_disj slot_cover g); iexact HR

theorem slots_join (c : Dev nD) : (bigSep Finset.univ (slots c) : sProp 𝕄) ⊢ bufs c := by
  rw [slots_eq]
  simp only [hasAny_x, hasAny_r]
  unfold bufs
  have h1 := cover_join (F := F) (ℓ := mX.view.loc (c : Thread nD τ)) (fun t : Fin 8 × Fin 2 => (slotRect t.1 t.2).set) slot_disj slot_cover
  have h2 := cover_join (F := F) (ℓ := mR.view.loc (c : Thread nD τ)) (fun t : Fin 8 × Fin 2 => (slotRect t.1 t.2).set) slot_disj slot_cover
  iintro ⟨HX, HR⟩
  isplitl [HX]
  · iapply h1; iexact HX
  · iapply h2; iexact HR

/-! ## The result -/

theorem mem_reg {k : Fin 16} {s : Fin 8} {i : S2048x2048.Idx} :
    i ∈ (reg k s).rect.set ↔ (i 0).val / 128 = k.val ∧ (i 0).val % 128 / 32 = (sub s).val ∧ ((i 1).val < 1024 ↔ cw s = true) := by
  rw [OutR.rect, Rect.mem_set_unit]
  have b1 : (i 1).val < 2048 := (i 1).isLt
  have bk := k.isLt
  have bs := (sub s).isLt
  constructor
  · intro h
    have h0 : 128 * k.val + 32 * (sub s).val ≤ (i 0).val ∧ (i 0).val < 128 * k.val + 32 * (sub s).val + 32 := h 0
    have h1 : (bif cw s then 0 else 1024) ≤ (i 1).val ∧ (i 1).val < (bif cw s then 0 else 1024) + 1024 := h 1
    refine ⟨by omega, by omega, ?_⟩
    cases hc : cw s <;> rw [hc] at h1
    · simp only [cond_false] at h1; simp; omega
    · simp only [cond_true] at h1; simp; omega
  · rintro ⟨h0, h1, h2⟩
    refine Fin.forall_fin_succ.2 ⟨?_, Fin.forall_fin_succ.2 ⟨?_, fun a => a.elim0⟩⟩
    · show 128 * k.val + 32 * (sub s).val ≤ (i 0).val ∧ (i 0).val < 128 * k.val + 32 * (sub s).val + 32; omega
    · show (bif cw s then 0 else 1024) ≤ (i 1).val ∧ (i 1).val < (bif cw s then 0 else 1024) + 1024
      cases hc : cw s <;> rw [hc] at h2
      · simp only [cond_false]; simp at h2; omega
      · simp only [cond_true]; simp at h2; omega

/-- The chunk an element of the result lies in. -/
def kOf (i : S2048x2048.Idx) : Fin 16 := ⟨(i 0).val / 128, by have : (i 0).val < 2048 := (i 0).isLt; omega⟩
/-- The stream that brings it. -/
def sOf (i : S2048x2048.Idx) : Fin 8 := ⟨2 * ((i 0).val % 128 / 32) + (if (i 1).val < 1024 then 0 else 1), by split <;> omega⟩

theorem sub_cw_sOf (i : S2048x2048.Idx) : (sub (sOf i)).val = (i 0).val % 128 / 32 ∧ ((i 1).val < 1024 ↔ cw (sOf i) = true) := by
  unfold sub cw sOf
  by_cases h : (i 1).val < 1024
  · simp only [h, if_true]; constructor
    · show (2 * ((i 0).val % 128 / 32) + 0) / 2 = _; omega
    · simp
  · simp only [h, if_false]; constructor
    · show (2 * ((i 0).val % 128 / 32) + 1) / 2 = _; omega
    · simp; skip

theorem stream_ext : ∀ s s' : Fin 8, sub s = sub s' → cw s = cw s' → s = s' := by decide

theorem mem_reg_iff {k : Fin 16} {s : Fin 8} {i : S2048x2048.Idx} : i ∈ (reg k s).rect.set ↔ k = kOf i ∧ s = sOf i := by
  rw [mem_reg]
  obtain ⟨h1, h2⟩ := sub_cw_sOf i
  constructor
  · rintro ⟨a, b, d⟩
    refine ⟨Fin.ext a.symm, stream_ext _ _ (Fin.ext (by omega)) ?_⟩
    rw [Bool.eq_iff_iff, ← d, ← h2]
  · rintro ⟨rfl, rfl⟩
    exact ⟨rfl, h1.symm, h2⟩

theorem reg_disj (t t' : Fin 8 × Fin 16) (h : t ≠ t') : Disjoint (reg t.2 t.1).rect.set (reg t'.2 t'.1).rect.set := by
  rw [Finset.disjoint_left]
  intro i hi hi'
  obtain ⟨h1, h2⟩ := mem_reg_iff.1 hi
  obtain ⟨h3, h4⟩ := mem_reg_iff.1 hi'
  exact h (Prod.ext (h2.trans h4.symm) (h1.trans h3.symm))

theorem reg_cover : (Finset.univ.biUnion fun t : Fin 8 × Fin 16 => (reg t.2 t.1).rect.set) = Finset.univ :=
  Finset.eq_univ_of_forall fun i => Finset.mem_biUnion.2 ⟨(sOf i, kOf i), Finset.mem_univ _, mem_reg_iff.2 ⟨rfl, rfl⟩⟩

theorem reg_set (k : Fin 16) (s : Fin 8) : (reg k s).view.view.set = (reg k s).rect.set := View.set_slice_whole _ _

/-- All sixteen chunks, one after another along a stream. -/
theorem chunks (c : Dev nD) (s : Fin 8) (P : Fin 16 → sProp 𝕄) : bigSep Finset.univ P = bigSep (Finset.range 16) fun h => P (ch c s (h + 15)) := by
  have hinj : Set.InjOn (fun h : ℕ => ch c s (h + 15)) (Finset.range 16 : Finset ℕ) := fun i hi j hj h => by
    have hi' := Finset.mem_range.1 (Finset.mem_coe.1 hi)
    have hj' := Finset.mem_range.1 (Finset.mem_coe.1 hj)
    exact congrArg Fin.val (ch_inj c s ⟨i, hi'⟩ ⟨j, hj'⟩ h)
  have hun : (Finset.range 16).image (fun h : ℕ => ch c s (h + 15)) = Finset.univ :=
    Finset.eq_univ_of_card _ (by rw [Finset.card_image_of_injOn hinj, Finset.card_range]; rfl)
  rw [← hun, bigSep_image_of_injOn hinj]

theorem blocks_eq (c : Dev nD) (s : Fin 8) : blocks c s = (bigSep Finset.univ fun k : Fin 16 => hasAny c (reg k s).view : sProp 𝕄) := by
  have hr : Finset.range 16 = insert 0 ((Finset.range 15).image (· + 1)) := by decide
  have hi : Set.InjOn (fun h : ℕ => h + 1) (Finset.range 15 : Finset ℕ) := fun i _ j _ h => by
    have h' : i + 1 = j + 1 := h
    omega
  rw [chunks c s, hr, bigSep_insert (by decide), bigSep_image_of_injOn hi]
  unfold blocks
  rfl

theorem hasAny_o (c : Dev nD) (k : Fin 16) (s : Fin 8) :
    hasAny c (reg k s).view = (iprop(∃ f, mO.view.loc (c : Thread nD τ) ↦[(reg k s).rect.set]{fullShare} f) : sProp 𝕄) := by
  unfold hasAny; rw [reg_set]

theorem blocks_split (c : Dev nD) : iprop(∃ f, mO.view.loc (c : Thread nD τ) ↦[Finset.univ]{fullShare} f) ⊢ (bigSep Finset.univ (blocks c) : sProp 𝕄) := by
  rw [bigSep_congr (fun s _ => blocks_eq c s)]
  simp only [hasAny_o]
  rw [← bigSep_univ_prod (fun t : Fin 8 × Fin 16 => iprop(∃ f, mO.view.loc (c : Thread nD τ) ↦[(reg t.2 t.1).rect.set]{fullShare} f))]
  iintro ⟨%f, H⟩
  iapply (cover_split (F := F) (ℓ := mO.view.loc (c : Thread nD τ)) (fun t : Fin 8 × Fin 16 => (reg t.2 t.1).rect.set) reg_disj reg_cover f); iexact H

/-! ## What the result holds -/

variable (A : Dev nD → Vec F S2048x1024 .bf16) (B : Dev nD → Vec F S1024x2048 .bf16)

/-- The device that finishes chunk `k` of stream `s`. -/
def owner (k : Fin 16) (s : Fin 8) : Dev nD := ringL (bif cw s then k - 1 else k + 1)

theorem owner_ch (c : Dev nD) (s : Fin 8) : owner (ch c s 15) s = c := by revert c s; decide

theorem H_owner (c : Dev nD) (s : Fin 8) (h : ℕ) : H A B h c s = Y A B (owner (ch c s (h + 15)) s) s := by
  induction h generalizing c with
  | zero => rw [owner_ch]; rfl
  | succ h ih =>
    show H A B h (up c s) s = _
    rw [ih, ch_up]

/-- Where in its block an element of the result lies. -/
def inBlk (i : S2048x2048.Idx) : S32x1024.Idx :=
  Fin.cons ⟨(i 0).val % 32, Nat.mod_lt _ (by decide)⟩ (Fin.cons ⟨(i 1).val % 1024, Nat.mod_lt _ (by decide)⟩ fun a => a.elim0)

/-- The result of the kernel, the same on all devices. -/
def OUT : Vec F S2048x2048 .bf16 := fun i => Y A B (owner (kOf i) (sOf i)) (sOf i) (inBlk i)

theorem inBlk_emb (k : Fin 16) (s : Fin 8) (x : S32x1024.Idx) : inBlk ((reg k s).rect.emb x) = x := by
  have b0 : (x 0).val < 32 := (x 0).isLt
  have b1 : (x 1).val < 1024 := (x 1).isLt
  funext a
  refine Fin.forall_fin_succ (P := fun a => inBlk ((reg k s).rect.emb x) a = x a) |>.2 ⟨?_, Fin.forall_fin_succ.2 ⟨?_, fun a => a.elim0⟩⟩ a
  · apply Fin.ext
    show (128 * k.val + 32 * (sub s).val + 1 * (x 0).val) % 32 = (x 0).val
    omega
  · apply Fin.ext
    show ((bif cw s then 0 else 1024) + 1 * (x 1).val) % 1024 = (x 1).val
    cases cw s <;> simp only [cond_true, cond_false] <;> omega

theorem has_out (c : Dev nD) (k : Fin 16) (s : Fin 8) : has c (reg k s).view (Y A B (owner k s) s)
    ⊢ (mO.view.loc (c : Thread nD τ) ↦[(reg k s).rect.set]{fullShare} OUT A B : sProp 𝕄) := by
  unfold has
  rw [reg_set]
  iintro ⟨%f, %hf, H⟩
  have e : ∀ i ∈ (reg k s).rect.set, (f : S2048x2048.Idx → Elt F .bf16) i = OUT A B i := by
    intro i hi
    obtain ⟨hk, hs⟩ := mem_reg_iff.1 hi
    obtain ⟨x, -, rfl⟩ := Finset.mem_map.1 (by rw [← Rect.map_emb_univ] at hi; exact hi)
    have hx : f ((reg k s).rect.emb x) = Y A B (owner k s) s x := congrFun hf x
    show f ((reg k s).rect.emb x) = Y A B (owner (kOf _) (sOf _)) (sOf _) (inBlk _)
    rw [← hk, ← hs]
    refine hx.trans ?_
    exact congrArg _ (inBlk_emb k s x).symm
  have e' : (mO.view.loc (c : Thread nD τ) ↦[(reg k s).rect.set]{fullShare} f : sProp 𝕄)
      = (mO.view.loc (c : Thread nD τ) ↦[(reg k s).rect.set]{fullShare} OUT A B) := pointsTo_congr e
  ihave H := (Entails.of_eq e') $$ H
  iexact H

theorem done_join (c : Dev nD) : (bigSep Finset.univ fun s : Fin 8 => done A B c s 16)
    ⊢ (mO.view.loc (c : Thread nD τ) ↦[Finset.univ]{fullShare} OUT A B : sProp 𝕄) := by
  rw [← reg_cover, pointsTo_biUnion (ℓ := mO.view.loc (c : Thread nD τ)) Finset.univ (fun t : Fin 8 × Fin 16 => (reg t.2 t.1).rect.set) fun t _ t' _ => reg_disj t t',
    bigSep_univ_prod]
  refine bigSep_mono fun s _ => ?_
  have h1 : done A B c s 16 = (bigSep Finset.univ fun k : Fin 16 => has c (reg k s).view (Y A B (owner k s) s) : sProp 𝕄) := by
    rw [chunks c s]; unfold done
    exact bigSep_congr fun h _ => by rw [H_owner]
  rw [h1]
  exact bigSep_mono fun k _ => has_out A B c k s

end Cert.KernelIdeal

end
-- ==== Proof.Parts.lean ====
module

public import proofs.«01_k».proof.Proof.Mem
public import Idealize.ShloMosaic.Lib.Pointwise

@[expose] public section

noncomputable section

namespace Cert.KernelIdeal

open Idealize.ShloMosaic Idealize.SL.Sem
open Facts₀ Facts

/-! # The parts over the reals, at an index -/

section Any

variable {F : FTy → Type} [FloatOps F]

theorem aPart_apply (v : Vec F S2048x1024 .bf16) (k : Fin 16) (r : Fin 128) (κ : Fin 1024) :
    aPart v k (ix2 r κ) = v (ix2 ⟨128 * k.val + r.val, by omega⟩ κ) := by
  show v _ = v _
  refine congrArg v (funext fun a => Fin.ext ?_)
  fin_cases a
  · show 128 * k.val + 1 * r.val = 128 * k.val + r.val; omega
  · show 0 + 1 * κ.val = κ.val; omega

/-- The first column of the half that a direction works on. -/
def half (b : Bool) : ℕ := bif b then 0 else 1024

theorem half_le (b : Bool) : half b ≤ 1024 := by cases b <;> decide

theorem bPart_apply (v : Vec F S1024x2048 .bf16) (b : Bool) (κ : Fin 1024) (l : Fin 1024) :
    bPart v b (ix2 κ l) = v (ix2 κ ⟨half b + l.val, by have := half_le b; omega⟩) := by
  cases b
  · show v _ = v _
    refine congrArg v (funext fun a => Fin.ext ?_)
    fin_cases a
    · show 0 + 1 * κ.val = κ.val; omega
    · show 1024 + 1 * l.val = 1024 + l.val; omega
  · show v _ = v _
    refine congrArg v (funext fun a => Fin.ext ?_)
    fin_cases a
    · show 0 + 1 * κ.val = κ.val; omega
    · show 0 + 1 * l.val = 0 + l.val; omega

end Any

variable (A : Dev nD → Vec Ideal S2048x1024 .bf16) (B : Dev nD → Vec Ideal S1024x2048 .bf16)

/-- Device `d`'s share of the entry `(r, l)` of the block that stream `s` works out in chunk `k`. -/
def term (d : Dev nD) (k : Fin 16) (s : Fin 8) (r : Fin 32) (l : Fin 1024) : EReal :=
  ∑ κ : Fin 1024, (A d (ix2 ⟨128 * k.val + (32 * (sub s).val + r.val), by omega⟩ κ) : EReal)
    * B d (ix2 κ ⟨half (cw s) + l.val, by have := half_le (cw s); omega⟩)

theorem mm_apply (x : Vec Ideal S128x1024 .bf16) (y : Vec Ideal S1024x1024 .bf16) (r : Fin 128) (l : Fin 1024) :
    mm x y (ix2 r l) = ∑ κ : Fin 1024, (x (ix2 r κ) : EReal) * y (ix2 κ l) := by
  pointwise [mm]

theorem rows_apply (q : Fin 4) (v : FVec Ideal S128x1024 .f32) (r : Fin 32) (l : Fin 1024) :
    rowsOf q v (ix2 r l) = v (ix2 ⟨32 * q.val + r.val, by omega⟩ l) := by
  pointwise [rowsOf]

theorem part_apply (c : Dev nD) (s : Fin 8) (j : ℕ) (r : Fin 32) (l : Fin 1024) :
    rowsOf (sub s) (prtB A B c (cw s) j) (ix2 r l) = term A B c (ch c s j) s r l := by
  rw [rows_apply]
  have h : prtB A B c (cw s) j = mm (aPart (A c) (ch c s j)) (bPart (B c) (cw s)) := by
    cases h : cw s
    · have : ch c 1 j = ch c s j := by unfold ch; rw [h]; rfl
      rw [← this]; rfl
    · have : ch c 0 j = ch c s j := by unfold ch; rw [h]; rfl
      rw [← this]; rfl
  rw [h, mm_apply]
  refine Finset.sum_congr rfl fun κ _ => ?_
  rw [aPart_apply, bPart_apply]

/-! ## The sums round the ring -/

/-- The device `j` steps upstream. -/
def back (c : Dev nD) (s : Fin 8) (j : ℕ) : Dev nD := ringL (ch c s j)

theorem back_zero (c : Dev nD) (s : Fin 8) : back c s 0 = c := by
  have h : ch c s 0 = pos c := by
    unfold ch; cases cw s <;> simp
  unfold back; rw [h, ringL_pos]

theorem back_up (c : Dev nD) (s : Fin 8) (j : ℕ) : back (up c s) s j = back c s (j + 1) := by
  unfold back; rw [ch_up]

theorem sum_back {t : ℕ} (c : Dev nD) (s : Fin 8) (f : Dev nD → EReal) :
    f c + ∑ j ∈ Finset.range t, f (back (up c s) s j) = ∑ j ∈ Finset.range (t + 1), f (back c s j) := by
  rw [Finset.sum_range_succ', back_zero, add_comm]
  simp only [back_up]

theorem X_apply (t : ℕ) (c : Dev nD) (s : Fin 8) (r : Fin 32) (l : Fin 1024) :
    (X A B t c s (ix2 r l) : EReal) = ∑ j ∈ Finset.range (t + 1), term A B (back c s j) (ch c s t) s r l := by
  induction t generalizing c with
  | zero =>
    rw [Finset.sum_range_one, back_zero]
    exact part_apply A B c s 0 r l
  | succ t ih =>
    rw [← sum_back c s fun d => term A B d (ch c s (t + 1)) s r l, ← part_apply]
    refine congrArg (rowsOf (sub s) (prtB A B c (cw s) (t + 1)) (ix2 r l) + ·) ?_
    rw [← ch_up]
    exact ih (up c s)

/-- Every device is met once. -/
theorem sum_all (c : Dev nD) (s : Fin 8) (f : Dev nD → EReal) : ∑ j ∈ Finset.range 16, f (back c s j) = ∑ d, f d := by
  rw [Finset.sum_range]
  refine Function.Bijective.sum_comp (e := fun j : Fin 16 => back c s j.val) (Finite.injective_iff_bijective.1 fun i j h => ?_) f
  have h1 : ch c s i.val = ch c s j.val := by
    have := congrArg pos h
    simpa only [back, pos_ringL] using this
  have h2 : ∀ p i j : Fin 16, p - Fin.ofNat 16 i.val = p - Fin.ofNat 16 j.val → i = j := by decide
  have h3 : ∀ p i j : Fin 16, p + Fin.ofNat 16 i.val = p + Fin.ofNat 16 j.val → i = j := by decide
  unfold ch at h1
  cases h : cw s <;> rw [h] at h1
  · exact h3 _ _ _ h1
  · exact h2 _ _ _ h1

/-- The whole sum for an entry. -/
def total (k : Fin 16) (s : Fin 8) (r : Fin 32) (l : Fin 1024) : EReal := ∑ d, term A B d k s r l

theorem ch_owner (k : Fin 16) (s : Fin 8) : ch (owner k s) s 15 = k := by revert k s; decide

/-- The activation. -/
def act (z : EReal) : EReal := Ideal.div z (1 + Ideal.exp (-z))

theorem exp_nonneg (w : EReal) : 0 ≤ Ideal.exp w := by
  induction w using EReal.rec with
  | bot => exact le_refl _
  | top => exact le_top
  | coe r => exact EReal.coe_nonneg.2 (Real.exp_pos r).le

theorem one_add_exp_ne (w : EReal) : 1 + Ideal.exp w ≠ 0 :=
  (lt_of_lt_of_le zero_lt_one (le_add_of_nonneg_right (exp_nonneg w))).ne'

theorem siluV_apply (z : FVec Ideal S32x1024 .f32) (r : Fin 32) (l : Fin 1024) :
    siluV z (ix2 r l) = act (z (ix2 r l)) := by
  pointwise [siluV]
  unfold act Ideal.div
  rw [zero_sub, if_neg (one_add_exp_ne _), if_neg (one_add_exp_ne _), one_mul]

theorem Y_apply (k : Fin 16) (s : Fin 8) (r : Fin 32) (l : Fin 1024) :
    (Y A B (owner k s) s (ix2 r l) : EReal) = act (total A B k s r l) := by
  have h : (updV (sub s) (prtB A B (owner k s) (cw s) 15) (X A B 14 (up (owner k s) s) s) (ix2 r l) : EReal) = total A B k s r l := by
    unfold total
    rw [← sum_all (owner k s) s, ← sum_back (owner k s) s fun d => term A B d k s r l]
    have h1 := part_apply A B (owner k s) s 15 r l
    have h2 := X_apply A B 14 (up (owner k s) s) s r l
    rw [ch_up] at h2
    rw [ch_owner] at h1 h2
    rw [← h1, ← h2]; rfl
  rw [← h]
  exact siluV_apply _ r l

end Cert.KernelIdeal

end
-- ==== Proof.Ends.lean ====
module

public import proofs.«01_k».proof.Proof.Mem

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # The kernel's own cells opened on entry and closed at the end -/

variable {A : Dev nD → Vec F S2048x1024 .bf16} {B : Dev nD → Vec F S1024x2048 .bf16}
variable {K : GSem nD τ sig → ℕ} {ιs : Key → ℕ}

/-- The kernel's own semaphores: the streams' send and receive semaphores, their credit semaphores. -/
abbrev osem : (Fin 8 × Fin 2) ⊕ (Fin 8 × Fin 2) ⊕ Fin 8 → SemLoc sig
  | .inl x => .dma (sSem x.1 x.2)
  | .inr (.inl x) => .dma (rSem x.1 x.2)
  | .inr (.inr s) => .reg (cSem s)

theorem osem_facts : Pipeline.OwnSemFacts spec0 osem := by decide

/-- One stream's semaphores at zero. -/
def own1 (c : Dev nD) (s : Fin 8) : sProp 𝕄 :=
  iprop((bigSep Finset.univ fun σ : Fin 2 => semVal (sCell c s σ) 0) ∗ (bigSep Finset.univ fun σ : Fin 2 => semVal (rCell c s σ) 0) ∗ semVal (cCell c s) 0)

theorem ownSems_eq (c : Dev nD) : Pipeline.ownSems0 osem c = (bigSep Finset.univ (own1 c) : sProp 𝕄) := by
  unfold Pipeline.ownSems0 own1
  rw [bigSep_univ_sum, bigSep_univ_sum, bigSep_univ_prod, bigSep_univ_prod, bigSep_sep', bigSep_sep']
  rfl

/-- The rights to open one stream's cells. -/
def open1 (c : Dev nD) (s : Fin 8) : sProp 𝕄 :=
  iprop((bigSep Finset.univ fun σ : Fin 2 => openTok ER (sCell c s σ)) ∗ (bigSep Finset.univ fun σ : Fin 2 => openTok ER (rCell c s σ)) ∗ openTok ER (cCell c s))

/-- What a stream is dealt at the launch. -/
def dealt (c : Dev nD) (s : Fin 8) : sProp 𝕄 :=
  iprop((bigSep (Finset.Ico 0 30) (recvCred c s)) ∗ (bigSep (Finset.Ico 0 30) (sendTok c s)) ∗ (bigSep (Finset.Ico 0 30) (payTok c s))
    ∗ (bigSep (Finset.Ico 0 30) (credCred c s)) ∗ open1 c s ∗ bigSep Finset.univ fun σ : Fin 2 => Release.readerAt EK (c, s, σ) 0)

theorem open_at {g : GSem nD τ sig} (hg : g ∈ cellsB ∪ cellsD) :
    iprop(ctx A B K ιs ∗ openTok ER g ∗ semVal g 0) ⊢ (|={Set.univ}=> (atPos ER g 0 ∅ 0 ∗ reached ER g 0) : sProp 𝕄) := by
  iintro ⟨#Hctx, Ho, Hv⟩
  ihave #Hi := (ctx_cell hg) $$ Hctx
  iapply (Rounds.cell_open ER (Rd A B) (g := g) (Set.mem_univ (K g)))
  isplitr; · iexact Hi
  isplitl [Ho] <;> iassumption

theorem open_slot (c : Dev nD) (s : Fin 8) (σ : Fin 2) :
    iprop(ctx A B K ιs ∗ (openTok ER (sCell c s σ) ∗ openTok ER (rCell c s σ)) ∗ (semVal (sCell c s σ) 0 ∗ semVal (rCell c s σ) 0))
      ⊢ (|={Set.univ}=> posAt c s σ (nxt σ 0) : sProp 𝕄) := by
  rw [nxt_zero]
  unfold posAt
  iintro ⟨#Hctx, ⟨Ho1, Ho2⟩, Hv1, Hv2⟩
  imod (open_at (mem_s c s σ)) $$ [Ho1 Hv1] with ⟨Ha1, #Hr1⟩
  · isplitr; · iexact Hctx
    isplitl [Ho1] <;> iassumption
  imod (open_at (mem_r c s σ)) $$ [Ho2 Hv2] with ⟨Ha2, #Hr2⟩
  · isplitr; · iexact Hctx
    isplitl [Ho2] <;> iassumption
  imodintro
  isplitl [Ha1]; · iexact Ha1
  isplitr; · iexact Hr1
  isplitl [Ha2]; · iexact Ha2
  iexact Hr2

theorem open_stream (c : Dev nD) (s : Fin 8) :
    iprop(ctx A B K ιs ∗ dealt c s ∗ own1 c s) ⊢ (|={Set.univ}=> pre c s : sProp 𝕄) := by
  unfold dealt own1 open1 pre posn
  rw [bigSep_two, bigSep_two, bigSep_two, bigSep_two, bigSep_two, bigSep_two]
  iintro ⟨#Hctx, ⟨H1, H2, H3, H4, ⟨⟨Hos0, Hos1⟩, ⟨Hor0, Hor1⟩, Hoc⟩, H5⟩, ⟨Hvs0, Hvs1⟩, ⟨Hvr0, Hvr1⟩, Hvc⟩
  imod (open_slot c s 0) $$ [Hos0 Hor0 Hvs0 Hvr0] with Hp0
  · isplitr; · iexact Hctx
    isplitl [Hos0 Hor0]
    · isplitl [Hos0] <;> iassumption
    · isplitl [Hvs0] <;> iassumption
  imod (open_slot c s 1) $$ [Hos1 Hor1 Hvs1 Hvr1] with Hp1
  · isplitr; · iexact Hctx
    isplitl [Hos1 Hor1]
    · isplitl [Hos1] <;> iassumption
    · isplitl [Hvs1] <;> iassumption
  imod (open_at (mem_c c s)) $$ [Hoc Hvc] with ⟨Hac, #Hrc⟩
  · isplitr; · iexact Hctx
    isplitl [Hoc] <;> iassumption
  imodintro
  isplitl [H1]; · iexact H1
  isplitl [H2]; · iexact H2
  isplitl [H3]; · iexact H3
  isplitl [H4]; · iexact H4
  isplitl [Hp0 Hp1]; · isplitl [Hp0] <;> iassumption
  isplitl [Hac]; · iexact Hac
  isplitr; · iexact Hrc
  iexact H5

/-- One step for every stream, by one they share. -/
theorem all_streams {P Q : Fin 8 → sProp 𝕄} (h : ∀ s, iprop(ctx A B K ιs ∗ P s) ⊢ (|={Set.univ}=> Q s : sProp 𝕄)) :
    iprop(ctx A B K ιs ∗ bigSep Finset.univ P) ⊢ (|={Set.univ}=> bigSep Finset.univ Q : sProp 𝕄) :=
  (bigSep_with_persistent (S := Finset.univ) (R := ctx A B K ιs) (Φ := P) (Ψ := fun s => iprop(|={Set.univ}=> Q s)) fun s _ => h s).trans (bigSep_fupd _ _)

theorem open_all (c : Dev nD) :
    iprop(ctx A B K ιs ∗ bigSep Finset.univ (dealt c) ∗ Pipeline.ownSems0 osem c) ⊢ (|={Set.univ}=> bigSep Finset.univ (pre c) : sProp 𝕄) := by
  rw [ownSems_eq, ← bigSep_sep']
  exact all_streams (open_stream c)

/-! ## The end -/

theorem close_at {g : GSem nD τ sig} (hg : g ∈ cellsB ∪ cellsD) {R : ℕ} (hR : ∀ r, R ≤ r → (Rd A B).duties g r = ∅) :
    iprop(ctx A B K ιs ∗ atPos ER g R ∅ 0) ⊢ (|={Set.univ}=> semVal g 0 : sProp 𝕄) := by
  iintro ⟨#Hctx, Ha⟩
  ihave #Hi := (ctx_cell hg) $$ Hctx
  iapply (Rounds.cell_close ER (Rd A B) (g := g) (Set.mem_univ (K g)) not_false hR)
  isplitr; · iexact Hi
  iexact Ha

theorem close_bar (c : Dev nD) : iprop(ctx A B K ιs ∗ atPos ER (bCell c) 1 ∅ 0) ⊢ (|={Set.univ}=> semVal (bCell c) 0 : sProp 𝕄) :=
  close_at (mem_b c) fun r hr => by rw [duties_b, if_neg (by omega)]

theorem close_slot (c : Dev nD) (s : Fin 8) (σ : Fin 2) : iprop(ctx A B K ιs ∗ posAt c s σ (nxt σ 30))
    ⊢ (|={Set.univ}=> (semVal (sCell c s σ) 0 ∗ semVal (rCell c s σ) 0) : sProp 𝕄) := by
  rw [nxt_end]
  unfold posAt
  iintro ⟨#Hctx, Ha, -, Hb, -⟩
  imod (close_at (mem_s c s σ) (R := rounds σ) fun r hr => by rw [duties_s, if_neg (by omega)]) $$ [Ha] with Hv
  · isplitr; · iexact Hctx
    iexact Ha
  imod (close_at (mem_r c s σ) (R := rounds σ) fun r hr => by rw [duties_r, if_neg (by omega)]) $$ [Hb] with Hw
  · isplitr; · iexact Hctx
    iexact Hb
  imodintro
  isplitl [Hv] <;> iassumption

theorem close_stream (c : Dev nD) (s : Fin 8) : iprop(ctx A B K ιs ∗ fin A B c s) ⊢ (|={Set.univ}=> (own1 c s ∗ done A B c s 16) : sProp 𝕄) := by
  unfold fin posn own1
  rw [bigSep_two, bigSep_two, bigSep_two]
  iintro ⟨#Hctx, ⟨Hp0, Hp1⟩, Hc, Hd⟩
  imod (close_slot c s 0) $$ [Hp0] with ⟨H1, H2⟩
  · isplitr; · iexact Hctx
    iexact Hp0
  imod (close_slot c s 1) $$ [Hp1] with ⟨H3, H4⟩
  · isplitr; · iexact Hctx
    iexact Hp1
  imod (close_at (mem_c c s) (R := 1) fun r hr => by rw [duties_c, if_neg (by omega)]) $$ [Hc] with H5
  · isplitr; · iexact Hctx
    iexact Hc
  imodintro
  isplitr [Hd]
  · isplitl [H1 H3]; · isplitl [H1] <;> iassumption
    isplitl [H2 H4]; · isplitl [H2] <;> iassumption
    iexact H5
  iexact Hd

theorem rest_slots (c : Dev nD) (s : Fin 8) : rest c s ⊢ (slots c s : sProp 𝕄) := by
  have h0 : 15 ≤ hopOf 0 (nxt 0 15) := by decide
  have h1 : 15 ≤ hopOf 1 (nxt 1 15) := by decide
  unfold rest slots rd
  rw [bigSep_two, bigSep_two, bigSep_two]
  unfold rslotN
  rw [if_pos h0, if_pos h1]
  iintro ⟨H1, H2, H3⟩
  isplitl [H1 H2]; · isplitl [H1] <;> iassumption
  iexact H3

/-- All is over: the semaphores are at zero, the buffers whole, the result is there. -/
theorem close_all (c : Dev nD) : iprop(ctx A B K ιs ∗ endAll A B c ∗ atPos ER (bCell c) 1 ∅ 0)
    ⊢ (|={Set.univ}=> (Pipeline.ownSems0 osem c ∗ semVal (bCell c) 0 ∗ bufs c ∗ (mO.view.loc (c : Thread nD τ) ↦[Finset.univ]{fullShare} OUT A B)
        ∗ hold A B c ∗ owing c 0) : sProp 𝕄) := by
  have hj := done_join A B c
  have hr : (bigSep Finset.univ (rest c) : sProp 𝕄) ⊢ bufs c := (bigSep_mono fun s _ => rest_slots c s).trans (slots_join c)
  have hc := all_streams (A := A) (B := B) (K := K) (ιs := ιs) (close_stream c)
  rw [bigSep_sep', ← ownSems_eq] at hc
  unfold endAll
  iintro ⟨#Hctx, ⟨Hf, Hr, Hh, HO⟩, Hb⟩
  imod hc $$ [Hf] with ⟨Hs, Hd⟩
  · isplitr; · iexact Hctx
    iexact Hf
  imod (close_bar c) $$ [Hb] with Hb
  · isplitr; · iexact Hctx
    iexact Hb
  imodintro
  isplitl [Hs]; · iexact Hs
  isplitl [Hb]; · iexact Hb
  isplitl [Hr]; · iapply hr; iexact Hr
  isplitl [Hd]; · iapply hj; iexact Hd
  isplitl [Hh]; · iexact Hh
  iexact HO

end Cert.KernelIdeal

end
-- ==== Proof.HostPart.lean ====
module

public import proofs.«01_k».proof.Proof.Ends
public import proofs.«01_k».proof.Proof.Gen.KernelIdeal.Regions
public import proofs.«01_k».proof.Proof.Gen.KernelIdeal.Points

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # The host's part: the three scalars -/

variable (m : (ℓ : Loc nD τ sig) → Buf (Elt F) ℓ)

section Words

/-- A remainder as the host computes it from a quotient word, made nonnegative. -/
abbrev hostMod (w : BitVec 32) : BitVec 32 := Scalar.select (IntOp.cmpi .slt w 0#32) (IntOp.addi w 16#32) w

theorem word_id : ∀ c : Dev nD, hostMod (IntOp.remui .host (IntOp.divui .host (Dev.word c) 1#32) 16#32) = BitVec.ofNat 32 c.val := by decide

theorem word_next : ∀ c : Dev nD, hostMod (IntOp.remsi .host (IntOp.addi (wP c) 1#32) 16#32) = BitVec.ofNat 32 (pos c + 1).val := by decide

theorem word_prev : ∀ c : Dev nD, hostMod (IntOp.remsi .host (IntOp.addi (IntOp.subi (wP c) 1#32) 16#32) 16#32) = BitVec.ofNat 32 (pos c - 1).val := by decide

/-- An entry of a table of sixteen words. -/
abbrev entry (l : Fin 16 → BitVec 32) (w : BitVec 32) : S_.Idx → BitVec 32 :=
  shapeCast S_ (Host.dynamicSlice S1 (fun i : S16.Idx => l (S16.rowMajor i)) (fun _ => w.toInt) Gen.sliceFits_S16_S1) Gen.shapeCasts_S1_S_

theorem entry_pos : ∀ c : Dev nD, entry lit1 (BitVec.ofNat 32 c.val) (Shape.Idx.first Gen.h_S_) = wP c := by decide
theorem entry_next : ∀ c : Dev nD, entry lit0 (BitVec.ofNat 32 (pos c + 1).val) (Shape.Idx.first Gen.h_S_) = wR c := by decide
theorem entry_prev : ∀ c : Dev nD, entry lit0 (BitVec.ofNat 32 (pos c - 1).val) (Shape.Idx.first Gen.h_S_) = wL c := by decide

end Words

section Stretch

variable (W : Valuation τ sig (Elt F)) (c : Dev nD)

/-- A word as a scalar array. -/
abbrev scalar (w : BitVec 32) : Vec F S_ .i32 := fun _ => w
/-- A table of sixteen words. -/
abbrev table (l : Fin 16 → BitVec 32) : Vec F S16 .i32 := fun i => l (S16.rowMajor i)

theorem host_id : StableHlo.after ((Gen.hostOps0 c).take 13) W main_v7 = (scalar (BitVec.ofNat 32 c.val) : Vec F S_ .i32) := by
  simp only [Gen.hostOps0, List.take_succ_cons, List.take_zero]
  after_results
  funext i
  exact word_id c

theorem entry_of {l : Fin 16 → BitVec 32} {w x : BitVec 32} (h : entry l w (Shape.Idx.first Gen.h_S_) = x)
    {X : Vec F S16 .i32} (hX : X = table l) {z : Fin 1 → (⟨S_, .i32⟩ : BufTy).Contents (Elt F)} (hz : z 0 = scalar w) :
    (shapeCast S_ (Host.dynamicSlice S1 X (fun k => BitVec.toInt (z k (Shape.Idx.first Gen.h_S_))) Gen.sliceFits_S16_S1) Gen.shapeCasts_S1_S_ : Vec F S_ .i32) = scalar x := by
  subst hX
  have hz' : z = fun _ => scalar w := funext fun k => by rw [Subsingleton.elim k 0]; exact hz
  subst hz'
  funext i
  rw [Subsingleton.elim i (Shape.Idx.first Gen.h_S_)]
  exact h

theorem host_p (h7 : W main_v7 = (scalar (BitVec.ofNat 32 c.val) : Vec F S_ .i32)) (h0 : W main_c_0 = (table lit1 : Vec F S16 .i32)) :
    StableHlo.after (((Gen.hostOps0 c).drop 13).take 2) W main_v9 = (scalar (wP c) : Vec F S_ .i32) := by
  simp only [Gen.hostOps0, List.drop_succ_cons, List.drop_zero, List.take_succ_cons, List.take_zero]
  after_results
  exact entry_of (entry_pos c) h0 (z := fun k => cast (by rw [Subsingleton.elim k 0]; rfl) (W (Proc.devRef .tc (![main_v7] k)))) h7

theorem host_next (h9 : W main_v9 = (scalar (wP c) : Vec F S_ .i32)) :
    StableHlo.after (((Gen.hostOps0 c).drop 15).take 9) W main_v14 = (scalar (BitVec.ofNat 32 (pos c + 1).val) : Vec F S_ .i32) := by
  simp only [Gen.hostOps0, List.drop_succ_cons, List.drop_zero, List.take_succ_cons, List.take_zero]
  after_results
  rw [h9]
  funext i
  exact word_next c

theorem host_r (h : W main_v14 = (scalar (BitVec.ofNat 32 (pos c + 1).val) : Vec F S_ .i32)) (h0 : W main_c = (table lit0 : Vec F S16 .i32)) :
    StableHlo.after (((Gen.hostOps0 c).drop 24).take 2) W main_v16 = (scalar (wR c) : Vec F S_ .i32) := by
  simp only [Gen.hostOps0, List.drop_succ_cons, List.drop_zero, List.take_succ_cons, List.take_zero]
  after_results
  exact entry_of (entry_next c) h0 (z := fun k => cast (by rw [Subsingleton.elim k 0]; rfl) (W (Proc.devRef .tc (![main_v14] k)))) h

theorem host_prev (h9 : W main_v9 = (scalar (wP c) : Vec F S_ .i32)) :
    StableHlo.after (((Gen.hostOps0 c).drop 26).take 11) W main_v22 = (scalar (BitVec.ofNat 32 (pos c - 1).val) : Vec F S_ .i32) := by
  simp only [Gen.hostOps0, List.drop_succ_cons, List.drop_zero, List.take_succ_cons, List.take_zero]
  after_results
  rw [h9]
  funext i
  exact word_prev c

theorem host_l (h : W main_v22 = (scalar (BitVec.ofNat 32 (pos c - 1).val) : Vec F S_ .i32)) (h0 : W main_c = (table lit0 : Vec F S16 .i32)) :
    StableHlo.after (((Gen.hostOps0 c).drop 37).take 2) W main_v24 = (scalar (wL c) : Vec F S_ .i32) := by
  simp only [Gen.hostOps0, List.drop_succ_cons, List.drop_zero, List.take_succ_cons, List.take_zero]
  after_results
  exact entry_of (entry_prev c) h0 (z := fun k => cast (by rw [Subsingleton.elim k 0]; rfl) (W (Proc.devRef .tc (![main_v22] k)))) h

theorem host_bc : StableHlo.after (((Gen.hostOps0 c).drop 39).take 3) W main_v25 = (broadcastInDim S1 ![] Gen.bcast_S_S1 (W main_v9 : Vec F S_ .i32) : Vec F S1 .i32)
    ∧ StableHlo.after (((Gen.hostOps0 c).drop 39).take 3) W main_v26 = (broadcastInDim S1 ![] Gen.bcast_S_S1 (W main_v24 : Vec F S_ .i32) : Vec F S1 .i32)
    ∧ StableHlo.after (((Gen.hostOps0 c).drop 39).take 3) W main_v27 = (broadcastInDim S1 ![] Gen.bcast_S_S1 (W main_v16 : Vec F S_ .i32) : Vec F S1 .i32) := by
  simp only [Gen.hostOps0, List.drop_succ_cons, List.drop_zero, List.take_succ_cons, List.take_zero]
  refine ⟨?_, ?_, ?_⟩ <;> after_results

theorem host_cat {a b d : Vec F S1 .i32} (ha : W main_v25 = a) (hb : W main_v26 = b) (hd : W main_v27 = d) :
    StableHlo.after ((Gen.hostOps0 c).drop 42) W main_v28 = (concatenate S3 0 [⟨S1, a⟩, ⟨S1, b⟩, ⟨S1, d⟩] Gen.concatenates_S1_S1_S1_S3_d0 : Vec F S3 .i32) := by
  subst ha hb hd
  simp only [Gen.hostOps0, List.drop_succ_cons, List.drop_zero]
  after_results
  rfl

theorem cat_eq : (concatenate S3 0 [⟨S1, broadcastInDim S1 ![] Gen.bcast_S_S1 (scalar (F := F) (wP c))⟩, ⟨S1, broadcastInDim S1 ![] Gen.bcast_S_S1 (scalar (F := F) (wL c))⟩,
    ⟨S1, broadcastInDim S1 ![] Gen.bcast_S_S1 (scalar (F := F) (wR c))⟩] Gen.concatenates_S1_S1_S1_S3_d0 : Vec F S3 .i32) = scal c := by
  funext i
  obtain ⟨j, rfl⟩ : ∃ j : Fin 3, i = Fin.cons j fun a => a.elim0 := ⟨i 0, by funext a; obtain rfl : a = 0 := Subsingleton.elim _ _; rfl⟩
  fin_cases j <;> rfl

/-- What the stretches leave in place. -/
theorem host_tables : StableHlo.after ((Gen.hostOps0 c).take 13) W main_c_0 = (table lit1 : Vec F S16 .i32)
    ∧ StableHlo.after ((Gen.hostOps0 c).take 13) W main_c = (table lit0 : Vec F S16 .i32) := by
  simp only [Gen.hostOps0, List.take_succ_cons, List.take_zero]
  refine ⟨?_, ?_⟩ <;> (after_results; rfl)
theorem keep_p : StableHlo.after (((Gen.hostOps0 c).drop 13).take 2) W main_c = W main_c := by
  simp only [Gen.hostOps0, List.drop_succ_cons, List.drop_zero, List.take_succ_cons, List.take_zero]
  after_results
theorem keep_next : StableHlo.after (((Gen.hostOps0 c).drop 15).take 9) W main_c = W main_c
    ∧ StableHlo.after (((Gen.hostOps0 c).drop 15).take 9) W main_v9 = W main_v9 := by
  simp only [Gen.hostOps0, List.drop_succ_cons, List.drop_zero, List.take_succ_cons, List.take_zero]
  refine ⟨?_, ?_⟩ <;> after_results
theorem keep_r : StableHlo.after (((Gen.hostOps0 c).drop 24).take 2) W main_c = W main_c
    ∧ StableHlo.after (((Gen.hostOps0 c).drop 24).take 2) W main_v9 = W main_v9 := by
  simp only [Gen.hostOps0, List.drop_succ_cons, List.drop_zero, List.take_succ_cons, List.take_zero]
  refine ⟨?_, ?_⟩ <;> after_results
theorem keep_prev : StableHlo.after (((Gen.hostOps0 c).drop 26).take 11) W main_c = W main_c
    ∧ StableHlo.after (((Gen.hostOps0 c).drop 26).take 11) W main_v9 = W main_v9
    ∧ StableHlo.after (((Gen.hostOps0 c).drop 26).take 11) W main_v16 = W main_v16 := by
  simp only [Gen.hostOps0, List.drop_succ_cons, List.drop_zero, List.take_succ_cons, List.take_zero]
  refine ⟨?_, ?_, ?_⟩ <;> after_results
theorem keep_l : StableHlo.after (((Gen.hostOps0 c).drop 37).take 2) W main_v9 = W main_v9
    ∧ StableHlo.after (((Gen.hostOps0 c).drop 37).take 2) W main_v16 = W main_v16 := by
  simp only [Gen.hostOps0, List.drop_succ_cons, List.drop_zero, List.take_succ_cons, List.take_zero]
  refine ⟨?_, ?_⟩ <;> after_results

/-- The whole stretch, in its parts. -/
theorem host_all : StableHlo.after (Gen.hostOps0 c) W main_v28 = (scal c : Vec F S3 .i32) := by
  have e : ∀ W : Valuation τ sig (Elt F), StableHlo.after (Gen.hostOps0 c) W = StableHlo.after ((Gen.hostOps0 c).drop 42)
      (StableHlo.after (((Gen.hostOps0 c).drop 39).take 3) (StableHlo.after (((Gen.hostOps0 c).drop 37).take 2)
        (StableHlo.after (((Gen.hostOps0 c).drop 26).take 11) (StableHlo.after (((Gen.hostOps0 c).drop 24).take 2)
          (StableHlo.after (((Gen.hostOps0 c).drop 15).take 9) (StableHlo.after (((Gen.hostOps0 c).drop 13).take 2)
            (StableHlo.after ((Gen.hostOps0 c).take 13) W))))))) := fun _ => rfl
  rw [e]
  have a7 := host_id W c
  obtain ⟨a0, a⟩ := host_tables W c
  generalize StableHlo.after ((Gen.hostOps0 c).take 13) W = W₁ at a7 a0 a ⊢
  have b9 := host_p W₁ c a7 a0
  have b := (keep_p W₁ c).trans a
  generalize StableHlo.after (((Gen.hostOps0 c).drop 13).take 2) W₁ = W₂ at b9 b ⊢
  have d14 := host_next W₂ c b9
  have d := (keep_next W₂ c).1.trans b
  have d9 := (keep_next W₂ c).2.trans b9
  generalize StableHlo.after (((Gen.hostOps0 c).drop 15).take 9) W₂ = W₃ at d14 d d9 ⊢
  have e16 := host_r W₃ c d14 d
  have e := (keep_r W₃ c).1.trans d
  have e9 := (keep_r W₃ c).2.trans d9
  generalize StableHlo.after (((Gen.hostOps0 c).drop 24).take 2) W₃ = W₄ at e16 e e9 ⊢
  have f22 := host_prev W₄ c e9
  have f := (keep_prev W₄ c).1.trans e
  have f9 := (keep_prev W₄ c).2.1.trans e9
  have f16 := (keep_prev W₄ c).2.2.trans e16
  generalize StableHlo.after (((Gen.hostOps0 c).drop 26).take 11) W₄ = W₅ at f22 f f9 f16 ⊢
  have g24 := host_l W₅ c f22 f
  have g9 := (keep_l W₅ c).1.trans f9
  have g16 := (keep_l W₅ c).2.trans f16
  generalize StableHlo.after (((Gen.hostOps0 c).drop 37).take 2) W₅ = W₆ at g24 g9 g16 ⊢
  obtain ⟨h1, h2, h3⟩ := host_bc W₆ c
  rw [g9] at h1
  rw [g24] at h2
  rw [g16] at h3
  exact (host_cat _ c h1 h2 h3).trans (cat_eq c)

end Stretch

variable (m : (ℓ : Loc nD τ sig) → Buf (Elt F) ℓ)

/-- The host computes the device's place on the ring and its two neighbours. -/
theorem V1_scal (c : Dev nD) : Gen.V1 m c main_v28 = (scal c : Vec F S3 .i32) := host_all _ c

end Cert.KernelIdeal

end
-- ==== Proof.Region.lean ====
module

public import proofs.«01_k».proof.Proof.HostPart

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts
open Idealize.ShloMosaic.Pipeline (Dat Cfg Window BodyObligation cellOf)

variable {F : FTy → Type} [FloatOps F]

local notation "𝕄" => MT nD τ sig ℕ (Elt F) ℕ UU ℕ

/-! # The kernel's region: what it is entered with, what its one point does, what it leaves

The region's windows stage the table of the three devices, the two factors and the result.  At the point the body runs
(`run_body`) from the opened cells; afterwards every own semaphore is back at zero and the result is staged. -/

variable (m : (ℓ : Loc nD τ sig) → Buf (Elt F) ℓ)

/-- Device `c`'s left factor. -/
def lhs (c : Dev nD) : Vec F S2048x1024 .bf16 := m ((c : Thread nD τ).loc main_arg0)
/-- Device `c`'s right factor. -/
def rhs (c : Dev nD) : Vec F S1024x2048 .bf16 := m ((c : Thread nD τ).loc main_arg1)

/-- What the body addresses beside its windows, before the point. -/
def before0 (c : Dev nD) : sProp 𝕄 :=
  iprop((∃ K ιs, ctx (lhs m) (rhs m) K ιs ∗ barSt c ∗ bigSep Finset.univ (pre c))
    ∗ (∃ f, mC.view.loc (c : Thread nD τ) ↦[Finset.univ]{fullShare} f) ∗ bufs c ∗ ∃ r, prngReg c r)
/-- The same after the point. -/
def after0 (c : Dev nD) : sProp 𝕄 :=
  iprop((∃ f, mC.view.loc (c : Thread nD τ) ↦[Finset.univ]{fullShare} f) ∗ bufs c ∗ (∃ r, prngReg c r)
    ∗ Pipeline.ownSems0 osem c ∗ semVal (bCell c) 0)

/-- The region's proof data on device `c`. -/
def dat (c : Dev nD) : Dat τ (Elt F) ℕ ℕ UU ℕ cfg0 c where
  A w := match w with
    | ⟨0, _⟩ => Gen.V1 m c main_v28
    | ⟨1, _⟩ => Gen.V1 m c main_arg0
    | ⟨2, _⟩ => Gen.V1 m c main_arg1
    | ⟨3, _⟩ => Gen.V1 m c main_v29
  after w _ := match w with
    | ⟨0, _⟩ => scal c
    | ⟨1, _⟩ => lhs m c
    | ⟨2, _⟩ => rhs m c
    | ⟨3, _⟩ => OUT (lhs m) (rhs m)
  Φ t := if t.val = 0 then before0 m c else after0 c
  q _ := fullShare
  owed t := if t.val = 0 then due c else 0

/-- The region's proof data, as the library takes it. -/
def pdats : (p : Fin 1) → (c : Dev nD) → Dat τ (Elt F) ℕ ℕ UU ℕ (cfgs p) c := fun p => match p with
  | ⟨0, _⟩ => dat m

theorem V1_lhs (c : Dev nD) : Gen.V1 m c main_arg0 = lhs m c := (Gen.V1_of m c main_arg0 (by decide)).trans rfl
theorem V1_rhs (c : Dev nD) : Gen.V1 m c main_arg1 = rhs m c := (Gen.V1_of m c main_arg1 (by decide)).trans rfl

/-- An uncut fetch moves every element. -/
theorem moved_all (w : Fin cfg0.W) (i : cfg0.grid.Coords) (h : ∀ a, (cfg0.win w).clip i a = none) (j : (cfg0.win w).block.Idx) :
    (cfg0.win w).moved i j = true :=
  ((cfg0.win w).moved_iff i j).mpr fun a => by have := (j a).isLt; unfold Window.xsize; rw [h a]; exact this

/-- The block fetched for each input window is its array. -/
theorem fetched_scal (c : Dev nD) (d) : (dat m c).before (0 : Fin 4) Gen.t0_0 d = (scal c : Vec F S3 .i32) := by
  rw [← V1_scal m c]
  unfold Dat.before; rw [if_pos (Gen.fetch0_0 _)]
  unfold Dat.fetched Window.fill
  funext j
  rw [dif_pos (moved_all 0 _ (fun _ => rfl) j)]
  show Gen.V1 m c main_v28 _ = Gen.V1 m c main_v28 _
  congr 1
  funext a; apply Fin.ext
  show 0 * _ + 1 * (j a).val = (j a).val
  omega

theorem fetched_lhs (c : Dev nD) (d) : (dat m c).before (1 : Fin 4) Gen.t0_0 d = lhs m c := by
  rw [← V1_lhs m c]
  unfold Dat.before; rw [if_pos (Gen.fetch0_1 _)]
  unfold Dat.fetched Window.fill
  funext j
  rw [dif_pos (moved_all 1 _ (fun _ => rfl) j)]
  exact congrArg (Gen.V1 m c main_arg0) (funext fun a => Fin.ext (by
    show 0 * _ + 1 * (j a).val = (j a).val
    omega))
theorem fetched_rhs (c : Dev nD) (d) : (dat m c).before (2 : Fin 4) Gen.t0_0 d = rhs m c := by
  rw [← V1_rhs m c]
  unfold Dat.before; rw [if_pos (Gen.fetch0_2 _)]
  unfold Dat.fetched Window.fill
  funext j
  rw [dif_pos (moved_all 2 _ (fun _ => rfl) j)]
  exact congrArg (Gen.V1 m c main_arg1) (funext fun a => Fin.ext (by
    show 0 * _ + 1 * (j a).val = (j a).val
    omega))

theorem owed_first (c : Dev nD) : (dat m c).owed Gen.t0_0.castSucc = due c := by
  show (if (Gen.t0_0.castSucc : Fin (cfg0.N + 1)).val = 0 then due c else 0) = due c
  exact if_pos rfl
theorem owed_last (c : Dev nD) : (dat m c).owed Gen.t0_0.succ = 0 := rfl

/-- The region leaves the result's array at the staged result. -/
theorem out_array (c : Dev nD) : (dat m c).arrAt (3 : Fin 4) cfg0.N = OUT (lhs m) (rhs m) := by
  have h : ((cfg0.win 3).blk Gen.t0_0).view.read (Elt F) ((dat m c).arrAt (3 : Fin 4) cfg0.N) = (dat m c).after (3 : Fin 4) Gen.t0_0 := by
    rw [show cfg0.N = (Gen.t0_0 : Fin cfg0.N).val + 1 from rfl, (dat m c).arrAt_succ (3 : Fin 4) Gen.t0_0]
    rw [show (cfg0.win 3).flush Gen.t0_0 = true from Gen.flush0_3 _, if_pos rfl]
    exact View.read_write_univ _ _
  funext j
  refine Eq.trans ?_ (congrFun h j)
  exact congrArg ((dat m c).arrAt (3 : Fin 4) cfg0.N) (funext fun a => Fin.ext (by
    show (j a).val = 0 * _ + 1 * (j a).val
    omega))

end Cert.KernelIdeal

end
-- ==== Proof.RegionBody.lean ====
module

public import proofs.«01_k».proof.Proof.Region

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts
open Idealize.ShloMosaic.Pipeline (Dat Cfg Window BodyObligation cellOf)

variable {F : FTy → Type} [FloatOps F]

local notation "𝕄" => MT nD τ sig ℕ (Elt F) ℕ UU ℕ

/-! # The region's one point -/

variable (m : (ℓ : Loc nD τ sig) → Buf (Elt F) ℓ)

theorem own_s (c : Dev nD) (X : Vec F S3 .i32) :
    (owns (c : Thread nD τ) ((cfg0.win 0).stage (cfg0.slots Gen.t0_0 0)) fullShare X : sProp 𝕄) = (mS.view.loc (c : Thread nD τ) ↦[Finset.univ]{fullShare} X) :=
  owns_whole (c : Thread nD τ) cc0_stg0_0 fullShare X
theorem own_a (c : Dev nD) (X : Vec F S2048x1024 .bf16) :
    (owns (c : Thread nD τ) ((cfg0.win 1).stage (cfg0.slots Gen.t0_0 1)) fullShare X : sProp 𝕄) = (mA.view.loc (c : Thread nD τ) ↦[Finset.univ]{fullShare} X) :=
  owns_whole (c : Thread nD τ) cc0_stg1_0 fullShare X
theorem own_b (c : Dev nD) (X : Vec F S1024x2048 .bf16) :
    (owns (c : Thread nD τ) ((cfg0.win 2).stage (cfg0.slots Gen.t0_0 2)) fullShare X : sProp 𝕄) = (mB.view.loc (c : Thread nD τ) ↦[Finset.univ]{fullShare} X) :=
  owns_whole (c : Thread nD τ) cc0_stg2_0 fullShare X
theorem own_o (c : Dev nD) (X : Vec F S2048x2048 .bf16) :
    (owns (c : Thread nD τ) ((cfg0.win 3).stage (cfg0.slots Gen.t0_0 3)) fullShare X : sProp 𝕄) = (mO.view.loc (c : Thread nD τ) ↦[Finset.univ]{fullShare} X) :=
  owns_whole (c : Thread nD τ) cc0_stg3_0 fullShare X

/-- The core's `owes` as a point's and back. -/
theorem owesAt_intro (c : Dev nD) (t : Fin (cfg0.N + 1)) (O : CellTallies nD τ sig ℕ) (h0 : (dat m c).owed t = O) :
    owing c O ⊢ ((dat m c).owesAt 0 t : sProp 𝕄) := by
  unfold owing Dat.owesAt Pipeline.owesWithin Dat.bound; rw [h0, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig ℕ) (h0 : (dat m c).owed t = O) :
    ((dat m c).owesAt 0 t : sProp 𝕄) ⊢ owing c O := by
  unfold owing Dat.owesAt Pipeline.owesWithin; rw [h0]
  iintro ⟨%W, -, HO⟩; iexists W; iexact HO

/-- What the point ends with. -/
def atEnd (c : Dev nD) : sProp 𝕄 :=
  iprop(after0 c ∗ owing c 0 ∗ (mS.view.loc (c : Thread nD τ) ↦[Finset.univ]{fullShare} scal c)
    ∗ (mA.view.loc (c : Thread nD τ) ↦[Finset.univ]{fullShare} lhs m c) ∗ (mB.view.loc (c : Thread nD τ) ↦[Finset.univ]{fullShare} rhs m c)
    ∗ (mO.view.loc (c : Thread nD τ) ↦[Finset.univ]{fullShare} OUT (lhs m) (rhs m)))

/-- An update after a run is absorbed. -/
theorem run_update (c : Dev nD) (p : Prog (TpuEff nD τ sig (Elt F) Λ₀ .tc) PUnit) (Q : PUnit → sProp 𝕄) :
    run c p (fun a => iprop(|={Set.univ}=> Q a)) ⊢ run c p Q := wp_fupd _ _ _ _ _
/-- A run's end may be weakened. -/
theorem run_mono (c : Dev nD) (p : Prog (TpuEff nD τ sig (Elt F) Λ₀ .tc) PUnit) {Q Q' : PUnit → sProp 𝕄} (h : ∀ a, Q a ⊢ Q' a) :
    run c p Q ⊢ run c p Q' := wp_mono _ _ _ h

/-- The body from the region's invariant and the staged windows, to its end. -/
theorem run_point (c : Dev nD) :
    iprop(before0 m c ∗ owing c (due c) ∗ (mS.view.loc (c : Thread nD τ) ↦[Finset.univ]{fullShare} scal c)
        ∗ (mA.view.loc (c : Thread nD τ) ↦[Finset.univ]{fullShare} lhs m c) ∗ (mB.view.loc (c : Thread nD τ) ↦[Finset.univ]{fullShare} rhs m c)
        ∗ (∃ f, mO.view.loc (c : Thread nD τ) ↦[Finset.univ]{fullShare} f))
      ⊢ run c body (fun _ => atEnd m c) := by
  have hb := blocks_split (F := F) c
  have hs := slots_split (F := F) c
  refine BI.BIBase.Entails.trans ?_ (run_update c body (fun _ => atEnd m c))
  unfold before0
  iintro ⟨⟨⟨%K, %ιs, #Hctx, Hbar, Hpre⟩, HC, Hbufs, Hp⟩, HO, HS, HA, HB, HOut⟩
  ihave Hbl := hb $$ HOut
  ihave Hsl := hs $$ Hbufs
  have hclose := close_all (A := lhs m) (B := rhs m) (K := K) (ιs := ιs) c
  iapply (run_body (A := lhs m) (B := rhs m) (K := K) (ιs := ιs) c (Q := fun _ => iprop(|={Set.univ}=> atEnd m c)))
  isplitr; · iexact Hctx
  isplitl [HS]; · iexact HS
  isplitl [Hbar]; · iexact Hbar
  isplitl [Hpre]; · iexact Hpre
  isplitl [Hsl]; · iexact Hsl
  isplitl [Hbl]; · iexact Hbl
  isplitl [HA]; · iexact HA
  isplitl [HB]; · iexact HB
  isplitl [HC]; · iexact HC
  isplitl [HO]; · iexact HO
  iintro ⟨Hend, Hat, HS, HB⟩
  imod hclose $$ [Hend Hat] with ⟨Hown, Hsem, Hbufs, HOut, Hhold, HO⟩
  · isplitr; · iexact Hctx
    isplitl [Hend] <;> iassumption
  imodintro
  unfold hold atEnd after0
  icases Hhold with ⟨HA, HC⟩
  isplitl [HC Hbufs Hp Hown Hsem]
  · isplitl [HC]; · iexists _; iexact HC
    isplitl [Hbufs]; · iexact Hbufs
    isplitl [Hp]; · iexact Hp
    isplitl [Hown] <;> iassumption
  isplitl [HO]; · iexact HO
  isplitl [HS]; · iexact HS
  isplitl [HA]; · iexact HA
  isplitl [HB]; · iexact HB
  iexact HOut

/-- A window's current staging buffer at the point. -/
abbrev stg (c : Dev nD) (w : Fin 4) (X : (cfg0.win w).block.Idx → Elt F (cfg0.win w).elt) : sProp 𝕄 :=
  owns (c : Thread nD τ) ((cfg0.win w).stage (cfg0.slots Gen.t0_0 w)) fullShare X

/-- What the point's windows are staged at on entry. -/
theorem take_s (c : Dev nD) : iprop(∃ d, stg c 0 ((dat m c).before (0 : Fin 4) Gen.t0_0 d))
    ⊢ (mS.view.loc (c : Thread nD τ) ↦[Finset.univ]{fullShare} scal c : sProp 𝕄) := by
  iintro ⟨%d, H⟩
  have e := (congrArg (stg c 0) (fetched_scal m c d)).trans (own_s c (scal c))
  ihave H := (Entails.of_eq e) $$ H
  iexact H
theorem take_a (c : Dev nD) : iprop(∃ d, stg c 1 ((dat m c).before (1 : Fin 4) Gen.t0_0 d))
    ⊢ (mA.view.loc (c : Thread nD τ) ↦[Finset.univ]{fullShare} lhs m c : sProp 𝕄) := by
  iintro ⟨%d, H⟩
  have e := (congrArg (stg c 1) (fetched_lhs m c d)).trans (own_a c (lhs m c))
  ihave H := (Entails.of_eq e) $$ H
  iexact H
theorem take_b (c : Dev nD) : iprop(∃ d, stg c 2 ((dat m c).before (2 : Fin 4) Gen.t0_0 d))
    ⊢ (mB.view.loc (c : Thread nD τ) ↦[Finset.univ]{fullShare} rhs m c : sProp 𝕄) := by
  iintro ⟨%d, H⟩
  have e := (congrArg (stg c 2) (fetched_rhs m c d)).trans (own_b c (rhs m c))
  ihave H := (Entails.of_eq e) $$ H
  iexact H
theorem take_o (c : Dev nD) : iprop(∃ d, stg c 3 ((dat m c).before (3 : Fin 4) Gen.t0_0 d))
    ⊢ (iprop(∃ f, mO.view.loc (c : Thread nD τ) ↦[Finset.univ]{fullShare} f) : sProp 𝕄) := by
  iintro ⟨%d, H⟩
  have e := own_o (F := F) c ((dat m c).before (3 : Fin 4) Gen.t0_0 d)
  ihave H := (Entails.of_eq e) $$ H
  iexists _
  iexact H

/-- The point's entry and end, as the library states them. -/
def ptPre (c : Dev nD) : sProp 𝕄 :=
  iprop(before0 m c ∗ (dat m c).owesAt 0 Gen.t0_0.castSucc
    ∗ (∃ d, stg c 0 ((dat m c).before (0 : Fin 4) Gen.t0_0 d)) ∗ (∃ d, stg c 1 ((dat m c).before (1 : Fin 4) Gen.t0_0 d))
    ∗ (∃ d, stg c 2 ((dat m c).before (2 : Fin 4) Gen.t0_0 d)) ∗ (∃ d, stg c 3 ((dat m c).before (3 : Fin 4) Gen.t0_0 d)))
def ptPost (c : Dev nD) : sProp 𝕄 :=
  iprop(after0 c ∗ (dat m c).owesAt 0 Gen.t0_0.succ
    ∗ stg c 0 (scal c) ∗ stg c 1 (lhs m c) ∗ stg c 2 (rhs m c) ∗ stg c 3 (OUT (lhs m) (rhs m)))

theorem point_in (c : Dev nD) : ptPre m c ⊢ iprop(before0 m c ∗ owing c (due c) ∗ (mS.view.loc (c : Thread nD τ) ↦[Finset.univ]{fullShare} scal c)
        ∗ (mA.view.loc (c : Thread nD τ) ↦[Finset.univ]{fullShare} lhs m c) ∗ (mB.view.loc (c : Thread nD τ) ↦[Finset.univ]{fullShare} rhs m c)
        ∗ (∃ f, mO.view.loc (c : Thread nD τ) ↦[Finset.univ]{fullShare} f)) := by
  have hi := owesAt_elim m c _ (due c) (owed_first m c)
  unfold ptPre
  iintro ⟨HΦ, HO, HS, HA, HB, HOut⟩
  isplitl [HΦ]; · iexact HΦ
  isplitl [HO]; · iapply hi; iexact HO
  isplitl [HS]; · iapply (take_s m c); iexact HS
  isplitl [HA]; · iapply (take_a m c); iexact HA
  isplitl [HB]; · iapply (take_b m c); iexact HB
  iapply (take_o m c); iexact HOut

theorem point_out (c : Dev nD) : atEnd m c ⊢ ptPost m c := by
  have ho := owesAt_intro m c _ 0 (owed_last m c)
  unfold atEnd ptPost stg
  rw [own_s, own_a, own_b, own_o]
  iintro ⟨HΦ, HO, HS, HA, HB, HOut⟩
  isplitl [HΦ]; · iexact HΦ
  isplitl [HO]; · iapply ho; iexact HO
  isplitl [HS]; · iexact HS
  isplitl [HA]; · iexact HA
  isplitl [HB]; · iexact HB
  iexact HOut

theorem run_whole (c : Dev nD) : ptPre m c ⊢ run c (Gen.bodyAt0 Gen.t0_0) (fun _ => ptPost m c) := by
  rw [body_eq]
  exact ((point_in m c).trans (run_point m c)).trans (run_mono c body fun _ => point_out m c)

/-- The body obligation of the region. -/
theorem body_obligation (c : Dev nD) : BodyObligation (dat (F := F) m c) defs₀ 𝒱₀ 0 Set.univ := fun t => by
  obtain rfl := Gen.fin_N0 t
  rw [Gen.bigSep_W0, Gen.bigSep_W0]
  have hb : defs₀ (F := F) Proc.tc cfg0.body (cfg0.bodyArgs Gen.t0_0 (cfg0.slots Gen.t0_0)) = Gen.bodyAt0 Gen.t0_0 := rfl
  rw [hb]
  have h1 := run_whole m c
  revert h1
  generalize Gen.bodyAt0 (F := F) Gen.t0_0 = p
  intro h1
  exact h1

end Cert.KernelIdeal

end
-- ==== Proof.Seg.lean ====
module

public import proofs.«01_k».proof.Proof.RegionBody

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts
open Idealize.ShloMosaic.Pipeline (Dat Cfg Window BodyObligation cellOf)

variable {F : FTy → Type} [FloatOps F]

local notation "𝕄" => MT nD τ sig ℕ (Elt F) ℕ UU ℕ

/-! # The region's record -/

variable (m : (ℓ : Loc nD τ sig) → Buf (Elt F) ℓ)

/-- What the launch deals device `c` for the region. -/
def start (c : Dev nD) : sProp 𝕄 := iprop(∃ K ιs, ctx (lhs m) (rhs m) K ιs ∗ barSt c ∗ bigSep Finset.univ (dealt c))
/-- The same with the own cells opened. -/
def opened (c : Dev nD) : sProp 𝕄 := iprop(∃ K ιs, ctx (lhs m) (rhs m) K ιs ∗ barSt c ∗ bigSep Finset.univ (pre c))

theorem start_open (c : Dev nD) : iprop(start m c ∗ Pipeline.ownSems0 osem c ∗ levAts (L 64) lv) ⊢ (|={Set.univ}=> opened m c : sProp 𝕄) := by
  unfold start opened
  iintro ⟨⟨%K, %ιs, #Hctx, Hbar, Hd⟩, Hs, -⟩
  imod (open_all (A := lhs m) (B := rhs m) (K := K) (ιs := ιs) c) $$ [Hd Hs] with Hpre
  · isplitr; · iexact Hctx
    isplitl [Hd] <;> iassumption
  imodintro
  iexists K; iexists ιs
  isplitr; · iexact Hctx
  isplitl [Hbar] <;> iassumption

/-- The result each device's region leaves. -/
def leaves : Gen.Outs (F := F) := fun _ r c => if h : r = main_v29 then h ▸ (OUT (lhs m) (rhs m) : Vec F S2048x2048 .bf16) else Gen.V1 m c r

theorem leaves_v29 (k : ℕ) (c : Dev nD) : leaves m k main_v29 c = OUT (lhs m) (rhs m) := dif_pos rfl

theorem region_in (c : Dev nD) : iprop(Pipeline.scopedRest spec0 c ∗ (∃ r, prngReg c r) ∗ StableHlo.held (c.tc : Thread nD τ) ∅ (Gen.V1 m c) ∗ opened m c)
    ⊢ before0 m c := by
  rw [Gen.scopedRest0_eq]
  unfold before0 opened bufs
  iintro ⟨⟨HC, HX, HR⟩, Hp, -, HK⟩
  isplitl [HK]; · iexact HK
  isplitl [HC]; · iexact HC
  isplitl [HX HR]; · isplitl [HX] <;> iassumption
  iexact Hp

theorem region_out (c : Dev nD) : after0 c
    ⊢ iprop(Pipeline.scopedRest spec0 c ∗ (∃ r, prngReg c r) ∗ StableHlo.held (c.tc : Thread nD τ) ∅ (Gen.V2 m (leaves m) c) ∗ Pipeline.ownSems0 osem c ∗ semVal (bCell c) 0) := by
  rw [Gen.scopedRest0_eq]
  unfold after0 bufs StableHlo.held
  rw [bigSep_empty]
  iintro ⟨HC, ⟨HX, HR⟩, Hp, Hs, Hb⟩
  isplitl [HC HX HR]
  · isplitl [HC]; · iexact HC
    isplitl [HX] <;> iassumption
  isplitl [Hp]; · iexact Hp
  isplitr; · iempintro
  isplitl [Hs] <;> iassumption

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem due_ab (c : Dev nD) : Ab 0 (due c) :=
  (((due_tail c).mono (by decide)).add (Ab.at (by decide) (by decide) (rt c) _ 1)).add (Ab.at (by decide) (by decide) (lf c) _ 1)

theorem owed_ab (c : Dev nD) (t : Fin (cfg0.N + 1)) : Ab 0 ((dat m c).owed t) := by
  show Ab 0 (if t.val = 0 then due c else 0)
  split
  · exact due_ab c
  · exact Ab.zero 0

theorem cut : Pipeline.LevelCutOwed (pcfgs (F := F)) Gen.adm (pdats m) 0 (L 64) lv 0 (fun _ => 0) where
  hι c w s := SiteBlocks.mem_L' rfl (by decide)
  hιb c w s := Nat.le_refl 0
  hD c t g i h := owed_ab m c t g i h

theorem arr_in (c : Dev nD) (w : Fin 4) : (dat m c).arrAt w 0 = Gen.V1 m c (Proc.devRef .tc (Pipeline.arrRef spec0 w)) := by
  fin_cases w <;> rfl

theorem V2_out (c : Dev nD) : Gen.V2 m (leaves m) c main_v29 = OUT (lhs m) (rhs m) :=
  (Function.update_self (Proc.devRef .tc main_v29) _ (Gen.V1 m c)).trans (leaves_v29 m 2 c)

theorem arr_out (c : Dev nD) (w : Fin 4) : (dat m c).arrAt w cfg0.N = Gen.V2 m (leaves m) c (Proc.devRef .tc (Pipeline.arrRef spec0 w)) := by
  fin_cases w
  · exact ((dat m c).arrAt_in (0 : Fin 4) rfl _).trans (Gen.V2_of m (leaves m) c main_v28 (by decide)).symm
  · exact ((dat m c).arrAt_in (1 : Fin 4) rfl _).trans (Gen.V2_of m (leaves m) c main_arg0 (by decide)).symm
  · exact ((dat m c).arrAt_in (2 : Fin 4) rfl _).trans (Gen.V2_of m (leaves m) c main_arg1 (by decide)).symm
  · exact (out_array m c).trans (V2_out m c).symm

/-- The buffers that outlive the region and are no window's array. -/
abbrev others : Finset (DevRef τ sig) := Pipeline.ucRefs τ sig \ Pipeline.arrRefs (τ := τ) spec0

theorem others_keep (c : Dev nD) (b : DevRef τ sig) (hb : b ∈ others \ ∅) : Gen.V2 m (leaves m) c b = Gen.V1 m c b := by
  rw [Finset.sdiff_empty] at hb
  refine Function.update_of_ne ?_ ..
  rintro rfl
  exact absurd (Finset.mem_sdiff.mp hb).2 (by decide)

set_option backward.isDefEq.respectTransparency.types false in
/-- The region's record. -/
def region : Pipeline.RegionSeg (pcfgs (F := F)) Gen.adm (pdats m) 0 defs₀ 𝒱₀ (L 64) lv 0 :=
  Pipeline.RegionSeg.ofTalk (pcfgs (F := F)) Gen.adm (pdats m) 0 defs₀ 𝒱₀ (L 64) lv 0 osem osem_facts
    ∅ others (Finset.empty_subset _) kit rfl (fun c => (body_obligation m c).loose)
    (fun _ => 0) due (fun c => (owed_first m c).trans (zero_add _).symm) (owed_last m) (fun _ => rfl)
    (fun c w => by unfold Dat.share; split <;> rfl)
    (Gen.V1 m) (Gen.V2 m (leaves m)) (others_keep m)
    (start m) (fun c => semVal (bCell c) 0) (opened m) (fun c => semVal (bCell c) 0) (start_open m) (region_in m) (region_out m)
    (fun c => by iintro H; imodintro; iexact H)
    (fun _ => 0) (cut m) (fun _ => iprop(emp)) (arr_in m) (arr_out m)

theorem arrs_sub : Pipeline.arrRefs (τ := τ) spec0 ⊆ Pipeline.ucRefs τ sig := by decide

/-- What rides beside the buffers before the region and after it. -/
def ride (c : Dev nD) : sProp 𝕄 := iprop((∃ r, prngReg c r) ∗ start m c ∗ owing c (due c))
def ride' (c : Dev nD) : sProp 𝕄 := iprop(semVal (bCell c) 0 ∗ owing c 0)

theorem region_pre (c : Dev nD) : iprop(StableHlo.held (c : Thread nD τ) (Pipeline.ucRefs τ sig) (Gen.V1 m c) ∗ ride m c) ⊢ (region m).pre c := by
  show _ ⊢ iprop(StableHlo.held (c.tc : Thread nD τ) (Pipeline.arrRefs (τ := τ) spec0) (Gen.V1 m c) ∗ (∃ r, prngReg c r)
    ∗ (StableHlo.held (c.tc : Thread nD τ) others (Gen.V1 m c) ∗ emp) ∗ start m c ∗ ∃ Wd, owes (c : Thread nD τ) (0 + due c) Wd)
  rw [StableHlo.held_sub_split (c.tc : Thread nD τ) arrs_sub, zero_add]
  unfold ride owing
  iintro ⟨⟨Ha, Ho⟩, Hp, Hs, HO⟩
  isplitl [Ha]; · iexact Ha
  isplitl [Hp]; · iexact Hp
  isplitl [Ho]
  · isplitl [Ho]; · iexact Ho
    iempintro
  isplitl [Hs] <;> iassumption

theorem region_post (c : Dev nD) : (region m).post c
    ⊢ iprop(StableHlo.held (c : Thread nD τ) (Pipeline.ucRefs τ sig) (Gen.V2 m (leaves m) c) ∗ ride' c) := by
  show iprop(StableHlo.held (c.tc : Thread nD τ) (Pipeline.arrRefs (τ := τ) spec0) (Gen.V2 m (leaves m) c) ∗ (∃ r, prngReg c r)
    ∗ (StableHlo.held (c.tc : Thread nD τ) others (Gen.V2 m (leaves m) c) ∗ emp) ∗ semVal (bCell c) 0 ∗ ∃ Wd, owes (c : Thread nD τ) (0 : CellTallies nD τ sig ℕ) Wd) ⊢ _
  rw [StableHlo.held_sub_split (c.tc : Thread nD τ) arrs_sub]
  unfold ride' owing
  iintro ⟨Ha, -, ⟨Ho, -⟩, Hb, HO⟩
  isplitl [Ha Ho]; · isplitl [Ha] <;> iassumption
  isplitl [Hb] <;> iassumption

end Cert.KernelIdeal

end
-- ==== Proof.Credit.lean ====
module

public import proofs.«01_k».proof.Proof.Seg

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # The credits the launch makes

What the devices owe at the start, summed over the machine, is what they hold credit for. -/

/-- The neighbours as permutations. -/
def dnEq (s : Fin 8) : Dev nD ≃ Dev nD := ⟨fun c => dn c s, fun c => up c s, fun c => up_dn c s, fun c => dn_up c s⟩
def upEq (s : Fin 8) : Dev nD ≃ Dev nD := (dnEq s).symm
def rtEq : Dev nD ≃ Dev nD := ⟨rt, lf, lf_rt, rt_lf⟩
def lfEq : Dev nD ≃ Dev nD := rtEq.symm

/-- What device `c` holds credit for at the start. -/
def wage (c : Dev nD) : CellTallies nD τ sig ℕ := (∑ s, (dueR c s 0 + dueC c s 0)) + tallyAt (bCell c) 1 2

theorem wages : (∑ c, due c) = ∑ c, wage c := by
  have hs : (∑ c : Dev nD, ∑ s, dueS c s 0 0) = ∑ c : Dev nD, ∑ s, (dueR c s 0 + dueC c s 0) := by
    rw [Finset.sum_comm]
    refine Eq.trans ?_ Finset.sum_comm
    refine Finset.sum_congr rfl fun s _ => ?_
    unfold dueS
    rw [Finset.sum_add_distrib, Finset.sum_add_distrib]
    exact congrArg₂ (· + ·) (Equiv.sum_comp (dnEq s) (fun c => dueR c s 0)) (Equiv.sum_comp (upEq s) (fun c => dueC c s 0))
  have hb : (∑ c : Dev nD, (tallyAt (bCell (rt c)) 1 1 + tallyAt (bCell (lf c)) 1 1)) = ∑ c : Dev nD, (tallyAt (bCell c) 1 2 : CellTallies nD τ sig ℕ) := by
    rw [Finset.sum_add_distrib]
    refine (congrArg₂ (· + ·) (Equiv.sum_comp rtEq (fun c => (tallyAt (bCell c) 1 1 : CellTallies nD τ sig ℕ)))
      (Equiv.sum_comp lfEq (fun c => (tallyAt (bCell c) 1 1 : CellTallies nD τ sig ℕ)))).trans ?_
    rw [← Finset.sum_add_distrib]
    exact Finset.sum_congr rfl fun c _ => tallyAt_add _ _ _ _
  unfold due wage
  simp only [add_assoc]
  rw [Finset.sum_add_distrib, hs, hb, ← Finset.sum_add_distrib]

/-- Tallies on one device's own cells. -/
def Home (c : Dev nD) (O : CellTallies nD τ sig ℕ) : Prop := ∀ g, O g ≠ 0 → g.1 = (c.tc : Thread nD τ)
theorem Home.add {c : Dev nD} {O O' : CellTallies nD τ sig ℕ} (h : Home c O) (h' : Home c O') : Home c (O + O') := fun g hg => by
  by_cases h0 : O g = 0
  · refine h' g fun h1 => hg ?_
    rw [Pi.add_apply, h0, h1, add_zero]
  · exact h g h0
theorem Home.sum {c : Dev nD} {ι : Type} (S : Finset ι) {O : ι → CellTallies nD τ sig ℕ} (h : ∀ i, Home c (O i)) : Home c (∑ i ∈ S, O i) := by
  classical
  induction S using Finset.induction_on with
  | empty => rw [Finset.sum_empty]; exact fun g hg => absurd rfl hg
  | insert a S ha ih => rw [Finset.sum_insert ha]; exact (h a).add ih
theorem Home.at (c : Dev nD) (sm : SemLoc sig) (i n : ℕ) : Home c (tallyAt ((c : Thread nD τ), sm) i n) := fun g hg => by
  by_contra hne
  exact hg (tallyAt_ne_cell (fun h => hne (congrArg Prod.fst h)) i n)

theorem wage_home (c : Dev nD) (g : GSem nD τ sig) (h : wage c g ≠ 0) : g.1 = (c.tc : Thread nD τ) :=
  ((Home.sum _ fun _ => (Home.sum _ fun _ => Home.at c _ _ _).add (Home.sum _ fun _ => Home.at c _ _ _)).add (Home.at c _ _ _)) g h

theorem cred_add' (T T' : CellTallies nD τ sig ℕ) : (cred (T + T') : sProp 𝕄) = iprop(cred T ∗ cred T') :=
  BI.Entails.antisymm (cred_add _ _).1 (cred_add _ _).2

/-- The launch's credit on device `c`. -/
theorem launch_creds (c : Dev nD) : (Pipeline.launchCred due c : sProp 𝕄)
    = iprop((bigSep Finset.univ fun s : Fin 8 => iprop(bigSep (Finset.Ico 0 30) (recvCred c s) ∗ bigSep (Finset.Ico 0 30) (credCred c s)))
      ∗ cred (tallyAt (bCell c) 1 2)) := by
  rw [Pipeline.launchCred_of_sum due wage wages wage_home]
  unfold wage
  rw [cred_add', Pipeline.cred_finsetSum]
  refine congrArg (fun P : sProp 𝕄 => iprop(P ∗ cred (tallyAt (bCell c) 1 2))) (bigSep_congr fun s _ => ?_)
  rw [cred_add']
  unfold dueR dueC
  rw [Pipeline.cred_finsetSum, Pipeline.cred_finsetSum]
  rfl

end Cert.KernelIdeal

end
-- ==== Proof.Toks.lean ====
module

public import proofs.«01_k».proof.Proof.Credit

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # The rights the launch deals

Every unit of every cell's rounds has one right to pay it.  They are numbered, made at once, and handed to the device
that pays: a barrier's to the two neighbours, a hop's departure to the sender, its arrival to the device before, a credit's
to the device after. -/

/-- The units: the barriers', the departures', the arrivals' and the credits'. -/
abbrev Hop : Type := (Dev nD × Fin 8) × Fin 30
abbrev Unit4 : Type := (Dev nD × Fin 2) ⊕ (Hop ⊕ (Hop ⊕ Hop))

/-- A unit's cell, round and number. -/
def tokOf : Unit4 → GSem nD τ sig × ℕ × ℕ
  | .inl x => (bCell x.1, 0, x.2.val)
  | .inr (.inl x) => (sCell x.1.1 x.1.2 (slotT x.2.val), rndT x.2.val, 0)
  | .inr (.inr (.inl x)) => (rCell x.1.1 x.1.2 (slotT x.2.val), rndT x.2.val, 0)
  | .inr (.inr (.inr x)) => (cCell x.1.1 x.1.2, 0, x.2.val)

/-- The unit of a cell, round and number. -/
def unitOf (x : GSem nD τ sig × ℕ × ℕ) : Unit4 :=
  match kd x.1.2 with
  | .snd s σ => .inr (.inl ((x.1.1.1, s), Fin.ofNat 30 (hopOf σ x.2.1)))
  | .rcv s σ => .inr (.inr (.inl ((x.1.1.1, s), Fin.ofNat 30 (hopOf σ x.2.1))))
  | .crd s => .inr (.inr (.inr ((x.1.1.1, s), Fin.ofNat 30 x.2.2)))
  | _ => .inl (x.1.1.1, Fin.ofNat 2 x.2.2)

theorem ofNat_val {n : ℕ} [NeZero n] (t : Fin n) : Fin.ofNat n t.val = t := Fin.ext (Nat.mod_eq_of_lt t.isLt)

theorem unit_tok (x : Unit4) : unitOf (tokOf x) = x := by
  rcases x with ⟨c, u⟩ | ⟨⟨c, s⟩, t⟩ | ⟨⟨c, s⟩, t⟩ | ⟨⟨c, s⟩, t⟩ <;> dsimp only [unitOf, tokOf]
  · rw [kd_b]; dsimp only; rw [ofNat_val]
  · rw [kd_s]; dsimp only; rw [hopOf_rndT t.isLt, ofNat_val]
  · rw [kd_r]; dsimp only; rw [hopOf_rndT t.isLt, ofNat_val]
  · rw [kd_c]; dsimp only; rw [ofNat_val]

theorem tokOf_inj : Function.Injective tokOf := Function.LeftInverse.injective unit_tok

/-- Every unit's cell, round and number. -/
def toks : Finset (GSem nD τ sig × ℕ × ℕ) := Finset.univ.map ⟨tokOf, tokOf_inj⟩

theorem bigSep_hops (Φ : ℕ → sProp 𝕄) : bigSep Finset.univ (fun t : Fin 30 => Φ t.val) = bigSep (Finset.Ico 0 30) Φ := by
  rw [show Finset.Ico 0 30 = (Finset.univ : Finset (Fin 30)).map Fin.valEmbedding from by decide, bigSep_map]
  rfl

/-- A family over devices and streams, moved along a stream. -/
theorem bigSep_stream (e : Fin 8 → (Dev nD ≃ Dev nD)) (Φ : Dev nD → Fin 8 → sProp 𝕄) :
    (bigSep Finset.univ fun c : Dev nD => bigSep Finset.univ fun s : Fin 8 => Φ c s)
      = bigSep Finset.univ fun c : Dev nD => bigSep Finset.univ fun s : Fin 8 => Φ (e s c) s := by
  rw [← bigSep_univ_prod (fun x : Dev nD × Fin 8 => Φ x.1 x.2), ← bigSep_univ_prod (fun x : Dev nD × Fin 8 => Φ (e x.2 x.1) x.2)]
  exact bigSep_univ_equiv ⟨fun x => (e x.2 x.1, x.2), fun x => ((e x.2).symm x.1, x.2),
    fun x => Prod.ext ((e x.2).symm_apply_apply x.1) rfl, fun x => Prod.ext ((e x.2).apply_symm_apply x.1) rfl⟩ (fun x : Dev nD × Fin 8 => Φ x.1 x.2)

/-- A stream's rights. -/
def rights (c : Dev nD) (s : Fin 8) : sProp 𝕄 :=
  iprop(bigSep (Finset.Ico 0 30) (fun t => dutyTok ER (sCell c s (slotT t)) (rndT t) 0)
    ∗ bigSep (Finset.Ico 0 30) (fun t => dutyTok ER (rCell (dn c s) s (slotT t)) (rndT t) 0)
    ∗ bigSep (Finset.Ico 0 30) (payTok c s))

/-- One kind of a stream's rights, over the machine. -/
theorem hops_split (Φ : Dev nD → Fin 8 → ℕ → sProp 𝕄) : bigSep Finset.univ (fun x : Hop => Φ x.1.1 x.1.2 x.2.val)
    = bigSep Finset.univ fun c : Dev nD => bigSep Finset.univ fun s : Fin 8 => bigSep (Finset.Ico 0 30) (Φ c s) := by
  rw [bigSep_univ_prod, bigSep_univ_prod (fun y : Dev nD × Fin 8 => bigSep Finset.univ fun t : Fin 30 => Φ y.1 y.2 t.val)]
  exact bigSep_congr fun c _ => bigSep_congr fun s _ => bigSep_hops (Φ c s)

/-- The barriers' rights, each to the neighbour that pays it. -/
theorem bar_dealt : (bigSep Finset.univ fun x : Dev nD × Fin 2 => (dutyTok ER (bCell x.1) 0 x.2.val : sProp 𝕄))
    ⊢ bigSep Finset.univ fun c : Dev nD => iprop(dutyTok ER (bCell (lf c)) 0 1 ∗ dutyTok ER (bCell (rt c)) 0 0) := by
  rw [bigSep_univ_prod, bigSep_congr (fun c _ => bigSep_two (fun u : Fin 2 => (dutyTok ER (bCell c) 0 u.val : sProp 𝕄))), bigSep_sep', bigSep_sep']
  refine (swap2 _ _).trans (Entails.of_eq (congrArg₂ (fun P Q : sProp 𝕄 => iprop(P ∗ Q)) ?_ ?_))
  · exact bigSep_univ_equiv lfEq (fun c => (dutyTok ER (bCell c) 0 1 : sProp 𝕄))
  · exact bigSep_univ_equiv rtEq (fun c => (dutyTok ER (bCell c) 0 0 : sProp 𝕄))

theorem toks_dealt : bigSep toks (fun x => (dutyTok ER x.1 x.2.1 x.2.2 : sProp 𝕄))
    ⊢ iprop((bigSep Finset.univ fun c : Dev nD => iprop(dutyTok ER (bCell (lf c)) 0 1 ∗ dutyTok ER (bCell (rt c)) 0 0))
      ∗ bigSep Finset.univ fun c : Dev nD => bigSep Finset.univ fun s : Fin 8 => rights c s) := by
  unfold toks
  rw [bigSep_map, bigSep_univ_sum, bigSep_univ_sum, bigSep_univ_sum]
  refine sep_mono bar_dealt (Entails.of_eq ?_)
  unfold rights
  simp only [bigSep_sep']
  refine congrArg₂ (fun P Q : sProp 𝕄 => iprop(P ∗ Q)) ?_ (congrArg₂ (fun P Q : sProp 𝕄 => iprop(P ∗ Q)) ?_ ?_)
  · exact hops_split fun c s t => dutyTok ER (sCell c s (slotT t)) (rndT t) 0
  · refine (hops_split fun c s t => dutyTok ER (rCell c s (slotT t)) (rndT t) 0).trans ?_
    exact bigSep_stream dnEq (fun c s => bigSep (Finset.Ico 0 30) fun t => dutyTok ER (rCell c s (slotT t)) (rndT t) 0)
  · refine (hops_split fun c s d => dutyTok ER (cCell c s) 0 d).trans ?_
    exact bigSep_stream upEq (fun c s => bigSep (Finset.Ico 0 30) fun d => dutyTok ER (cCell c s) 0 d)

/-! ## The landing slots' rights -/

/-- The rights to write a slot, eight for each. -/
abbrev slotToks : Finset (Key × ℕ) := Finset.univ ×ˢ Finset.range 8

/-- A hop's slot and the number of its write. -/
def landOf (x : (Dev nD × Fin 8) × Fin 15) : Key × ℕ := ((x.1.1, x.1.2, slotT x.2.val), rndT x.2.val)

theorem landOf_inj : Function.Injective landOf := fun x y h => by
  have h1 : x.1.1 = y.1.1 := congrArg (fun z : Key × ℕ => z.1.1) h
  have h2 : x.1.2 = y.1.2 := congrArg (fun z : Key × ℕ => z.1.2.1) h
  have h3 : slotT x.2.val = slotT y.2.val := congrArg (fun z : Key × ℕ => z.1.2.2) h
  have h4 : rndT x.2.val = rndT y.2.val := congrArg (fun z : Key × ℕ => z.2) h
  have h5 : x.2.val = y.2.val := by
    rw [← hopOf_rndT (t := x.2.val) (by omega), ← hopOf_rndT (t := y.2.val) (by omega), h3, h4]
  exact Prod.ext (Prod.ext h1 h2) (Fin.ext h5)

theorem land_lt : ∀ t : Fin 15, rndT t.val < 8 := by decide

theorem slots_dealt : bigSep slotToks (fun x => (Release.writeTok EK x.1 (x.2 + 1) : sProp 𝕄))
    ⊢ bigSep Finset.univ fun c : Dev nD => bigSep Finset.univ fun s : Fin 8 =>
        bigSep (Finset.Ico 0 30) fun t => (iprop(if t < 15 then Release.writeTok EK (dn c s, s, slotT t) (rndT t + 1) else emp) : sProp 𝕄) := by
  have hsub : (Finset.univ.map ⟨landOf, landOf_inj⟩) ⊆ slotToks := fun x hx => by
    obtain ⟨y, -, rfl⟩ := Finset.mem_map.mp hx
    exact Finset.mem_product.mpr ⟨Finset.mem_univ _, Finset.mem_range.mpr (land_lt y.2)⟩
  have hin (Φ : ℕ → sProp 𝕄) : bigSep Finset.univ (fun t : Fin 15 => Φ t.val) = bigSep (Finset.Ico 0 30) fun t => (iprop(if t < 15 then Φ t else emp) : sProp 𝕄) := by
    have h1 : bigSep (Finset.Ico 15 30) (fun t => (iprop(if t < 15 then Φ t else emp) : sProp 𝕄)) = BI.emp :=
      (bigSep_congr fun t ht => if_neg (not_lt_of_ge (Finset.mem_Ico.mp ht).1)).trans (BI.bigSep_emp_const _)
    have h2 : bigSep (Finset.Ico 0 15) (fun t => (iprop(if t < 15 then Φ t else emp) : sProp 𝕄)) = bigSep (Finset.Ico 0 15) Φ :=
      bigSep_congr fun t ht => if_pos (Finset.mem_Ico.mp ht).2
    rw [show Finset.Ico 0 30 = (Finset.Ico 0 15) ∪ Finset.Ico 15 30 from by decide, bigSep_union (by decide), h1, h2,
      show Finset.Ico 0 15 = (Finset.univ : Finset (Fin 15)).map Fin.valEmbedding from by decide, bigSep_map]
    exact (BI.equiv_iff.mp sep_emp).symm
  refine BI.BIBase.Entails.trans (BI.bigSep_subset hsub) (Entails.of_eq ?_)
  rw [bigSep_map, bigSep_univ_prod]
  refine (bigSep_univ_prod _).trans ?_
  refine Eq.trans (bigSep_congr fun c _ => bigSep_congr fun s _ => hin fun t => Release.writeTok EK (c, s, slotT t) (rndT t + 1)) ?_
  exact bigSep_stream dnEq (fun c s => bigSep (Finset.Ico 0 30) fun t => (iprop(if t < 15 then Release.writeTok EK (c, s, slotT t) (rndT t + 1) else emp) : sProp 𝕄))

/-! ## The own cells, unopened -/

/-- The cells of the streams. -/
def cellOf4 : ((Dev nD × Fin 8) × Fin 2) ⊕ (((Dev nD × Fin 8) × Fin 2) ⊕ (Dev nD × Fin 8)) → GSem nD τ sig
  | .inl x => sCell x.1.1 x.1.2 x.2
  | .inr (.inl x) => rCell x.1.1 x.1.2 x.2
  | .inr (.inr x) => cCell x.1 x.2

theorem cellOf4_inj : Function.Injective cellOf4 := by
  refine Function.LeftInverse.injective (g := fun g => match kd g.2 with
    | .snd s σ => .inl ((g.1.1, s), σ)
    | .rcv s σ => .inr (.inl ((g.1.1, s), σ))
    | .crd s => .inr (.inr (g.1.1, s))
    | _ => .inr (.inr (g.1.1, 0))) ?_
  rintro (⟨⟨c, s⟩, σ⟩ | ⟨⟨c, s⟩, σ⟩ | ⟨c, s⟩) <;> dsimp only [cellOf4]
  · rw [kd_s]
  · rw [kd_r]
  · rw [kd_c]

theorem cellsD_eq : cellsD = Finset.univ.map ⟨cellOf4, cellOf4_inj⟩ := by
  ext g
  simp only [cellsD, ownCells, Finset.mem_biUnion, Finset.mem_union, Finset.mem_image, Finset.mem_univ, true_and, Finset.mem_map, Function.Embedding.coeFn_mk]
  constructor
  · rintro ⟨c, (⟨x, rfl⟩ | ⟨x, rfl⟩) | ⟨s, rfl⟩⟩
    · exact ⟨.inl ((c, x.1), x.2), rfl⟩
    · exact ⟨.inr (.inl ((c, x.1), x.2)), rfl⟩
    · exact ⟨.inr (.inr (c, s)), rfl⟩
  · rintro ⟨⟨⟨c, s⟩, σ⟩ | ⟨⟨c, s⟩, σ⟩ | ⟨c, s⟩, rfl⟩
    · exact ⟨c, .inl (.inl ⟨(s, σ), rfl⟩)⟩
    · exact ⟨c, .inl (.inr ⟨(s, σ), rfl⟩)⟩
    · exact ⟨c, .inr ⟨s, rfl⟩⟩

theorem opens_dealt : bigSep cellsD (fun g => (openTok ER g : sProp 𝕄)) = bigSep Finset.univ fun c : Dev nD => bigSep Finset.univ fun s : Fin 8 => open1 c s := by
  rw [cellsD_eq, bigSep_map, bigSep_univ_sum, bigSep_univ_sum, bigSep_univ_prod, bigSep_univ_prod, bigSep_univ_prod]
  unfold open1
  simp only [bigSep_sep', bigSep_univ_prod]
  rfl

theorem cells_disjoint : Disjoint cellsB cellsD := by
  rw [Finset.disjoint_left]
  intro g h1 h2
  obtain ⟨c, -, rfl⟩ := Finset.mem_image.mp h1
  rw [cellsD_eq] at h2
  obtain ⟨x, -, h⟩ := Finset.mem_map.mp h2
  have h' : kd (cellOf4 x).2 = .bar := (congrArg (fun g : GSem nD τ sig => kd g.2) h).trans kd_b
  rcases x with x | x | x <;> dsimp only [cellOf4] at h'
  · rw [kd_s] at h'; cases h'
  · rw [kd_r] at h'; cases h'
  · rw [kd_c] at h'; cases h'

end Cert.KernelIdeal

end
-- ==== Proof.Launch.lean ====
module

public import proofs.«01_k».proof.Proof.Toks

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv mayWait_of mem_L)
open Facts₀ Facts

variable {F : FTy → Type} [FloatOps F]

local notation "𝕄" => MT nD τ sig ℕ (Elt F) ℕ UU ℕ

/-! # The launch

The ghost state made once, the cells' invariants allocated from the counters, and everything dealt to the devices. -/

variable (m : (ℓ : Loc nD τ sig) → Buf (Elt F) ℓ) (ρ : Dev nD → PrngReg)

/-- What the launch makes beside the pipeline's own: the cells and rights, the landing slots. -/
def made : URounds (GSem nD τ sig) ℕ × Release.USlots Key :=
  (launchOf cellsB cellsD toks, Release.initSlots Finset.univ 8)
/-- The launch element. -/
def u₀ : UU := (initOf (Pipeline.cells cfgs Gen.cellOf_inj) (Pipeline.launchToks cfgs Gen.cellOf_inj), made)

/-- All of it is parked on device 0 until it is dealt. -/
def parked : Dev nD → sProp 𝕄 := SiteBlocks.onDev 0 (BI.own (EQ made))

/-- What every device may consult. -/
def records (K : GSem nD τ sig → ℕ) (ιs : Key → ℕ) : sProp 𝕄 :=
  iprop(ctx (lhs m) (rhs m) K ιs ∗ bigSep cellsB fun g => reached ER g 0)
instance records_persistent (K : GSem nD τ sig → ℕ) (ιs : Key → ℕ) : BI.Persistent (records m K ιs) := by unfold records; infer_instance

/-- What is device `c`'s alone. -/
def alone (c : Dev nD) : sProp 𝕄 :=
  iprop(atPos ER (bCell c) 0 ∅ 0 ∗ (dutyTok ER (bCell (lf c)) 0 1 ∗ dutyTok ER (bCell (rt c)) 0 0)
    ∗ (bigSep Finset.univ fun s : Fin 8 => rights c s)
    ∗ (bigSep Finset.univ fun s : Fin 8 => bigSep (Finset.Ico 0 30) fun t => (iprop(if t < 15 then Release.writeTok EK (dn c s, s, slotT t) (rndT t + 1) else emp) : sProp 𝕄))
    ∗ (bigSep Finset.univ fun s : Fin 8 => open1 c s)
    ∗ (bigSep Finset.univ fun s : Fin 8 => bigSep Finset.univ fun σ : Fin 2 => Release.readerAt EK (c, s, σ) 0))

/-- What else device `c` has at the launch. -/
def bundle (c : Dev nD) : sProp 𝕄 :=
  iprop(StableHlo.held (c : Thread nD τ) (Pipeline.ucRefs τ sig) (Gen.V0 m c) ∗ Pipeline.launchCred due c
    ∗ owes (c : Thread nD τ) (due c) ∅ ∗ ∃ r, prngReg c r)

theorem dealt_intro (c : Dev nD) :
    iprop((bigSep Finset.univ fun s : Fin 8 => iprop(bigSep (Finset.Ico 0 30) (recvCred c s) ∗ bigSep (Finset.Ico 0 30) (credCred c s)))
      ∗ (bigSep Finset.univ fun s : Fin 8 => rights c s)
      ∗ (bigSep Finset.univ fun s : Fin 8 => bigSep (Finset.Ico 0 30) fun t => (iprop(if t < 15 then Release.writeTok EK (dn c s, s, slotT t) (rndT t + 1) else emp) : sProp 𝕄))
      ∗ (bigSep Finset.univ fun s : Fin 8 => open1 c s)
      ∗ (bigSep Finset.univ fun s : Fin 8 => bigSep Finset.univ fun σ : Fin 2 => Release.readerAt EK (c, s, σ) 0))
    ⊢ (bigSep Finset.univ (dealt c) : sProp 𝕄) := by
  unfold dealt rights sendTok
  simp only [bigSep_sep']
  iintro ⟨⟨Hr, Hc⟩, ⟨Hs, Hd, Hp⟩, Hw, Ho, Hl⟩
  isplitl [Hr]; · iexact Hr
  isplitl [Hs Hd Hw]
  · isplitl [Hs]; · iexact Hs
    isplitl [Hd] <;> iassumption
  isplitl [Hp]; · iexact Hp
  isplitl [Hc]; · iexact Hc
  isplitl [Ho] <;> iassumption

/-- The state before the host's operations. -/
abbrev T₀ (c : Dev nD) : sProp 𝕄 := iprop(StableHlo.held (c : Thread nD τ) (Pipeline.ucRefs τ sig) (Gen.V0 m c) ∗ ride m c)

theorem T₀_intro (K : GSem nD τ sig → ℕ) (ιs : Key → ℕ) (c : Dev nD) : iprop(records m K ιs ∗ (alone c ∗ bundle m c)) ⊢ T₀ m c := by
  have hd := dealt_intro (F := F) c
  have hr (c : Dev nD) : (bigSep cellsB fun g => (reached ER g 0 : sProp 𝕄)) ⊢ reached ER (bCell c) 0 :=
    bigSep_elim (Finset.mem_image_of_mem bCell (Finset.mem_univ c))
  have hl := hr (lf c)
  have ht := hr (rt c)
  unfold records alone bundle T₀ ride start barSt owing
  rw [launch_creds]
  iintro ⟨⟨#Hctx, #Hre⟩, ⟨Hat, ⟨Ht1, Ht0⟩, Hri, Hw, Ho, Hrd⟩, Hh, ⟨Hcr, Hcb⟩, HO, Hp⟩
  isplitl [Hh]; · iexact Hh
  isplitl [Hp]; · iexact Hp
  isplitr [HO]
  · iexists K; iexists ιs
    isplitr; · iexact Hctx
    isplitl [Hat Ht1 Ht0 Hcb]
    · isplitl [Hat]; · iexact Hat
      isplitr; · iapply hl; iexact Hre
      isplitr; · iapply ht; iexact Hre
      isplitl [Ht1]; · iexact Ht1
      isplitl [Ht0] <;> iassumption
    iapply hd
    isplitl [Hcr]; · iexact Hcr
    isplitl [Hri]; · iexact Hri
    isplitl [Hw]; · iexact Hw
    isplitl [Ho] <;> iassumption
  iexists ∅; iexact HO

theorem readers_dealt : bigSep Finset.univ (fun k : Key => (Release.readerAt EK k 0 : sProp 𝕄))
    = bigSep Finset.univ fun c : Dev nD => bigSep Finset.univ fun s : Fin 8 => bigSep Finset.univ fun σ : Fin 2 => Release.readerAt EK (c, s, σ) 0 := by
  rw [bigSep_univ_prod]
  exact bigSep_congr fun c _ => bigSep_univ_prod _

theorem bars (Φ : GSem nD τ sig → sProp 𝕄) : bigSep cellsB Φ = bigSep Finset.univ fun c : Dev nD => Φ (bCell c) := by
  have hi : Function.Injective (bCell : Dev nD → GSem nD τ sig) := fun _ _ h => congrArg (fun g : GSem nD τ sig => g.1.1) h
  have he : cellsB = Finset.univ.map ⟨bCell, hi⟩ := by ext g; simp [cellsB]
  rw [he, bigSep_map]
  rfl

theorem unscopedSems0_eq (c : Dev nD) : (unscopedSems0 c : sProp 𝕄) = semVal (bCell c) 0 := by
  unfold unscopedSems0
  rw [show (Finset.univ.filter fun sm : SemLoc sig => ¬ sm.isScoped .tc) = {SemLoc.reg qB} from by decide, BI.bigSep_singleton]

theorem unscoped_eq : ∀ sm : SemLoc sig, sm.isScoped .tc = false → sm = .reg qB := by decide

theorem apart {Φ Ψ : Dev nD → sProp 𝕄} :
    (bigSep Finset.univ fun c => iprop(Φ c ∗ Ψ c)) ⊢ (iprop(bigSep Finset.univ Φ ∗ bigSep Finset.univ Ψ) : sProp 𝕄) :=
  Entails.of_eq (bigSep_sep' _ _ _)
theorem together {Φ Ψ : Dev nD → sProp 𝕄} :
    (iprop(bigSep Finset.univ Φ ∗ bigSep Finset.univ Ψ) : sProp 𝕄) ⊢ bigSep Finset.univ fun c => iprop(Φ c ∗ Ψ c) :=
  Entails.of_eq (bigSep_sep' _ _ _).symm

/-- The launch deals every device its start. -/
theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ parked c)) ∗ levAts (L 64) lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (due c) ∅ ∗ Pipeline.launchCred due c ∗ prngReg c (ρ c) ∗ parked c)
      ⊢ (iprop(bundle m c ∗ (semVal (bCell c) 0 ∗ parked c)) : sProp 𝕄) := by
    rw [show unscopedBufs c (fun b => m ((c : Thread nD τ).loc b)) = StableHlo.held (c : Thread nD τ) (Pipeline.ucRefs τ sig) (Gen.V0 m c) from Pipeline.unscopedBufs_held (Ix := ℕ) (Name := ℕ) (U := UU) (Lvl := ℕ) c (Gen.V0 m c), unscopedSems0_eq]
    unfold bundle
    iintro ⟨Hh, Hus, HO, Hcr, Hp, HG⟩
    isplitl [Hh HO Hcr Hp]
    · isplitl [Hh]; · iexact Hh
      isplitl [Hcr]; · iexact Hcr
      isplitl [HO]; · iexact HO
      iexists (ρ c); iexact Hp
    isplitl [Hus] <;> iassumption
  have hall : (bigSep Finset.univ fun c : Dev nD => iprop(unscopedBufs c (fun b => m ((c : Thread nD τ).loc b)) ∗ unscopedSems0 c
        ∗ owes (c : Thread nD τ) (due c) ∅ ∗ Pipeline.launchCred due c ∗ prngReg c (ρ c) ∗ parked c))
      ⊢ (bigSep Finset.univ fun c : Dev nD => iprop(bundle m c ∗ (semVal (bCell c) 0 ∗ parked c)) : sProp 𝕄) := bigSep_mono fun c _ => hcore c
  have hv : bigSep Finset.univ (fun c : Dev nD => (semVal (bCell c) 0 : sProp 𝕄)) ⊢ bigSep cellsB (fun g => (semVal g 0 : sProp 𝕄)) :=
    Entails.of_eq (bars (F := F) fun g => semVal g 0).symm
  have hat : bigSep cellsB (fun g => (atPos ER g 0 ∅ 0 : sProp 𝕄)) ⊢ bigSep Finset.univ (fun c : Dev nD => (atPos ER (bCell c) 0 ∅ 0 : sProp 𝕄)) :=
    Entails.of_eq (bars (F := F) fun g => atPos ER g 0 ∅ 0)
  have hown : (bigSep Finset.univ parked : sProp 𝕄) ⊢ BI.own (EQ made) := Entails.of_eq (SiteBlocks.bigSep_onDev 0 (BI.own (EQ made)))
  have hsplit : (BI.own (EQ made) : sProp 𝕄) ⊢ iprop(BI.own (ER (launchOf cellsB cellsD toks)) ∗ BI.own (EK (Release.initSlots Finset.univ 8))) :=
    own_pair_emb EQ _ _
  have hto := toks_dealt (F := F)
  have hsl := slots_dealt (F := F)
  have hop := Entails.of_eq (opens_dealt (F := F))
  have hrd := Entails.of_eq (readers_dealt (F := F))
  iintro ⟨H, #Hlev⟩
  ihave H' := hall $$ H
  ihave H2 := apart $$ H'; icases H2 with ⟨HB, H3⟩
  ihave H4 := apart $$ H3; icases H4 with ⟨Hv, HG⟩
  ihave Hu := hown $$ HG
  ihave Hu2 := hsplit $$ Hu
  icases Hu2 with ⟨Hu, Hk⟩
  imod (Rounds.fund_launch ER (Rd (lhs m) (rhs m)) cells_disjoint (fun g _ h => h) toks) $$ [Hv Hu] with ⟨%K, -, #Hinv, #Hr, Hat, Hopen, Htok⟩
  · isplitl [Hv]
    · iapply hv $$ Hv
    · iexact Hu
  imod (Release.slots_init EK Finset.univ 8 (fun k : Key => (hasAny k.1 (rView k.2.1 k.2.2) : sProp 𝕄))) $$ Hk with ⟨%ιs, -, #Hslots, Hread, Hwrite⟩
  imodintro
  iapply (bigSep_with_persistent (R := records m K ιs) (Φ := fun c => iprop(alone c ∗ bundle m c)) fun c _ => T₀_intro m K ιs c)
  isplitr
  · unfold records ctx
    isplitr
    · isplitr; · iexact Hinv
      isplitr; · iexact Hslots
      iexact Hlev
    iexact Hr
  iapply together
  isplitr [HB]
  · ihave Ht := hto $$ Htok
    icases Ht with ⟨Hb, Hri⟩
    unfold alone
    iapply together; isplitl [Hat]; · iapply hat $$ Hat
    iapply together; isplitl [Hb]; · iexact Hb
    iapply together; isplitl [Hri]; · iexact Hri
    iapply together; isplitl [Hwrite]; · iapply hsl $$ Hwrite
    iapply together; isplitl [Hopen]; · iapply hop $$ Hopen
    iapply hrd $$ Hread
  · iexact HB

/-- The ghost state between the segments. -/
def between (j : Fin 2) (c : Dev nD) : sProp 𝕄 := if j = 0 then ride m c else ride' c

abbrev phases := Gen.segs m 𝒱₀ (L 64) lv (between m) 0 (pdats m) (region m)

/-- The state at the end. -/
abbrev Tₙ (c : Dev nD) : sProp 𝕄 :=
  iprop(StableHlo.held (c : Thread nD τ) (Pipeline.ucRefs τ sig) (Gen.V2 m (leaves m) c) ∗ semVal (bCell c) 0)

set_option backward.isDefEq.respectTransparency.types false in
/-- THE RUN: from any memory with zero counters every weakly fair execution of the program terminates, and every final state has
both arguments unchanged, the result of every device, and every semaphore counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v29) = OUT (lhs m) (rhs m)) ∧ r.2.sem = fun _ => 0) :=
  Pipeline.θ_run_regions_kit_dev_sems (pcfgs (F := F)) Gen.adm (pdats m) 0 Gen.cellOf_inj EP defs₀ 𝒱₀ (L 64) lv m ρ main (phases m)
    (fun c Q => by
      rewrite [Gen.main_chain c, Pipeline.Seg.run_eq_chain,
        show (phases m c).map Pipeline.Seg.prog = [
          StableHlo.seq (Gen.hostOps0 c),
          Prog.lift (.customCall (Pipeline.entry 0) ()) ] from rfl]
      dsimp (config := { failIfUnchanged := false }) only
      exact .rfl)
    (fun c => by simp only [phases, Gen.segs, Pipeline.Seg.pipes_host, Pipeline.Seg.pipes_region, Pipeline.Seg.pipes_nil]; decide)
    due (SiteBlocks.hL 64) parked u₀
    (by
      unfold u₀ parked
      iintro Hu
      ihave H := (ownU_pair _ _) $$ Hu
      icases H with ⟨HP, HX⟩
      imodintro
      isplitl [HP]; · iexact HP
      rw [SiteBlocks.bigSep_onDev]; iexact HX)
    (T₀ := T₀ m) (Tₙ := Tₙ m)
    (hch := fun c => ⟨.rfl, region_pre m c, (region_post m c).trans (by
      unfold ride' Tₙ owing
      iintro ⟨Hh, Hb0, HO⟩
      isplitr [HO]
      · isplitl [Hh] <;> iassumption
      · iexact HO)⟩)
    (hinit := init m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v29) = OUT (lhs m) (rhs m)) ∧ s.sem (bCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (Gen.V2 m (leaves m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (Gen.V2_main_arg0 m (leaves m) c),
          (h (Proc.devRef .tc main_arg1) (Finset.mem_filter.mpr ⟨StableHlo.devRef_mem_tcRefs main_arg1, by decide⟩)).trans (Gen.V2_main_arg1 m (leaves m) c),
          (h (Proc.devRef .tc main_v29) (Finset.mem_filter.mpr ⟨StableHlo.devRef_mem_tcRefs main_v29, by decide⟩)).trans (V2_out m c)⟩, by simpa using hb⟩
      · iexact HSI)
    (hQ := fun s h hs => ⟨fun c => (h c).1, sem_eq_zero hs fun c sm hsm => by
        obtain rfl := unscoped_eq sm hsm
        exact (h c).2⟩)

end Cert.KernelIdeal

end
-- ==== Proof.Same.lean ====
module

public import proofs.«01_k».proof.Kernel
public import proofs.«01_k».proof.Proof.Gen.Kernel
public import proofs.«01_k».proof.Proof.Gen.KernelIdeal
public import Idealize.ShloMosaic.Lib.Pipeline.Regions

@[expose] public section

noncomputable section

namespace Cert.Proof

open Idealize.ShloMosaic Idealize.SL.Sem

variable {F : FTy → Type} [FloatOps F]

/-! # Both readings of the kernel have the same text -/

theorem defs_same : Cert.Kernel.defs₀ (F := F) = Cert.KernelIdeal.defs₀ (F := F) := by chain_rfl

theorem table_same : Cert.Kernel.defs (F := F) = Cert.KernelIdeal.defs (F := F) := by chain_rfl

theorem main_same : Cert.Kernel.main (F := F) = Cert.KernelIdeal.main (F := F) := by chain_rfl

end Cert.Proof

end
-- ==== Proof.Frames.lean ====
module

public import proofs.«01_k».proof.Defs
public import proofs.«01_k».proof.Proof.Launch
public import proofs.«01_k».proof.Proof.Same
public import proofs.«01_k».proof.Proof.Gen.ReferenceIdeal.Run

@[expose] public section

noncomputable section

namespace Cert.Proof

open Idealize.ShloMosaic Idealize.SL.Sem

/-! # The frames

Both readings of the kernel have the same text, so one run serves both. -/

/-- The run with the values dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) _ _).mono (fun _ h => ⟨fun c => ⟨(h.1 c).1, (h.1 c).2.1⟩, h.2⟩)
    (Cert.KernelIdeal.run_main (F := F) m ρ)

theorem frame_kernel : Cert.quiescent_Kernel := fun m ρ _ => by
  rw [table_same, main_same]
  exact frame_any (F := Bits) m ρ

theorem frame_ideal : Cert.quiescent_KernelIdeal := fun m ρ _ => frame_any (F := Ideal) m ρ

theorem frame_reference : Cert.quiescent_ReferenceIdeal := fun m ρ _ =>
  (θ_run (Cert.ReferenceIdeal.defs (F := Ideal)) _ _).mono
    (fun r h => ⟨fun c => (h c).2, sem_eq_zero_of_no_sems rfl r.2⟩)
    (Cert.ReferenceIdeal.Value.run (F := Ideal) m ρ)

end Cert.Proof

end
-- ==== Proof.Value.lean ====
module

public import proofs.«01_k».proof.Proof.Parts
public import proofs.«01_k».proof.Proof.Frames

@[expose] public section

noncomputable section

namespace Cert.Proof

open Idealize.ShloMosaic Idealize.ShloMosaic.TcCoe Idealize.SL.Sem
open Cert.KernelIdeal (lhs rhs term total act half half_le OUT kOf sOf inBlk sub cw sub_cw_sOf)

/-! # The value of the result

Every device ends with silu of the whole product. -/

/-- The entry `(r, l)` of the whole product. -/
def whole (a : FVec Ideal Cert.ReferenceIdeal.S2048x16384 .bf16) (b : FVec Ideal Cert.ReferenceIdeal.S16384x2048 .bf16)
    (r l : Fin 2048) : EReal :=
  ∑ κ : Fin 16384, (a (ix2 r κ) : EReal) * b (ix2 κ l)

/-- The reference's operations put together. -/
def refOut (a : FVec Ideal Cert.ReferenceIdeal.S2048x16384 .bf16) (b : FVec Ideal Cert.ReferenceIdeal.S16384x2048 .bf16) :
    FVec Ideal Cert.ReferenceIdeal.S2048x2048 .bf16 :=
  have z : FVec Ideal Cert.ReferenceIdeal.S2048x2048 .f32 :=
    extf .f32 (truncf .bf16 (Host.dotGeneral Cert.ReferenceIdeal.dot_S2048x16384_S16384x2048_S2048x2048_1_0_0_1_n_n none
      (extf .f32 a Cert.ReferenceIdeal.Gen.bitsLt_bf16_f32) (extf .f32 b Cert.ReferenceIdeal.Gen.bitsLt_bf16_f32))
      Cert.ReferenceIdeal.Gen.bitsLt_bf16_f32) Cert.ReferenceIdeal.Gen.bitsLt_bf16_f32
  truncf .bf16 (Host.divf z (addf (broadcastInDim Cert.ReferenceIdeal.S2048x2048 ![] Cert.ReferenceIdeal.Gen.bcast_S_S2048x2048
    (constant Cert.ReferenceIdeal.S_ .f32 0x3F800000#32)) (Host.exp (Host.negf z)))) Cert.ReferenceIdeal.Gen.bitsLt_bf16_f32

theorem refOut_apply (a : FVec Ideal Cert.ReferenceIdeal.S2048x16384 .bf16) (b : FVec Ideal Cert.ReferenceIdeal.S16384x2048 .bf16)
    (r l : Fin 2048) : refOut a b (ix2 r l) = act (whole a b r l) := by
  unfold act whole
  pointwise [refOut]

/-- The long contraction is cut into the devices' own. -/
theorem sum_cut (f : Fin 16384 → EReal) :
    ∑ κ, f κ = ∑ d : Fin 16, ∑ κ : Fin 1024, f ⟨d.val * 1024 + κ.val, by omega⟩ := by
  rw [← Fintype.sum_prod_type' fun (d : Fin 16) (κ : Fin 1024) => f ⟨d.val * 1024 + κ.val, by omega⟩]
  refine (Fintype.sum_equiv (finProdFinEquiv (m := 16) (n := 1024)) _ _ fun x => congrArg f (Fin.ext ?_)).symm
  show x.1.val * 1024 + x.2.val = x.2.val + 1024 * x.1.val
  omega

section Blocks

variable (m : (ℓ : Loc Cert.KernelIdeal.nD Cert.KernelIdeal.τ Cert.KernelIdeal.sig) → Buf (Elt Ideal) ℓ)
  (a : FVec Ideal Cert.ReferenceIdeal.S2048x16384 .bf16) (b : FVec Ideal Cert.ReferenceIdeal.S16384x2048 .bf16)

theorem total_eq
    (ha : ∀ c : Dev Cert.KernelIdeal.nD, lhs m c = Layout.block ⟨2, ![2048, 1024]⟩ ⟨2, ![2048, 16384]⟩ 1 16 c a)
    (hb : ∀ c : Dev Cert.KernelIdeal.nD, rhs m c = Layout.block ⟨2, ![1024, 2048]⟩ ⟨2, ![16384, 2048]⟩ 0 16 c b)
    (k : Fin 16) (s : Fin 8) (r : Fin 32) (l : Fin 1024) :
    total (lhs m) (rhs m) k s r l
      = whole a b ⟨128 * k.val + (32 * (sub s).val + r.val), by omega⟩ ⟨half (cw s) + l.val, by have := half_le (cw s); omega⟩ := by
  unfold total whole
  rw [sum_cut]
  refine Finset.sum_congr rfl fun d _ => Finset.sum_congr rfl fun κ _ => ?_
  rw [ha d, hb d, Layout.block_apply, Layout.block_apply]
  refine congrArg₂ (fun x y : EReal => x * y) (congrArg a (funext fun i => ?_)) (congrArg b (funext fun i => ?_))
  · fin_cases i <;> rfl
  · fin_cases i <;> rfl

theorem out_eq
    (ha : ∀ c : Dev Cert.KernelIdeal.nD, lhs m c = Layout.block ⟨2, ![2048, 1024]⟩ ⟨2, ![2048, 16384]⟩ 1 16 c a)
    (hb : ∀ c : Dev Cert.KernelIdeal.nD, rhs m c = Layout.block ⟨2, ![1024, 2048]⟩ ⟨2, ![16384, 2048]⟩ 0 16 c b) :
    OUT (lhs m) (rhs m) = refOut a b := by
  funext i
  obtain ⟨r, l, rfl⟩ : ∃ r l : Fin 2048, i = ix2 r l := ⟨i 0, i 1, eq_ix2 i⟩
  rw [refOut_apply]
  have hi : inBlk (ix2 r l) = ix2 (⟨r.val % 32, Nat.mod_lt _ (by decide)⟩ : Fin 32) (⟨l.val % 1024, Nat.mod_lt _ (by decide)⟩ : Fin 1024) :=
    eq_ix2 _
  have hy := Cert.KernelIdeal.Y_apply (lhs m) (rhs m) (kOf (ix2 r l)) (sOf (ix2 r l))
    ⟨r.val % 32, Nat.mod_lt _ (by decide)⟩ ⟨l.val % 1024, Nat.mod_lt _ (by decide)⟩
  rw [← hi, total_eq m a b ha hb] at hy
  refine hy.trans (congrArg act (congrArg₂ (whole a b) (Fin.ext ?_) (Fin.ext ?_)))
  · obtain ⟨h1, -⟩ := sub_cw_sOf (ix2 r l)
    have h1' : (sub (sOf (ix2 r l))).val = r.val % 128 / 32 := h1
    show 128 * (r.val / 128) + (32 * (sub (sOf (ix2 r l))).val + r.val % 32) = r.val
    omega
  · obtain ⟨-, h2⟩ := sub_cw_sOf (ix2 r l)
    have h2' : l.val < 1024 ↔ cw (sOf (ix2 r l)) = true := h2
    show half (cw (sOf (ix2 r l))) + l.val % 1024 = l.val
    unfold half
    have hl := l.isLt
    cases h : cw (sOf (ix2 r l)) <;> simp only [h, Bool.false_eq_true, iff_false, iff_true, cond_false, cond_true] at h2' ⊢ <;> omega

end Blocks

theorem algebraic : Cert.algebraic_KernelIdeal_ReferenceIdeal := fun m g m' g' _ h => by
  have ho := out_eq m (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (fun c => (h c).1) (fun c => (h c).2)
  refine ⟨refOut _ _, (θ_run (Cert.KernelIdeal.defs (F := Ideal)) _ _).mono (fun _ hr c => ⟨(hr.1 c).2.2.trans ho, (hr.1 c).1, (hr.1 c).2.1⟩)
    (Cert.KernelIdeal.run_main (F := Ideal) m g), ?_⟩
  exact (θ_run (Cert.ReferenceIdeal.defs (F := Ideal)) _ _).mono (fun _ hr => hr 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, trivial, algebraic⟩

end Cert.Proof

end
